-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_operands_finite [hPre_operands_finite : Cert.Pre_operands_finite.Facts] (m : (ℓ : Loc Cert.KernelIdeal.nD Cert.KernelIdeal.τ Cert.KernelIdeal.sig) → Buf (Elt Ideal) ℓ) : Prop :=
  ∀ c : Dev Cert.KernelIdeal.nD,
    (Cert.Pre_operands_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).1 = (fun _ => 1#1)
    ∧ (Cert.Pre_operands_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.1 = (fun _ => 1#1)
    ∧ (Cert.Pre_operands_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.1 = (fun _ => 1#1)
    ∧ (Cert.Pre_operands_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_operands_finite [hPre_operands_finite : Cert.Pre_operands_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_operands_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).1 = (fun _ => 1#1)
    ∧ (Cert.Pre_operands_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.1 = (fun _ => 1#1)
    ∧ (Cert.Pre_operands_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.2.1 = (fun _ => 1#1)
    ∧ (Cert.Pre_operands_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.2.2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Kernel6Ideal_mixers_finite [hPre_mixers_finite : Cert.Pre_mixers_finite.Facts] (m : (ℓ : Loc Cert.Kernel6Ideal.nD Cert.Kernel6Ideal.τ Cert.Kernel6Ideal.sig) → Buf (Elt Ideal) ℓ) : Prop :=
  ∀ c : Dev Cert.Kernel6Ideal.nD,
    (Cert.Pre_mixers_finite.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3)) (m ((c.tc : Thread Cert.Kernel6Ideal.nD Cert.Kernel6Ideal.τ).loc Cert.Kernel6Ideal.main_arg4)) (m ((c.tc : Thread Cert.Kernel6Ideal.nD Cert.Kernel6Ideal.τ).loc Cert.Kernel6Ideal.main_arg5)) (m ((c.tc : Thread Cert.Kernel6Ideal.nD Cert.Kernel6Ideal.τ).loc Cert.Kernel6Ideal.main_arg6))).1 = (fun _ => 1#1)
    ∧ (Cert.Pre_mixers_finite.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3)) (m ((c.tc : Thread Cert.Kernel6Ideal.nD Cert.Kernel6Ideal.τ).loc Cert.Kernel6Ideal.main_arg4)) (m ((c.tc : Thread Cert.Kernel6Ideal.nD Cert.Kernel6Ideal.τ).loc Cert.Kernel6Ideal.main_arg5)) (m ((c.tc : Thread Cert.Kernel6Ideal.nD Cert.Kernel6Ideal.τ).loc Cert.Kernel6Ideal.main_arg6))).2.1 = (fun _ => 1#1)
    ∧ (Cert.Pre_mixers_finite.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3)) (m ((c.tc : Thread Cert.Kernel6Ideal.nD Cert.Kernel6Ideal.τ).loc Cert.Kernel6Ideal.main_arg4)) (m ((c.tc : Thread Cert.Kernel6Ideal.nD Cert.Kernel6Ideal.τ).loc Cert.Kernel6Ideal.main_arg5)) (m ((c.tc : Thread Cert.Kernel6Ideal.nD Cert.Kernel6Ideal.τ).loc Cert.Kernel6Ideal.main_arg6))).2.2.1 = (fun _ => 1#1)
    ∧ (Cert.Pre_mixers_finite.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3)) (m ((c.tc : Thread Cert.Kernel6Ideal.nD Cert.Kernel6Ideal.τ).loc Cert.Kernel6Ideal.main_arg4)) (m ((c.tc : Thread Cert.Kernel6Ideal.nD Cert.Kernel6Ideal.τ).loc Cert.Kernel6Ideal.main_arg5)) (m ((c.tc : Thread Cert.Kernel6Ideal.nD Cert.Kernel6Ideal.τ).loc Cert.Kernel6Ideal.main_arg6))).2.2.2 = (fun _ => 1#1)

def Pre_Reference6Ideal (m : (ℓ : Loc Cert.Reference6Ideal.nD Cert.Reference6Ideal.τ Cert.Reference6Ideal.sig) → Buf (Elt Ideal) ℓ) : Prop :=
  True

def Pre_Reference6Ideal_mixers_finite [hPre_mixers_finite : Cert.Pre_mixers_finite.Facts] (m : (ℓ : Loc Cert.Reference6Ideal.nD Cert.Reference6Ideal.τ Cert.Reference6Ideal.sig) → Buf (Elt Ideal) ℓ) : Prop :=
  ∀ c : Dev Cert.Reference6Ideal.nD,
    (Cert.Pre_mixers_finite.fn (F := Ideal) (m ((c.tc : Thread Cert.Reference6Ideal.nD Cert.Reference6Ideal.τ).loc Cert.Reference6Ideal.main_arg0)) (m ((c.tc : Thread Cert.Reference6Ideal.nD Cert.Reference6Ideal.τ).loc Cert.Reference6Ideal.main_arg1)) (m ((c.tc : Thread Cert.Reference6Ideal.nD Cert.Reference6Ideal.τ).loc Cert.Reference6Ideal.main_arg2)) (m ((c.tc : Thread Cert.Reference6Ideal.nD Cert.Reference6Ideal.τ).loc Cert.Reference6Ideal.main_arg3)) (m ((c.tc : Thread Cert.Reference6Ideal.nD Cert.Reference6Ideal.τ).loc Cert.Reference6Ideal.main_arg4)) (m ((c.tc : Thread Cert.Reference6Ideal.nD Cert.Reference6Ideal.τ).loc Cert.Reference6Ideal.main_arg5)) (m ((c.tc : Thread Cert.Reference6Ideal.nD Cert.Reference6Ideal.τ).loc Cert.Reference6Ideal.main_arg6))).1 = (fun _ => 1#1)
    ∧ (Cert.Pre_mixers_finite.fn (F := Ideal) (m ((c.tc : Thread Cert.Reference6Ideal.nD Cert.Reference6Ideal.τ).loc Cert.Reference6Ideal.main_arg0)) (m ((c.tc : Thread Cert.Reference6Ideal.nD Cert.Reference6Ideal.τ).loc Cert.Reference6Ideal.main_arg1)) (m ((c.tc : Thread Cert.Reference6Ideal.nD Cert.Reference6Ideal.τ).loc Cert.Reference6Ideal.main_arg2)) (m ((c.tc : Thread Cert.Reference6Ideal.nD Cert.Reference6Ideal.τ).loc Cert.Reference6Ideal.main_arg3)) (m ((c.tc : Thread Cert.Reference6Ideal.nD Cert.Reference6Ideal.τ).loc Cert.Reference6Ideal.main_arg4)) (m ((c.tc : Thread Cert.Reference6Ideal.nD Cert.Reference6Ideal.τ).loc Cert.Reference6Ideal.main_arg5)) (m ((c.tc : Thread Cert.Reference6Ideal.nD Cert.Reference6Ideal.τ).loc Cert.Reference6Ideal.main_arg6))).2.1 = (fun _ => 1#1)
    ∧ (Cert.Pre_mixers_finite.fn (F := Ideal) (m ((c.tc : Thread Cert.Reference6Ideal.nD Cert.Reference6Ideal.τ).loc Cert.Reference6Ideal.main_arg0)) (m ((c.tc : Thread Cert.Reference6Ideal.nD Cert.Reference6Ideal.τ).loc Cert.Reference6Ideal.main_arg1)) (m ((c.tc : Thread Cert.Reference6Ideal.nD Cert.Reference6Ideal.τ).loc Cert.Reference6Ideal.main_arg2)) (m ((c.tc : Thread Cert.Reference6Ideal.nD Cert.Reference6Ideal.τ).loc Cert.Reference6Ideal.main_arg3)) (m ((c.tc : Thread Cert.Reference6Ideal.nD Cert.Reference6Ideal.τ).loc Cert.Reference6Ideal.main_arg4)) (m ((c.tc : Thread Cert.Reference6Ideal.nD Cert.Reference6Ideal.τ).loc Cert.Reference6Ideal.main_arg5)) (m ((c.tc : Thread Cert.Reference6Ideal.nD Cert.Reference6Ideal.τ).loc Cert.Reference6Ideal.main_arg6))).2.2.1 = (fun _ => 1#1)
    ∧ (Cert.Pre_mixers_finite.fn (F := Ideal) (m ((c.tc : Thread Cert.Reference6Ideal.nD Cert.Reference6Ideal.τ).loc Cert.Reference6Ideal.main_arg0)) (m ((c.tc : Thread Cert.Reference6Ideal.nD Cert.Reference6Ideal.τ).loc Cert.Reference6Ideal.main_arg1)) (m ((c.tc : Thread Cert.Reference6Ideal.nD Cert.Reference6Ideal.τ).loc Cert.Reference6Ideal.main_arg2)) (m ((c.tc : Thread Cert.Reference6Ideal.nD Cert.Reference6Ideal.τ).loc Cert.Reference6Ideal.main_arg3)) (m ((c.tc : Thread Cert.Reference6Ideal.nD Cert.Reference6Ideal.τ).loc Cert.Reference6Ideal.main_arg4)) (m ((c.tc : Thread Cert.Reference6Ideal.nD Cert.Reference6Ideal.τ).loc Cert.Reference6Ideal.main_arg5)) (m ((c.tc : Thread Cert.Reference6Ideal.nD Cert.Reference6Ideal.τ).loc Cert.Reference6Ideal.main_arg6))).2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_KernelIdeal_pre_operands_finite [hKernelIdeal : Cert.KernelIdeal.Facts] [hPre_operands_finite : Cert.Pre_operands_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_operands_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ReferenceIdeal_pre_operands_finite [hReferenceIdeal : Cert.ReferenceIdeal.Facts] [hPre_operands_finite : Cert.Pre_operands_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_operands_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4)
      ∧ r.2.mem ((c.tc : Thread Cert.Kernel6.nD Cert.Kernel6.τ).loc Cert.Kernel6.main_arg5) = m ((c.tc : Thread Cert.Kernel6.nD Cert.Kernel6.τ).loc Cert.Kernel6.main_arg5)
      ∧ r.2.mem ((c.tc : Thread Cert.Kernel6.nD Cert.Kernel6.τ).loc Cert.Kernel6.main_arg6) = m ((c.tc : Thread Cert.Kernel6.nD Cert.Kernel6.τ).loc Cert.Kernel6.main_arg6))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
      ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6))
      ∧ r.2.sem = fun _ => 0)

def quiescent_Kernel6Ideal_pre_mixers_finite [hKernel6Ideal : Cert.Kernel6Ideal.Facts] [hPre_mixers_finite : Cert.Pre_mixers_finite.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal_mixers_finite m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
      ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5)
      ∧ r.2.mem ((c.tc : Thread Cert.Reference6Ideal.nD Cert.Reference6Ideal.τ).loc Cert.Reference6Ideal.main_arg6) = m ((c.tc : Thread Cert.Reference6Ideal.nD Cert.Reference6Ideal.τ).loc Cert.Reference6Ideal.main_arg6))
      ∧ r.2.sem = fun _ => 0)

def quiescent_Reference6Ideal_pre_mixers_finite [hReference6Ideal : Cert.Reference6Ideal.Facts] [hPre_mixers_finite : Cert.Pre_mixers_finite.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal_mixers_finite m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5)
      ∧ r.2.mem ((c.tc : Thread Cert.Reference6Ideal.nD Cert.Reference6Ideal.τ).loc Cert.Reference6Ideal.main_arg6) = m ((c.tc : Thread Cert.Reference6Ideal.nD Cert.Reference6Ideal.τ).loc Cert.Reference6Ideal.main_arg6))
      ∧ r.2.sem = fun _ => 0)

def preserves_Kernel_KernelIdeal : Prop :=
  True

def algebraic_KernelIdeal_ReferenceIdeal_pre_operands_finite [hKernelIdeal : Cert.KernelIdeal.Facts] [hReferenceIdeal : Cert.ReferenceIdeal.Facts] [hPre_operands_finite : Cert.Pre_operands_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_operands_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v42_0)) (v1 : (c : Dev Cert.KernelIdeal.nD) → Buf (Elt Ideal) ((c.tc : Thread Cert.KernelIdeal.nD Cert.KernelIdeal.τ).loc Cert.KernelIdeal.main_v42_1)) (v2 : (c : Dev Cert.KernelIdeal.nD) → Buf (Elt Ideal) ((c.tc : Thread Cert.KernelIdeal.nD Cert.KernelIdeal.τ).loc Cert.KernelIdeal.main_v42_2)) (v3 : (c : Dev Cert.KernelIdeal.nD) → Buf (Elt Ideal) ((c.tc : Thread Cert.KernelIdeal.nD Cert.KernelIdeal.τ).loc Cert.KernelIdeal.main_v42_3)) (v4 : (c : Dev Cert.KernelIdeal.nD) → Buf (Elt Ideal) ((c.tc : Thread Cert.KernelIdeal.nD Cert.KernelIdeal.τ).loc Cert.KernelIdeal.main_v42_4)) (v5 : (c : Dev Cert.KernelIdeal.nD) → Buf (Elt Ideal) ((c.tc : Thread Cert.KernelIdeal.nD Cert.KernelIdeal.τ).loc Cert.KernelIdeal.main_v42_5)) (v6 : (c : Dev Cert.KernelIdeal.nD) → Buf (Elt Ideal) ((c.tc : Thread Cert.KernelIdeal.nD Cert.KernelIdeal.τ).loc Cert.KernelIdeal.main_v42_6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v42_0) = v0 c
          ∧ r.2.mem ((c.tc : Thread Cert.KernelIdeal.nD Cert.KernelIdeal.τ).loc Cert.KernelIdeal.main_v42_1) = v1 c
          ∧ r.2.mem ((c.tc : Thread Cert.KernelIdeal.nD Cert.KernelIdeal.τ).loc Cert.KernelIdeal.main_v42_2) = v2 c
          ∧ r.2.mem ((c.tc : Thread Cert.KernelIdeal.nD Cert.KernelIdeal.τ).loc Cert.KernelIdeal.main_v42_3) = v3 c
          ∧ r.2.mem ((c.tc : Thread Cert.KernelIdeal.nD Cert.KernelIdeal.τ).loc Cert.KernelIdeal.main_v42_4) = v4 c
          ∧ r.2.mem ((c.tc : Thread Cert.KernelIdeal.nD Cert.KernelIdeal.τ).loc Cert.KernelIdeal.main_v42_5) = v5 c
          ∧ r.2.mem ((c.tc : Thread Cert.KernelIdeal.nD Cert.KernelIdeal.τ).loc Cert.KernelIdeal.main_v42_6) = v6 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v81) = v0 c
          ∧ r.2.mem ((c.tc : Thread Cert.ReferenceIdeal.nD Cert.ReferenceIdeal.τ).loc Cert.ReferenceIdeal.main_v84) = v1 c
          ∧ r.2.mem ((c.tc : Thread Cert.ReferenceIdeal.nD Cert.ReferenceIdeal.τ).loc Cert.ReferenceIdeal.main_v87) = v2 c
          ∧ r.2.mem ((c.tc : Thread Cert.ReferenceIdeal.nD Cert.ReferenceIdeal.τ).loc Cert.ReferenceIdeal.main_v90) = v3 c
          ∧ r.2.mem ((c.tc : Thread Cert.ReferenceIdeal.nD Cert.ReferenceIdeal.τ).loc Cert.ReferenceIdeal.main_v91) = v4 c
          ∧ r.2.mem ((c.tc : Thread Cert.ReferenceIdeal.nD Cert.ReferenceIdeal.τ).loc Cert.ReferenceIdeal.main_v93) = v5 c
          ∧ r.2.mem ((c.tc : Thread Cert.ReferenceIdeal.nD Cert.ReferenceIdeal.τ).loc Cert.ReferenceIdeal.main_v94) = v6 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)) →
    ∃ (v0 : (c : Dev Cert.Kernel2Ideal.nD) → Buf (Elt Ideal) ((c.tc : Thread Cert.Kernel2Ideal.nD Cert.Kernel2Ideal.τ).loc Cert.Kernel2Ideal.main_v23_0)) (v1 : (c : Dev Cert.Kernel2Ideal.nD) → Buf (Elt Ideal) ((c.tc : Thread Cert.Kernel2Ideal.nD Cert.Kernel2Ideal.τ).loc Cert.Kernel2Ideal.main_v23_1)) (v2 : (c : Dev Cert.Kernel2Ideal.nD) → Buf (Elt Ideal) ((c.tc : Thread Cert.Kernel2Ideal.nD Cert.Kernel2Ideal.τ).loc Cert.Kernel2Ideal.main_v23_2)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v23_0) = v0 c
          ∧ r.2.mem ((c.tc : Thread Cert.Kernel2Ideal.nD Cert.Kernel2Ideal.τ).loc Cert.Kernel2Ideal.main_v23_1) = v1 c
          ∧ r.2.mem ((c.tc : Thread Cert.Kernel2Ideal.nD Cert.Kernel2Ideal.τ).loc Cert.Kernel2Ideal.main_v23_2) = v2 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v41) = v0 c
          ∧ r.2.mem ((c.tc : Thread Cert.Reference2Ideal.nD Cert.Reference2Ideal.τ).loc Cert.Reference2Ideal.main_v42) = v1 c
          ∧ r.2.mem ((c.tc : Thread Cert.Reference2Ideal.nD Cert.Reference2Ideal.τ).loc Cert.Reference2Ideal.main_v43) = v2 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)) →
    ∃ (v0 : (c : Dev Cert.Kernel3Ideal.nD) → Buf (Elt Ideal) ((c.tc : Thread Cert.Kernel3Ideal.nD Cert.Kernel3Ideal.τ).loc Cert.Kernel3Ideal.main_v15_0)) (v1 : (c : Dev Cert.Kernel3Ideal.nD) → Buf (Elt Ideal) ((c.tc : Thread Cert.Kernel3Ideal.nD Cert.Kernel3Ideal.τ).loc Cert.Kernel3Ideal.main_v15_1)) (v2 : (c : Dev Cert.Kernel3Ideal.nD) → Buf (Elt Ideal) ((c.tc : Thread Cert.Kernel3Ideal.nD Cert.Kernel3Ideal.τ).loc Cert.Kernel3Ideal.main_v15_2)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v15_0) = v0 c
          ∧ r.2.mem ((c.tc : Thread Cert.Kernel3Ideal.nD Cert.Kernel3Ideal.τ).loc Cert.Kernel3Ideal.main_v15_1) = v1 c
          ∧ r.2.mem ((c.tc : Thread Cert.Kernel3Ideal.nD Cert.Kernel3Ideal.τ).loc Cert.Kernel3Ideal.main_v15_2) = v2 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v38) = v0 c
          ∧ r.2.mem ((c.tc : Thread Cert.Reference3Ideal.nD Cert.Reference3Ideal.τ).loc Cert.Reference3Ideal.main_v39) = v1 c
          ∧ r.2.mem ((c.tc : Thread Cert.Reference3Ideal.nD Cert.Reference3Ideal.τ).loc Cert.Reference3Ideal.main_v40) = v2 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)) →
    ∃ (v0 : (c : Dev Cert.Kernel4Ideal.nD) → Buf (Elt Ideal) ((c.tc : Thread Cert.Kernel4Ideal.nD Cert.Kernel4Ideal.τ).loc Cert.Kernel4Ideal.main_v12_0)) (v1 : (c : Dev Cert.Kernel4Ideal.nD) → Buf (Elt Ideal) ((c.tc : Thread Cert.Kernel4Ideal.nD Cert.Kernel4Ideal.τ).loc Cert.Kernel4Ideal.main_v12_1)) (v2 : (c : Dev Cert.Kernel4Ideal.nD) → Buf (Elt Ideal) ((c.tc : Thread Cert.Kernel4Ideal.nD Cert.Kernel4Ideal.τ).loc Cert.Kernel4Ideal.main_v12_2)) (v3 : (c : Dev Cert.Kernel4Ideal.nD) → Buf (Elt Ideal) ((c.tc : Thread Cert.Kernel4Ideal.nD Cert.Kernel4Ideal.τ).loc Cert.Kernel4Ideal.main_v12_3)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v12_0) = v0 c
          ∧ r.2.mem ((c.tc : Thread Cert.Kernel4Ideal.nD Cert.Kernel4Ideal.τ).loc Cert.Kernel4Ideal.main_v12_1) = v1 c
          ∧ r.2.mem ((c.tc : Thread Cert.Kernel4Ideal.nD Cert.Kernel4Ideal.τ).loc Cert.Kernel4Ideal.main_v12_2) = v2 c
          ∧ r.2.mem ((c.tc : Thread Cert.Kernel4Ideal.nD Cert.Kernel4Ideal.τ).loc Cert.Kernel4Ideal.main_v12_3) = v3 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v29) = v0 c
          ∧ r.2.mem ((c.tc : Thread Cert.Reference4Ideal.nD Cert.Reference4Ideal.τ).loc Cert.Reference4Ideal.main_v32) = v1 c
          ∧ r.2.mem ((c.tc : Thread Cert.Reference4Ideal.nD Cert.Reference4Ideal.τ).loc Cert.Reference4Ideal.main_v35) = v2 c
          ∧ r.2.mem ((c.tc : Thread Cert.Reference4Ideal.nD Cert.Reference4Ideal.τ).loc Cert.Reference4Ideal.main_v40) = v3 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)) →
    ∃ (v0 : (c : Dev Cert.Kernel5Ideal.nD) → Buf (Elt Ideal) ((c.tc : Thread Cert.Kernel5Ideal.nD Cert.Kernel5Ideal.τ).loc Cert.Kernel5Ideal.main_v5)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v5) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v1) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2))

def preserves_Kernel6_Kernel6Ideal : Prop :=
  True

def algebraic_Kernel6Ideal_Reference6Ideal_pre_mixers_finite [hKernel6Ideal : Cert.Kernel6Ideal.Facts] [hReference6Ideal : Cert.Reference6Ideal.Facts] [hPre_mixers_finite : Cert.Pre_mixers_finite.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal_mixers_finite m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)
      ∧ m' ((c.tc : Thread Cert.Reference6Ideal.nD Cert.Reference6Ideal.τ).loc Cert.Reference6Ideal.main_arg5) = m ((c.tc : Thread Cert.Kernel6Ideal.nD Cert.Kernel6Ideal.τ).loc Cert.Kernel6Ideal.main_arg5)
      ∧ m' ((c.tc : Thread Cert.Reference6Ideal.nD Cert.Reference6Ideal.τ).loc Cert.Reference6Ideal.main_arg6) = m ((c.tc : Thread Cert.Kernel6Ideal.nD Cert.Kernel6Ideal.τ).loc Cert.Kernel6Ideal.main_arg6)) →
    ∃ (v0 : (c : Dev Cert.Kernel6Ideal.nD) → Buf (Elt Ideal) ((c.tc : Thread Cert.Kernel6Ideal.nD Cert.Kernel6Ideal.τ).loc Cert.Kernel6Ideal.main_v109_0)) (v1 : (c : Dev Cert.Kernel6Ideal.nD) → Buf (Elt Ideal) ((c.tc : Thread Cert.Kernel6Ideal.nD Cert.Kernel6Ideal.τ).loc Cert.Kernel6Ideal.main_v109_1)) (v2 : (c : Dev Cert.Kernel6Ideal.nD) → Buf (Elt Ideal) ((c.tc : Thread Cert.Kernel6Ideal.nD Cert.Kernel6Ideal.τ).loc Cert.Kernel6Ideal.main_v109_2)) (v3 : (c : Dev Cert.Kernel6Ideal.nD) → Buf (Elt Ideal) ((c.tc : Thread Cert.Kernel6Ideal.nD Cert.Kernel6Ideal.τ).loc Cert.Kernel6Ideal.main_v109_3)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v109_0) = v0 c
          ∧ r.2.mem ((c.tc : Thread Cert.Kernel6Ideal.nD Cert.Kernel6Ideal.τ).loc Cert.Kernel6Ideal.main_v109_1) = v1 c
          ∧ r.2.mem ((c.tc : Thread Cert.Kernel6Ideal.nD Cert.Kernel6Ideal.τ).loc Cert.Kernel6Ideal.main_v109_2) = v2 c
          ∧ r.2.mem ((c.tc : Thread Cert.Kernel6Ideal.nD Cert.Kernel6Ideal.τ).loc Cert.Kernel6Ideal.main_v109_3) = v3 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
          ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
          ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v221) = v0 c
          ∧ r.2.mem ((c.tc : Thread Cert.Reference6Ideal.nD Cert.Reference6Ideal.τ).loc Cert.Reference6Ideal.main_v226) = v1 c
          ∧ r.2.mem ((c.tc : Thread Cert.Reference6Ideal.nD Cert.Reference6Ideal.τ).loc Cert.Reference6Ideal.main_v106) = v2 c
          ∧ r.2.mem ((c.tc : Thread Cert.Reference6Ideal.nD Cert.Reference6Ideal.τ).loc Cert.Reference6Ideal.main_v211) = v3 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4)
          ∧ r.2.mem ((c.tc : Thread Cert.Reference6Ideal.nD Cert.Reference6Ideal.τ).loc Cert.Reference6Ideal.main_arg5) = m' ((c.tc : Thread Cert.Reference6Ideal.nD Cert.Reference6Ideal.τ).loc Cert.Reference6Ideal.main_arg5)
          ∧ r.2.mem ((c.tc : Thread Cert.Reference6Ideal.nD Cert.Reference6Ideal.τ).loc Cert.Reference6Ideal.main_arg6) = m' ((c.tc : Thread Cert.Reference6Ideal.nD Cert.Reference6Ideal.τ).loc Cert.Reference6Ideal.main_arg6))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hPre_operands_finite : Cert.Pre_operands_finite.Facts) (hPre_mixers_finite : Cert.Pre_mixers_finite.Facts),
    quiescent_Kernel (hKernel := hKernel)
    ∧ quiescent_KernelIdeal (hKernelIdeal := hKernelIdeal)
    ∧ quiescent_KernelIdeal_pre_operands_finite (hKernelIdeal := hKernelIdeal) (hPre_operands_finite := hPre_operands_finite)
    ∧ quiescent_ReferenceIdeal (hReferenceIdeal := hReferenceIdeal)
    ∧ quiescent_ReferenceIdeal_pre_operands_finite (hReferenceIdeal := hReferenceIdeal) (hPre_operands_finite := hPre_operands_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Kernel6Ideal_pre_mixers_finite (hKernel6Ideal := hKernel6Ideal) (hPre_mixers_finite := hPre_mixers_finite)
    ∧ quiescent_Reference6Ideal (hReference6Ideal := hReference6Ideal)
    ∧ quiescent_Reference6Ideal_pre_mixers_finite (hReference6Ideal := hReference6Ideal) (hPre_mixers_finite := hPre_mixers_finite)
    ∧ preserves_Kernel_KernelIdeal
    ∧ algebraic_KernelIdeal_ReferenceIdeal_pre_operands_finite (hKernelIdeal := hKernelIdeal) (hReferenceIdeal := hReferenceIdeal) (hPre_operands_finite := hPre_operands_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal_pre_mixers_finite (hKernel6Ideal := hKernel6Ideal) (hReference6Ideal := hReference6Ideal) (hPre_mixers_finite := hPre_mixers_finite)
-- ==== Pre_mixers_finite.lean ====
abbrev S4096x1024 : Shape := ⟨2, ![4096, 1024]⟩
abbrev S1024x2048 : Shape := ⟨2, ![1024, 2048]⟩
abbrev S3x512 : Shape := ⟨2, ![3, 512]⟩
abbrev S4x128x128 : Shape := ⟨3, ![4, 128, 128]⟩
abbrev S512 : Shape := ⟨1, ![512]⟩
abbrev S1024x1024 : Shape := ⟨2, ![1024, 1024]⟩
abbrev S_ : Shape := ⟨0, ![]⟩
abbrev S512x1024 : Shape := ⟨2, ![512, 1024]⟩

class Facts : Prop where
  bcast_S_S4x128x128 : S_.BroadcastsInDim S4x128x128 (![] : Fin 0 → Fin S4x128x128.rank)
  bcast_S_S512 : S_.BroadcastsInDim S512 (![] : Fin 0 → Fin S512.rank)
  slices_S1024x1024_S512x1024_512_0 : S1024x1024.Slices ![512, 0] S512x1024
  bcast_S_S512x1024 : S_.BroadcastsInDim S512x1024 (![] : Fin 0 → Fin S512x1024.rank)
  bcast_S_S4096x1024 : S_.BroadcastsInDim S4096x1024 (![] : Fin 0 → Fin S4096x1024.rank)

variable [Facts]

def fn {F : FTy → Type} [FloatOps F] (main_arg0 : FVec F S4096x1024 .f32) (main_arg1 : FVec F S1024x2048 .f32) (main_arg2 : FVec F S3x512 .f32) (main_arg3 : FVec F S4x128x128 .f32) (main_arg4 : FVec F S512 .f32) (main_arg5 : FVec F S1024x1024 .f32) (main_arg6 : FVec F S4096x1024 .f32) : IVec S4x128x128 1 × IVec S512 1 × IVec S512x1024 1 × IVec S4096x1024 1 :=
  let main_v0 : FVec F S4x128x128 .f32 := Host.absf main_arg3
  let main_cst : FVec F S_ .f32 := constant S_ .f32 0x7F800000#32
  let main_v1 : FVec F S4x128x128 .f32 := broadcastInDim S4x128x128 ![] bcast_S_S4x128x128 main_cst
  let main_v2 : IVec S4x128x128 1 := cmpf .olt main_v0 main_v1
  let main_v3 : FVec F S512 .f32 := Host.absf main_arg4
  let main_cst_0 : FVec F S_ .f32 := constant S_ .f32 0x7F800000#32
  let main_v4 : FVec F S512 .f32 := broadcastInDim S512 ![] bcast_S_S512 main_cst_0
  let main_v5 : IVec S512 1 := cmpf .olt main_v3 main_v4
  let main_v6 : FVec F S512x1024 .f32 := (extractStridedSlice S512x1024 ![512, 0] · slices_S1024x1024_S512x1024_512_0) main_arg5
  let main_v7 : FVec F S512x1024 .f32 := Host.absf main_v6
  let main_cst_1 : FVec F S_ .f32 := constant S_ .f32 0x7F800000#32
  let main_v8 : FVec F S512x1024 .f32 := broadcastInDim S512x1024 ![] bcast_S_S512x1024 main_cst_1
  let main_v9 : IVec S512x1024 1 := cmpf .olt main_v7 main_v8
  let main_v10 : FVec F S4096x1024 .f32 := Host.absf main_arg6
  let main_cst_2 : FVec F S_ .f32 := constant S_ .f32 0x7F800000#32
  let main_v11 : FVec F S4096x1024 .f32 := broadcastInDim S4096x1024 ![] bcast_S_S4096x1024 main_cst_2
  let main_v12 : IVec S4096x1024 1 := cmpf .olt main_v10 main_v11
  (main_v2, main_v5, main_v9, main_v12)
-- ==== Pre_operands_finite.lean ====
abbrev S4096x1024 : Shape := ⟨2, ![4096, 1024]⟩
abbrev S1024x2816 : Shape := ⟨2, ![1024, 2816]⟩
abbrev S3x2816 : Shape := ⟨2, ![3, 2816]⟩
abbrev S2816 : Shape := ⟨1, ![2816]⟩
abbrev S2816x1024 : Shape := ⟨2, ![2816, 1024]⟩
abbrev S_ : Shape := ⟨0, ![]⟩

class Facts : Prop where
  bcast_S_S4096x1024 : S_.BroadcastsInDim S4096x1024 (![] : Fin 0 → Fin S4096x1024.rank)
  bcast_S_S1024x2816 : S_.BroadcastsInDim S1024x2816 (![] : Fin 0 → Fin S1024x2816.rank)
  bcast_S_S2816x1024 : S_.BroadcastsInDim S2816x1024 (![] : Fin 0 → Fin S2816x1024.rank)

variable [Facts]

def fn {F : FTy → Type} [FloatOps F] (main_arg0 : FVec F S4096x1024 .f32) (main_arg1 : FVec F S1024x2816 .f32) (main_arg2 : FVec F S1024x2816 .f32) (main_arg3 : FVec F S3x2816 .f32) (main_arg4 : FVec F S2816 .f32) (main_arg5 : FVec F S2816x1024 .f32) (main_arg6 : FVec F S4096x1024 .f32) : IVec S4096x1024 1 × IVec S1024x2816 1 × IVec S2816x1024 1 × IVec S4096x1024 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_v3 : FVec F S1024x2816 .f32 := Host.absf main_arg2
  let main_cst_0 : FVec F S_ .f32 := constant S_ .f32 0x7F800000#32
  let main_v4 : FVec F S1024x2816 .f32 := broadcastInDim S1024x2816 ![] bcast_S_S1024x2816 main_cst_0
  let main_v5 : IVec S1024x2816 1 := cmpf .olt main_v3 main_v4
  let main_v6 : FVec F S2816x1024 .f32 := Host.absf main_arg5
  let main_cst_1 : FVec F S_ .f32 := constant S_ .f32 0x7F800000#32
  let main_v7 : FVec F S2816x1024 .f32 := broadcastInDim S2816x1024 ![] bcast_S_S2816x1024 main_cst_1
  let main_v8 : IVec S2816x1024 1 := cmpf .olt main_v6 main_v7
  let main_v9 : FVec F S4096x1024 .f32 := Host.absf main_arg6
  let main_cst_2 : FVec F S_ .f32 := constant S_ .f32 0x7F800000#32
  let main_v10 : FVec F S4096x1024 .f32 := broadcastInDim S4096x1024 ![] bcast_S_S4096x1024 main_cst_2
  let main_v11 : IVec S4096x1024 1 := cmpf .olt main_v9 main_v10
  (main_v2, main_v5, main_v8, main_v11)
-- ==== Kernel.lean ====
abbrev S4096x1024 : Shape := ⟨2, ![4096, 1024]⟩
abbrev S1024x2816 : Shape := ⟨2, ![1024, 2816]⟩
abbrev S3x2816 : Shape := ⟨2, ![3, 2816]⟩
abbrev S2816 : Shape := ⟨1, ![2816]⟩
abbrev S2816x1024 : Shape := ⟨2, ![2816, 1024]⟩
abbrev S4096x2816 : Shape := ⟨2, ![4096, 2816]⟩
abbrev S_ : Shape := ⟨0, ![]⟩
abbrev S2x2816 : Shape := ⟨2, ![2, 2816]⟩
abbrev S4098x2816 : Shape := ⟨2, ![4098, 2816]⟩
abbrev S1x2816 : Shape := ⟨2, ![1, 2816]⟩
abbrev S4x704x1024 : Shape := ⟨3, ![4, 704, 1024]⟩
abbrev S3x4x704 : Shape := ⟨3, ![3, 4, 704]⟩
abbrev S4x3x704 : Shape := ⟨3, ![4, 3, 704]⟩
abbrev S4096x4x704 : Shape := ⟨3, ![4096, 4, 704]⟩
abbrev S4x4096x704 : Shape := ⟨3, ![4, 4096, 704]⟩
abbrev S4x1x704 : Shape := ⟨3, ![4, 1, 704]⟩
abbrev S512x1024 : Shape := ⟨2, ![512, 1024]⟩
abbrev S16x1024 : Shape := ⟨2, ![16, 1024]⟩
abbrev S1x512x704 : Shape := ⟨3, ![1, 512, 704]⟩
abbrev S1x16x704 : Shape := ⟨3, ![1, 16, 704]⟩
abbrev S1x704x1024 : Shape := ⟨3, ![1, 704, 1024]⟩
abbrev S1x3x704 : Shape := ⟨3, ![1, 3, 704]⟩
abbrev S1x1x704 : Shape := ⟨3, ![1, 1, 704]⟩
abbrev S704x1024 : Shape := ⟨2, ![704, 1024]⟩
abbrev S3x704 : Shape := ⟨2, ![3, 704]⟩
abbrev S1x704 : Shape := ⟨2, ![1, 704]⟩
abbrev S528x1024 : Shape := ⟨2, ![528, 1024]⟩
abbrev S528x704 : Shape := ⟨2, ![528, 704]⟩
abbrev S512x704 : Shape := ⟨2, ![512, 704]⟩
abbrev S16x704 : Shape := ⟨2, ![16, 704]⟩
abbrev S704 : Shape := ⟨1, ![704]⟩

abbrev nBuf : Space → Nat
  | .hbm => 57
  | .vmem => 34
  | .smem => 0
  | _ => 0

abbrev bufTy : (tb : Table) → Fin (tcTables nBuf tb) → BufTy
  | .hbm, ⟨0, _⟩ => ⟨S4096x1024, .f32⟩
  | .hbm, ⟨1, _⟩ => ⟨S1024x2816, .f32⟩
  | .hbm, ⟨2, _⟩ => ⟨S1024x2816, .f32⟩
  | .hbm, ⟨3, _⟩ => ⟨S3x2816, .f32⟩
  | .hbm, ⟨4, _⟩ => ⟨S2816, .f32⟩
  | .hbm, ⟨5, _⟩ => ⟨S2816x1024, .f32⟩
  | .hbm, ⟨6, _⟩ => ⟨S4096x1024, .f32⟩
  | .hbm, ⟨7, _⟩ => ⟨S4096x2816, .f32⟩
  | .hbm, ⟨8, _⟩ => ⟨S4096x2816, .f32⟩
  | .hbm, ⟨9, _⟩ => ⟨S_, .f32⟩
  | .hbm, ⟨10, _⟩ => ⟨S2x2816, .f32⟩
  | .hbm, ⟨11, _⟩ => ⟨S4098x2816, .f32⟩
  | .hbm, ⟨12, _⟩ => ⟨S4096x2816, .f32⟩
  | .hbm, ⟨13, _⟩ => ⟨S1x2816, .f32⟩
  | .hbm, ⟨14, _⟩ => ⟨S2816, .f32⟩
  | .hbm, ⟨15, _⟩ => ⟨S1x2816, .f32⟩
  | .hbm, ⟨16, _⟩ => ⟨S4096x2816, .f32⟩
  | .hbm, ⟨17, _⟩ => ⟨S4096x2816, .f32⟩
  | .hbm, ⟨18, _⟩ => ⟨S4096x2816, .f32⟩
  | .hbm, ⟨19, _⟩ => ⟨S1x2816, .f32⟩
  | .hbm, ⟨20, _⟩ => ⟨S2816, .f32⟩
  | .hbm, ⟨21, _⟩ => ⟨S1x2816, .f32⟩
  | .hbm, ⟨22, _⟩ => ⟨S4096x2816, .f32⟩
  | .hbm, ⟨23, _⟩ => ⟨S4096x2816, .f32⟩
  | .hbm, ⟨24, _⟩ => ⟨S4096x2816, .f32⟩
  | .hbm, ⟨25, _⟩ => ⟨S4096x2816, .f32⟩
  | .hbm, ⟨26, _⟩ => ⟨S1x2816, .f32⟩
  | .hbm, ⟨27, _⟩ => ⟨S2816, .f32⟩
  | .hbm, ⟨28, _⟩ => ⟨S1x2816, .f32⟩
  | .hbm, ⟨29, _⟩ => ⟨S4096x2816, .f32⟩
  | .hbm, ⟨30, _⟩ => ⟨S4096x2816, .f32⟩
  | .hbm, ⟨31, _⟩ => ⟨S4096x2816, .f32⟩
  | .hbm, ⟨32, _⟩ => ⟨S1x2816, .f32⟩
  | .hbm, ⟨33, _⟩ => ⟨S4096x2816, .f32⟩
  | .hbm, ⟨34, _⟩ => ⟨S4096x2816, .f32⟩
  | .hbm, ⟨35, _⟩ => ⟨S4x704x1024, .f32⟩
  | .hbm, ⟨36, _⟩ => ⟨S4x704x1024, .bf16⟩
  | .hbm, ⟨37, _⟩ => ⟨S3x4x704, .f32⟩
  | .hbm, ⟨38, _⟩ => ⟨S4x3x704, .f32⟩
  | .hbm, ⟨39, _⟩ => ⟨S4096x1024, .bf16⟩
  | .hbm, ⟨40, _⟩ => ⟨S4096x1024, .bf16⟩
  | .hbm, ⟨41, _⟩ => ⟨S4096x4x704, .f32⟩
  | .hbm, ⟨42, _⟩ => ⟨S4x4096x704, .f32⟩
  | .hbm, ⟨43, _⟩ => ⟨S4x4096x704, .bf16⟩
  | .hbm, ⟨44, _⟩ => ⟨S4096x4x704, .f32⟩
  | .hbm, ⟨45, _⟩ => ⟨S4x4096x704, .f32⟩
  | .hbm, ⟨46, _⟩ => ⟨S4x4096x704, .bf16⟩
  | .hbm, ⟨47, _⟩ => ⟨S4096x4x704, .f32⟩
  | .hbm, ⟨48, _⟩ => ⟨S4x4096x704, .f32⟩
  | .hbm, ⟨49, _⟩ => ⟨S4x4096x704, .bf16⟩
  | .hbm, ⟨50, _⟩ => ⟨S4x4096x704, .bf16⟩
  | .hbm, ⟨51, _⟩ => ⟨S4x4096x704, .bf16⟩
  | .hbm, ⟨52, _⟩ => ⟨S4x704x1024, .f32⟩
  | .hbm, ⟨53, _⟩ => ⟨S4x704x1024, .f32⟩
  | .hbm, ⟨54, _⟩ => ⟨S4x704x1024, .f32⟩
  | .hbm, ⟨55, _⟩ => ⟨S4x3x704, .f32⟩
  | .hbm, ⟨56, _⟩ => ⟨S4x1x704, .f32⟩
  | .local _ .vmem, ⟨0, _⟩ => ⟨S512x1024, .bf16⟩
  | .local _ .vmem, ⟨1, _⟩ => ⟨S512x1024, .bf16⟩
  | .local _ .vmem, ⟨2, _⟩ => ⟨S16x1024, .bf16⟩
  | .local _ .vmem, ⟨3, _⟩ => ⟨S16x1024, .bf16⟩
  | .local _ .vmem, ⟨4, _⟩ => ⟨S512x1024, .bf16⟩
  | .local _ .vmem, ⟨5, _⟩ => ⟨S512x1024, .bf16⟩
  | .local _ .vmem, ⟨6, _⟩ => ⟨S1x512x704, .bf16⟩
  | .local _ .vmem, ⟨7, _⟩ => ⟨S1x512x704, .bf16⟩
  | .local _ .vmem, ⟨8, _⟩ => ⟨S1x512x704, .bf16⟩
  | .local _ .vmem, ⟨9, _⟩ => ⟨S1x512x704, .bf16⟩
  | .local _ .vmem, ⟨10, _⟩ => ⟨S1x16x704, .bf16⟩
  | .local _ .vmem, ⟨11, _⟩ => ⟨S1x16x704, .bf16⟩
  | .local _ .vmem, ⟨12, _⟩ => ⟨S1x512x704, .bf16⟩
  | .local _ .vmem, ⟨13, _⟩ => ⟨S1x512x704, .bf16⟩
  | .local _ .vmem, ⟨14, _⟩ => ⟨S1x16x704, .bf16⟩
  | .local _ .vmem, ⟨15, _⟩ => ⟨S1x16x704, .bf16⟩
  | .local _ .vmem, ⟨16, _⟩ => ⟨S1x704x1024, .bf16⟩
  | .local _ .vmem, ⟨17, _⟩ => ⟨S1x704x1024, .bf16⟩
  | .local _ .vmem, ⟨18, _⟩ => ⟨S1x3x704, .f32⟩
  | .local _ .vmem, ⟨19, _⟩ => ⟨S1x3x704, .f32⟩
  | .local _ .vmem, ⟨20, _⟩ => ⟨S1x512x704, .bf16⟩
  | .local _ .vmem, ⟨21, _⟩ => ⟨S1x512x704, .bf16⟩
  | .local _ .vmem, ⟨22, _⟩ => ⟨S1x512x704, .bf16⟩
  | .local _ .vmem, ⟨23, _⟩ => ⟨S1x512x704, .bf16⟩
  | .local _ .vmem, ⟨24, _⟩ => ⟨S1x704x1024, .f32⟩
  | .local _ .vmem, ⟨25, _⟩ => ⟨S1x704x1024, .f32⟩
  | .local _ .vmem, ⟨26, _⟩ => ⟨S1x704x1024, .f32⟩
  | .local _ .vmem, ⟨27, _⟩ => ⟨S1x704x1024, .f32⟩
  | .local _ .vmem, ⟨28, _⟩ => ⟨S1x704x1024, .f32⟩
  | .local _ .vmem, ⟨29, _⟩ => ⟨S1x704x1024, .f32⟩
  | .local _ .vmem, ⟨30, _⟩ => ⟨S1x3x704, .f32⟩
  | .local _ .vmem, ⟨31, _⟩ => ⟨S1x3x704, .f32⟩
  | .local _ .vmem, ⟨32, _⟩ => ⟨S1x1x704, .f32⟩
  | .local _ .vmem, ⟨33, _⟩ => ⟨S1x1x704, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | _, _ => false

abbrev semScoped : Fin 0 → Bool
  | ⟨_, h⟩ => absurd h (Nat.not_lt_zero _)

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  ofTc nBuf bufTy 0 34 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_cst : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_v42_0 : Ref sig .tc := ⟨.hbm, 50, rfl⟩
abbrev main_v42_1 : Ref sig .tc := ⟨.hbm, 51, rfl⟩
abbrev main_v42_2 : Ref sig .tc := ⟨.hbm, 52, rfl⟩
abbrev main_v42_3 : Ref sig .tc := ⟨.hbm, 53, rfl⟩
abbrev main_v42_4 : Ref sig .tc := ⟨.hbm, 54, rfl⟩
abbrev main_v42_5 : Ref sig .tc := ⟨.hbm, 55, rfl⟩
abbrev main_v42_6 : Ref sig .tc := ⟨.hbm, 56, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_stg14_0 : Ref sig .tc := ⟨.vmem, 28, rfl⟩
abbrev cc0_stg14_1 : Ref sig .tc := ⟨.vmem, 29, rfl⟩
abbrev cc0_stg15_0 : Ref sig .tc := ⟨.vmem, 30, rfl⟩
abbrev cc0_stg15_1 : Ref sig .tc := ⟨.vmem, 31, rfl⟩
abbrev cc0_stg16_0 : Ref sig .tc := ⟨.vmem, 32, rfl⟩
abbrev cc0_stg16_1 : Ref sig .tc := ⟨.vmem, 33, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27
abbrev cc0_sem14_0 : DmaSem sig := 28
abbrev cc0_sem14_1 : DmaSem sig := 29
abbrev cc0_sem15_0 : DmaSem sig := 30
abbrev cc0_sem15_1 : DmaSem sig := 31
abbrev cc0_sem16_0 : DmaSem sig := 32
abbrev cc0_sem16_1 : DmaSem sig := 33

abbrev nD : Nat := 1
abbrev τ : Topo := Topo.v7x

variable {F : FTy → Type} [FloatOps F]

abbrev grid0 : Pipeline.Grid := ⟨2, ![4, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c32_i32 : BitVec 32 := 32#32
  let v1 : BitVec 32 := Scalar.muli v0 c32_i32
  let c255_i32 : BitVec 32 := 255#32
  let v2 : BitVec 32 := Scalar.minsi v1 c255_i32
  let c0_i32 : BitVec 32 := 0#32
  let c0_i32_0 : BitVec 32 := 0#32
  ![v2.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c32_i32 : BitVec 32 := 32#32
  let v1 : BitVec 32 := Scalar.muli v0 c32_i32
  let c255_i32 : BitVec 32 := 255#32
  let v2 : BitVec 32 := Scalar.minsi v1 c255_i32
  let c0_i32 : BitVec 32 := 0#32
  let c0_i32_0 : BitVec 32 := 0#32
  ![arg0.toNat, v2.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c32_i32 : BitVec 32 := 32#32
  let v1 : BitVec 32 := Scalar.muli v0 c32_i32
  let c255_i32 : BitVec 32 := 255#32
  let v2 : BitVec 32 := Scalar.minsi v1 c255_i32
  let c0_i32 : BitVec 32 := 0#32
  let c0_i32_0 : BitVec 32 := 0#32
  ![arg0.toNat, v2.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_15 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_16 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S16x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x512x704 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x512x704 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x16x704 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x512x704 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x16x704 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x704x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S1x3x704 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S1x512x704 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x512x704 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x704x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, false]

abbrev stage0_13 : Fin 2 → Memref sig .tc .vmem S1x704x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, false]

abbrev stage0_14 : Fin 2 → Memref sig .tc .vmem S1x704x1024 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, false]

abbrev stage0_15 : Fin 2 → Memref sig .tc .vmem S1x3x704 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, false]

abbrev stage0_16 : Fin 2 → Memref sig .tc .vmem S1x1x704 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, false]
-- ==== ReferenceIdeal.lean ====
abbrev S4096x1024 : Shape := ⟨2, ![4096, 1024]⟩
abbrev S1024x2816 : Shape := ⟨2, ![1024, 2816]⟩
abbrev S3x2816 : Shape := ⟨2, ![3, 2816]⟩
abbrev S2816 : Shape := ⟨1, ![2816]⟩
abbrev S2816x1024 : Shape := ⟨2, ![2816, 1024]⟩
abbrev S4096x2816 : Shape := ⟨2, ![4096, 2816]⟩
abbrev S_ : Shape := ⟨0, ![]⟩
abbrev S2x2816 : Shape := ⟨2, ![2, 2816]⟩
abbrev S4098x2816 : Shape := ⟨2, ![4098, 2816]⟩
abbrev S1x2816 : Shape := ⟨2, ![1, 2816]⟩
abbrev S4096x4x704 : Shape := ⟨3, ![4096, 4, 704]⟩
abbrev S4x4096x704 : Shape := ⟨3, ![4, 4096, 704]⟩
abbrev S1024x4x704 : Shape := ⟨3, ![1024, 4, 704]⟩
abbrev S4x1024x704 : Shape := ⟨3, ![4, 1024, 704]⟩
abbrev S4x704x1024 : Shape := ⟨3, ![4, 704, 1024]⟩
abbrev S3x4x704 : Shape := ⟨3, ![3, 4, 704]⟩
abbrev S4x3x704 : Shape := ⟨3, ![4, 3, 704]⟩
abbrev S4x1x704 : Shape := ⟨3, ![4, 1, 704]⟩

abbrev nBuf : Space → Nat
  | .hbm => 133
  | .vmem => 0
  | .smem => 0
  | _ => 0

abbrev hbmTy0_0 (i : Nat) : BufTy := match i % 128 with
  | 0 => ⟨S4096x1024, .f32⟩
  | 1 => ⟨S1024x2816, .f32⟩
  | 2 => ⟨S1024x2816, .f32⟩
  | 3 => ⟨S3x2816, .f32⟩
  | 4 => ⟨S2816, .f32⟩
  | 5 => ⟨S2816x1024, .f32⟩
  | 6 => ⟨S4096x1024, .f32⟩
  | 7 => ⟨S4096x2816, .f32⟩
  | 8 => ⟨S4096x2816, .f32⟩
  | 9 => ⟨S_, .f32⟩
  | 10 => ⟨S2x2816, .f32⟩
  | 11 => ⟨S4098x2816, .f32⟩
  | 12 => ⟨S_, .f32⟩
  | 13 => ⟨S2x2816, .f32⟩
  | 14 => ⟨S4096x2816, .f32⟩
  | 15 => ⟨S1x2816, .f32⟩
  | 16 => ⟨S2816, .f32⟩
  | 17 => ⟨S1x2816, .f32⟩
  | 18 => ⟨S4096x2816, .f32⟩
  | 19 => ⟨S4096x2816, .f32⟩
  | 20 => ⟨S4096x2816, .f32⟩
  | 21 => ⟨S1x2816, .f32⟩
  | 22 => ⟨S2816, .f32⟩
  | 23 => ⟨S1x2816, .f32⟩
  | 24 => ⟨S4096x2816, .f32⟩
  | 25 => ⟨S4096x2816, .f32⟩
  | 26 => ⟨S4096x2816, .f32⟩
  | 27 => ⟨S4096x2816, .f32⟩
  | 28 => ⟨S1x2816, .f32⟩
  | 29 => ⟨S2816, .f32⟩
  | 30 => ⟨S1x2816, .f32⟩
  | 31 => ⟨S4096x2816, .f32⟩
  | 32 => ⟨S4096x2816, .f32⟩
  | 33 => ⟨S4096x2816, .f32⟩
  | 34 => ⟨S1x2816, .f32⟩
  | 35 => ⟨S4096x2816, .f32⟩
  | 36 => ⟨S4096x2816, .f32⟩
  | 37 => ⟨S4096x2816, .f32⟩
  | 38 => ⟨S4096x2816, .f32⟩
  | 39 => ⟨S_, .f32⟩
  | 40 => ⟨S4096x2816, .f32⟩
  | 41 => ⟨S4096x2816, .f32⟩
  | 42 => ⟨S_, .f32⟩
  | 43 => ⟨S4096x2816, .f32⟩
  | 44 => ⟨S4096x2816, .f32⟩
  | 45 => ⟨S_, .f32⟩
  | 46 => ⟨S4096x2816, .f32⟩
  | 47 => ⟨S4096x2816, .f32⟩
  | 48 => ⟨S4096x2816, .f32⟩
  | 49 => ⟨S4096x2816, .f32⟩
  | 50 => ⟨S4096x2816, .f32⟩
  | 51 => ⟨S4096x1024, .f32⟩
  | 52 => ⟨S1024x2816, .f32⟩
  | 53 => ⟨S2816x1024, .f32⟩
  | 54 => ⟨S4096x2816, .f32⟩
  | 55 => ⟨S4096x2816, .f32⟩
  | 56 => ⟨S4096x2816, .f32⟩
  | 57 => ⟨S4096x2816, .f32⟩
  | 58 => ⟨S4096x2816, .f32⟩
  | 59 => ⟨S4096x2816, .f32⟩
  | 60 => ⟨S4096x2816, .f32⟩
  | 61 => ⟨S_, .f32⟩
  | 62 => ⟨S2816, .f32⟩
  | 63 => ⟨S1x2816, .f32⟩
  | 64 => ⟨S_, .f32⟩
  | 65 => ⟨S2816, .f32⟩
  | 66 => ⟨S4096x2816, .f32⟩
  | 67 => ⟨S_, .f32⟩
  | 68 => ⟨S2816, .f32⟩
  | 69 => ⟨S1x2816, .f32⟩
  | 70 => ⟨S4096x2816, .f32⟩
  | 71 => ⟨S4096x2816, .f32⟩
  | 72 => ⟨S_, .f32⟩
  | 73 => ⟨S2816, .f32⟩
  | 74 => ⟨S1x2816, .f32⟩
  | 75 => ⟨S_, .f32⟩
  | 76 => ⟨S3x2816, .f32⟩
  | 77 => ⟨S_, .f32⟩
  | 78 => ⟨S4098x2816, .f32⟩
  | 79 => ⟨S4096x2816, .f32⟩
  | 80 => ⟨S_, .f32⟩
  | 81 => ⟨S2816, .f32⟩
  | 82 => ⟨S1x2816, .f32⟩
  | 83 => ⟨S4096x2816, .f32⟩
  | 84 => ⟨S4096x2816, .f32⟩
  | 85 => ⟨S_, .f32⟩
  | 86 => ⟨S2816, .f32⟩
  | 87 => ⟨S1x2816, .f32⟩
  | 88 => ⟨S_, .f32⟩
  | 89 => ⟨S3x2816, .f32⟩
  | 90 => ⟨S3x2816, .f32⟩
  | 91 => ⟨S_, .f32⟩
  | 92 => ⟨S4098x2816, .f32⟩
  | 93 => ⟨S4098x2816, .f32⟩
  | 94 => ⟨S4096x2816, .f32⟩
  | 95 => ⟨S_, .f32⟩
  | 96 => ⟨S2816, .f32⟩
  | 97 => ⟨S1x2816, .f32⟩
  | 98 => ⟨S4096x2816, .f32⟩
  | 99 => ⟨S4096x2816, .f32⟩
  | 100 => ⟨S_, .f32⟩
  | 101 => ⟨S2816, .f32⟩
  | 102 => ⟨S1x2816, .f32⟩
  | 103 => ⟨S_, .f32⟩
  | 104 => ⟨S3x2816, .f32⟩
  | 105 => ⟨S3x2816, .f32⟩
  | 106 => ⟨S_, .f32⟩
  | 107 => ⟨S4098x2816, .f32⟩
  | 108 => ⟨S4098x2816, .f32⟩
  | 109 => ⟨S2x2816, .f32⟩
  | 110 => ⟨S4096x2816, .f32⟩
  | 111 => ⟨S2816x1024, .f32⟩
  | 112 => ⟨S1024x2816, .f32⟩
  | 113 => ⟨S4096x1024, .f32⟩
  | 114 => ⟨S2816x1024, .f32⟩
  | 115 => ⟨S1024x2816, .f32⟩
  | 116 => ⟨S4096x1024, .f32⟩
  | 117 => ⟨S4096x4x704, .f32⟩
  | 118 => ⟨S4x4096x704, .f32⟩
  | 119 => ⟨S4x4096x704, .bf16⟩
  | 120 => ⟨S4096x4x704, .f32⟩
  | 121 => ⟨S4x4096x704, .f32⟩
  | 122 => ⟨S4x4096x704, .bf16⟩
  | 123 => ⟨S1024x4x704, .f32⟩
  | 124 => ⟨S4x1024x704, .f32⟩
  | 125 => ⟨S4x704x1024, .f32⟩
  | 126 => ⟨S1024x4x704, .f32⟩
  | 127 => ⟨S4x1024x704, .f32⟩
  | _ => ⟨S4096x1024, .f32⟩

abbrev hbmTy0_1 (i : Nat) : BufTy := match i % 128 with
  | 0 => ⟨S4x704x1024, .f32⟩
  | 1 => ⟨S4x704x1024, .f32⟩
  | 2 => ⟨S3x4x704, .f32⟩
  | 3 => ⟨S4x3x704, .f32⟩
  | 4 => ⟨S4x1x704, .f32⟩
  | _ => ⟨S4096x1024, .f32⟩

abbrev hbmTy (i : Nat) : BufTy := match i / 128 with
  | 0 => hbmTy0_0 i
  | 1 => hbmTy0_1 i
  | _ => ⟨S4096x1024, .f32⟩

abbrev bufTy : (tb : Table) → Fin (tcTables nBuf tb) → BufTy
  | .hbm, ⟨i, _⟩ => hbmTy i
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_cst : Ref sig .tc := ⟨.hbm, 9, rfl⟩
abbrev main_v2 : Ref sig .tc := ⟨.hbm, 10, rfl⟩
abbrev main_v3 : Ref sig .tc := ⟨.hbm, 11, rfl⟩
abbrev main_cst_0 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_call0_v0 : Ref sig .tc := ⟨.hbm, 37, rfl⟩
abbrev main_call0_v1 : Ref sig .tc := ⟨.hbm, 38, rfl⟩
abbrev main_call0_cst : Ref sig .tc := ⟨.hbm, 39, rfl⟩
abbrev main_call0_v2 : Ref sig .tc := ⟨.hbm, 40, rfl⟩
abbrev main_call0_v3 : Ref sig .tc := ⟨.hbm, 41, rfl⟩
abbrev main_call0_cst_0 : Ref sig .tc := ⟨.hbm, 42, rfl⟩
abbrev main_call0_v4 : Ref sig .tc := ⟨.hbm, 43, rfl⟩
abbrev main_v28_2 : Ref sig .tc := ⟨.hbm, 44, rfl⟩
abbrev main_call0_cst_1 : Ref sig .tc := ⟨.hbm, 45, rfl⟩
abbrev main_call0_v6 : Ref sig .tc := ⟨.hbm, 46, rfl⟩
abbrev main_call0_v7 : Ref sig .tc := ⟨.hbm, 47, rfl⟩
abbrev main_v28_1 : Ref sig .tc := ⟨.hbm, 48, rfl⟩
abbrev main_v28_0 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_call1_v0 : Ref sig .tc := ⟨.hbm, 57, rfl⟩
abbrev main_call1_v1 : Ref sig .tc := ⟨.hbm, 58, rfl⟩
abbrev main_call1_v2 : Ref sig .tc := ⟨.hbm, 59, rfl⟩
abbrev main_v36 : Ref sig .tc := ⟨.hbm, 60, rfl⟩
abbrev main_cst_1 : Ref sig .tc := ⟨.hbm, 61, rfl⟩
abbrev main_v37 : Ref sig .tc := ⟨.hbm, 62, rfl⟩
abbrev main_v38 : Ref sig .tc := ⟨.hbm, 63, rfl⟩
abbrev main_cst_2 : Ref sig .tc := ⟨.hbm, 64, rfl⟩
abbrev main_v39 : Ref sig .tc := ⟨.hbm, 65, rfl⟩
abbrev main_v40 : Ref sig .tc := ⟨.hbm, 66, rfl⟩
abbrev main_cst_3 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_cst_4 : Ref sig .tc := ⟨.hbm, 72, rfl⟩
abbrev main_v45 : Ref sig .tc := ⟨.hbm, 73, rfl⟩
abbrev main_v46 : Ref sig .tc := ⟨.hbm, 74, rfl⟩
abbrev main_cst_5 : Ref sig .tc := ⟨.hbm, 75, rfl⟩
abbrev main_v47 : Ref sig .tc := ⟨.hbm, 76, rfl⟩
abbrev main_cst_6 : Ref sig .tc := ⟨.hbm, 77, rfl⟩
abbrev main_v48 : Ref sig .tc := ⟨.hbm, 78, rfl⟩
abbrev main_v49 : Ref sig .tc := ⟨.hbm, 79, rfl⟩
abbrev main_cst_7 : Ref sig .tc := ⟨.hbm, 80, rfl⟩
abbrev main_v50 : Ref sig .tc := ⟨.hbm, 81, rfl⟩
abbrev main_v51 : Ref sig .tc := ⟨.hbm, 82, rfl⟩
abbrev main_v52 : Ref sig .tc := ⟨.hbm, 83, rfl⟩
abbrev main_v53 : Ref sig .tc := ⟨.hbm, 84, rfl⟩
abbrev main_cst_8 : Ref sig .tc := ⟨.hbm, 85, rfl⟩
abbrev main_v54 : Ref sig .tc := ⟨.hbm, 86, rfl⟩
abbrev main_v55 : Ref sig .tc := ⟨.hbm, 87, rfl⟩
abbrev main_cst_9 : Ref sig .tc := ⟨.hbm, 88, rfl⟩
abbrev main_v56 : Ref sig .tc := ⟨.hbm, 89, rfl⟩
abbrev main_v57 : Ref sig .tc := ⟨.hbm, 90, rfl⟩
abbrev main_cst_10 : Ref sig .tc := ⟨.hbm, 91, rfl⟩
abbrev main_v58 : Ref sig .tc := ⟨.hbm, 92, rfl⟩
abbrev main_v59 : Ref sig .tc := ⟨.hbm, 93, rfl⟩
abbrev main_v60 : Ref sig .tc := ⟨.hbm, 94, rfl⟩
abbrev main_cst_11 : Ref sig .tc := ⟨.hbm, 95, rfl⟩
abbrev main_v61 : Ref sig .tc := ⟨.hbm, 96, rfl⟩
abbrev main_v62 : Ref sig .tc := ⟨.hbm, 97, rfl⟩
abbrev main_v63 : Ref sig .tc := ⟨.hbm, 98, rfl⟩
abbrev main_v64 : Ref sig .tc := ⟨.hbm, 99, rfl⟩
abbrev main_cst_12 : Ref sig .tc := ⟨.hbm, 100, rfl⟩
abbrev main_v65 : Ref sig .tc := ⟨.hbm, 101, rfl⟩
abbrev main_v66 : Ref sig .tc := ⟨.hbm, 102, rfl⟩
abbrev main_cst_13 : Ref sig .tc := ⟨.hbm, 103, rfl⟩
abbrev main_v67 : Ref sig .tc := ⟨.hbm, 104, rfl⟩
abbrev main_v68 : Ref sig .tc := ⟨.hbm, 105, rfl⟩
abbrev main_cst_14 : Ref sig .tc := ⟨.hbm, 106, rfl⟩
abbrev main_v69 : Ref sig .tc := ⟨.hbm, 107, rfl⟩
abbrev main_v70 : Ref sig .tc := ⟨.hbm, 108, rfl⟩
abbrev main_v71 : Ref sig .tc := ⟨.hbm, 109, rfl⟩
abbrev main_v72 : Ref sig .tc := ⟨.hbm, 110, rfl⟩
abbrev main_v73 : Ref sig .tc := ⟨.hbm, 111, rfl⟩
abbrev main_v74 : Ref sig .tc := ⟨.hbm, 112, rfl⟩
abbrev main_v75 : Ref sig .tc := ⟨.hbm, 113, rfl⟩
abbrev main_v76 : Ref sig .tc := ⟨.hbm, 114, rfl⟩
abbrev main_v77 : Ref sig .tc := ⟨.hbm, 115, rfl⟩
abbrev main_v78 : Ref sig .tc := ⟨.hbm, 116, rfl⟩
abbrev main_v79 : Ref sig .tc := ⟨.hbm, 117, rfl⟩
abbrev main_v80 : Ref sig .tc := ⟨.hbm, 118, rfl⟩
abbrev main_v81 : Ref sig .tc := ⟨.hbm, 119, rfl⟩
abbrev main_v82 : Ref sig .tc := ⟨.hbm, 120, rfl⟩
abbrev main_v83 : Ref sig .tc := ⟨.hbm, 121, rfl⟩
abbrev main_v84 : Ref sig .tc := ⟨.hbm, 122, rfl⟩
abbrev main_v85 : Ref sig .tc := ⟨.hbm, 123, rfl⟩
abbrev main_v86 : Ref sig .tc := ⟨.hbm, 124, rfl⟩
abbrev main_v87 : Ref sig .tc := ⟨.hbm, 125, rfl⟩
abbrev main_v88 : Ref sig .tc := ⟨.hbm, 126, rfl⟩
abbrev main_v89 : Ref sig .tc := ⟨.hbm, 127, rfl⟩
abbrev main_v90 : Ref sig .tc := ⟨.hbm, 128, rfl⟩
abbrev main_v91 : Ref sig .tc := ⟨.hbm, 129, rfl⟩
abbrev main_v92 : Ref sig .tc := ⟨.hbm, 130, rfl⟩
abbrev main_v93 : Ref sig .tc := ⟨.hbm, 131, rfl⟩
abbrev main_v94 : Ref sig .tc := ⟨.hbm, 132, rfl⟩

abbrev nD : Nat := 1
abbrev τ : Topo := Topo.v7x

variable {F : FTy → Type} [FloatOps F]
-- ==== Kernel2.lean ====
abbrev S4096x1024 : Shape := ⟨2, ![4096, 1024]⟩
abbrev S1024 : Shape := ⟨1, ![1024]⟩
abbrev S1024x2816 : Shape := ⟨2, ![1024, 2816]⟩
abbrev S4096x2816 : Shape := ⟨2, ![4096, 2816]⟩
abbrev S_ : Shape := ⟨0, ![]⟩
abbrev S4096 : Shape := ⟨1, ![4096]⟩
abbrev S4096x1 : Shape := ⟨2, ![4096, 1]⟩
abbrev S1024x4x704 : Shape := ⟨3, ![1024, 4, 704]⟩
abbrev S4x1024x704 : Shape := ⟨3, ![4, 1024, 704]⟩
abbrev S4x704x1024 : Shape := ⟨3, ![4, 704, 1024]⟩
abbrev S4096x4x704 : Shape := ⟨3, ![4096, 4, 704]⟩
abbrev S4x4096x704 : Shape := ⟨3, ![4, 4096, 704]⟩
abbrev S1x1024 : Shape := ⟨2, ![1, 1024]⟩
abbrev S4x512x704 : Shape := ⟨3, ![4, 512, 704]⟩
abbrev S512x1024 : Shape := ⟨2, ![512, 1024]⟩
abbrev S512x1 : Shape := ⟨2, ![512, 1]⟩
abbrev S1x512x704 : Shape := ⟨3, ![1, 512, 704]⟩
abbrev S512x704 : Shape := ⟨2, ![512, 704]⟩
abbrev S1x704x1024 : Shape := ⟨3, ![1, 704, 1024]⟩
abbrev S704x1024 : Shape := ⟨2, ![704, 1024]⟩
abbrev S512 : Shape := ⟨1, ![512]⟩

abbrev nBuf : Space → Nat
  | .hbm => 36
  | .vmem => 18
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1024x2816, .f32⟩
  | .hbm, ⟨3, _⟩ => ⟨S1024x2816, .f32⟩
  | .hbm, ⟨4, _⟩ => ⟨S4096x2816, .f32⟩
  | .hbm, ⟨5, _⟩ => ⟨S4096x2816, .f32⟩
  | .hbm, ⟨6, _⟩ => ⟨S4096x1024, .f32⟩
  | .hbm, ⟨7, _⟩ => ⟨S4096x1024, .f32⟩
  | .hbm, ⟨8, _⟩ => ⟨S_, .f32⟩
  | .hbm, ⟨9, _⟩ => ⟨S4096, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S_, .f32⟩
  | .hbm, ⟨15, _⟩ => ⟨S4096x1, .f32⟩
  | .hbm, ⟨16, _⟩ => ⟨S4096x1, .f32⟩
  | .hbm, ⟨17, _⟩ => ⟨S4096x1, .f32⟩
  | .hbm, ⟨18, _⟩ => ⟨S1024x4x704, .f32⟩
  | .hbm, ⟨19, _⟩ => ⟨S4x1024x704, .f32⟩
  | .hbm, ⟨20, _⟩ => ⟨S4x704x1024, .f32⟩
  | .hbm, ⟨21, _⟩ => ⟨S4x704x1024, .bf16⟩
  | .hbm, ⟨22, _⟩ => ⟨S1024x4x704, .f32⟩
  | .hbm, ⟨23, _⟩ => ⟨S4x1024x704, .f32⟩
  | .hbm, ⟨24, _⟩ => ⟨S4x704x1024, .f32⟩
  | .hbm, ⟨25, _⟩ => ⟨S4x704x1024, .bf16⟩
  | .hbm, ⟨26, _⟩ => ⟨S4096x4x704, .f32⟩
  | .hbm, ⟨27, _⟩ => ⟨S4x4096x704, .f32⟩
  | .hbm, ⟨28, _⟩ => ⟨S4x4096x704, .bf16⟩
  | .hbm, ⟨29, _⟩ => ⟨S4096x4x704, .f32⟩
  | .hbm, ⟨30, _⟩ => ⟨S4x4096x704, .f32⟩
  | .hbm, ⟨31, _⟩ => ⟨S4x4096x704, .bf16⟩
  | .hbm, ⟨32, _⟩ => ⟨S1x1024, .f32⟩
  | .hbm, ⟨33, _⟩ => ⟨S4096x1024, .f32⟩
  | .hbm, ⟨34, _⟩ => ⟨S4096x1024, .bf16⟩
  | .hbm, ⟨35, _⟩ => ⟨S1x1024, .f32⟩
  | .local _ .vmem, ⟨0, _⟩ => ⟨S4x512x704, .bf16⟩
  | .local _ .vmem, ⟨1, _⟩ => ⟨S4x512x704, .bf16⟩
  | .local _ .vmem, ⟨2, _⟩ => ⟨S4x512x704, .bf16⟩
  | .local _ .vmem, ⟨3, _⟩ => ⟨S4x512x704, .bf16⟩
  | .local _ .vmem, ⟨4, _⟩ => ⟨S4x704x1024, .bf16⟩
  | .local _ .vmem, ⟨5, _⟩ => ⟨S4x704x1024, .bf16⟩
  | .local _ .vmem, ⟨6, _⟩ => ⟨S512x1024, .f32⟩
  | .local _ .vmem, ⟨7, _⟩ => ⟨S512x1024, .f32⟩
  | .local _ .vmem, ⟨8, _⟩ => ⟨S1x1024, .f32⟩
  | .local _ .vmem, ⟨9, _⟩ => ⟨S512x1, .f32⟩
  | .local _ .vmem, ⟨10, _⟩ => ⟨S512x1, .f32⟩
  | .local _ .vmem, ⟨11, _⟩ => ⟨S512x1024, .f32⟩
  | .local _ .vmem, ⟨12, _⟩ => ⟨S512x1024, .f32⟩
  | .local _ .vmem, ⟨13, _⟩ => ⟨S512x1024, .f32⟩
  | .local _ .vmem, ⟨14, _⟩ => ⟨S512x1024, .f32⟩
  | .local _ .vmem, ⟨15, _⟩ => ⟨S512x1024, .bf16⟩
  | .local _ .vmem, ⟨16, _⟩ => ⟨S512x1024, .bf16⟩
  | .local _ .vmem, ⟨17, _⟩ => ⟨S1x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23_0 : Ref sig .tc := ⟨.hbm, 33, rfl⟩
abbrev main_v23_1 : Ref sig .tc := ⟨.hbm, 34, rfl⟩
abbrev main_v23_2 : Ref sig .tc := ⟨.hbm, 35, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S4x512x704 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4x512x704 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S4x704x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S4x704x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]
-- ==== Reference2Ideal.lean ====
abbrev S4096x1024 : Shape := ⟨2, ![4096, 1024]⟩
abbrev S1024 : Shape := ⟨1, ![1024]⟩
abbrev S1024x2816 : Shape := ⟨2, ![1024, 2816]⟩
abbrev S4096x2816 : Shape := ⟨2, ![4096, 2816]⟩
abbrev S_ : Shape := ⟨0, ![]⟩
abbrev S4096 : Shape := ⟨1, ![4096]⟩
abbrev S4096x1 : Shape := ⟨2, ![4096, 1]⟩
abbrev S1x1024 : Shape := ⟨2, ![1, 1024]⟩

abbrev nBuf : Space → Nat
  | .hbm => 60
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1024x2816, .f32⟩
  | .hbm, ⟨3, _⟩ => ⟨S1024x2816, .f32⟩
  | .hbm, ⟨4, _⟩ => ⟨S4096x2816, .f32⟩
  | .hbm, ⟨5, _⟩ => ⟨S4096x2816, .f32⟩
  | .hbm, ⟨6, _⟩ => ⟨S4096x1024, .f32⟩
  | .hbm, ⟨7, _⟩ => ⟨S4096x1024, .f32⟩
  | .hbm, ⟨8, _⟩ => ⟨S_, .f32⟩
  | .hbm, ⟨9, _⟩ => ⟨S4096, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S_, .f32⟩
  | .hbm, ⟨15, _⟩ => ⟨S4096x1, .f32⟩
  | .hbm, ⟨16, _⟩ => ⟨S4096x1, .f32⟩
  | .hbm, ⟨17, _⟩ => ⟨S4096x1, .f32⟩
  | .hbm, ⟨18, _⟩ => ⟨S4096x1, .f32⟩
  | .hbm, ⟨19, _⟩ => ⟨S_, .f32⟩
  | .hbm, ⟨20, _⟩ => ⟨S4096x1, .f32⟩
  | .hbm, ⟨21, _⟩ => ⟨S4096x1, .f32⟩
  | .hbm, ⟨22, _⟩ => ⟨S4096x1024, .f32⟩
  | .hbm, ⟨23, _⟩ => ⟨S4096x1024, .f32⟩
  | .hbm, ⟨24, _⟩ => ⟨S1x1024, .f32⟩
  | .hbm, ⟨25, _⟩ => ⟨S4096x1024, .f32⟩
  | .hbm, ⟨26, _⟩ => ⟨S4096x1024, .f32⟩
  | .hbm, ⟨27, _⟩ => ⟨S4096x2816, .f32⟩
  | .hbm, ⟨28, _⟩ => ⟨S4096x2816, .f32⟩
  | .hbm, ⟨29, _⟩ => ⟨S4096x1024, .f32⟩
  | .hbm, ⟨30, _⟩ => ⟨S4096x1024, .f32⟩
  | .hbm, ⟨31, _⟩ => ⟨S4096x1024, .f32⟩
  | .hbm, ⟨32, _⟩ => ⟨S4096x1024, .f32⟩
  | .hbm, ⟨33, _⟩ => ⟨S_, .f32⟩
  | .hbm, ⟨34, _⟩ => ⟨S1024, .f32⟩
  | .hbm, ⟨35, _⟩ => ⟨S1x1024, .f32⟩
  | .hbm, ⟨36, _⟩ => ⟨S4096x1024, .f32⟩
  | .hbm, ⟨37, _⟩ => ⟨S4096x1024, .f32⟩
  | .hbm, ⟨38, _⟩ => ⟨S_, .f32⟩
  | .hbm, ⟨39, _⟩ => ⟨S1024, .f32⟩
  | .hbm, ⟨40, _⟩ => ⟨S4096x1024, .f32⟩
  | .hbm, ⟨41, _⟩ => ⟨S_, .f32⟩
  | .hbm, ⟨42, _⟩ => ⟨S4096, .f32⟩
  | .hbm, ⟨43, _⟩ => ⟨S4096x1, .f32⟩
  | .hbm, ⟨44, _⟩ => ⟨S4096x1024, .f32⟩
  | .hbm, ⟨45, _⟩ => ⟨S4096x1024, .f32⟩
  | .hbm, ⟨46, _⟩ => ⟨S4096x1024, .f32⟩
  | .hbm, ⟨47, _⟩ => ⟨S4096x1, .f32⟩
  | .hbm, ⟨48, _⟩ => ⟨S_, .f32⟩
  | .hbm, ⟨49, _⟩ => ⟨S4096x1, .f32⟩
  | .hbm, ⟨50, _⟩ => ⟨S4096x1, .f32⟩
  | .hbm, ⟨51, _⟩ => ⟨S_, .f32⟩
  | .hbm, ⟨52, _⟩ => ⟨S4096, .f32⟩
  | .hbm, ⟨53, _⟩ => ⟨S4096x1024, .f32⟩
  | .hbm, ⟨54, _⟩ => ⟨S4096x1024, .f32⟩
  | .hbm, ⟨55, _⟩ => ⟨S4096x1024, .f32⟩
  | .hbm, ⟨56, _⟩ => ⟨S4096x1024, .f32⟩
  | .hbm, ⟨57, _⟩ => ⟨S4096x1024, .f32⟩
  | .hbm, ⟨58, _⟩ => ⟨S4096x1024, .bf16⟩
  | .hbm, ⟨59, _⟩ => ⟨S1x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_cst_2 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_cst_3 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_cst_4 : Ref sig .tc := ⟨.hbm, 38, rfl⟩
abbrev main_v26 : Ref sig .tc := ⟨.hbm, 39, rfl⟩
abbrev main_v27 : Ref sig .tc := ⟨.hbm, 40, rfl⟩
abbrev main_cst_5 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_cst_6 : Ref sig .tc := ⟨.hbm, 48, rfl⟩
abbrev main_v34 : Ref sig .tc := ⟨.hbm, 49, rfl⟩
abbrev main_v35 : Ref sig .tc := ⟨.hbm, 50, rfl⟩
abbrev main_cst_7 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩

abbrev nD : Nat := 1
abbrev τ : Topo := Topo.v7x

variable {F : FTy → Type} [FloatOps F]
-- ==== Kernel3.lean ====
abbrev S4096x1024 : Shape := ⟨2, ![4096, 1024]⟩
abbrev S1024 : Shape := ⟨1, ![1024]⟩
abbrev S1024x2048 : Shape := ⟨2, ![1024, 2048]⟩
abbrev S4096x2048 : Shape := ⟨2, ![4096, 2048]⟩
abbrev S_ : Shape := ⟨0, ![]⟩
abbrev S4096 : Shape := ⟨1, ![4096]⟩
abbrev S4096x1 : Shape := ⟨2, ![4096, 1]⟩
abbrev S4096x4x512 : Shape := ⟨3, ![4096, 4, 512]⟩
abbrev S4x4096x512 : Shape := ⟨3, ![4, 4096, 512]⟩
abbrev S1024x4x512 : Shape := ⟨3, ![1024, 4, 512]⟩
abbrev S4x1024x512 : Shape := ⟨3, ![4, 1024, 512]⟩
abbrev S1x1024 : Shape := ⟨2, ![1, 1024]⟩
abbrev S4x512x512 : Shape := ⟨3, ![4, 512, 512]⟩
abbrev S512x1024 : Shape := ⟨2, ![512, 1024]⟩
abbrev S512x1 : Shape := ⟨2, ![512, 1]⟩
abbrev S1x512x512 : Shape := ⟨3, ![1, 512, 512]⟩
abbrev S512x512 : Shape := ⟨2, ![512, 512]⟩
abbrev S1x1024x512 : Shape := ⟨3, ![1, 1024, 512]⟩
abbrev S1024x512 : Shape := ⟨2, ![1024, 512]⟩
abbrev S512 : Shape := ⟨1, ![512]⟩

abbrev nBuf : Space → Nat
  | .hbm => 26
  | .vmem => 15
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1024x2048, .f32⟩
  | .hbm, ⟨3, _⟩ => ⟨S4096x2048, .f32⟩
  | .hbm, ⟨4, _⟩ => ⟨S4096x1024, .f32⟩
  | .hbm, ⟨5, _⟩ => ⟨S4096x1024, .f32⟩
  | .hbm, ⟨6, _⟩ => ⟨S_, .f32⟩
  | .hbm, ⟨7, _⟩ => ⟨S4096, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S4096x4x512, .f32⟩
  | .hbm, ⟨17, _⟩ => ⟨S4x4096x512, .f32⟩
  | .hbm, ⟨18, _⟩ => ⟨S4x4096x512, .bf16⟩
  | .hbm, ⟨19, _⟩ => ⟨S1024x4x512, .f32⟩
  | .hbm, ⟨20, _⟩ => ⟨S4x1024x512, .f32⟩
  | .hbm, ⟨21, _⟩ => ⟨S4x1024x512, .bf16⟩
  | .hbm, ⟨22, _⟩ => ⟨S1x1024, .f32⟩
  | .hbm, ⟨23, _⟩ => ⟨S4096x1024, .f32⟩
  | .hbm, ⟨24, _⟩ => ⟨S4096x1024, .bf16⟩
  | .hbm, ⟨25, _⟩ => ⟨S1x1024, .f32⟩
  | .local _ .vmem, ⟨0, _⟩ => ⟨S4x512x512, .bf16⟩
  | .local _ .vmem, ⟨1, _⟩ => ⟨S4x512x512, .bf16⟩
  | .local _ .vmem, ⟨2, _⟩ => ⟨S4x1024x512, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S512x1, .f32⟩
  | .local _ .vmem, ⟨7, _⟩ => ⟨S512x1, .f32⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .f32⟩
  | .local _ .vmem, ⟨12, _⟩ => ⟨S512x1024, .bf16⟩
  | .local _ .vmem, ⟨13, _⟩ => ⟨S512x1024, .bf16⟩
  | .local _ .vmem, ⟨14, _⟩ => ⟨S1x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15_0 : Ref sig .tc := ⟨.hbm, 23, rfl⟩
abbrev main_v15_1 : Ref sig .tc := ⟨.hbm, 24, rfl⟩
abbrev main_v15_2 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S4x512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4x1024x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== Reference3Ideal.lean ====
abbrev S4096x1024 : Shape := ⟨2, ![4096, 1024]⟩
abbrev S1024 : Shape := ⟨1, ![1024]⟩
abbrev S1024x2048 : Shape := ⟨2, ![1024, 2048]⟩
abbrev S4096x2048 : Shape := ⟨2, ![4096, 2048]⟩
abbrev S_ : Shape := ⟨0, ![]⟩
abbrev S4096 : Shape := ⟨1, ![4096]⟩
abbrev S4096x1 : Shape := ⟨2, ![4096, 1]⟩
abbrev S1x1024 : Shape := ⟨2, ![1, 1024]⟩

abbrev nBuf : Space → Nat
  | .hbm => 55
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1024x2048, .f32⟩
  | .hbm, ⟨3, _⟩ => ⟨S4096x2048, .f32⟩
  | .hbm, ⟨4, _⟩ => ⟨S4096x1024, .f32⟩
  | .hbm, ⟨5, _⟩ => ⟨S4096x1024, .f32⟩
  | .hbm, ⟨6, _⟩ => ⟨S_, .f32⟩
  | .hbm, ⟨7, _⟩ => ⟨S4096, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S_, .f32⟩
  | .hbm, ⟨18, _⟩ => ⟨S4096x1, .f32⟩
  | .hbm, ⟨19, _⟩ => ⟨S4096x1, .f32⟩
  | .hbm, ⟨20, _⟩ => ⟨S4096x1024, .f32⟩
  | .hbm, ⟨21, _⟩ => ⟨S4096x1024, .f32⟩
  | .hbm, ⟨22, _⟩ => ⟨S1x1024, .f32⟩
  | .hbm, ⟨23, _⟩ => ⟨S4096x1024, .f32⟩
  | .hbm, ⟨24, _⟩ => ⟨S4096x1024, .f32⟩
  | .hbm, ⟨25, _⟩ => ⟨S4096x2048, .f32⟩
  | .hbm, ⟨26, _⟩ => ⟨S4096x1024, .f32⟩
  | .hbm, ⟨27, _⟩ => ⟨S4096x1024, .f32⟩
  | .hbm, ⟨28, _⟩ => ⟨S_, .f32⟩
  | .hbm, ⟨29, _⟩ => ⟨S1024, .f32⟩
  | .hbm, ⟨30, _⟩ => ⟨S1x1024, .f32⟩
  | .hbm, ⟨31, _⟩ => ⟨S4096x1024, .f32⟩
  | .hbm, ⟨32, _⟩ => ⟨S4096x1024, .f32⟩
  | .hbm, ⟨33, _⟩ => ⟨S_, .f32⟩
  | .hbm, ⟨34, _⟩ => ⟨S1024, .f32⟩
  | .hbm, ⟨35, _⟩ => ⟨S4096x1024, .f32⟩
  | .hbm, ⟨36, _⟩ => ⟨S_, .f32⟩
  | .hbm, ⟨37, _⟩ => ⟨S4096, .f32⟩
  | .hbm, ⟨38, _⟩ => ⟨S4096x1, .f32⟩
  | .hbm, ⟨39, _⟩ => ⟨S4096x1024, .f32⟩
  | .hbm, ⟨40, _⟩ => ⟨S4096x1024, .f32⟩
  | .hbm, ⟨41, _⟩ => ⟨S4096x1024, .f32⟩
  | .hbm, ⟨42, _⟩ => ⟨S4096x1, .f32⟩
  | .hbm, ⟨43, _⟩ => ⟨S_, .f32⟩
  | .hbm, ⟨44, _⟩ => ⟨S4096x1, .f32⟩
  | .hbm, ⟨45, _⟩ => ⟨S4096x1, .f32⟩
  | .hbm, ⟨46, _⟩ => ⟨S_, .f32⟩
  | .hbm, ⟨47, _⟩ => ⟨S4096, .f32⟩
  | .hbm, ⟨48, _⟩ => ⟨S4096x1024, .f32⟩
  | .hbm, ⟨49, _⟩ => ⟨S4096x1024, .f32⟩
  | .hbm, ⟨50, _⟩ => ⟨S4096x1024, .f32⟩
  | .hbm, ⟨51, _⟩ => ⟨S4096x1024, .f32⟩
  | .hbm, ⟨52, _⟩ => ⟨S4096x1024, .f32⟩
  | .hbm, ⟨53, _⟩ => ⟨S4096x1024, .bf16⟩
  | .hbm, ⟨54, _⟩ => ⟨S1x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_3 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_4 : Ref sig .tc := ⟨.hbm, 33, rfl⟩
abbrev main_v23 : Ref sig .tc := ⟨.hbm, 34, rfl⟩
abbrev main_v24 : Ref sig .tc := ⟨.hbm, 35, rfl⟩
abbrev main_cst_5 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_cst_6 : Ref sig .tc := ⟨.hbm, 43, rfl⟩
abbrev main_v31 : Ref sig .tc := ⟨.hbm, 44, rfl⟩
abbrev main_v32 : Ref sig .tc := ⟨.hbm, 45, rfl⟩
abbrev main_cst_7 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩

abbrev nD : Nat := 1
abbrev τ : Topo := Topo.v7x

variable {F : FTy → Type} [FloatOps F]
-- ==== Kernel4.lean ====
abbrev S4096x1024 : Shape := ⟨2, ![4096, 1024]⟩
abbrev S1024x2816 : Shape := ⟨2, ![1024, 2816]⟩
abbrev S3x2816 : Shape := ⟨2, ![3, 2816]⟩
abbrev S2816 : Shape := ⟨1, ![2816]⟩
abbrev S1024x4x704 : Shape := ⟨3, ![1024, 4, 704]⟩
abbrev S4x1024x704 : Shape := ⟨3, ![4, 1024, 704]⟩
abbrev S4x704x1024 : Shape := ⟨3, ![4, 704, 1024]⟩
abbrev S3x4x704 : Shape := ⟨3, ![3, 4, 704]⟩
abbrev S4x3x704 : Shape := ⟨3, ![4, 3, 704]⟩
abbrev S4x1x704 : Shape := ⟨3, ![4, 1, 704]⟩
abbrev S4x4096x704 : Shape := ⟨3, ![4, 4096, 704]⟩
abbrev S512x1024 : Shape := ⟨2, ![512, 1024]⟩
abbrev S16x1024 : Shape := ⟨2, ![16, 1024]⟩
abbrev S1x3x704 : Shape := ⟨3, ![1, 3, 704]⟩
abbrev S1x1x704 : Shape := ⟨3, ![1, 1, 704]⟩
abbrev S1x512x704 : Shape := ⟨3, ![1, 512, 704]⟩
abbrev S528x1024 : Shape := ⟨2, ![528, 1024]⟩
abbrev S1x704x1024 : Shape := ⟨3, ![1, 704, 1024]⟩
abbrev S704x1024 : Shape := ⟨2, ![704, 1024]⟩
abbrev S528x704 : Shape := ⟨2, ![528, 704]⟩
abbrev S512x704 : Shape := ⟨2, ![512, 704]⟩
abbrev S16x704 : Shape := ⟨2, ![16, 704]⟩
abbrev S1x704 : Shape := ⟨2, ![1, 704]⟩

abbrev nBuf : Space → Nat
  | .hbm => 21
  | .vmem => 18
  | .smem => 0
  | _ => 0

abbrev bufTy : (tb : Table) → Fin (tcTables nBuf tb) → BufTy
  | .hbm, ⟨0, _⟩ => ⟨S4096x1024, .f32⟩
  | .hbm, ⟨1, _⟩ => ⟨S1024x2816, .f32⟩
  | .hbm, ⟨2, _⟩ => ⟨S1024x2816, .f32⟩
  | .hbm, ⟨3, _⟩ => ⟨S3x2816, .f32⟩
  | .hbm, ⟨4, _⟩ => ⟨S2816, .f32⟩
  | .hbm, ⟨5, _⟩ => ⟨S1024x4x704, .f32⟩
  | .hbm, ⟨6, _⟩ => ⟨S4x1024x704, .f32⟩
  | .hbm, ⟨7, _⟩ => ⟨S4x704x1024, .f32⟩
  | .hbm, ⟨8, _⟩ => ⟨S4x704x1024, .bf16⟩
  | .hbm, ⟨9, _⟩ => ⟨S1024x4x704, .f32⟩
  | .hbm, ⟨10, _⟩ => ⟨S4x1024x704, .f32⟩
  | .hbm, ⟨11, _⟩ => ⟨S4x704x1024, .f32⟩
  | .hbm, ⟨12, _⟩ => ⟨S4x704x1024, .bf16⟩
  | .hbm, ⟨13, _⟩ => ⟨S4096x1024, .bf16⟩
  | .hbm, ⟨14, _⟩ => ⟨S3x4x704, .f32⟩
  | .hbm, ⟨15, _⟩ => ⟨S4x3x704, .f32⟩
  | .hbm, ⟨16, _⟩ => ⟨S4x1x704, .f32⟩
  | .hbm, ⟨17, _⟩ => ⟨S4x4096x704, .bf16⟩
  | .hbm, ⟨18, _⟩ => ⟨S4x4096x704, .bf16⟩
  | .hbm, ⟨19, _⟩ => ⟨S4x4096x704, .bf16⟩
  | .hbm, ⟨20, _⟩ => ⟨S4x4096x704, .bf16⟩
  | .local _ .vmem, ⟨0, _⟩ => ⟨S512x1024, .bf16⟩
  | .local _ .vmem, ⟨1, _⟩ => ⟨S512x1024, .bf16⟩
  | .local _ .vmem, ⟨2, _⟩ => ⟨S16x1024, .bf16⟩
  | .local _ .vmem, ⟨3, _⟩ => ⟨S16x1024, .bf16⟩
  | .local _ .vmem, ⟨4, _⟩ => ⟨S4x704x1024, .bf16⟩
  | .local _ .vmem, ⟨5, _⟩ => ⟨S4x704x1024, .bf16⟩
  | .local _ .vmem, ⟨6, _⟩ => ⟨S1x3x704, .f32⟩
  | .local _ .vmem, ⟨7, _⟩ => ⟨S1x3x704, .f32⟩
  | .local _ .vmem, ⟨8, _⟩ => ⟨S1x1x704, .f32⟩
  | .local _ .vmem, ⟨9, _⟩ => ⟨S1x1x704, .f32⟩
  | .local _ .vmem, ⟨10, _⟩ => ⟨S1x512x704, .bf16⟩
  | .local _ .vmem, ⟨11, _⟩ => ⟨S1x512x704, .bf16⟩
  | .local _ .vmem, ⟨12, _⟩ => ⟨S1x512x704, .bf16⟩
  | .local _ .vmem, ⟨13, _⟩ => ⟨S1x512x704, .bf16⟩
  | .local _ .vmem, ⟨14, _⟩ => ⟨S1x512x704, .bf16⟩
  | .local _ .vmem, ⟨15, _⟩ => ⟨S1x512x704, .bf16⟩
  | .local _ .vmem, ⟨16, _⟩ => ⟨S1x512x704, .bf16⟩
  | .local _ .vmem, ⟨17, _⟩ => ⟨S1x512x704, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12_0 : Ref sig .tc := ⟨.hbm, 17, rfl⟩
abbrev main_v12_1 : Ref sig .tc := ⟨.hbm, 18, rfl⟩
abbrev main_v12_2 : Ref sig .tc := ⟨.hbm, 19, rfl⟩
abbrev main_v12_3 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17

abbrev nD : Nat := 1
abbrev τ : Topo := Topo.v7x

variable {F : FTy → Type} [FloatOps F]

abbrev grid0 : Pipeline.Grid := ⟨2, ![8, 4], ![false, false]⟩

def k0_off1 (i : grid0.Coords) : Fin 3 → Nat :=
  let arg1 : BitVec 32 := BitVec.ofNat 32 (i 1).val
  let v5 : Index := Scalar.indexCast arg1
  let c0_3 : Index := 0#32
  let c0_4 : Index := 0#32
  ![v5.toNat, 0, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S16x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S4x704x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S4x704x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x3x704 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1x1x704 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1x512x704 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x512x704 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x512x704 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x512x704 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== Reference4Ideal.lean ====
abbrev S4096x1024 : Shape := ⟨2, ![4096, 1024]⟩
abbrev S1024x2816 : Shape := ⟨2, ![1024, 2816]⟩
abbrev S3x2816 : Shape := ⟨2, ![3, 2816]⟩
abbrev S2816 : Shape := ⟨1, ![2816]⟩
abbrev S4096x2816 : Shape := ⟨2, ![4096, 2816]⟩
abbrev S_ : Shape := ⟨0, ![]⟩
abbrev S2x2816 : Shape := ⟨2, ![2, 2816]⟩
abbrev S4098x2816 : Shape := ⟨2, ![4098, 2816]⟩
abbrev S1x2816 : Shape := ⟨2, ![1, 2816]⟩
abbrev S4096x4x704 : Shape := ⟨3, ![4096, 4, 704]⟩
abbrev S4x4096x704 : Shape := ⟨3, ![4, 4096, 704]⟩

abbrev nBuf : Space → Nat
  | .hbm => 55
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x2816, .f32⟩
  | .hbm, ⟨2, _⟩ => ⟨S1024x2816, .f32⟩
  | .hbm, ⟨3, _⟩ => ⟨S3x2816, .f32⟩
  | .hbm, ⟨4, _⟩ => ⟨S2816, .f32⟩
  | .hbm, ⟨5, _⟩ => ⟨S4096x2816, .f32⟩
  | .hbm, ⟨6, _⟩ => ⟨S_, .f32⟩
  | .hbm, ⟨7, _⟩ => ⟨S2x2816, .f32⟩
  | .hbm, ⟨8, _⟩ => ⟨S4098x2816, .f32⟩
  | .hbm, ⟨9, _⟩ => ⟨S4096x2816, .f32⟩
  | .hbm, ⟨10, _⟩ => ⟨S1x2816, .f32⟩
  | .hbm, ⟨11, _⟩ => ⟨S2816, .f32⟩
  | .hbm, ⟨12, _⟩ => ⟨S1x2816, .f32⟩
  | .hbm, ⟨13, _⟩ => ⟨S4096x2816, .f32⟩
  | .hbm, ⟨14, _⟩ => ⟨S4096x2816, .f32⟩
  | .hbm, ⟨15, _⟩ => ⟨S4096x2816, .f32⟩
  | .hbm, ⟨16, _⟩ => ⟨S1x2816, .f32⟩
  | .hbm, ⟨17, _⟩ => ⟨S2816, .f32⟩
  | .hbm, ⟨18, _⟩ => ⟨S1x2816, .f32⟩
  | .hbm, ⟨19, _⟩ => ⟨S4096x2816, .f32⟩
  | .hbm, ⟨20, _⟩ => ⟨S4096x2816, .f32⟩
  | .hbm, ⟨21, _⟩ => ⟨S4096x2816, .f32⟩
  | .hbm, ⟨22, _⟩ => ⟨S4096x2816, .f32⟩
  | .hbm, ⟨23, _⟩ => ⟨S1x2816, .f32⟩
  | .hbm, ⟨24, _⟩ => ⟨S2816, .f32⟩
  | .hbm, ⟨25, _⟩ => ⟨S1x2816, .f32⟩
  | .hbm, ⟨26, _⟩ => ⟨S4096x2816, .f32⟩
  | .hbm, ⟨27, _⟩ => ⟨S4096x2816, .f32⟩
  | .hbm, ⟨28, _⟩ => ⟨S4096x2816, .f32⟩
  | .hbm, ⟨29, _⟩ => ⟨S1x2816, .f32⟩
  | .hbm, ⟨30, _⟩ => ⟨S4096x2816, .f32⟩
  | .hbm, ⟨31, _⟩ => ⟨S4096x2816, .f32⟩
  | .hbm, ⟨32, _⟩ => ⟨S4096x2816, .f32⟩
  | .hbm, ⟨33, _⟩ => ⟨S4096x4x704, .f32⟩
  | .hbm, ⟨34, _⟩ => ⟨S4x4096x704, .f32⟩
  | .hbm, ⟨35, _⟩ => ⟨S4x4096x704, .bf16⟩
  | .hbm, ⟨36, _⟩ => ⟨S4096x4x704, .f32⟩
  | .hbm, ⟨37, _⟩ => ⟨S4x4096x704, .f32⟩
  | .hbm, ⟨38, _⟩ => ⟨S4x4096x704, .bf16⟩
  | .hbm, ⟨39, _⟩ => ⟨S4096x4x704, .f32⟩
  | .hbm, ⟨40, _⟩ => ⟨S4x4096x704, .f32⟩
  | .hbm, ⟨41, _⟩ => ⟨S4x4096x704, .bf16⟩
  | .hbm, ⟨42, _⟩ => ⟨S4096x2816, .f32⟩
  | .hbm, ⟨43, _⟩ => ⟨S4096x2816, .f32⟩
  | .hbm, ⟨44, _⟩ => ⟨S_, .f32⟩
  | .hbm, ⟨45, _⟩ => ⟨S4096x2816, .f32⟩
  | .hbm, ⟨46, _⟩ => ⟨S4096x2816, .f32⟩
  | .hbm, ⟨47, _⟩ => ⟨S_, .f32⟩
  | .hbm, ⟨48, _⟩ => ⟨S4096x2816, .f32⟩
  | .hbm, ⟨49, _⟩ => ⟨S4096x2816, .f32⟩
  | .hbm, ⟨50, _⟩ => ⟨S4096x2816, .f32⟩
  | .hbm, ⟨51, _⟩ => ⟨S4096x2816, .f32⟩
  | .hbm, ⟨52, _⟩ => ⟨S4096x4x704, .f32⟩
  | .hbm, ⟨53, _⟩ => ⟨S4x4096x704, .f32⟩
  | .hbm, ⟨54, _⟩ => ⟨S4x4096x704, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_call0_v0 : Ref sig .tc := ⟨.hbm, 42, rfl⟩
abbrev main_call0_v1 : Ref sig .tc := ⟨.hbm, 43, rfl⟩
abbrev main_call0_cst : Ref sig .tc := ⟨.hbm, 44, rfl⟩
abbrev main_call0_v2 : Ref sig .tc := ⟨.hbm, 45, rfl⟩
abbrev main_call0_v3 : Ref sig .tc := ⟨.hbm, 46, rfl⟩
abbrev main_call0_cst_0 : Ref sig .tc := ⟨.hbm, 47, rfl⟩
abbrev main_call0_v4 : Ref sig .tc := ⟨.hbm, 48, rfl⟩
abbrev main_call0_v5 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩

abbrev nD : Nat := 1
abbrev τ : Topo := Topo.v7x

variable {F : FTy → Type} [FloatOps F]
-- ==== Kernel5.lean ====
abbrev S4096x2816 : Shape := ⟨2, ![4096, 2816]⟩
abbrev S2816x1024 : Shape := ⟨2, ![2816, 1024]⟩
abbrev S4096x1024 : Shape := ⟨2, ![4096, 1024]⟩
abbrev S4096x4x704 : Shape := ⟨3, ![4096, 4, 704]⟩
abbrev S4x4096x704 : Shape := ⟨3, ![4, 4096, 704]⟩
abbrev S4x704x1024 : Shape := ⟨3, ![4, 704, 1024]⟩
abbrev S4x512x704 : Shape := ⟨3, ![4, 512, 704]⟩
abbrev S512x1024 : Shape := ⟨2, ![512, 1024]⟩
abbrev S1x512x704 : Shape := ⟨3, ![1, 512, 704]⟩
abbrev S512x704 : Shape := ⟨2, ![512, 704]⟩
abbrev S1x704x1024 : Shape := ⟨3, ![1, 704, 1024]⟩
abbrev S704x1024 : Shape := ⟨2, ![704, 1024]⟩

abbrev nBuf : Space → Nat
  | .hbm => 9
  | .vmem => 7
  | .smem => 0
  | _ => 0

abbrev bufTy : (tb : Table) → Fin (tcTables nBuf tb) → BufTy
  | .hbm, ⟨0, _⟩ => ⟨S4096x2816, .f32⟩
  | .hbm, ⟨1, _⟩ => ⟨S2816x1024, .f32⟩
  | .hbm, ⟨2, _⟩ => ⟨S4096x1024, .f32⟩
  | .hbm, ⟨3, _⟩ => ⟨S4096x4x704, .f32⟩
  | .hbm, ⟨4, _⟩ => ⟨S4x4096x704, .f32⟩
  | .hbm, ⟨5, _⟩ => ⟨S4x4096x704, .bf16⟩
  | .hbm, ⟨6, _⟩ => ⟨S4x704x1024, .f32⟩
  | .hbm, ⟨7, _⟩ => ⟨S4x704x1024, .bf16⟩
  | .hbm, ⟨8, _⟩ => ⟨S4096x1024, .f32⟩
  | .local _ .vmem, ⟨0, _⟩ => ⟨S4x512x704, .bf16⟩
  | .local _ .vmem, ⟨1, _⟩ => ⟨S4x512x704, .bf16⟩
  | .local _ .vmem, ⟨2, _⟩ => ⟨S4x704x1024, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | _, _ => ⟨S4096x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4x512x704 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4x704x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference5Ideal.lean ====
abbrev S4096x2816 : Shape := ⟨2, ![4096, 2816]⟩
abbrev S2816x1024 : Shape := ⟨2, ![2816, 1024]⟩
abbrev S4096x1024 : Shape := ⟨2, ![4096, 1024]⟩

abbrev nBuf : Space → Nat
  | .hbm => 5
  | .vmem => 0
  | .smem => 0
  | _ => 0

abbrev bufTy : (tb : Table) → Fin (tcTables nBuf tb) → BufTy
  | .hbm, ⟨0, _⟩ => ⟨S4096x2816, .f32⟩
  | .hbm, ⟨1, _⟩ => ⟨S2816x1024, .f32⟩
  | .hbm, ⟨2, _⟩ => ⟨S4096x1024, .f32⟩
  | .hbm, ⟨3, _⟩ => ⟨S4096x1024, .f32⟩
  | .hbm, ⟨4, _⟩ => ⟨S4096x1024, .f32⟩
  | _, _ => ⟨S4096x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩

abbrev nD : Nat := 1
abbrev τ : Topo := Topo.v7x

variable {F : FTy → Type} [FloatOps F]
-- ==== Kernel6.lean ====
abbrev S4096x1024 : Shape := ⟨2, ![4096, 1024]⟩
abbrev S1024x2048 : Shape := ⟨2, ![1024, 2048]⟩
abbrev S3x512 : Shape := ⟨2, ![3, 512]⟩
abbrev S4x128x128 : Shape := ⟨3, ![4, 128, 128]⟩
abbrev S512 : Shape := ⟨1, ![512]⟩
abbrev S1024x1024 : Shape := ⟨2, ![1024, 1024]⟩
abbrev S4096x2048 : Shape := ⟨2, ![4096, 2048]⟩
abbrev S4096x512 : Shape := ⟨2, ![4096, 512]⟩
abbrev S_ : Shape := ⟨0, ![]⟩
abbrev S2x512 : Shape := ⟨2, ![2, 512]⟩
abbrev S4098x512 : Shape := ⟨2, ![4098, 512]⟩
abbrev S1x512 : Shape := ⟨2, ![1, 512]⟩
abbrev S4096x4x128 : Shape := ⟨3, ![4096, 4, 128]⟩
abbrev S4096 : Shape := ⟨1, ![4096]⟩
abbrev S4096x1 : Shape := ⟨2, ![4096, 1]⟩
abbrev S4096x1x128 : Shape := ⟨3, ![4096, 1, 128]⟩
abbrev S4096x128 : Shape := ⟨2, ![4096, 128]⟩
abbrev S2x128 : Shape := ⟨2, ![2, 128]⟩
abbrev S4098x128 : Shape := ⟨2, ![4098, 128]⟩
abbrev S4x128 : Shape := ⟨2, ![4, 128]⟩
abbrev S4100x128 : Shape := ⟨2, ![4100, 128]⟩
abbrev S8x128 : Shape := ⟨2, ![8, 128]⟩
abbrev S4104x128 : Shape := ⟨2, ![4104, 128]⟩
abbrev S16x128 : Shape := ⟨2, ![16, 128]⟩
abbrev S4112x128 : Shape := ⟨2, ![4112, 128]⟩
abbrev S4x128x4096 : Shape := ⟨3, ![4, 128, 4096]⟩
abbrev S4096x4x512 : Shape := ⟨3, ![4096, 4, 512]⟩
abbrev S4x4096x512 : Shape := ⟨3, ![4, 4096, 512]⟩
abbrev S4x1024x512 : Shape := ⟨3, ![4, 1024, 512]⟩
abbrev S4x512x512 : Shape := ⟨3, ![4, 512, 512]⟩
abbrev S4x16x512 : Shape := ⟨3, ![4, 16, 512]⟩
abbrev S512x1024 : Shape := ⟨2, ![512, 1024]⟩
abbrev S16x1024 : Shape := ⟨2, ![16, 1024]⟩
abbrev S528x1024 : Shape := ⟨2, ![528, 1024]⟩
abbrev S1x512x512 : Shape := ⟨3, ![1, 512, 512]⟩
abbrev S512x512 : Shape := ⟨2, ![512, 512]⟩
abbrev S1x16x512 : Shape := ⟨3, ![1, 16, 512]⟩
abbrev S16x512 : Shape := ⟨2, ![16, 512]⟩
abbrev S528x512 : Shape := ⟨2, ![528, 512]⟩
abbrev S512x1 : Shape := ⟨2, ![512, 1]⟩
abbrev S528x1 : Shape := ⟨2, ![528, 1]⟩
abbrev S528x128 : Shape := ⟨2, ![528, 128]⟩
abbrev S512x128 : Shape := ⟨2, ![512, 128]⟩
abbrev S1x128x128 : Shape := ⟨3, ![1, 128, 128]⟩
abbrev S128x128 : Shape := ⟨2, ![128, 128]⟩
abbrev S1x128 : Shape := ⟨2, ![1, 128]⟩
abbrev S128 : Shape := ⟨1, ![128]⟩
abbrev S1x512x128 : Shape := ⟨3, ![1, 512, 128]⟩
abbrev S1x1024x512 : Shape := ⟨3, ![1, 1024, 512]⟩
abbrev S1024x512 : Shape := ⟨2, ![1024, 512]⟩

abbrev nBuf : Space → Nat
  | .hbm => 134
  | .vmem => 26
  | .smem => 0
  | _ => 0

abbrev hbmTy0_0 (i : Nat) : BufTy := match i % 128 with
  | 0 => ⟨S4096x1024, .f32⟩
  | 1 => ⟨S1024x2048, .f32⟩
  | 2 => ⟨S3x512, .f32⟩
  | 3 => ⟨S4x128x128, .f32⟩
  | 4 => ⟨S512, .f32⟩
  | 5 => ⟨S1024x1024, .f32⟩
  | 6 => ⟨S4096x1024, .f32⟩
  | 7 => ⟨S4096x2048, .f32⟩
  | 8 => ⟨S4096x512, .f32⟩
  | 9 => ⟨S4096x512, .f32⟩
  | 10 => ⟨S4096x512, .f32⟩
  | 11 => ⟨S4096x512, .f32⟩
  | 12 => ⟨S4096x512, .f32⟩
  | 13 => ⟨S_, .f32⟩
  | 14 => ⟨S2x512, .f32⟩
  | 15 => ⟨S4098x512, .f32⟩
  | 16 => ⟨S4096x512, .f32⟩
  | 17 => ⟨S1x512, .f32⟩
  | 18 => ⟨S512, .f32⟩
  | 19 => ⟨S1x512, .f32⟩
  | 20 => ⟨S4096x512, .f32⟩
  | 21 => ⟨S4096x512, .f32⟩
  | 22 => ⟨S4096x512, .f32⟩
  | 23 => ⟨S1x512, .f32⟩
  | 24 => ⟨S512, .f32⟩
  | 25 => ⟨S1x512, .f32⟩
  | 26 => ⟨S4096x512, .f32⟩
  | 27 => ⟨S4096x512, .f32⟩
  | 28 => ⟨S4096x512, .f32⟩
  | 29 => ⟨S4096x512, .f32⟩
  | 30 => ⟨S1x512, .f32⟩
  | 31 => ⟨S512, .f32⟩
  | 32 => ⟨S1x512, .f32⟩
  | 33 => ⟨S4096x512, .f32⟩
  | 34 => ⟨S4096x512, .f32⟩
  | 35 => ⟨S4096x512, .f32⟩
  | 36 => ⟨S4096x512, .f32⟩
  | 37 => ⟨S4096x4x128, .f32⟩
  | 38 => ⟨S_, .f32⟩
  | 39 => ⟨S_, .f32⟩
  | 40 => ⟨S4096x4x128, .f32⟩
  | 41 => ⟨S4096, .f32⟩
  | 42 => ⟨S_, .f32⟩
  | 43 => ⟨S4096, .f32⟩
  | 44 => ⟨S4096, .f32⟩
  | 45 => ⟨S4096x1, .f32⟩
  | 46 => ⟨S4096x1x128, .f32⟩
  | 47 => ⟨S4096x128, .f32⟩
  | 48 => ⟨S_, .f32⟩
  | 49 => ⟨S2x128, .f32⟩
  | 50 => ⟨S4098x128, .f32⟩
  | 51 => ⟨S4096x128, .f32⟩
  | 52 => ⟨S_, .f32⟩
  | 53 => ⟨S4096x1, .f32⟩
  | 54 => ⟨S4096x1, .f32⟩
  | 55 => ⟨S4096x128, .f32⟩
  | 56 => ⟨S4096x128, .f32⟩
  | 57 => ⟨S4096x128, .f32⟩
  | 58 => ⟨S4096x1x128, .f32⟩
  | 59 => ⟨S4096x128, .f32⟩
  | 60 => ⟨S4096x128, .f32⟩
  | 61 => ⟨S4096x1x128, .f32⟩
  | 62 => ⟨S4096x128, .f32⟩
  | 63 => ⟨S_, .f32⟩
  | 64 => ⟨S4x128, .f32⟩
  | 65 => ⟨S4100x128, .f32⟩
  | 66 => ⟨S4096x128, .f32⟩
  | 67 => ⟨S_, .f32⟩
  | 68 => ⟨S4096x1, .f32⟩
  | 69 => ⟨S4096x1, .f32⟩
  | 70 => ⟨S4096x128, .f32⟩
  | 71 => ⟨S4096x128, .f32⟩
  | 72 => ⟨S4096x128, .f32⟩
  | 73 => ⟨S4096x1x128, .f32⟩
  | 74 => ⟨S4096x128, .f32⟩
  | 75 => ⟨S4096x128, .f32⟩
  | 76 => ⟨S4096x1x128, .f32⟩
  | 77 => ⟨S4096x128, .f32⟩
  | 78 => ⟨S_, .f32⟩
  | 79 => ⟨S8x128, .f32⟩
  | 80 => ⟨S4104x128, .f32⟩
  | 81 => ⟨S4096x128, .f32⟩
  | 82 => ⟨S_, .f32⟩
  | 83 => ⟨S4096x1, .f32⟩
  | 84 => ⟨S4096x1, .f32⟩
  | 85 => ⟨S4096x128, .f32⟩
  | 86 => ⟨S4096x128, .f32⟩
  | 87 => ⟨S4096x128, .f32⟩
  | 88 => ⟨S4096x1x128, .f32⟩
  | 89 => ⟨S4096x128, .f32⟩
  | 90 => ⟨S4096x128, .f32⟩
  | 91 => ⟨S4096x1x128, .f32⟩
  | 92 => ⟨S4096x128, .f32⟩
  | 93 => ⟨S_, .f32⟩
  | 94 => ⟨S16x128, .f32⟩
  | 95 => ⟨S4112x128, .f32⟩
  | 96 => ⟨S4096x128, .f32⟩
  | 97 => ⟨S_, .f32⟩
  | 98 => ⟨S4096x1, .f32⟩
  | 99 => ⟨S4096x1, .f32⟩
  | 100 => ⟨S4096x128, .f32⟩
  | 101 => ⟨S4096x128, .f32⟩
  | 102 => ⟨S4096x128, .f32⟩
  | 103 => ⟨S4096x1x128, .f32⟩
  | 104 => ⟨S4096x128, .f32⟩
  | 105 => ⟨S4096x128, .f32⟩
  | 106 => ⟨S4096x1x128, .f32⟩
  | 107 => ⟨S4096x1x128, .f32⟩
  | 108 => ⟨S4096x1x128, .f32⟩
  | 109 => ⟨S4096x1x128, .f32⟩
  | 110 => ⟨S4096x4x128, .f32⟩
  | 111 => ⟨S4x128x4096, .f32⟩
  | 112 => ⟨S4096x4x128, .f32⟩
  | 113 => ⟨S4096x512, .f32⟩
  | 114 => ⟨S1x512, .f32⟩
  | 115 => ⟨S4096x512, .f32⟩
  | 116 => ⟨S4096x512, .f32⟩
  | 117 => ⟨S4096x1024, .f32⟩
  | 118 => ⟨S4x128x128, .bf16⟩
  | 119 => ⟨S4096x4x512, .f32⟩
  | 120 => ⟨S4x4096x512, .f32⟩
  | 121 => ⟨S4x4096x512, .bf16⟩
  | 122 => ⟨S4096x1024, .bf16⟩
  | 123 => ⟨S4096x1024, .bf16⟩
  | 124 => ⟨S4096x1024, .bf16⟩
  | 125 => ⟨S1024x1024, .bf16⟩
  | 126 => ⟨S4x128x128, .bf16⟩
  | 127 => ⟨S1x512, .f32⟩
  | _ => ⟨S4096x1024, .f32⟩

abbrev hbmTy0_1 (i : Nat) : BufTy := match i % 128 with
  | 0 => ⟨S4x4096x512, .bf16⟩
  | 1 => ⟨S4x1024x512, .f32⟩
  | 2 => ⟨S1024x1024, .f32⟩
  | 3 => ⟨S3x512, .f32⟩
  | 4 => ⟨S4x128x128, .f32⟩
  | 5 => ⟨S1x512, .f32⟩
  | _ => ⟨S4096x1024, .f32⟩

abbrev hbmTy (i : Nat) : BufTy := match i / 128 with
  | 0 => hbmTy0_0 i
  | 1 => hbmTy0_1 i
  | _ => ⟨S4096x1024, .f32⟩

abbrev bufTy : (tb : Table) → Fin (tcTables nBuf tb) → BufTy
  | .hbm, ⟨i, _⟩ => hbmTy i
  | .local _ .vmem, ⟨0, _⟩ => ⟨S4x512x512, .bf16⟩
  | .local _ .vmem, ⟨1, _⟩ => ⟨S4x512x512, .bf16⟩
  | .local _ .vmem, ⟨2, _⟩ => ⟨S4x16x512, .bf16⟩
  | .local _ .vmem, ⟨3, _⟩ => ⟨S4x16x512, .bf16⟩
  | .local _ .vmem, ⟨4, _⟩ => ⟨S4x16x512, .bf16⟩
  | .local _ .vmem, ⟨5, _⟩ => ⟨S4x16x512, .bf16⟩
  | .local _ .vmem, ⟨6, _⟩ => ⟨S512x1024, .bf16⟩
  | .local _ .vmem, ⟨7, _⟩ => ⟨S512x1024, .bf16⟩
  | .local _ .vmem, ⟨8, _⟩ => ⟨S512x1024, .bf16⟩
  | .local _ .vmem, ⟨9, _⟩ => ⟨S512x1024, .bf16⟩
  | .local _ .vmem, ⟨10, _⟩ => ⟨S512x1024, .bf16⟩
  | .local _ .vmem, ⟨11, _⟩ => ⟨S512x1024, .bf16⟩
  | .local _ .vmem, ⟨12, _⟩ => ⟨S16x1024, .bf16⟩
  | .local _ .vmem, ⟨13, _⟩ => ⟨S16x1024, .bf16⟩
  | .local _ .vmem, ⟨14, _⟩ => ⟨S1024x1024, .bf16⟩
  | .local _ .vmem, ⟨15, _⟩ => ⟨S3x512, .f32⟩
  | .local _ .vmem, ⟨16, _⟩ => ⟨S4x128x128, .bf16⟩
  | .local _ .vmem, ⟨17, _⟩ => ⟨S4x128x128, .bf16⟩
  | .local _ .vmem, ⟨18, _⟩ => ⟨S1x512, .f32⟩
  | .local _ .vmem, ⟨19, _⟩ => ⟨S4x512x512, .bf16⟩
  | .local _ .vmem, ⟨20, _⟩ => ⟨S4x512x512, .bf16⟩
  | .local _ .vmem, ⟨21, _⟩ => ⟨S4x1024x512, .f32⟩
  | .local _ .vmem, ⟨22, _⟩ => ⟨S1024x1024, .f32⟩
  | .local _ .vmem, ⟨23, _⟩ => ⟨S3x512, .f32⟩
  | .local _ .vmem, ⟨24, _⟩ => ⟨S4x128x128, .f32⟩
  | .local _ .vmem, ⟨25, _⟩ => ⟨S1x512, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_call0_call0_cst : Ref sig .tc := ⟨.hbm, 38, rfl⟩
abbrev main_call0_call0_v0 : Ref sig .tc := ⟨.hbm, 39, rfl⟩
abbrev main_v30 : Ref sig .tc := ⟨.hbm, 40, rfl⟩
abbrev main_v31 : Ref sig .tc := ⟨.hbm, 41, rfl⟩
abbrev main_cst_0 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_cst_1 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_cst_2 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_cst_3 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_cst_4 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_v59 : Ref sig .tc := ⟨.hbm, 74, rfl⟩
abbrev main_v60 : Ref sig .tc := ⟨.hbm, 75, rfl⟩
abbrev main_v61 : Ref sig .tc := ⟨.hbm, 76, rfl⟩
abbrev main_v62 : Ref sig .tc := ⟨.hbm, 77, rfl⟩
abbrev main_cst_5 : Ref sig .tc := ⟨.hbm, 78, rfl⟩
abbrev main_v63 : Ref sig .tc := ⟨.hbm, 79, rfl⟩
abbrev main_v64 : Ref sig .tc := ⟨.hbm, 80, rfl⟩
abbrev main_v65 : Ref sig .tc := ⟨.hbm, 81, rfl⟩
abbrev main_cst_6 : Ref sig .tc := ⟨.hbm, 82, rfl⟩
abbrev main_v66 : Ref sig .tc := ⟨.hbm, 83, rfl⟩
abbrev main_v67 : Ref sig .tc := ⟨.hbm, 84, rfl⟩
abbrev main_v68 : Ref sig .tc := ⟨.hbm, 85, rfl⟩
abbrev main_v69 : Ref sig .tc := ⟨.hbm, 86, rfl⟩
abbrev main_v70 : Ref sig .tc := ⟨.hbm, 87, rfl⟩
abbrev main_v71 : Ref sig .tc := ⟨.hbm, 88, rfl⟩
abbrev main_v72 : Ref sig .tc := ⟨.hbm, 89, rfl⟩
abbrev main_v73 : Ref sig .tc := ⟨.hbm, 90, rfl⟩
abbrev main_v74 : Ref sig .tc := ⟨.hbm, 91, rfl⟩
abbrev main_v75 : Ref sig .tc := ⟨.hbm, 92, rfl⟩
abbrev main_cst_7 : Ref sig .tc := ⟨.hbm, 93, rfl⟩
abbrev main_v76 : Ref sig .tc := ⟨.hbm, 94, rfl⟩
abbrev main_v77 : Ref sig .tc := ⟨.hbm, 95, rfl⟩
abbrev main_v78 : Ref sig .tc := ⟨.hbm, 96, rfl⟩
abbrev main_cst_8 : Ref sig .tc := ⟨.hbm, 97, rfl⟩
abbrev main_v79 : Ref sig .tc := ⟨.hbm, 98, rfl⟩
abbrev main_v80 : Ref sig .tc := ⟨.hbm, 99, rfl⟩
abbrev main_v81 : Ref sig .tc := ⟨.hbm, 100, rfl⟩
abbrev main_v82 : Ref sig .tc := ⟨.hbm, 101, rfl⟩
abbrev main_v83 : Ref sig .tc := ⟨.hbm, 102, rfl⟩
abbrev main_v84 : Ref sig .tc := ⟨.hbm, 103, rfl⟩
abbrev main_v85 : Ref sig .tc := ⟨.hbm, 104, rfl⟩
abbrev main_v86 : Ref sig .tc := ⟨.hbm, 105, rfl⟩
abbrev main_v87 : Ref sig .tc := ⟨.hbm, 106, rfl⟩
abbrev main_v88 : Ref sig .tc := ⟨.hbm, 107, rfl⟩
abbrev main_v89 : Ref sig .tc := ⟨.hbm, 108, rfl⟩
abbrev main_v90 : Ref sig .tc := ⟨.hbm, 109, rfl⟩
abbrev main_v91 : Ref sig .tc := ⟨.hbm, 110, rfl⟩
abbrev main_v92 : Ref sig .tc := ⟨.hbm, 111, rfl⟩
abbrev main_v93 : Ref sig .tc := ⟨.hbm, 112, rfl⟩
abbrev main_v94 : Ref sig .tc := ⟨.hbm, 113, rfl⟩
abbrev main_v95 : Ref sig .tc := ⟨.hbm, 114, rfl⟩
abbrev main_v96 : Ref sig .tc := ⟨.hbm, 115, rfl⟩
abbrev main_v97 : Ref sig .tc := ⟨.hbm, 116, rfl⟩
abbrev main_v98 : Ref sig .tc := ⟨.hbm, 117, rfl⟩
abbrev main_v99 : Ref sig .tc := ⟨.hbm, 118, rfl⟩
abbrev main_v100 : Ref sig .tc := ⟨.hbm, 119, rfl⟩
abbrev main_v101 : Ref sig .tc := ⟨.hbm, 120, rfl⟩
abbrev main_v102 : Ref sig .tc := ⟨.hbm, 121, rfl⟩
abbrev main_v103 : Ref sig .tc := ⟨.hbm, 122, rfl⟩
abbrev main_v104 : Ref sig .tc := ⟨.hbm, 123, rfl⟩
abbrev main_v105 : Ref sig .tc := ⟨.hbm, 124, rfl⟩
abbrev main_v106 : Ref sig .tc := ⟨.hbm, 125, rfl⟩
abbrev main_v107 : Ref sig .tc := ⟨.hbm, 126, rfl⟩
abbrev main_v108 : Ref sig .tc := ⟨.hbm, 127, rfl⟩
abbrev main_v109_0 : Ref sig .tc := ⟨.hbm, 128, rfl⟩
abbrev main_v109_1 : Ref sig .tc := ⟨.hbm, 129, rfl⟩
abbrev main_v109_2 : Ref sig .tc := ⟨.hbm, 130, rfl⟩
abbrev main_v109_3 : Ref sig .tc := ⟨.hbm, 131, rfl⟩
abbrev main_v109_4 : Ref sig .tc := ⟨.hbm, 132, rfl⟩
abbrev main_v109_5 : Ref sig .tc := ⟨.hbm, 133, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg10_0 : Ref sig .tc := ⟨.vmem, 17, rfl⟩
abbrev cc0_stg11_0 : Ref sig .tc := ⟨.vmem, 18, rfl⟩
abbrev cc0_stg12_0 : Ref sig .tc := ⟨.vmem, 19, rfl⟩
abbrev cc0_stg12_1 : Ref sig .tc := ⟨.vmem, 20, rfl⟩
abbrev cc0_stg13_0 : Ref sig .tc := ⟨.vmem, 21, rfl⟩
abbrev cc0_stg14_0 : Ref sig .tc := ⟨.vmem, 22, rfl⟩
abbrev cc0_stg15_0 : Ref sig .tc := ⟨.vmem, 23, rfl⟩
abbrev cc0_stg16_0 : Ref sig .tc := ⟨.vmem, 24, rfl⟩
abbrev cc0_stg17_0 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem9_0 : DmaSem sig := 16
abbrev cc0_sem10_0 : DmaSem sig := 17
abbrev cc0_sem11_0 : DmaSem sig := 18
abbrev cc0_sem12_0 : DmaSem sig := 19
abbrev cc0_sem12_1 : DmaSem sig := 20
abbrev cc0_sem13_0 : DmaSem sig := 21
abbrev cc0_sem14_0 : DmaSem sig := 22
abbrev cc0_sem15_0 : DmaSem sig := 23
abbrev cc0_sem16_0 : DmaSem sig := 24
abbrev cc0_sem17_0 : DmaSem sig := 25

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c32_i32 : BitVec 32 := 32#32
  let v0 : BitVec 32 := Scalar.muli arg0 c32_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  let c0_i32_2 : BitVec 32 := 0#32
  ![c0_i32_0.toNat, v2.toNat, c0_i32_1.toNat]

def cc0_transform_2 (i : grid0.Coords) : Fin 3 → Nat :=
  let arg0 : BitVec 32 := BitVec.ofNat 32 (i 0).val
  let c1_i32 : BitVec 32 := 1#32
  let v0 : BitVec 32 := Scalar.addi arg0 c1_i32
  let c32_i32 : BitVec 32 := 32#32
  let v1 : BitVec 32 := Scalar.muli v0 c32_i32
  let c255_i32 : BitVec 32 := 255#32
  let v2 : BitVec 32 := Scalar.minsi v1 c255_i32
  let c0_i32 : BitVec 32 := 0#32
  let c0_i32_0 : BitVec 32 := 0#32
  let c0_i32_1 : BitVec 32 := 0#32
  ![c0_i32.toNat, v2.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c1_i32 : BitVec 32 := 1#32
  let v0 : BitVec 32 := Scalar.addi arg0 c1_i32
  let c32_i32 : BitVec 32 := 32#32
  let v1 : BitVec 32 := Scalar.muli v0 c32_i32
  let c255_i32 : BitVec 32 := 255#32
  let v2 : BitVec 32 := Scalar.minsi v1 c255_i32
  let c0_i32 : BitVec 32 := 0#32
  let c0_i32_0 : BitVec 32 := 0#32
  ![v2.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_13 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S4x512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4x16x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4x16x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S16x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S3x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S4x128x128 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S4x128x128 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x512 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S4x512x512 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 1 → Memref sig .tc .vmem S4x1024x512 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1024x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S3x512 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S4x128x128 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S1x512 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]
-- ==== Reference6Ideal.lean ====
abbrev S4096x1024 : Shape := ⟨2, ![4096, 1024]⟩
abbrev S1024x2048 : Shape := ⟨2, ![1024, 2048]⟩
abbrev S3x512 : Shape := ⟨2, ![3, 512]⟩
abbrev S4x128x128 : Shape := ⟨3, ![4, 128, 128]⟩
abbrev S512 : Shape := ⟨1, ![512]⟩
abbrev S1024x1024 : Shape := ⟨2, ![1024, 1024]⟩
abbrev S4096x2048 : Shape := ⟨2, ![4096, 2048]⟩
abbrev S4096x512 : Shape := ⟨2, ![4096, 512]⟩
abbrev S_ : Shape := ⟨0, ![]⟩
abbrev S2x512 : Shape := ⟨2, ![2, 512]⟩
abbrev S4098x512 : Shape := ⟨2, ![4098, 512]⟩
abbrev S1x512 : Shape := ⟨2, ![1, 512]⟩
abbrev S4096x4x128 : Shape := ⟨3, ![4096, 4, 128]⟩
abbrev S4096 : Shape := ⟨1, ![4096]⟩
abbrev S4096x1 : Shape := ⟨2, ![4096, 1]⟩
abbrev S4096x1x128 : Shape := ⟨3, ![4096, 1, 128]⟩
abbrev S4096x128 : Shape := ⟨2, ![4096, 128]⟩
abbrev S2x128 : Shape := ⟨2, ![2, 128]⟩
abbrev S4098x128 : Shape := ⟨2, ![4098, 128]⟩
abbrev S4x128 : Shape := ⟨2, ![4, 128]⟩
abbrev S4100x128 : Shape := ⟨2, ![4100, 128]⟩
abbrev S8x128 : Shape := ⟨2, ![8, 128]⟩
abbrev S4104x128 : Shape := ⟨2, ![4104, 128]⟩
abbrev S16x128 : Shape := ⟨2, ![16, 128]⟩
abbrev S4112x128 : Shape := ⟨2, ![4112, 128]⟩
abbrev S4x128x4096 : Shape := ⟨3, ![4, 128, 4096]⟩
abbrev S4x4096x128 : Shape := ⟨3, ![4, 4096, 128]⟩
abbrev S4096x4x512 : Shape := ⟨3, ![4096, 4, 512]⟩
abbrev S4x4096x512 : Shape := ⟨3, ![4, 4096, 512]⟩
abbrev S2048x1024 : Shape := ⟨2, ![2048, 1024]⟩
abbrev S1024x4x512 : Shape := ⟨3, ![1024, 4, 512]⟩
abbrev S4x1024x512 : Shape := ⟨3, ![4, 1024, 512]⟩

abbrev nBuf : Space → Nat
  | .hbm => 277
  | .vmem => 0
  | .smem => 0
  | _ => 0

abbrev hbmTy0_0 (i : Nat) : BufTy := match i % 128 with
  | 0 => ⟨S4096x1024, .f32⟩
  | 1 => ⟨S1024x2048, .f32⟩
  | 2 => ⟨S3x512, .f32⟩
  | 3 => ⟨S4x128x128, .f32⟩
  | 4 => ⟨S512, .f32⟩
  | 5 => ⟨S1024x1024, .f32⟩
  | 6 => ⟨S4096x1024, .f32⟩
  | 7 => ⟨S4096x2048, .f32⟩
  | 8 => ⟨S4096x512, .f32⟩
  | 9 => ⟨S4096x512, .f32⟩
  | 10 => ⟨S4096x512, .f32⟩
  | 11 => ⟨S4096x512, .f32⟩
  | 12 => ⟨S4096x512, .f32⟩
  | 13 => ⟨S_, .f32⟩
  | 14 => ⟨S2x512, .f32⟩
  | 15 => ⟨S4098x512, .f32⟩
  | 16 => ⟨S_, .f32⟩
  | 17 => ⟨S2x512, .f32⟩
  | 18 => ⟨S4096x512, .f32⟩
  | 19 => ⟨S1x512, .f32⟩
  | 20 => ⟨S512, .f32⟩
  | 21 => ⟨S1x512, .f32⟩
  | 22 => ⟨S4096x512, .f32⟩
  | 23 => ⟨S4096x512, .f32⟩
  | 24 => ⟨S4096x512, .f32⟩
  | 25 => ⟨S1x512, .f32⟩
  | 26 => ⟨S512, .f32⟩
  | 27 => ⟨S1x512, .f32⟩
  | 28 => ⟨S4096x512, .f32⟩
  | 29 => ⟨S4096x512, .f32⟩
  | 30 => ⟨S4096x512, .f32⟩
  | 31 => ⟨S4096x512, .f32⟩
  | 32 => ⟨S1x512, .f32⟩
  | 33 => ⟨S512, .f32⟩
  | 34 => ⟨S1x512, .f32⟩
  | 35 => ⟨S4096x512, .f32⟩
  | 36 => ⟨S4096x512, .f32⟩
  | 37 => ⟨S4096x512, .f32⟩
  | 38 => ⟨S4096x512, .f32⟩
  | 39 => ⟨S4096x4x128, .f32⟩
  | 40 => ⟨S_, .f32⟩
  | 41 => ⟨S_, .f32⟩
  | 42 => ⟨S4096x4x128, .f32⟩
  | 43 => ⟨S4096, .f32⟩
  | 44 => ⟨S_, .f32⟩
  | 45 => ⟨S4096, .f32⟩
  | 46 => ⟨S4096, .f32⟩
  | 47 => ⟨S4096x1, .f32⟩
  | 48 => ⟨S4096x1x128, .f32⟩
  | 49 => ⟨S4096x128, .f32⟩
  | 50 => ⟨S_, .f32⟩
  | 51 => ⟨S2x128, .f32⟩
  | 52 => ⟨S4098x128, .f32⟩
  | 53 => ⟨S_, .f32⟩
  | 54 => ⟨S2x128, .f32⟩
  | 55 => ⟨S4096x128, .f32⟩
  | 56 => ⟨S_, .f32⟩
  | 57 => ⟨S4096x1, .f32⟩
  | 58 => ⟨S4096x1, .f32⟩
  | 59 => ⟨S4096x128, .f32⟩
  | 60 => ⟨S4096x128, .f32⟩
  | 61 => ⟨S4096x128, .f32⟩
  | 62 => ⟨S4096x1x128, .f32⟩
  | 63 => ⟨S4096x128, .f32⟩
  | 64 => ⟨S4096x128, .f32⟩
  | 65 => ⟨S4096x1x128, .f32⟩
  | 66 => ⟨S4096x128, .f32⟩
  | 67 => ⟨S_, .f32⟩
  | 68 => ⟨S4x128, .f32⟩
  | 69 => ⟨S4100x128, .f32⟩
  | 70 => ⟨S_, .f32⟩
  | 71 => ⟨S4x128, .f32⟩
  | 72 => ⟨S4096x128, .f32⟩
  | 73 => ⟨S_, .f32⟩
  | 74 => ⟨S4096x1, .f32⟩
  | 75 => ⟨S4096x1, .f32⟩
  | 76 => ⟨S4096x128, .f32⟩
  | 77 => ⟨S4096x128, .f32⟩
  | 78 => ⟨S4096x128, .f32⟩
  | 79 => ⟨S4096x1x128, .f32⟩
  | 80 => ⟨S4096x128, .f32⟩
  | 81 => ⟨S4096x128, .f32⟩
  | 82 => ⟨S4096x1x128, .f32⟩
  | 83 => ⟨S4096x128, .f32⟩
  | 84 => ⟨S_, .f32⟩
  | 85 => ⟨S8x128, .f32⟩
  | 86 => ⟨S4104x128, .f32⟩
  | 87 => ⟨S_, .f32⟩
  | 88 => ⟨S8x128, .f32⟩
  | 89 => ⟨S4096x128, .f32⟩
  | 90 => ⟨S_, .f32⟩
  | 91 => ⟨S4096x1, .f32⟩
  | 92 => ⟨S4096x1, .f32⟩
  | 93 => ⟨S4096x128, .f32⟩
  | 94 => ⟨S4096x128, .f32⟩
  | 95 => ⟨S4096x128, .f32⟩
  | 96 => ⟨S4096x1x128, .f32⟩
  | 97 => ⟨S4096x128, .f32⟩
  | 98 => ⟨S4096x128, .f32⟩
  | 99 => ⟨S4096x1x128, .f32⟩
  | 100 => ⟨S4096x128, .f32⟩
  | 101 => ⟨S_, .f32⟩
  | 102 => ⟨S16x128, .f32⟩
  | 103 => ⟨S4112x128, .f32⟩
  | 104 => ⟨S_, .f32⟩
  | 105 => ⟨S16x128, .f32⟩
  | 106 => ⟨S4096x128, .f32⟩
  | 107 => ⟨S_, .f32⟩
  | 108 => ⟨S4096x1, .f32⟩
  | 109 => ⟨S4096x1, .f32⟩
  | 110 => ⟨S4096x128, .f32⟩
  | 111 => ⟨S4096x128, .f32⟩
  | 112 => ⟨S4096x128, .f32⟩
  | 113 => ⟨S4096x1x128, .f32⟩
  | 114 => ⟨S4096x128, .f32⟩
  | 115 => ⟨S4096x128, .f32⟩
  | 116 => ⟨S4096x1x128, .f32⟩
  | 117 => ⟨S4096x1x128, .f32⟩
  | 118 => ⟨S4096x1x128, .f32⟩
  | 119 => ⟨S4096x1x128, .f32⟩
  | 120 => ⟨S4096x4x128, .f32⟩
  | 121 => ⟨S4x128x4096, .f32⟩
  | 122 => ⟨S4096x4x128, .f32⟩
  | 123 => ⟨S4096x512, .f32⟩
  | 124 => ⟨S1x512, .f32⟩
  | 125 => ⟨S4096x512, .f32⟩
  | 126 => ⟨S4096x512, .f32⟩
  | 127 => ⟨S4096x1024, .f32⟩
  | _ => ⟨S4096x1024, .f32⟩

abbrev hbmTy0_1 (i : Nat) : BufTy := match i % 128 with
  | 0 => ⟨S4096x1024, .f32⟩
  | 1 => ⟨S1024x1024, .f32⟩
  | 2 => ⟨S1024x1024, .f32⟩
  | 3 => ⟨S4096x1024, .f32⟩
  | 4 => ⟨S4096x512, .f32⟩
  | 5 => ⟨S4096x512, .f32⟩
  | 6 => ⟨S4096x512, .f32⟩
  | 7 => ⟨S4096x512, .f32⟩
  | 8 => ⟨S4096x4x128, .f32⟩
  | 9 => ⟨S4x128x4096, .f32⟩
  | 10 => ⟨S4x4096x128, .f32⟩
  | 11 => ⟨S4096x4x128, .f32⟩
  | 12 => ⟨S4096x1x128, .f32⟩
  | 13 => ⟨S4096x128, .f32⟩
  | 14 => ⟨S4096x1x128, .f32⟩
  | 15 => ⟨S4096x128, .f32⟩
  | 16 => ⟨S4096x1x128, .f32⟩
  | 17 => ⟨S4096x128, .f32⟩
  | 18 => ⟨S4096x1x128, .f32⟩
  | 19 => ⟨S4096x128, .f32⟩
  | 20 => ⟨S4096x128, .f32⟩
  | 21 => ⟨S4096x1x128, .f32⟩
  | 22 => ⟨S_, .f32⟩
  | 23 => ⟨S4096x4x128, .f32⟩
  | 24 => ⟨S4096x128, .f32⟩
  | 25 => ⟨S4096x128, .f32⟩
  | 26 => ⟨S4096x128, .f32⟩
  | 27 => ⟨S_, .f32⟩
  | 28 => ⟨S4112x128, .f32⟩
  | 29 => ⟨S16x128, .f32⟩
  | 30 => ⟨S4096x128, .f32⟩
  | 31 => ⟨S4096x128, .f32⟩
  | 32 => ⟨S4096x1x128, .f32⟩
  | 33 => ⟨S_, .f32⟩
  | 34 => ⟨S4096x4x128, .f32⟩
  | 35 => ⟨S4096x128, .f32⟩
  | 36 => ⟨S4096x1x128, .f32⟩
  | 37 => ⟨S_, .f32⟩
  | 38 => ⟨S4096x4x128, .f32⟩
  | 39 => ⟨S4096x4x128, .f32⟩
  | 40 => ⟨S4096x128, .f32⟩
  | 41 => ⟨S4096x128, .f32⟩
  | 42 => ⟨S4096x128, .f32⟩
  | 43 => ⟨S_, .f32⟩
  | 44 => ⟨S4104x128, .f32⟩
  | 45 => ⟨S8x128, .f32⟩
  | 46 => ⟨S4096x128, .f32⟩
  | 47 => ⟨S4096x128, .f32⟩
  | 48 => ⟨S4096x1x128, .f32⟩
  | 49 => ⟨S_, .f32⟩
  | 50 => ⟨S4096x4x128, .f32⟩
  | 51 => ⟨S4096x4x128, .f32⟩
  | 52 => ⟨S4096x128, .f32⟩
  | 53 => ⟨S4096x1x128, .f32⟩
  | 54 => ⟨S_, .f32⟩
  | 55 => ⟨S4096x4x128, .f32⟩
  | 56 => ⟨S4096x4x128, .f32⟩
  | 57 => ⟨S4096x128, .f32⟩
  | 58 => ⟨S4096x128, .f32⟩
  | 59 => ⟨S4096x128, .f32⟩
  | 60 => ⟨S_, .f32⟩
  | 61 => ⟨S4100x128, .f32⟩
  | 62 => ⟨S4x128, .f32⟩
  | 63 => ⟨S4096x128, .f32⟩
  | 64 => ⟨S4096x128, .f32⟩
  | 65 => ⟨S4096x1x128, .f32⟩
  | 66 => ⟨S_, .f32⟩
  | 67 => ⟨S4096x4x128, .f32⟩
  | 68 => ⟨S4096x4x128, .f32⟩
  | 69 => ⟨S4096x128, .f32⟩
  | 70 => ⟨S4096x1x128, .f32⟩
  | 71 => ⟨S_, .f32⟩
  | 72 => ⟨S4096x4x128, .f32⟩
  | 73 => ⟨S4096x4x128, .f32⟩
  | 74 => ⟨S4096x128, .f32⟩
  | 75 => ⟨S4096x128, .f32⟩
  | 76 => ⟨S4096x128, .f32⟩
  | 77 => ⟨S_, .f32⟩
  | 78 => ⟨S4098x128, .f32⟩
  | 79 => ⟨S2x128, .f32⟩
  | 80 => ⟨S4096x128, .f32⟩
  | 81 => ⟨S4096x128, .f32⟩
  | 82 => ⟨S4096x1x128, .f32⟩
  | 83 => ⟨S_, .f32⟩
  | 84 => ⟨S4096x4x128, .f32⟩
  | 85 => ⟨S4096x4x128, .f32⟩
  | 86 => ⟨S_, .f32⟩
  | 87 => ⟨S_, .f32⟩
  | 88 => ⟨S4096x4x128, .f32⟩
  | 89 => ⟨S4096x4x128, .f32⟩
  | 90 => ⟨S4096x512, .f32⟩
  | 91 => ⟨S4096x512, .f32⟩
  | 92 => ⟨S4096x512, .f32⟩
  | 93 => ⟨S4096x512, .f32⟩
  | 94 => ⟨S_, .f32⟩
  | 95 => ⟨S512, .f32⟩
  | 96 => ⟨S1x512, .f32⟩
  | 97 => ⟨S4096x512, .f32⟩
  | 98 => ⟨S4096x512, .f32⟩
  | 99 => ⟨S_, .f32⟩
  | 100 => ⟨S512, .f32⟩
  | 101 => ⟨S1x512, .f32⟩
  | 102 => ⟨S_, .f32⟩
  | 103 => ⟨S3x512, .f32⟩
  | 104 => ⟨S_, .f32⟩
  | 105 => ⟨S4098x512, .f32⟩
  | 106 => ⟨S4096x512, .f32⟩
  | 107 => ⟨S_, .f32⟩
  | 108 => ⟨S512, .f32⟩
  | 109 => ⟨S1x512, .f32⟩
  | 110 => ⟨S4096x512, .f32⟩
  | 111 => ⟨S4096x512, .f32⟩
  | 112 => ⟨S_, .f32⟩
  | 113 => ⟨S512, .f32⟩
  | 114 => ⟨S1x512, .f32⟩
  | 115 => ⟨S_, .f32⟩
  | 116 => ⟨S3x512, .f32⟩
  | 117 => ⟨S3x512, .f32⟩
  | 118 => ⟨S_, .f32⟩
  | 119 => ⟨S4098x512, .f32⟩
  | 120 => ⟨S4098x512, .f32⟩
  | 121 => ⟨S4096x512, .f32⟩
  | 122 => ⟨S_, .f32⟩
  | 123 => ⟨S512, .f32⟩
  | 124 => ⟨S1x512, .f32⟩
  | 125 => ⟨S4096x512, .f32⟩
  | 126 => ⟨S4096x512, .f32⟩
  | 127 => ⟨S_, .f32⟩
  | _ => ⟨S4096x1024, .f32⟩

abbrev hbmTy0_2 (i : Nat) : BufTy := match i % 128 with
  | 0 => ⟨S512, .f32⟩
  | 1 => ⟨S1x512, .f32⟩
  | 2 => ⟨S_, .f32⟩
  | 3 => ⟨S3x512, .f32⟩
  | 4 => ⟨S3x512, .f32⟩
  | 5 => ⟨S_, .f32⟩
  | 6 => ⟨S4098x512, .f32⟩
  | 7 => ⟨S4098x512, .f32⟩
  | 8 => ⟨S2x512, .f32⟩
  | 9 => ⟨S4096x512, .f32⟩
  | 10 => ⟨S4096x512, .f32⟩
  | 11 => ⟨S4096x512, .f32⟩
  | 12 => ⟨S4096x2048, .f32⟩
  | 13 => ⟨S4096x4x512, .f32⟩
  | 14 => ⟨S4x4096x512, .f32⟩
  | 15 => ⟨S4x4096x512, .bf16⟩
  | 16 => ⟨S2048x1024, .f32⟩
  | 17 => ⟨S1024x2048, .f32⟩
  | 18 => ⟨S4096x1024, .f32⟩
  | 19 => ⟨S1024x4x512, .f32⟩
  | 20 => ⟨S4x1024x512, .f32⟩
  | _ => ⟨S4096x1024, .f32⟩

abbrev hbmTy (i : Nat) : BufTy := match i / 128 with
  | 0 => hbmTy0_0 i
  | 1 => hbmTy0_1 i
  | 2 => hbmTy0_2 i
  | _ => ⟨S4096x1024, .f32⟩

abbrev bufTy : (tb : Table) → Fin (tcTables nBuf tb) → BufTy
  | .hbm, ⟨i, _⟩ => hbmTy i
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst : Ref sig .tc := ⟨.hbm, 13, rfl⟩
abbrev main_v6 : Ref sig .tc := ⟨.hbm, 14, rfl⟩
abbrev main_v7 : Ref sig .tc := ⟨.hbm, 15, rfl⟩
abbrev main_cst_0 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_call0_call0_cst : Ref sig .tc := ⟨.hbm, 40, rfl⟩
abbrev main_call0_call0_v0 : Ref sig .tc := ⟨.hbm, 41, rfl⟩
abbrev main_v31 : Ref sig .tc := ⟨.hbm, 42, rfl⟩
abbrev main_v32 : Ref sig .tc := ⟨.hbm, 43, rfl⟩
abbrev main_cst_1 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_cst_2 : Ref sig .tc := ⟨.hbm, 50, rfl⟩
abbrev main_v38 : Ref sig .tc := ⟨.hbm, 51, rfl⟩
abbrev main_v39 : Ref sig .tc := ⟨.hbm, 52, rfl⟩
abbrev main_cst_3 : Ref sig .tc := ⟨.hbm, 53, rfl⟩
abbrev main_v40 : Ref sig .tc := ⟨.hbm, 54, rfl⟩
abbrev main_v41 : Ref sig .tc := ⟨.hbm, 55, rfl⟩
abbrev main_cst_4 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_cst_5 : Ref sig .tc := ⟨.hbm, 67, rfl⟩
abbrev main_v52 : Ref sig .tc := ⟨.hbm, 68, rfl⟩
abbrev main_v53 : Ref sig .tc := ⟨.hbm, 69, rfl⟩
abbrev main_cst_6 : Ref sig .tc := ⟨.hbm, 70, rfl⟩
abbrev main_v54 : Ref sig .tc := ⟨.hbm, 71, rfl⟩
abbrev main_v55 : Ref sig .tc := ⟨.hbm, 72, rfl⟩
abbrev main_cst_7 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_cst_8 : Ref sig .tc := ⟨.hbm, 84, rfl⟩
abbrev main_v66 : Ref sig .tc := ⟨.hbm, 85, rfl⟩
abbrev main_v67 : Ref sig .tc := ⟨.hbm, 86, rfl⟩
abbrev main_cst_9 : Ref sig .tc := ⟨.hbm, 87, rfl⟩
abbrev main_v68 : Ref sig .tc := ⟨.hbm, 88, rfl⟩
abbrev main_v69 : Ref sig .tc := ⟨.hbm, 89, rfl⟩
abbrev main_cst_10 : Ref sig .tc := ⟨.hbm, 90, rfl⟩
abbrev main_v70 : Ref sig .tc := ⟨.hbm, 91, rfl⟩
abbrev main_v71 : Ref sig .tc := ⟨.hbm, 92, rfl⟩
abbrev main_v72 : Ref sig .tc := ⟨.hbm, 93, rfl⟩
abbrev main_v73 : Ref sig .tc := ⟨.hbm, 94, rfl⟩
abbrev main_v74 : Ref sig .tc := ⟨.hbm, 95, rfl⟩
abbrev main_v75 : Ref sig .tc := ⟨.hbm, 96, rfl⟩
abbrev main_v76 : Ref sig .tc := ⟨.hbm, 97, rfl⟩
abbrev main_v77 : Ref sig .tc := ⟨.hbm, 98, rfl⟩
abbrev main_v78 : Ref sig .tc := ⟨.hbm, 99, rfl⟩
abbrev main_v79 : Ref sig .tc := ⟨.hbm, 100, rfl⟩
abbrev main_cst_11 : Ref sig .tc := ⟨.hbm, 101, rfl⟩
abbrev main_v80 : Ref sig .tc := ⟨.hbm, 102, rfl⟩
abbrev main_v81 : Ref sig .tc := ⟨.hbm, 103, rfl⟩
abbrev main_cst_12 : Ref sig .tc := ⟨.hbm, 104, rfl⟩
abbrev main_v82 : Ref sig .tc := ⟨.hbm, 105, rfl⟩
abbrev main_v83 : Ref sig .tc := ⟨.hbm, 106, rfl⟩
abbrev main_cst_13 : Ref sig .tc := ⟨.hbm, 107, rfl⟩
abbrev main_v84 : Ref sig .tc := ⟨.hbm, 108, rfl⟩
abbrev main_v85 : Ref sig .tc := ⟨.hbm, 109, rfl⟩
abbrev main_v86 : Ref sig .tc := ⟨.hbm, 110, rfl⟩
abbrev main_v87 : Ref sig .tc := ⟨.hbm, 111, rfl⟩
abbrev main_v88 : Ref sig .tc := ⟨.hbm, 112, rfl⟩
abbrev main_v89 : Ref sig .tc := ⟨.hbm, 113, rfl⟩
abbrev main_v90 : Ref sig .tc := ⟨.hbm, 114, rfl⟩
abbrev main_v91 : Ref sig .tc := ⟨.hbm, 115, rfl⟩
abbrev main_v92 : Ref sig .tc := ⟨.hbm, 116, rfl⟩
abbrev main_v93 : Ref sig .tc := ⟨.hbm, 117, rfl⟩
abbrev main_v94 : Ref sig .tc := ⟨.hbm, 118, rfl⟩
abbrev main_v95 : Ref sig .tc := ⟨.hbm, 119, rfl⟩
abbrev main_v96 : Ref sig .tc := ⟨.hbm, 120, rfl⟩
abbrev main_v97 : Ref sig .tc := ⟨.hbm, 121, rfl⟩
abbrev main_v98 : Ref sig .tc := ⟨.hbm, 122, rfl⟩
abbrev main_v99 : Ref sig .tc := ⟨.hbm, 123, rfl⟩
abbrev main_v100 : Ref sig .tc := ⟨.hbm, 124, rfl⟩
abbrev main_v101 : Ref sig .tc := ⟨.hbm, 125, rfl⟩
abbrev main_v102 : Ref sig .tc := ⟨.hbm, 126, rfl⟩
abbrev main_v103 : Ref sig .tc := ⟨.hbm, 127, rfl⟩
abbrev main_v104 : Ref sig .tc := ⟨.hbm, 128, rfl⟩
abbrev main_v105 : Ref sig .tc := ⟨.hbm, 129, rfl⟩
abbrev main_v106 : Ref sig .tc := ⟨.hbm, 130, rfl⟩
abbrev main_v107 : Ref sig .tc := ⟨.hbm, 131, rfl⟩
abbrev main_v108 : Ref sig .tc := ⟨.hbm, 132, rfl⟩
abbrev main_v109 : Ref sig .tc := ⟨.hbm, 133, rfl⟩
abbrev main_v110 : Ref sig .tc := ⟨.hbm, 134, rfl⟩
abbrev main_v111 : Ref sig .tc := ⟨.hbm, 135, rfl⟩
abbrev main_v112 : Ref sig .tc := ⟨.hbm, 136, rfl⟩
abbrev main_v113 : Ref sig .tc := ⟨.hbm, 137, rfl⟩
abbrev main_v114 : Ref sig .tc := ⟨.hbm, 138, rfl⟩
abbrev main_v115 : Ref sig .tc := ⟨.hbm, 139, rfl⟩
abbrev main_v116 : Ref sig .tc := ⟨.hbm, 140, rfl⟩
abbrev main_v117 : Ref sig .tc := ⟨.hbm, 141, rfl⟩
abbrev main_v118 : Ref sig .tc := ⟨.hbm, 142, rfl⟩
abbrev main_v119 : Ref sig .tc := ⟨.hbm, 143, rfl⟩
abbrev main_v120 : Ref sig .tc := ⟨.hbm, 144, rfl⟩
abbrev main_v121 : Ref sig .tc := ⟨.hbm, 145, rfl⟩
abbrev main_v122 : Ref sig .tc := ⟨.hbm, 146, rfl⟩
abbrev main_v123 : Ref sig .tc := ⟨.hbm, 147, rfl⟩
abbrev main_v124 : Ref sig .tc := ⟨.hbm, 148, rfl⟩
abbrev main_v125 : Ref sig .tc := ⟨.hbm, 149, rfl⟩
abbrev main_cst_14 : Ref sig .tc := ⟨.hbm, 150, rfl⟩
abbrev main_v126 : Ref sig .tc := ⟨.hbm, 151, rfl⟩
abbrev main_v127 : Ref sig .tc := ⟨.hbm, 152, rfl⟩
abbrev main_v128 : Ref sig .tc := ⟨.hbm, 153, rfl⟩
abbrev main_v129 : Ref sig .tc := ⟨.hbm, 154, rfl⟩
abbrev main_cst_15 : Ref sig .tc := ⟨.hbm, 155, rfl⟩
abbrev main_v130 : Ref sig .tc := ⟨.hbm, 156, rfl⟩
abbrev main_v131 : Ref sig .tc := ⟨.hbm, 157, rfl⟩
abbrev main_v132 : Ref sig .tc := ⟨.hbm, 158, rfl⟩
abbrev main_v133 : Ref sig .tc := ⟨.hbm, 159, rfl⟩
abbrev main_v134 : Ref sig .tc := ⟨.hbm, 160, rfl⟩
abbrev main_cst_16 : Ref sig .tc := ⟨.hbm, 161, rfl⟩
abbrev main_v135 : Ref sig .tc := ⟨.hbm, 162, rfl⟩
abbrev main_v136 : Ref sig .tc := ⟨.hbm, 163, rfl⟩
abbrev main_v137 : Ref sig .tc := ⟨.hbm, 164, rfl⟩
abbrev main_cst_17 : Ref sig .tc := ⟨.hbm, 165, rfl⟩
abbrev main_v138 : Ref sig .tc := ⟨.hbm, 166, rfl⟩
abbrev main_v139 : Ref sig .tc := ⟨.hbm, 167, rfl⟩
abbrev main_v140 : Ref sig .tc := ⟨.hbm, 168, rfl⟩
abbrev main_v141 : Ref sig .tc := ⟨.hbm, 169, rfl⟩
abbrev main_v142 : Ref sig .tc := ⟨.hbm, 170, rfl⟩
abbrev main_cst_18 : Ref sig .tc := ⟨.hbm, 171, rfl⟩
abbrev main_v143 : Ref sig .tc := ⟨.hbm, 172, rfl⟩
abbrev main_v144 : Ref sig .tc := ⟨.hbm, 173, rfl⟩
abbrev main_v145 : Ref sig .tc := ⟨.hbm, 174, rfl⟩
abbrev main_v146 : Ref sig .tc := ⟨.hbm, 175, rfl⟩
abbrev main_v147 : Ref sig .tc := ⟨.hbm, 176, rfl⟩
abbrev main_cst_19 : Ref sig .tc := ⟨.hbm, 177, rfl⟩
abbrev main_v148 : Ref sig .tc := ⟨.hbm, 178, rfl⟩
abbrev main_v149 : Ref sig .tc := ⟨.hbm, 179, rfl⟩
abbrev main_v150 : Ref sig .tc := ⟨.hbm, 180, rfl⟩
abbrev main_v151 : Ref sig .tc := ⟨.hbm, 181, rfl⟩
abbrev main_cst_20 : Ref sig .tc := ⟨.hbm, 182, rfl⟩
abbrev main_v152 : Ref sig .tc := ⟨.hbm, 183, rfl⟩
abbrev main_v153 : Ref sig .tc := ⟨.hbm, 184, rfl⟩
abbrev main_v154 : Ref sig .tc := ⟨.hbm, 185, rfl⟩
abbrev main_v155 : Ref sig .tc := ⟨.hbm, 186, rfl⟩
abbrev main_v156 : Ref sig .tc := ⟨.hbm, 187, rfl⟩
abbrev main_cst_21 : Ref sig .tc := ⟨.hbm, 188, rfl⟩
abbrev main_v157 : Ref sig .tc := ⟨.hbm, 189, rfl⟩
abbrev main_v158 : Ref sig .tc := ⟨.hbm, 190, rfl⟩
abbrev main_v159 : Ref sig .tc := ⟨.hbm, 191, rfl⟩
abbrev main_v160 : Ref sig .tc := ⟨.hbm, 192, rfl⟩
abbrev main_v161 : Ref sig .tc := ⟨.hbm, 193, rfl⟩
abbrev main_cst_22 : Ref sig .tc := ⟨.hbm, 194, rfl⟩
abbrev main_v162 : Ref sig .tc := ⟨.hbm, 195, rfl⟩
abbrev main_v163 : Ref sig .tc := ⟨.hbm, 196, rfl⟩
abbrev main_v164 : Ref sig .tc := ⟨.hbm, 197, rfl⟩
abbrev main_v165 : Ref sig .tc := ⟨.hbm, 198, rfl⟩
abbrev main_cst_23 : Ref sig .tc := ⟨.hbm, 199, rfl⟩
abbrev main_v166 : Ref sig .tc := ⟨.hbm, 200, rfl⟩
abbrev main_v167 : Ref sig .tc := ⟨.hbm, 201, rfl⟩
abbrev main_v168 : Ref sig .tc := ⟨.hbm, 202, rfl⟩
abbrev main_v169 : Ref sig .tc := ⟨.hbm, 203, rfl⟩
abbrev main_v170 : Ref sig .tc := ⟨.hbm, 204, rfl⟩
abbrev main_cst_24 : Ref sig .tc := ⟨.hbm, 205, rfl⟩
abbrev main_v171 : Ref sig .tc := ⟨.hbm, 206, rfl⟩
abbrev main_v172 : Ref sig .tc := ⟨.hbm, 207, rfl⟩
abbrev main_v173 : Ref sig .tc := ⟨.hbm, 208, rfl⟩
abbrev main_v174 : Ref sig .tc := ⟨.hbm, 209, rfl⟩
abbrev main_v175 : Ref sig .tc := ⟨.hbm, 210, rfl⟩
abbrev main_cst_25 : Ref sig .tc := ⟨.hbm, 211, rfl⟩
abbrev main_v176 : Ref sig .tc := ⟨.hbm, 212, rfl⟩
abbrev main_v177 : Ref sig .tc := ⟨.hbm, 213, rfl⟩
abbrev main_call1_call0_cst : Ref sig .tc := ⟨.hbm, 214, rfl⟩
abbrev main_call1_call0_v0 : Ref sig .tc := ⟨.hbm, 215, rfl⟩
abbrev main_v178 : Ref sig .tc := ⟨.hbm, 216, rfl⟩
abbrev main_v179 : Ref sig .tc := ⟨.hbm, 217, rfl⟩
abbrev main_v180 : Ref sig .tc := ⟨.hbm, 218, rfl⟩
abbrev main_v181 : Ref sig .tc := ⟨.hbm, 219, rfl⟩
abbrev main_v182 : Ref sig .tc := ⟨.hbm, 220, rfl⟩
abbrev main_v183 : Ref sig .tc := ⟨.hbm, 221, rfl⟩
abbrev main_cst_26 : Ref sig .tc := ⟨.hbm, 222, rfl⟩
abbrev main_v184 : Ref sig .tc := ⟨.hbm, 223, rfl⟩
abbrev main_v185 : Ref sig .tc := ⟨.hbm, 224, rfl⟩
abbrev main_v186 : Ref sig .tc := ⟨.hbm, 225, rfl⟩
abbrev main_v187 : Ref sig .tc := ⟨.hbm, 226, rfl⟩
abbrev main_cst_27 : Ref sig .tc := ⟨.hbm, 227, rfl⟩
abbrev main_v188 : Ref sig .tc := ⟨.hbm, 228, rfl⟩
abbrev main_v189 : Ref sig .tc := ⟨.hbm, 229, rfl⟩
abbrev main_cst_28 : Ref sig .tc := ⟨.hbm, 230, rfl⟩
abbrev main_v190 : Ref sig .tc := ⟨.hbm, 231, rfl⟩
abbrev main_cst_29 : Ref sig .tc := ⟨.hbm, 232, rfl⟩
abbrev main_v191 : Ref sig .tc := ⟨.hbm, 233, rfl⟩
abbrev main_v192 : Ref sig .tc := ⟨.hbm, 234, rfl⟩
abbrev main_cst_30 : Ref sig .tc := ⟨.hbm, 235, rfl⟩
abbrev main_v193 : Ref sig .tc := ⟨.hbm, 236, rfl⟩
abbrev main_v194 : Ref sig .tc := ⟨.hbm, 237, rfl⟩
abbrev main_v195 : Ref sig .tc := ⟨.hbm, 238, rfl⟩
abbrev main_v196 : Ref sig .tc := ⟨.hbm, 239, rfl⟩
abbrev main_cst_31 : Ref sig .tc := ⟨.hbm, 240, rfl⟩
abbrev main_v197 : Ref sig .tc := ⟨.hbm, 241, rfl⟩
abbrev main_v198 : Ref sig .tc := ⟨.hbm, 242, rfl⟩
abbrev main_cst_32 : Ref sig .tc := ⟨.hbm, 243, rfl⟩
abbrev main_v199 : Ref sig .tc := ⟨.hbm, 244, rfl⟩
abbrev main_v200 : Ref sig .tc := ⟨.hbm, 245, rfl⟩
abbrev main_cst_33 : Ref sig .tc := ⟨.hbm, 246, rfl⟩
abbrev main_v201 : Ref sig .tc := ⟨.hbm, 247, rfl⟩
abbrev main_v202 : Ref sig .tc := ⟨.hbm, 248, rfl⟩
abbrev main_v203 : Ref sig .tc := ⟨.hbm, 249, rfl⟩
abbrev main_cst_34 : Ref sig .tc := ⟨.hbm, 250, rfl⟩
abbrev main_v204 : Ref sig .tc := ⟨.hbm, 251, rfl⟩
abbrev main_v205 : Ref sig .tc := ⟨.hbm, 252, rfl⟩
abbrev main_v206 : Ref sig .tc := ⟨.hbm, 253, rfl⟩
abbrev main_v207 : Ref sig .tc := ⟨.hbm, 254, rfl⟩
abbrev main_cst_35 : Ref sig .tc := ⟨.hbm, 255, rfl⟩
abbrev main_v208 : Ref sig .tc := ⟨.hbm, 256, rfl⟩
abbrev main_v209 : Ref sig .tc := ⟨.hbm, 257, rfl⟩
abbrev main_cst_36 : Ref sig .tc := ⟨.hbm, 258, rfl⟩
abbrev main_v210 : Ref sig .tc := ⟨.hbm, 259, rfl⟩
abbrev main_v211 : Ref sig .tc := ⟨.hbm, 260, rfl⟩
abbrev main_cst_37 : Ref sig .tc := ⟨.hbm, 261, rfl⟩
abbrev main_v212 : Ref sig .tc := ⟨.hbm, 262, rfl⟩
abbrev main_v213 : Ref sig .tc := ⟨.hbm, 263, rfl⟩
abbrev main_v214 : Ref sig .tc := ⟨.hbm, 264, rfl⟩
abbrev main_v215 : Ref sig .tc := ⟨.hbm, 265, rfl⟩
abbrev main_v216 : Ref sig .tc := ⟨.hbm, 266, rfl⟩
abbrev main_v217 : Ref sig .tc := ⟨.hbm, 267, rfl⟩
abbrev main_v218 : Ref sig .tc := ⟨.hbm, 268, rfl⟩
abbrev main_v219 : Ref sig .tc := ⟨.hbm, 269, rfl⟩
abbrev main_v220 : Ref sig .tc := ⟨.hbm, 270, rfl⟩
abbrev main_v221 : Ref sig .tc := ⟨.hbm, 271, rfl⟩
abbrev main_v222 : Ref sig .tc := ⟨.hbm, 272, rfl⟩
abbrev main_v223 : Ref sig .tc := ⟨.hbm, 273, rfl⟩
abbrev main_v224 : Ref sig .tc := ⟨.hbm, 274, rfl⟩
abbrev main_v225 : Ref sig .tc := ⟨.hbm, 275, rfl⟩
abbrev main_v226 : Ref sig .tc := ⟨.hbm, 276, rfl⟩

abbrev nD : Nat := 1
abbrev τ : Topo := Topo.v7x

variable {F : FTy → Type} [FloatOps F]
-- ==== Proof.BwdPay.lean ====
module

public import proofs.«01_k».proof.Proof.Gen.KernelIdeal.Skeleton
public import Idealize.ShloMosaic.Lib.Pipeline.ValueKit
public import Idealize.ShloMosaic.Lib.Pointwise

@[expose] public section

set_option maxRecDepth 16384

noncomputable section

/-! The gated feed-forward's gradient, element by element, as sums and products of the whole arrays: the cotangent `DH`
    of the output, the layer's input `X`, the gate's product `G`, its convolution `GC`, the other product `UP`, the
    down-projection `WD` and the convolution's taps `W`. Rows and columns are natural numbers; a row past the last is
    zero in `DH`, so the gradient there is zero too. -/
namespace Cert.FfnGrad

open Idealize.ShloMosaic

/-- The gradient of the gated activation: a row of `DH` against a row of the down-projection. -/
def dact (DH WD : ℕ → ℕ → EReal) (r c : ℕ) : EReal := ∑ d : Fin 1024, DH r d.val * WD c d.val

/-- The gradient of the convolved gate: the derivative of `z · logistic z` times what comes from above. -/
def dgc (DH WD UP GC : ℕ → ℕ → EReal) (r c : ℕ) : EReal :=
  dact DH WD r c * UP r c * (Ideal.logistic (GC r c) + GC r c * Ideal.logistic (GC r c) * (1 - Ideal.logistic (GC r c)))

/-- The gradient of the second product. -/
def dup (DH WD GC : ℕ → ℕ → EReal) (r c : ℕ) : EReal := dact DH WD r c * (GC r c * Ideal.logistic (GC r c))

/-- The gated activation itself. -/
def act (UP GC : ℕ → ℕ → EReal) (r c : ℕ) : EReal := GC r c * Ideal.logistic (GC r c) * UP r c

/-- The gradient of the gate's product: the convolution's taps over this row and the two after it. -/
def dg (DH WD UP GC W : ℕ → ℕ → EReal) (r c : ℕ) : EReal :=
  W 2 c * dgc DH WD UP GC r c + W 1 c * dgc DH WD UP GC (r + 1) c + W 0 c * dgc DH WD UP GC (r + 2) c

theorem dgc_past (DH WD UP GC : ℕ → ℕ → EReal) (hz : ∀ r d, 4096 ≤ r → DH r d = 0) (r c : ℕ) (hr : 4096 ≤ r) :
    dgc DH WD UP GC r c = 0 := by
  have : dact DH WD r c = 0 := Finset.sum_eq_zero fun d _ => by rw [hz r _ hr, zero_mul]
  rw [dgc, this, zero_mul, zero_mul]

end Cert.FfnGrad

namespace Cert.KernelIdeal.Bwd

open Cert.KernelIdeal Cert.KernelIdeal.Gen Cert.FfnGrad Idealize.ShloMosaic Idealize.ShloMosaic.TcCoe Idealize.SL.Sem

theorem keep_eq (n : Fin 8) : (Scalar.select (Scalar.cmpi .slt (BitVec.ofNat 32 n.val) 7#32) (Scalar.ofBits .f32 0x3F800000#32) (Scalar.ofBits .f32 0x00000000#32) : Ideal .f32)
    = if n.val < 7 then (1 : EReal) else 0 := by
  have h : (Scalar.cmpi .slt (BitVec.ofNat 32 n.val) 7#32 = 1) ↔ n.val < 7 := by
    revert n; decide
  by_cases hn : n.val < 7
  · pointwise [Scalar.select, h.mpr hn, hn, Scalar.ofBits]
  · pointwise [Scalar.select, (not_congr h).mpr hn, hn, Scalar.ofBits]

theorem concat_rows (v : FVec Ideal S512x1024 .bf16) (w : FVec Ideal S16x1024 .bf16) (a : Fin 528) (d : Fin 1024) :
    concatenate S528x1024 0 [⟨S512x1024, v⟩, ⟨S16x1024, w⟩] concatenates_S512x1024_S16x1024_S528x1024_d0 (ix2 a d)
      = if h : a.val < 512 then v (ix2 ⟨a.val, h⟩ d) else w (ix2 ⟨a.val - 512, by omega⟩ d) := by
  pointwise

theorem dact_tile (i : grid0.Coords) (x0 : Vec Ideal S512x1024 .bf16) (x1 : Vec Ideal S16x1024 .bf16) (x8 : Vec Ideal S1x704x1024 .bf16) (a : Fin 528) (f : Fin 704) :
    k0_pay8 (F := Ideal) i x0 x1 x8 (ix2 a f) = if h : a.val < 512 then ∑ d : Fin 1024, x0 (ix2 ⟨a.val, h⟩ d) * x8 (ix3 0 f d)
      else (∑ d : Fin 1024, x1 (ix2 ⟨a.val - 512, by omega⟩ d) * x8 (ix3 0 f d)) * (if (i 1).val < 7 then (1 : EReal) else 0) := by
  have hM : ∀ a' : Fin 528, matmul dot_S528x1024_S704x1024_S528x704_1_1_0_0_n_n none
      (concatenate S528x1024 0 [⟨S512x1024, k0_pay7 x0⟩, ⟨S16x1024, shapeCast S16x1024 x1 shapeCasts_S16x1024_S16x1024⟩] concatenates_S512x1024_S16x1024_S528x1024_d0 : FVec Ideal S528x1024 .bf16)
      (shapeCast S704x1024 x8 shapeCasts_S1x704x1024_S704x1024 : FVec Ideal S704x1024 .bf16) (constant S528x704 .f32 0x00000000#32) (ix2 a' f)
      = ∑ d : Fin 1024, (if h : a'.val < 512 then x0 (ix2 ⟨a'.val, h⟩ d) else x1 (ix2 ⟨a'.val - 512, by omega⟩ d)) * x8 (ix3 0 f d) := by
    intro a'
    generalize hL : concatenate _ _ _ _ = L
    pointwise
    refine Finset.sum_congr rfl fun d _ => ?_
    rw [← hL, concat_rows]
    pointwise [k0_pay7]
  unfold k0_pay8
  dsimp only
  rw [keep_eq (i 1)]
  generalize matmul (F := Ideal) _ _ _ _ _ = M at hM ⊢
  pointwise
  split
  · rename_i h
    rw [hM]
    simp only [h, dif_pos]
  · rename_i h
    have h2 : a.val - 512 + 512 = a.val := by omega
    have h3 : 512 + (a.val - 512) = a.val := by omega
    rw [hM]
    simp only [h2, h3, h, dif_neg, not_false_eq_true]

variable {i j : ℕ} {DH X G UP GC WD W : ℕ → ℕ → EReal}

/-- What grid point `(j, i)`'s blocks hold, of the whole arrays: 512 rows from `512 i`, 16 rows after them (asked for
    only where there are rows after them), 704 columns from `704 j`. -/
structure TileAt (i j : ℕ) (DH X G UP GC WD W : ℕ → ℕ → EReal) (x0 : Vec Ideal S512x1024 .bf16) (x1 : Vec Ideal S16x1024 .bf16) (x2 : Vec Ideal S512x1024 .bf16)
    (x3 x4 : Vec Ideal S1x512x704 .bf16) (x5 : Vec Ideal S1x16x704 .bf16) (x6 : Vec Ideal S1x512x704 .bf16) (x7 : Vec Ideal S1x16x704 .bf16)
    (x8 : Vec Ideal S1x704x1024 .bf16) (x9 : Vec Ideal S1x3x704 .f32) : Prop where
  hi : i < 8
  hz : ∀ r d, 4096 ≤ r → DH r d = 0
  h0 : ∀ (a : Fin 512) (d : Fin 1024), x0 (ix2 a d) = DH (512 * i + a.val) d.val
  h1 : ∀ (a : Fin 16) (d : Fin 1024), i < 7 → x1 (ix2 a d) = DH (512 * i + (512 + a.val)) d.val
  h2 : ∀ (a : Fin 512) (d : Fin 1024), x2 (ix2 a d) = X (512 * i + a.val) d.val
  h3 : ∀ (a : Fin 512) (f : Fin 704), x3 (ix3 0 a f) = G (512 * i + a.val) (704 * j + f.val)
  h4 : ∀ (a : Fin 512) (f : Fin 704), x4 (ix3 0 a f) = GC (512 * i + a.val) (704 * j + f.val)
  h5 : ∀ (a : Fin 16) (f : Fin 704), i < 7 → x5 (ix3 0 a f) = GC (512 * i + (512 + a.val)) (704 * j + f.val)
  h6 : ∀ (a : Fin 512) (f : Fin 704), x6 (ix3 0 a f) = UP (512 * i + a.val) (704 * j + f.val)
  h7 : ∀ (a : Fin 16) (f : Fin 704), i < 7 → x7 (ix3 0 a f) = UP (512 * i + (512 + a.val)) (704 * j + f.val)
  h8 : ∀ (f : Fin 704) (d : Fin 1024), x8 (ix3 0 f d) = WD (704 * j + f.val) d.val
  h9 : ∀ (k : Fin 3) (f : Fin 704), x9 (ix3 0 k f) = W k.val (704 * j + f.val)

variable {x0 : Vec Ideal S512x1024 .bf16} {x1 : Vec Ideal S16x1024 .bf16} {x2 : Vec Ideal S512x1024 .bf16}
    {x3 x4 : Vec Ideal S1x512x704 .bf16} {x5 : Vec Ideal S1x16x704 .bf16} {x6 : Vec Ideal S1x512x704 .bf16} {x7 : Vec Ideal S1x16x704 .bf16}
    {x8 : Vec Ideal S1x704x1024 .bf16} {x9 : Vec Ideal S1x3x704 .f32}

/-- The tile's activation gradient: the whole arrays' there, and zero in the rows past the last. -/
theorem dact_at (T : TileAt i j DH X G UP GC WD W x0 x1 x2 x3 x4 x5 x6 x7 x8 x9) (ig : grid0.Coords) (hig : (ig 1).val = i) (a : Fin 528) (f : Fin 704) :
    k0_pay8 (F := Ideal) ig x0 x1 x8 (ix2 a f) = dact DH WD (512 * i + a.val) (704 * j + f.val) := by
  rw [dact_tile, hig, dact]
  split
  · rename_i h
    exact Finset.sum_congr rfl fun d _ => by rw [T.h0, T.h8]
  · rename_i h
    split
    · rename_i h7
      rw [mul_one]
      refine Finset.sum_congr rfl fun d _ => ?_
      rw [T.h1 _ _ h7, T.h8]
      dsimp only
      rw [show 512 + (a.val - 512) = a.val by omega]
    · rename_i h7
      have := T.hi
      rw [mul_zero]
      exact (Finset.sum_eq_zero fun d _ => by rw [T.hz _ _ (by omega), zero_mul]).symm

theorem gc_tile (x4 : Vec Ideal S1x512x704 .bf16) (x5 : Vec Ideal S1x16x704 .bf16) (a : Fin 528) (f : Fin 704) :
    k0_pay9 (F := Ideal) x4 x5 (ix2 a f) = if h : a.val < 512 then x4 (ix3 0 ⟨a.val, h⟩ f) else x5 (ix3 0 ⟨a.val - 512, by omega⟩ f) := by
  pointwise [k0_pay9]

theorem up_tile (x6 : Vec Ideal S1x512x704 .bf16) (x7 : Vec Ideal S1x16x704 .bf16) (a : Fin 528) (f : Fin 704) :
    k0_pay12 (F := Ideal) x6 x7 (ix2 a f) = if h : a.val < 512 then x6 (ix3 0 ⟨a.val, h⟩ f) else x7 (ix3 0 ⟨a.val - 512, by omega⟩ f) := by
  pointwise [k0_pay12]

theorem gc_at (T : TileAt i j DH X G UP GC WD W x0 x1 x2 x3 x4 x5 x6 x7 x8 x9) (a : Fin 528) (f : Fin 704) (ha : a.val < 512 ∨ i < 7) :
    k0_pay9 (F := Ideal) x4 x5 (ix2 a f) = GC (512 * i + a.val) (704 * j + f.val) := by
  rw [gc_tile]
  split
  · rw [T.h4]
  · rename_i h
    rw [T.h5 _ _ (by omega)]
    dsimp only
    rw [show 512 + (a.val - 512) = a.val by omega]

theorem up_at (T : TileAt i j DH X G UP GC WD W x0 x1 x2 x3 x4 x5 x6 x7 x8 x9) (a : Fin 528) (f : Fin 704) (ha : a.val < 512 ∨ i < 7) :
    k0_pay12 (F := Ideal) x6 x7 (ix2 a f) = UP (512 * i + a.val) (704 * j + f.val) := by
  rw [up_tile]
  split
  · rw [T.h6]
  · rename_i h
    rw [T.h7 _ _ (by omega)]
    dsimp only
    rw [show 512 + (a.val - 512) = a.val by omega]

theorem sig_at (x4 : Vec Ideal S1x512x704 .bf16) (x5 : Vec Ideal S1x16x704 .bf16) (a : Fin 528) (f : Fin 704) :
    k0_pay10 (F := Ideal) x4 x5 (ix2 a f) = Ideal.logistic (k0_pay9 (F := Ideal) x4 x5 (ix2 a f)) := by
  unfold k0_pay10
  pointwise

theorem silu_at (x4 : Vec Ideal S1x512x704 .bf16) (x5 : Vec Ideal S1x16x704 .bf16) (a : Fin 528) (f : Fin 704) :
    k0_pay11 (F := Ideal) x4 x5 (ix2 a f) = k0_pay9 (F := Ideal) x4 x5 (ix2 a f) * Ideal.logistic (k0_pay9 (F := Ideal) x4 x5 (ix2 a f)) := by
  unfold k0_pay11
  pointwise [sig_at]

/-- The point's gradient of the convolved gate, as the body's chain of operations names it. -/
abbrev dgcT (ig : grid0.Coords) (x0 : Vec Ideal S512x1024 .bf16) (x1 : Vec Ideal S16x1024 .bf16) (x4 : Vec Ideal S1x512x704 .bf16) (x5 : Vec Ideal S1x16x704 .bf16)
    (x6 : Vec Ideal S1x512x704 .bf16) (x7 : Vec Ideal S1x16x704 .bf16) (x8 : Vec Ideal S1x704x1024 .bf16) : FVec Ideal S528x704 .f32 :=
  k0_pay16 (F := Ideal) (k0_pay8 ig x0 x1 x8) (k0_pay10 x4 x5) (k0_pay11 x4 x5) (k0_pay12 x6 x7)

theorem pay16_apply (v17 v24 v25 v31 : FVec Ideal S528x704 .f32) (a : Fin 528) (f : Fin 704) :
    k0_pay16 (F := Ideal) v17 v24 v25 v31 (ix2 a f)
      = v17 (ix2 a f) * v31 (ix2 a f) * (v24 (ix2 a f) + v25 (ix2 a f) * (1 - v24 (ix2 a f))) := by
  pointwise [k0_pay16]

theorem dgc_at (T : TileAt i j DH X G UP GC WD W x0 x1 x2 x3 x4 x5 x6 x7 x8 x9) (ig : grid0.Coords) (hig : (ig 1).val = i) (a : Fin 528) (f : Fin 704) :
    dgcT ig x0 x1 x4 x5 x6 x7 x8 (ix2 a f) = dgc DH WD UP GC (512 * i + a.val) (704 * j + f.val) := by
  rw [dgcT, pay16_apply, dact_at T ig hig]
  by_cases ha : a.val < 512 ∨ i < 7
  · rw [silu_at, sig_at, gc_at T a f ha, up_at T a f ha, dgc]
  · have := T.hi
    have hr : 4096 ≤ 512 * i + a.val := by omega
    rw [dgc_past _ _ _ _ T.hz _ _ hr, dact, Finset.sum_eq_zero fun d _ => by rw [T.hz _ _ hr, zero_mul], zero_mul, zero_mul]

theorem pay17_apply (v17 v24 v25 v31 : FVec Ideal S528x704 .f32) (a : Fin 512) (f : Fin 704) :
    k0_pay17 (F := Ideal) v17 v24 v25 v31 (ix2 (⟨a.val, by omega⟩ : Fin 528) f) = k0_pay16 (F := Ideal) v17 v24 v25 v31 (ix2 (⟨a.val + 1, by omega⟩ : Fin 528) f) := by
  unfold k0_pay17
  generalize k0_pay16 (F := Ideal) v17 v24 v25 v31 = M
  pointwise
  congr 3
  omega

theorem pay18_apply (v17 v24 v25 v31 : FVec Ideal S528x704 .f32) (a : Fin 512) (f : Fin 704) :
    k0_pay18 (F := Ideal) v17 v24 v25 v31 (ix2 (⟨a.val, by omega⟩ : Fin 528) f) = k0_pay16 (F := Ideal) v17 v24 v25 v31 (ix2 (⟨a.val + 2, by omega⟩ : Fin 528) f) := by
  unfold k0_pay18
  generalize k0_pay16 (F := Ideal) v17 v24 v25 v31 = M
  pointwise
  congr 3
  omega

/-- The first output's block: the gradient of the gate's product. -/
theorem dg_at (T : TileAt i j DH X G UP GC WD W x0 x1 x2 x3 x4 x5 x6 x7 x8 x9) (ig : grid0.Coords) (hig : (ig 1).val = i)
    (w2 w1 w0 : Vec Ideal S1x1x704 .f32) (h2 : ∀ f : Fin 704, w2 (ix3 0 0 f) = W 2 (704 * j + f.val)) (h1 : ∀ f : Fin 704, w1 (ix3 0 0 f) = W 1 (704 * j + f.val))
    (h0 : ∀ f : Fin 704, w0 (ix3 0 0 f) = W 0 (704 * j + f.val)) (a : Fin 512) (f : Fin 704) :
    k0_pay21 (F := Ideal) (k0_pay18 (k0_pay8 ig x0 x1 x8) (k0_pay10 x4 x5) (k0_pay11 x4 x5) (k0_pay12 x6 x7))
      (k0_pay19 (k0_pay8 ig x0 x1 x8) (k0_pay10 x4 x5) (k0_pay11 x4 x5) (k0_pay12 x6 x7) w2 w1) (k0_pay20 w0) (ix2 a f)
      = dg DH WD UP GC W (512 * i + a.val) (704 * j + f.val) := by
  unfold k0_pay21 k0_pay19 k0_pay20
  have e0 := dgc_at T ig hig ⟨a.val, by omega⟩ f
  have e1 := dgc_at T ig hig ⟨a.val + 1, by omega⟩ f
  have e2 := dgc_at T ig hig ⟨a.val + 2, by omega⟩ f
  rw [dgcT] at e0 e1 e2
  have p1 := pay17_apply (k0_pay8 (F := Ideal) ig x0 x1 x8) (k0_pay10 x4 x5) (k0_pay11 x4 x5) (k0_pay12 x6 x7) a f
  have p2 := pay18_apply (k0_pay8 (F := Ideal) ig x0 x1 x8) (k0_pay10 x4 x5) (k0_pay11 x4 x5) (k0_pay12 x6 x7) a f
  rw [e1] at p1
  rw [e2] at p2
  generalize k0_pay16 (F := Ideal) _ _ _ _ = M at e0 ⊢
  generalize k0_pay17 (F := Ideal) _ _ _ _ = M1 at p1 ⊢
  generalize k0_pay18 (F := Ideal) _ _ _ _ = M2 at p2 ⊢
  pointwise [e0, p1, p2, h2, h1, h0, dg]
  try rfl

/-- The second output's block: the gradient of the second product. -/
theorem dup_at (T : TileAt i j DH X G UP GC WD W x0 x1 x2 x3 x4 x5 x6 x7 x8 x9) (ig : grid0.Coords) (hig : (ig 1).val = i) (a : Fin 512) (f : Fin 704) :
    k0_pay14 (F := Ideal) (k0_pay8 ig x0 x1 x8) (k0_pay11 x4 x5) (ix2 a f) = dup DH WD GC (512 * i + a.val) (704 * j + f.val) := by
  have e0 := dact_at T ig hig ⟨a.val, by omega⟩ f
  have e1 := silu_at x4 x5 ⟨a.val, by omega⟩ f
  rw [gc_at T _ f (Or.inl a.isLt)] at e1
  unfold k0_pay14
  generalize k0_pay8 (F := Ideal) _ _ _ _ = M at e0 ⊢
  generalize k0_pay11 (F := Ideal) _ _ = N at e1 ⊢
  pointwise [e0, e1, dup]

/-- The gated activation of the tile's own rows. -/
theorem act_at (T : TileAt i j DH X G UP GC WD W x0 x1 x2 x3 x4 x5 x6 x7 x8 x9) (a : Fin 512) (f : Fin 704) :
    k0_pay11 (F := Ideal) x4 x5 (ix2 (⟨a.val, by omega⟩ : Fin 528) f) * k0_pay12 (F := Ideal) x6 x7 (ix2 (⟨a.val, by omega⟩ : Fin 528) f)
      = act UP GC (512 * i + a.val) (704 * j + f.val) := by
  rw [silu_at, gc_at T _ f (Or.inl a.isLt), up_at T _ f (Or.inl a.isLt), act]

/-! What a point adds to each of the five running sums. -/

theorem add_dwd (T : TileAt i j DH X G UP GC WD W x0 x1 x2 x3 x4 x5 x6 x7 x8 x9) (acc : Vec Ideal S1x704x1024 .f32) (f : Fin 704) (d : Fin 1024) :
    k0_pay13 (F := Ideal) (k0_pay7 x0) (k0_pay11 x4 x5) (k0_pay12 x6 x7) acc (ix3 0 f d)
      = acc (ix3 0 f d) + ∑ a : Fin 512, act UP GC (512 * i + a.val) (704 * j + f.val) * DH (512 * i + a.val) d.val := by
  have e := fun a => act_at T a f
  have e0 := T.h0
  unfold k0_pay13
  generalize k0_pay11 (F := Ideal) _ _ = M at e ⊢
  generalize k0_pay12 (F := Ideal) _ _ = N at e ⊢
  pointwise [e, k0_pay7, e0]

theorem pay24_apply (v55 v64 v67 : FVec Ideal S528x704 .f32) (x2 : Vec Ideal S512x1024 .bf16) (acc : Vec Ideal S1x704x1024 .f32) (f : Fin 704) (d : Fin 1024) :
    k0_pay24 (F := Ideal) v55 v64 v67 x2 acc (ix3 0 f d) = acc (ix3 0 f d) + ∑ a : Fin 512, k0_pay21 (F := Ideal) v55 v64 v67 (ix2 a f) * x2 (ix2 a d) := by
  unfold k0_pay24
  generalize k0_pay21 (F := Ideal) _ _ _ = M
  pointwise [k0_pay23]

theorem pay25_apply (v44 : FVec Ideal S512x704 .bf16) (x2 : Vec Ideal S512x1024 .bf16) (acc : Vec Ideal S1x704x1024 .f32) (f : Fin 704) (d : Fin 1024) :
    k0_pay25 (F := Ideal) v44 x2 acc (ix3 0 f d) = acc (ix3 0 f d) + ∑ a : Fin 512, v44 (ix2 a f) * x2 (ix2 a d) := by
  pointwise [k0_pay25, k0_pay23]

theorem pay29_apply (v94 : Vec Ideal S1x1x704 .f32) (v53 : FVec Ideal S528x704 .f32) (f : Fin 704) :
    k0_pay29 (F := Ideal) (k0_pay27 v94) (k0_pay28 v53) (ix3 0 0 f) = v94 (ix3 0 0 f) + ∑ a : Fin 512, v53 (ix2 (⟨a.val, by omega⟩ : Fin 528) f) := by
  pointwise [k0_pay29, k0_pay28, k0_pay27]

theorem pay30_apply (v53 : FVec Ideal S528x704 .f32) (v91 : Vec Ideal S1x512x704 .bf16) (acc : Vec Ideal S1x1x704 .f32) (f : Fin 704) :
    k0_pay30 (F := Ideal) v53 (k0_pay26 v91) acc (ix3 0 0 f) = acc (ix3 0 0 f) + ∑ a : Fin 512, v53 (ix2 (⟨a.val, by omega⟩ : Fin 528) f) * v91 (ix3 0 a f) := by
  pointwise [k0_pay30, k0_pay26]

theorem pay31_apply (v53 : FVec Ideal S528x704 .f32) (v91 : Vec Ideal S1x512x704 .bf16) (acc : Vec Ideal S1x1x704 .f32) (f : Fin 704) :
    k0_pay31 (F := Ideal) v53 (k0_pay26 v91) acc (ix3 0 0 f) = acc (ix3 0 0 f) + ∑ a : Fin 512, v53 (ix2 (⟨a.val, by omega⟩ : Fin 528) f) * v91 (ix3 0 a f) := by
  pointwise [k0_pay31, k0_pay26]

theorem pay32_apply (v53 : FVec Ideal S528x704 .f32) (v91 : Vec Ideal S1x512x704 .bf16) (acc : Vec Ideal S1x1x704 .f32) (f : Fin 704) :
    k0_pay1 (F := Ideal) (k0_pay32 v53 (k0_pay26 v91) acc) (ix3 0 0 f) = acc (ix3 0 0 f) + ∑ a : Fin 512, v53 (ix2 (⟨a.val, by omega⟩ : Fin 528) f) * v91 (ix3 0 a f) := by
  pointwise [k0_pay1, k0_pay32, k0_pay26]

end Cert.KernelIdeal.Bwd

end
-- ==== Proof.FfnMath.lean ====
module

public import proofs.«01_k».proof.Proof.BwdPay

@[expose] public section

set_option maxRecDepth 16384

noncomputable section

namespace Cert.FfnGrad

open Idealize.ShloMosaic Idealize.ShloMosaic.TcCoe

/-- An array of two axes as a function of natural numbers, zero outside. -/
def at2 {n k : ℕ} (x : Shape.Idx ⟨2, ![n, k]⟩ → EReal) (r c : ℕ) : EReal :=
  if h : r < n ∧ c < k then x (ix2 ⟨r, h.1⟩ ⟨c, h.2⟩) else 0

theorem at2_mk {n k : ℕ} (x : Shape.Idx ⟨2, ![n, k]⟩ → EReal) (r : Fin n) (c : Fin k) : at2 x r.val c.val = x (ix2 r c) :=
  dif_pos ⟨r.isLt, c.isLt⟩

theorem at2_of {n k : ℕ} (x : Shape.Idx ⟨2, ![n, k]⟩ → EReal) (r c : ℕ) (hr : r < n) (hc : c < k) : at2 x r c = x (ix2 ⟨r, hr⟩ ⟨c, hc⟩) :=
  dif_pos ⟨hr, hc⟩

theorem at2_past {n k : ℕ} (x : Shape.Idx ⟨2, ![n, k]⟩ → EReal) (r c : ℕ) (hr : n ≤ r) : at2 x r c = 0 :=
  dif_neg fun h => absurd h.1 (Nat.not_lt.mpr hr)

/-- A value that is neither infinity. -/
def Fin' (a : EReal) : Prop := ∃ r : ℝ, a = r

theorem Fin'.mul {a b : EReal} (ha : Fin' a) (hb : Fin' b) : Fin' (a * b) := by
  obtain ⟨r, rfl⟩ := ha
  obtain ⟨s, rfl⟩ := hb
  exact ⟨r * s, by push_cast; rfl⟩

theorem Fin'.add {a b : EReal} (ha : Fin' a) (hb : Fin' b) : Fin' (a + b) := by
  obtain ⟨r, rfl⟩ := ha
  obtain ⟨s, rfl⟩ := hb
  exact ⟨r + s, by push_cast; rfl⟩

theorem Fin'.sum {ι : Type} (s : Finset ι) (f : ι → EReal) (h : ∀ i, Fin' (f i)) : Fin' (∑ i ∈ s, f i) := by
  classical
  induction s using Finset.induction_on with
  | empty => exact ⟨0, by simp⟩
  | insert a s ha ih => rw [Finset.sum_insert ha]; exact (h a).add ih

theorem Fin'.of_abs_lt {a : EReal} (h : max a (-a) < ⊤) : Fin' a := by
  induction a with
  | bot => simp at h
  | top => simp at h
  | coe r => exact ⟨r, rfl⟩

theorem logistic_finite (z : EReal) : Fin' (Ideal.logistic z) := by
  unfold Ideal.logistic Ideal.div
  induction z with
  | bot =>
    have e : Ideal.exp (-⊥) = ⊤ := by rw [EReal.neg_bot]; rfl
    exact ⟨0, by rw [e, show (1 : EReal) + ⊤ = ⊤ from EReal.coe_add_top 1]; simp⟩
  | top =>
    have e : Ideal.exp (-⊤) = 0 := by rw [EReal.neg_top]; rfl
    exact ⟨1, by rw [e]; simp⟩
  | coe r =>
    have e : Ideal.exp (-(r : EReal)) = (Real.exp (-r) : ℝ) := by
      rw [← EReal.coe_neg]
      rfl
    rw [e]
    have hp : (1 : ℝ) + Real.exp (-r) ≠ 0 := by positivity
    have h1 : (1 : EReal) + (Real.exp (-r) : ℝ) = ((1 + Real.exp (-r) : ℝ) : EReal) := by push_cast; rfl
    rw [h1, if_neg (by exact_mod_cast hp)]
    exact ⟨(1 + Real.exp (-r))⁻¹, by rw [one_mul, ← EReal.coe_inv]⟩

/-- A finite factor goes into a sum one of whose terms is finite. -/
theorem mul_add_of_finite {t a : EReal} (ht : Fin' t) (ha : Fin' a) (b : EReal) : t * (a + b) = t * a + t * b := by
  obtain ⟨t, rfl⟩ := ht
  obtain ⟨a, rfl⟩ := ha
  induction b with
  | bot =>
    rw [EReal.add_bot]
    rcases lt_trichotomy t 0 with h | h | h
    · rw [EReal.coe_mul_bot_of_neg h, ← EReal.coe_mul, EReal.coe_add_top]
    · subst h; simp
    · rw [EReal.coe_mul_bot_of_pos h, EReal.add_bot]
  | top =>
    rw [EReal.coe_add_top]
    rcases lt_trichotomy t 0 with h | h | h
    · rw [EReal.coe_mul_top_of_neg h, EReal.add_bot]
    · subst h; simp
    · rw [EReal.coe_mul_top_of_pos h, ← EReal.coe_mul, EReal.coe_add_top]
  | coe b =>
    norm_cast
    ring

/-- The derivative of `z · logistic z` as it comes out of differentiating the product, from the kernel's factored one. -/
theorem silu_grad (t z s : EReal) (ht : Fin' t) (hs : Fin' s) :
    t * (s + z * s * (1 - s)) = t * s + z * t * (s * (1 - s)) := by
  rw [mul_add_of_finite ht hs]
  congr 1
  rw [mul_assoc z s, mul_left_comm t z, mul_assoc z t]

/-- A sum against a sequence moved `k` places later is the sum of the sequence against the other moved `k` places
    earlier, the other being zero from `n` on. -/
theorem sum_shift (n k : ℕ) (g h : ℕ → EReal) (hh : ∀ r, n ≤ r → h r = 0) :
    ∑ r : Fin n, (if k ≤ r.val then g (r.val - k) else 0) * h r.val = ∑ r : Fin n, h (r.val + k) * g r.val := by
  rw [Fin.sum_univ_eq_sum_range (fun r => (if k ≤ r then g (r - k) else 0) * h r), Fin.sum_univ_eq_sum_range (fun r => h (r + k) * g r)]
  have e1 : ∑ r ∈ Finset.range (n + k), (if k ≤ r then g (r - k) else 0) * h r = ∑ r ∈ Finset.range n, (if k ≤ r then g (r - k) else 0) * h r := by
    rw [Finset.sum_range_add]
    rw [Finset.sum_eq_zero (s := Finset.range k) fun x _ => by rw [hh _ (by omega), mul_zero], add_zero]
  have e2 : ∑ r ∈ Finset.range (k + n), (if k ≤ r then g (r - k) else 0) * h r = ∑ r ∈ Finset.range n, h (r + k) * g r := by
    rw [Finset.sum_range_add]
    rw [Finset.sum_eq_zero (s := Finset.range k) fun x hx => by rw [if_neg (by have := Finset.mem_range.mp hx; omega), zero_mul], zero_add]
    refine Finset.sum_congr rfl fun x _ => ?_
    rw [if_pos (by omega), Nat.add_sub_cancel_left, mul_comm, Nat.add_comm k x]
  rw [← e1, Nat.add_comm n k, e2]

end Cert.FfnGrad

end
-- ==== Proof.FfnRef.lean ====
module

public import proofs.«01_k».proof.Proof.FfnMath
public import proofs.«01_k».proof.Proof.Gen.ReferenceIdeal.Read

@[expose] public section

set_option maxRecDepth 16384

noncomputable section

namespace Cert.ReferenceIdeal.Bwd

open Cert.ReferenceIdeal Cert.ReferenceIdeal.Gen Cert.ReferenceIdeal.Read Cert.FfnGrad Idealize.ShloMosaic Idealize.ShloMosaic.TcCoe Idealize.SL.Sem

variable (x0 : FVec Ideal S4096x1024 .f32) (x1 x2 : FVec Ideal S1024x2816 .f32) (x3 : FVec Ideal S3x2816 .f32)
  (x4 : FVec Ideal S2816 .f32) (x5 : FVec Ideal S2816x1024 .f32) (x6 : FVec Ideal S4096x1024 .f32)

/-- The gate's product, its convolution and the other product. -/
abbrev gA : ℕ → ℕ → EReal := at2 (n := 4096) (k := 2816) (val_main_v0 (F := Ideal) x0 x1)
abbrev gcA : ℕ → ℕ → EReal := at2 (n := 4096) (k := 2816) (val_main_v27 (F := Ideal) x0 x1 x3 x4)
abbrev upA : ℕ → ℕ → EReal := at2 (n := 4096) (k := 2816) (val_main_v1 (F := Ideal) x0 x2)

theorem v33_at (r : Fin 4096) (c : Fin 2816) :
    val_main_v33 (F := Ideal) x5 x6 (ix2 r c) = dact (at2 x6) (at2 x5) r.val c.val := by
  unfold dact
  simp only [at2_mk]
  pointwise [val_main_v33]

theorem v28_2_at (r : Fin 4096) (c : Fin 2816) :
    val_main_v28_2 (F := Ideal) x0 x1 x3 x4 (ix2 r c) = Ideal.logistic (gcA x0 x1 x3 x4 r.val c.val) := by
  unfold gcA
  rw [at2_mk]
  unfold val_main_v28_2 val_main_call0_v3 val_main_call0_v1 val_main_call0_v0
  generalize val_main_v27 (F := Ideal) x0 x1 x3 x4 = M
  pointwise [val_main_call0_v4, val_main_call0_v2, val_main_call0_cst, val_main_call0_cst_0, Ideal.logistic]

theorem v28_0_at (r : Fin 4096) (c : Fin 2816) :
    val_main_v28_0 (F := Ideal) x0 x1 x3 x4 (ix2 r c) = gcA x0 x1 x3 x4 r.val c.val * Ideal.logistic (gcA x0 x1 x3 x4 r.val c.val) := by
  rw [← v28_2_at, gcA, at2_mk]
  rfl

theorem v28_1_at (r : Fin 4096) (c : Fin 2816) :
    val_main_v28_1 (F := Ideal) x0 x1 x3 x4 (ix2 r c)
      = Ideal.logistic (gcA x0 x1 x3 x4 r.val c.val) * (1 - Ideal.logistic (gcA x0 x1 x3 x4 r.val c.val)) := by
  rw [← v28_2_at]
  unfold val_main_v28_1 val_main_call0_v7
  generalize val_main_v28_2 (F := Ideal) x0 x1 x3 x4 = M
  pointwise [val_main_call0_v6, val_main_call0_cst_1]

/-- The gradient's and the second product's factors are finite numbers. -/
structure Ok : Prop where
  h0 : ∀ i, Fin' (x0 i)
  h2 : ∀ i, Fin' (x2 i)
  h5 : ∀ i, Fin' (x5 i)
  h6 : ∀ i, Fin' (x6 i)

theorem up_finite (H : Ok x0 x2 x5 x6) (r : Fin 4096) (c : Fin 2816) : Fin' (val_main_v1 (F := Ideal) x0 x2 (ix2 r c)) := by
  rw [val_main_v1_apply]
  exact Fin'.sum _ _ fun k => (H.h0 _).mul (H.h2 _)

theorem dact_finite (H : Ok x0 x2 x5 x6) (r : Fin 4096) (c : Fin 2816) : Fin' (val_main_v33 (F := Ideal) x5 x6 (ix2 r c)) := by
  rw [val_main_v33_apply]
  exact Fin'.sum _ _ fun k => (H.h6 _).mul (H.h5 _)

theorem v36_at (H : Ok x0 x2 x5 x6) (r : Fin 4096) (c : Fin 2816) :
    val_main_v36 (F := Ideal) x0 x1 x2 x3 x4 x5 x6 (ix2 r c)
      = dgc (at2 x6) (at2 x5) (upA x0 x2) (gcA x0 x1 x3 x4) r.val c.val := by
  have e1 : val_main_v36 (F := Ideal) x0 x1 x2 x3 x4 x5 x6 (ix2 r c)
      = val_main_v33 (F := Ideal) x5 x6 (ix2 r c) * val_main_v1 (F := Ideal) x0 x2 (ix2 r c) * val_main_v28_2 (F := Ideal) x0 x1 x3 x4 (ix2 r c)
        + val_main_v27 (F := Ideal) x0 x1 x3 x4 (ix2 r c) * (val_main_v33 (F := Ideal) x5 x6 (ix2 r c) * val_main_v1 (F := Ideal) x0 x2 (ix2 r c))
          * val_main_v28_1 (F := Ideal) x0 x1 x3 x4 (ix2 r c) := rfl
  have ht := (dact_finite x0 x2 x5 x6 H r c).mul (up_finite x0 x2 x5 x6 H r c)
  rw [e1, v28_1_at, v28_2_at, ← at2_mk (val_main_v27 (F := Ideal) x0 x1 x3 x4) r c, ← silu_grad _ _ _ ht (logistic_finite _), v33_at,
    ← at2_mk (val_main_v1 (F := Ideal) x0 x2) r c, dgc]

theorem v34_at (r : Fin 4096) (c : Fin 2816) :
    val_main_v34 (F := Ideal) x0 x1 x3 x4 x5 x6 (ix2 r c) = dup (at2 x6) (at2 x5) (gcA x0 x1 x3 x4) r.val c.val := by
  rw [dup, mul_comm, ← v28_0_at, ← v33_at]
  rfl

theorem v29_at (r : Fin 4096) (c : Fin 2816) :
    val_main_v29 (F := Ideal) x0 x1 x2 x3 x4 (ix2 r c) = act (upA x0 x2) (gcA x0 x1 x3 x4) r.val c.val := by
  rw [act, ← v28_0_at, upA, at2_mk]
  rfl

theorem v3_at (r : Fin 4098) (c : Fin 2816) :
    val_main_v3 (F := Ideal) x0 x1 (ix2 r c) = if 2 ≤ r.val then gA x0 x1 (r.val - 2) c.val else 0 := by
  unfold gA val_main_v3
  generalize val_main_v0 (F := Ideal) x0 x1 = M
  pointwise [val_main_v2, val_main_cst]
  split
  · exact (if_neg (by omega)).symm
  · exact ((if_pos (by omega)).trans (at2_of _ _ _ (by omega) c.isLt)).symm

/-- A row of taps, spread over the rows. -/
theorem v43_at (r : Fin 4096) (c : Fin 2816) : val_main_v43 (F := Ideal) x3 (ix2 r c) = at2 x3 2 c.val := by
  rw [at2_of _ _ _ (by omega) c.isLt]
  pointwise [val_main_v43, val_main_v21, val_main_v20, val_main_v19]

theorem v52_at (r : Fin 4096) (c : Fin 2816) : val_main_v52 (F := Ideal) x3 (ix2 r c) = at2 x3 1 c.val := by
  rw [at2_of _ _ _ (by omega) c.isLt]
  pointwise [val_main_v52, val_main_v14, val_main_v13, val_main_v12]

theorem v63_at (r : Fin 4096) (c : Fin 2816) : val_main_v63 (F := Ideal) x3 (ix2 r c) = at2 x3 0 c.val := by
  rw [at2_of _ _ _ (by omega) c.isLt]
  pointwise [val_main_v63, val_main_v8, val_main_v7, val_main_v6]

theorem v72_at (H : Ok x0 x2 x5 x6) (r : Fin 4096) (c : Fin 2816) :
    val_main_v72 (F := Ideal) x0 x1 x2 x3 x4 x5 x6 (ix2 r c)
      = dg (at2 x6) (at2 x5) (upA x0 x2) (gcA x0 x1 x3 x4) (at2 x3) r.val c.val := by
  have z := dgc_past (at2 x6) (at2 x5) (upA x0 x2) (gcA x0 x1 x3 x4) fun r d h => at2_past _ _ _ h
  have e0 := fun r c => v36_at x0 x1 x2 x3 x4 x5 x6 H r c
  have w2 := v43_at x3
  have w1 := v52_at x3
  have w0 := v63_at x3
  unfold val_main_v72 val_main_v70 val_main_v69 val_main_v59 val_main_v48 val_main_v58 val_main_v44 val_main_v53 val_main_v64
  generalize val_main_v36 (F := Ideal) x0 x1 x2 x3 x4 x5 x6 = M at e0 ⊢
  generalize val_main_v43 (F := Ideal) x3 = N2 at w2 ⊢
  generalize val_main_v52 (F := Ideal) x3 = N1 at w1 ⊢
  generalize val_main_v63 (F := Ideal) x3 = N0 at w0 ⊢
  pointwise [e0, w2, w1, w0, val_main_cst_6, val_main_cst_10, val_main_cst_14, dg]
  rw [mul_comm (at2 x3 2 _), mul_comm (at2 x3 1 _), mul_comm (at2 x3 0 _)]
  congr 1
  · congr 1
    split
    · rw [show 2 + r.val - 1 = r.val + 1 by omega]
    · rw [z _ _ (by omega), zero_mul]
  · split
    · rw [show 2 + r.val = r.val + 2 by omega]
    · rw [z _ _ (by omega), zero_mul]

/-! The seven results at an index. -/

theorem col_lt (j : Fin 4) (f : Fin 704) : 704 * j.val + f.val < 2816 := by omega

theorem v81_at (H : Ok x0 x2 x5 x6) (j : Fin 4) (r : Fin 4096) (f : Fin 704) :
    val_main_v81 (F := Ideal) x0 x1 x2 x3 x4 x5 x6 (ix3 j r f)
      = dg (at2 x6) (at2 x5) (upA x0 x2) (gcA x0 x1 x3 x4) (at2 x3) r.val (704 * j.val + f.val) := by
  refine Eq.trans ?_ (v72_at x0 x1 x2 x3 x4 x5 x6 H r ⟨704 * j.val + f.val, col_lt j f⟩)
  unfold val_main_v81 val_main_v80 val_main_v79
  generalize val_main_v72 (F := Ideal) x0 x1 x2 x3 x4 x5 x6 = M
  pointwise
  simp only [Nat.mul_comm j.val 704]

theorem v84_at (j : Fin 4) (r : Fin 4096) (f : Fin 704) :
    val_main_v84 (F := Ideal) x0 x1 x3 x4 x5 x6 (ix3 j r f) = dup (at2 x6) (at2 x5) (gcA x0 x1 x3 x4) r.val (704 * j.val + f.val) := by
  refine Eq.trans ?_ (v34_at x0 x1 x3 x4 x5 x6 r ⟨704 * j.val + f.val, col_lt j f⟩)
  unfold val_main_v84 val_main_v83 val_main_v82
  generalize val_main_v34 (F := Ideal) x0 x1 x3 x4 x5 x6 = M
  pointwise
  simp only [Nat.mul_comm j.val 704]

theorem v87_at (H : Ok x0 x2 x5 x6) (j : Fin 4) (f : Fin 704) (d : Fin 1024) :
    val_main_v87 (F := Ideal) x0 x1 x2 x3 x4 x5 x6 (ix3 j f d)
      = ∑ r : Fin 4096, dg (at2 x6) (at2 x5) (upA x0 x2) (gcA x0 x1 x3 x4) (at2 x3) r.val (704 * j.val + f.val) * at2 x0 r.val d.val := by
  have e := fun r => v72_at x0 x1 x2 x3 x4 x5 x6 H r ⟨704 * j.val + f.val, col_lt j f⟩
  dsimp only at e
  simp only [← e, at2_mk]
  unfold val_main_v87 val_main_v86 val_main_v85 val_main_v74 val_main_v73
  generalize val_main_v72 (F := Ideal) x0 x1 x2 x3 x4 x5 x6 = M
  pointwise
  simp only [Nat.mul_comm j.val 704]

theorem v90_at (j : Fin 4) (f : Fin 704) (d : Fin 1024) :
    val_main_v90 (F := Ideal) x0 x1 x3 x4 x5 x6 (ix3 j f d)
      = ∑ r : Fin 4096, dup (at2 x6) (at2 x5) (gcA x0 x1 x3 x4) r.val (704 * j.val + f.val) * at2 x0 r.val d.val := by
  have e := fun r => v34_at x0 x1 x3 x4 x5 x6 r ⟨704 * j.val + f.val, col_lt j f⟩
  dsimp only at e
  simp only [← e, at2_mk]
  unfold val_main_v90 val_main_v89 val_main_v88 val_main_v77 val_main_v76
  generalize val_main_v34 (F := Ideal) x0 x1 x3 x4 x5 x6 = M
  pointwise
  simp only [Nat.mul_comm j.val 704]

theorem v91_at (j : Fin 4) (f : Fin 704) (d : Fin 1024) :
    val_main_v91 (F := Ideal) x0 x1 x2 x3 x4 x6 (ix3 j f d)
      = ∑ r : Fin 4096, act (upA x0 x2) (gcA x0 x1 x3 x4) r.val (704 * j.val + f.val) * at2 x6 r.val d.val := by
  have e := fun r => v29_at x0 x1 x2 x3 x4 r ⟨704 * j.val + f.val, col_lt j f⟩
  dsimp only at e
  simp only [← e, at2_mk]
  unfold val_main_v91 val_main_v32 val_main_v31
  generalize val_main_v29 (F := Ideal) x0 x1 x2 x3 x4 = M
  pointwise
  simp only [Nat.mul_comm j.val 704]
  exact Finset.sum_congr rfl fun _ _ => mul_comm _ _

theorem v39_at (H : Ok x0 x2 x5 x6) (c : Fin 2816) :
    val_main_v39 (F := Ideal) x0 x1 x2 x3 x4 x5 x6 (ix1 c)
      = ∑ r : Fin 4096, dgc (at2 x6) (at2 x5) (upA x0 x2) (gcA x0 x1 x3 x4) r.val c.val := by
  simp only [← v36_at x0 x1 x2 x3 x4 x5 x6 H]
  unfold val_main_v39 val_main_v38 val_main_v37
  generalize val_main_v36 (F := Ideal) x0 x1 x2 x3 x4 x5 x6 = M
  pointwise [val_main_cst_1, val_main_cst_2]
  rw [Fin.sum_univ_one]

theorem v45_at (H : Ok x0 x2 x5 x6) (c : Fin 2816) :
    val_main_v45 (F := Ideal) x0 x1 x2 x3 x4 x5 x6 (ix1 c)
      = ∑ r : Fin 4096, dgc (at2 x6) (at2 x5) (upA x0 x2) (gcA x0 x1 x3 x4) (r.val + 0) c.val * gA x0 x1 r.val c.val := by
  rw [← sum_shift 4096 0 (fun r => gA x0 x1 r c.val) (fun r => dgc (at2 x6) (at2 x5) (upA x0 x2) (gcA x0 x1 x3 x4) r c.val)
    fun r h => dgc_past _ _ _ _ (fun r d h => at2_past _ _ _ h) _ _ h]
  have e := v3_at x0 x1
  simp only [← v36_at x0 x1 x2 x3 x4 x5 x6 H]
  unfold val_main_v45 val_main_v42 val_main_v41 val_main_v40 val_main_v18
  generalize val_main_v36 (F := Ideal) x0 x1 x2 x3 x4 x5 x6 = M
  generalize val_main_v3 (F := Ideal) x0 x1 = N at e ⊢
  pointwise [val_main_cst_3, val_main_cst_4, e]
  rw [Fin.sum_univ_one]

theorem v54_at (H : Ok x0 x2 x5 x6) (c : Fin 2816) :
    val_main_v54 (F := Ideal) x0 x1 x2 x3 x4 x5 x6 (ix1 c)
      = ∑ r : Fin 4096, dgc (at2 x6) (at2 x5) (upA x0 x2) (gcA x0 x1 x3 x4) (r.val + 1) c.val * gA x0 x1 r.val c.val := by
  rw [← sum_shift 4096 1 (fun r => gA x0 x1 r c.val) (fun r => dgc (at2 x6) (at2 x5) (upA x0 x2) (gcA x0 x1 x3 x4) r c.val)
    fun r h => dgc_past _ _ _ _ (fun r d h => at2_past _ _ _ h) _ _ h]
  have e := v3_at x0 x1
  simp only [← v36_at x0 x1 x2 x3 x4 x5 x6 H]
  unfold val_main_v54 val_main_v51 val_main_v50 val_main_v49 val_main_v11
  generalize val_main_v36 (F := Ideal) x0 x1 x2 x3 x4 x5 x6 = M
  generalize val_main_v3 (F := Ideal) x0 x1 = N at e ⊢
  refine Eq.trans (b := ∑ r : Fin 4096, N (ix2 (⟨1 + r.val, by omega⟩ : Fin 4098) c) * M (ix2 r c)) ?_ ?_
  · pointwise [val_main_cst_7, val_main_cst_8]
    rw [Fin.sum_univ_one]
  · refine Finset.sum_congr rfl fun r _ => ?_
    rw [e]
    congr 1
    dsimp only
    by_cases h : 1 ≤ r.val
    · rw [if_pos h, if_pos (by omega), show 1 + r.val - 2 = r.val - 1 by omega]
    · rw [if_neg h, if_neg (by omega)]

theorem v65_at (H : Ok x0 x2 x5 x6) (c : Fin 2816) :
    val_main_v65 (F := Ideal) x0 x1 x2 x3 x4 x5 x6 (ix1 c)
      = ∑ r : Fin 4096, dgc (at2 x6) (at2 x5) (upA x0 x2) (gcA x0 x1 x3 x4) (r.val + 2) c.val * gA x0 x1 r.val c.val := by
  rw [← sum_shift 4096 2 (fun r => gA x0 x1 r c.val) (fun r => dgc (at2 x6) (at2 x5) (upA x0 x2) (gcA x0 x1 x3 x4) r c.val)
    fun r h => dgc_past _ _ _ _ (fun r d h => at2_past _ _ _ h) _ _ h]
  have e := v3_at x0 x1
  simp only [← v36_at x0 x1 x2 x3 x4 x5 x6 H]
  unfold val_main_v65 val_main_v62 val_main_v61 val_main_v60 val_main_v5
  generalize val_main_v36 (F := Ideal) x0 x1 x2 x3 x4 x5 x6 = M
  generalize val_main_v3 (F := Ideal) x0 x1 = N at e ⊢
  refine Eq.trans (b := ∑ r : Fin 4096, N (ix2 (⟨r.val, by omega⟩ : Fin 4098) c) * M (ix2 r c)) ?_ ?_
  · pointwise [val_main_cst_11, val_main_cst_12]
    rw [Fin.sum_univ_one]
  · refine Finset.sum_congr rfl fun r _ => ?_
    rw [e]

theorem v94_at (H : Ok x0 x2 x5 x6) (j : Fin 4) (f : Fin 704) :
    val_main_v94 (F := Ideal) x0 x1 x2 x3 x4 x5 x6 (ix3 j 0 f)
      = ∑ r : Fin 4096, dgc (at2 x6) (at2 x5) (upA x0 x2) (gcA x0 x1 x3 x4) r.val (704 * j.val + f.val) := by
  refine Eq.trans ?_ (v39_at x0 x1 x2 x3 x4 x5 x6 H ⟨704 * j.val + f.val, col_lt j f⟩)
  unfold val_main_v94
  generalize val_main_v39 (F := Ideal) x0 x1 x2 x3 x4 x5 x6 = M
  pointwise
  simp only [Nat.mul_comm j.val 704]

theorem v93_at (H : Ok x0 x2 x5 x6) (j : Fin 4) (k : Fin 3) (f : Fin 704) :
    val_main_v93 (F := Ideal) x0 x1 x2 x3 x4 x5 x6 (ix3 j k f)
      = ∑ r : Fin 4096, dgc (at2 x6) (at2 x5) (upA x0 x2) (gcA x0 x1 x3 x4) (r.val + (2 - k.val)) (704 * j.val + f.val)
          * gA x0 x1 r.val (704 * j.val + f.val) := by
  have e2 := v45_at x0 x1 x2 x3 x4 x5 x6 H ⟨704 * j.val + f.val, col_lt j f⟩
  have e1 := v54_at x0 x1 x2 x3 x4 x5 x6 H ⟨704 * j.val + f.val, col_lt j f⟩
  have e0 := v65_at x0 x1 x2 x3 x4 x5 x6 H ⟨704 * j.val + f.val, col_lt j f⟩
  unfold val_main_v93 val_main_v92 val_main_v68 val_main_v57 val_main_v47 val_main_v56 val_main_v67 val_main_v46 val_main_v55 val_main_v66
  generalize val_main_v45 (F := Ideal) x0 x1 x2 x3 x4 x5 x6 = M2 at e2 ⊢
  generalize val_main_v54 (F := Ideal) x0 x1 x2 x3 x4 x5 x6 = M1 at e1 ⊢
  generalize val_main_v65 (F := Ideal) x0 x1 x2 x3 x4 x5 x6 = M0 at e0 ⊢
  pointwise [val_main_cst_5, val_main_cst_9, val_main_cst_13]
  simp only [Nat.mul_comm j.val 704]
  have hc := col_lt j f
  dsimp only at e0 e1 e2
  split_ifs with h2 h1 h0 h0 h1 h0 h0
  · exfalso; clear e0 e1 e2; omega
  · exfalso; clear e0 e1 e2; omega
  · exfalso; clear e0 e1 e2; omega
  · rw [add_zero, add_zero, e2, show k.val = 2 by omega]
  · exfalso; clear e0 e1 e2; omega
  · rw [add_zero, zero_add, e1, show k.val = 1 by omega]
  · rw [zero_add, zero_add, e0, show k.val = 0 by omega]
  · exfalso; clear e0 e1 e2; omega

end Cert.ReferenceIdeal.Bwd

end
-- ==== Proof.BwdArgs.lean ====
module

public import proofs.«01_k».proof.Proof.FfnRef
public import proofs.«01_k».proof.Proof.Gen.KernelIdeal.Value

@[expose] public section

set_option maxRecDepth 16384

noncomputable section

namespace Cert.KernelIdeal.Bwd

open Cert.KernelIdeal Cert.KernelIdeal.Gen Cert.FfnGrad Idealize.ShloMosaic Idealize.ShloMosaic.TcCoe Idealize.SL.Sem
open Cert.ReferenceIdeal.Read (val_main_v0 val_main_v1 val_main_v27)

variable (m : (ℓ : Loc nD τ sig) → Buf (Elt Ideal) ℓ) (c : Dev nD)

/-! The arguments of @main on device `c`. -/
abbrev a0 : FVec Ideal S4096x1024 .f32 := m ((c.tc : Thread nD τ).loc main_arg0)
abbrev a1 : FVec Ideal S1024x2816 .f32 := m ((c.tc : Thread nD τ).loc main_arg1)
abbrev a2 : FVec Ideal S1024x2816 .f32 := m ((c.tc : Thread nD τ).loc main_arg2)
abbrev a3 : FVec Ideal S3x2816 .f32 := m ((c.tc : Thread nD τ).loc main_arg3)
abbrev a4 : FVec Ideal S2816 .f32 := m ((c.tc : Thread nD τ).loc main_arg4)
abbrev a5 : FVec Ideal S2816x1024 .f32 := m ((c.tc : Thread nD τ).loc main_arg5)
abbrev a6 : FVec Ideal S4096x1024 .f32 := m ((c.tc : Thread nD τ).loc main_arg6)

/-- The same columns cut into four blocks of 704, block by block. -/
def lay (x : FVec Ideal S4096x2816 .f32) : FVec Ideal S4x4096x704 .bf16 :=
  truncf .bf16 (transpose S4x4096x704 [1, 0, 2] (shapeCast S4096x4x704 x shapeCasts_S4096x2816_S4096x4x704) transposes_S4096x4x704_S4x4096x704_1_0_2) bitsLt_bf16_f32

theorem lay_apply (x : FVec Ideal S4096x2816 .f32) (j : Fin 4) (r : Fin 4096) (f : Fin 704) :
    lay x (ix3 j r f) = x (ix2 r ⟨704 * j.val + f.val, by omega⟩) := by
  pointwise [lay]
  simp only [Nat.mul_comm j.val 704]

theorem V31 : V m c main_v31 = (truncf .bf16 (a6 m c) bitsLt_bf16_f32 : FVec Ideal S4096x1024 .bf16) := by
  entry_read
  rfl

theorem V32 : V m c main_v32 = (truncf .bf16 (a0 m c) bitsLt_bf16_f32 : FVec Ideal S4096x1024 .bf16) := by
  entry_read
  rfl

theorem V35 : V m c main_v35 = lay (val_main_v0 (F := Ideal) (a0 m c) (a1 m c)) := by
  entry_read
  rfl

theorem V38 : V m c main_v38 = lay (val_main_v1 (F := Ideal) (a0 m c) (a2 m c)) := by
  entry_read
  rfl

theorem V41 : V m c main_v41 = lay (val_main_v27 (F := Ideal) (a0 m c) (a1 m c) (a3 m c) (a4 m c)) := by
  entry_read
  rfl

theorem V28_at (j : Fin 4) (f : Fin 704) (d : Fin 1024) : V m c main_v28 (ix3 j f d) = a5 m c (ix2 ⟨704 * j.val + f.val, by omega⟩ d) := by
  entry_read
  pointwise
  simp only [Nat.mul_comm j.val 704]

theorem V30_at (j : Fin 4) (k : Fin 3) (f : Fin 704) : V m c main_v30 (ix3 j k f) = a3 m c (ix2 k ⟨704 * j.val + f.val, by omega⟩) := by
  entry_read
  pointwise
  simp only [Nat.mul_comm j.val 704]

/-- Where each window's block stands at point `t`: block `t / 8` of columns, tile `t % 8` of rows. -/
theorem idx : ∀ t : Fin cfg0.N,
    win0_0.index t = ![t.val % 8, 0] ∧ (t.val % 8 < 7 → win0_1.index t = ![32 * (t.val % 8 + 1), 0]) ∧ win0_2.index t = ![t.val % 8, 0]
    ∧ win0_3.index t = ![t.val / 8, t.val % 8, 0] ∧ win0_4.index t = ![t.val / 8, t.val % 8, 0]
    ∧ (t.val % 8 < 7 → win0_5.index t = ![t.val / 8, 32 * (t.val % 8 + 1), 0])
    ∧ win0_6.index t = ![t.val / 8, t.val % 8, 0] ∧ (t.val % 8 < 7 → win0_7.index t = ![t.val / 8, 32 * (t.val % 8 + 1), 0])
    ∧ win0_8.index t = ![t.val / 8, 0, 0] ∧ win0_9.index t = ![t.val / 8, 0, 0] ∧ ((grid0.coords t) 1).val = t.val % 8 :=
  (by decide +kernel : ∀ t : Fin grid0.N,
    win0_0.index t = ![t.val % 8, 0] ∧ (t.val % 8 < 7 → win0_1.index t = ![32 * (t.val % 8 + 1), 0]) ∧ win0_2.index t = ![t.val % 8, 0]
    ∧ win0_3.index t = ![t.val / 8, t.val % 8, 0] ∧ win0_4.index t = ![t.val / 8, t.val % 8, 0]
    ∧ (t.val % 8 < 7 → win0_5.index t = ![t.val / 8, 32 * (t.val % 8 + 1), 0])
    ∧ win0_6.index t = ![t.val / 8, t.val % 8, 0] ∧ (t.val % 8 < 7 → win0_7.index t = ![t.val / 8, 32 * (t.val % 8 + 1), 0])
    ∧ win0_8.index t = ![t.val / 8, 0, 0] ∧ win0_9.index t = ![t.val / 8, 0, 0] ∧ ((grid0.coords t) 1).val = t.val % 8)

theorem lt32 (t : Fin cfg0.N) : t.val < 32 := t.isLt

set_option maxHeartbeats 4000000 in
/-- The blocks at point `t`, as the payload lemmas ask for them. -/
theorem tile (t : Fin cfg0.N) :
    TileAt (t.val % 8) (t.val / 8) (at2 (a6 m c)) (at2 (a0 m c)) (at2 (val_main_v0 (F := Ideal) (a0 m c) (a1 m c)))
      (at2 (val_main_v1 (F := Ideal) (a0 m c) (a2 m c))) (at2 (val_main_v27 (F := Ideal) (a0 m c) (a1 m c) (a3 m c) (a4 m c))) (at2 (a5 m c)) (at2 (a3 m c))
      (iblk m c 0 t) (iblk m c 1 t) (iblk m c 2 t) (iblk m c 3 t) (iblk m c 4 t) (iblk m c 5 t) (iblk m c 6 t) (iblk m c 7 t) (iblk m c 8 t) (iblk m c 9 t) := by
  obtain ⟨e0, e1, e2, e3, e4, e5, e6, e7, e8, e9, -⟩ := idx t
  have ht := lt32 t
  refine ⟨by omega, fun r d h => at2_past _ _ _ h, fun a d => ?_, fun a d h => ?_, fun a d => ?_, fun a f => ?_, fun a f => ?_, fun a f h => ?_, fun a f => ?_, fun a f h => ?_, fun f d => ?_, fun k f => ?_⟩
  · rw [at2_of _ _ _ (by omega) d.isLt]
    refine Eq.trans (b := V m c main_v31 (ix2 (⟨512 * (t.val % 8) + a.val, by omega⟩ : Fin 4096) d)) ?_ ?_
    · blk_ext [iblk, e0]
    · rw [V31]
      rfl
  · rw [at2_of _ _ _ (by omega) d.isLt]
    refine Eq.trans (b := V m c main_v31 (ix2 (⟨512 * (t.val % 8) + (512 + a.val), by omega⟩ : Fin 4096) d)) ?_ ?_
    · blk_ext [iblk, e1 h]
    · rw [V31]
      rfl
  · rw [at2_of _ _ _ (by omega) d.isLt]
    refine Eq.trans (b := V m c main_v32 (ix2 (⟨512 * (t.val % 8) + a.val, by omega⟩ : Fin 4096) d)) ?_ ?_
    · blk_ext [iblk, e2]
    · rw [V32]
      rfl
  · rw [at2_of _ _ _ (by omega) (by omega)]
    refine Eq.trans (b := V m c main_v35 (ix3 (⟨t.val / 8, by omega⟩ : Fin 4) (⟨512 * (t.val % 8) + a.val, by omega⟩ : Fin 4096) f)) ?_ ?_
    · blk_ext [iblk, e3]
    · rw [V35, lay_apply]
  · rw [at2_of _ _ _ (by omega) (by omega)]
    refine Eq.trans (b := V m c main_v41 (ix3 (⟨t.val / 8, by omega⟩ : Fin 4) (⟨512 * (t.val % 8) + a.val, by omega⟩ : Fin 4096) f)) ?_ ?_
    · blk_ext [iblk, e4]
    · rw [V41, lay_apply]
  · rw [at2_of _ _ _ (by omega) (by omega)]
    refine Eq.trans (b := V m c main_v41 (ix3 (⟨t.val / 8, by omega⟩ : Fin 4) (⟨512 * (t.val % 8) + (512 + a.val), by omega⟩ : Fin 4096) f)) ?_ ?_
    · blk_ext [iblk, e5 h]
    · rw [V41, lay_apply]
  · rw [at2_of _ _ _ (by omega) (by omega)]
    refine Eq.trans (b := V m c main_v38 (ix3 (⟨t.val / 8, by omega⟩ : Fin 4) (⟨512 * (t.val % 8) + a.val, by omega⟩ : Fin 4096) f)) ?_ ?_
    · blk_ext [iblk, e6]
    · rw [V38, lay_apply]
  · rw [at2_of _ _ _ (by omega) (by omega)]
    refine Eq.trans (b := V m c main_v38 (ix3 (⟨t.val / 8, by omega⟩ : Fin 4) (⟨512 * (t.val % 8) + (512 + a.val), by omega⟩ : Fin 4096) f)) ?_ ?_
    · blk_ext [iblk, e7 h]
    · rw [V38, lay_apply]
  · rw [at2_of _ _ _ (by omega) d.isLt]
    refine Eq.trans (b := V m c main_v28 (ix3 (⟨t.val / 8, by omega⟩ : Fin 4) f d)) ?_ (V28_at m c _ _ _)
    blk_ext [iblk, e8]
  · rw [at2_of _ _ _ k.isLt (by omega)]
    refine Eq.trans (b := V m c main_v30 (ix3 (⟨t.val / 8, by omega⟩ : Fin 4) k f)) ?_ (V30_at m c _ _ _)
    blk_ext [iblk, e9]

/-- The second grid coordinate at point `t`. -/
theorem coord1 (t : Fin cfg0.N) : ((grid0.coords t) 1).val = t.val % 8 := (idx t).2.2.2.2.2.2.2.2.2.2

end Cert.KernelIdeal.Bwd

end
-- ==== Proof.BwdOut.lean ====
module

public import proofs.«01_k».proof.Proof.BwdArgs
public import Idealize.ShloMosaic.Lib.Pipeline.ReadBack

@[expose] public section

set_option maxRecDepth 16384

noncomputable section

namespace Cert.KernelIdeal.Bwd

open Cert.KernelIdeal Cert.KernelIdeal.Gen Cert.FfnGrad Idealize.ShloMosaic Idealize.ShloMosaic.TcCoe Idealize.SL.Sem
open Cert.ReferenceIdeal.Read (val_main_v0 val_main_v1 val_main_v27)

/-- A block reset at a column block's first tile, to which each of its eight tiles adds its 512 rows' terms, holds the
    4096 rows' terms when the last tile has run. -/
theorem acc_rows {N : ℕ} {ι : Type} (f : (n : ℕ) → n < N → ι → EReal) (H : ℕ → ℕ → ι → EReal)
    (h0 : ∀ t : Fin N, t.val % 8 = 0 → ∀ i, f t.val t.isLt i = ∑ a : Fin 512, H (t.val / 8) (512 * (t.val % 8) + a.val) i)
    (hs : ∀ t : Fin N, ¬t.val % 8 = 0 → ∀ i, f t.val t.isLt i
      = f (t.val - 1) (Nat.lt_of_le_of_lt (Nat.sub_le _ _) t.isLt) i + ∑ a : Fin 512, H (t.val / 8) (512 * (t.val % 8) + a.val) i)
    (t : Fin N) (ht : t.val % 8 = 7) (i : ι) : f t.val t.isLt i = ∑ r : Fin 4096, H (t.val / 8) r.val i := by
  rw [Pipeline.eq_sum_of_reset_step_apply_of_mod f 8 (fun _ => 0) (fun p i => ∑ a : Fin 512, H (p / 8) (512 * (p % 8) + a.val) i)
    (fun t h i => by rw [h0 t h i, zero_add]) hs t ht i, zero_add]
  have e := Fin.sum_univ_univ_mul_add 8 512 (fun r => H (t.val / 8) r i)
  refine Eq.trans ?_ e
  rw [Fin.sum_univ_eq_sum_range (fun s => ∑ k : Fin 512, H (t.val / 8) (s * 512 + k.val) i)]
  refine Finset.sum_congr rfl fun s hs => Finset.sum_congr rfl fun a _ => ?_
  have := Finset.mem_range.mp hs
  rw [show (8 * (t.val / 8) + s) / 8 = t.val / 8 by omega, show (8 * (t.val / 8) + s) % 8 = s by omega, Nat.mul_comm]

variable (m : (ℓ : Loc nD τ sig) → Buf (Elt Ideal) ℓ) (c : Dev nD)

/-! The whole arrays behind the gradient, at device `c`'s arguments. -/
abbrev DH : ℕ → ℕ → EReal := at2 (a6 m c)
abbrev X : ℕ → ℕ → EReal := at2 (a0 m c)
abbrev G : ℕ → ℕ → EReal := at2 (val_main_v0 (F := Ideal) (a0 m c) (a1 m c))
abbrev UP : ℕ → ℕ → EReal := at2 (val_main_v1 (F := Ideal) (a0 m c) (a2 m c))
abbrev GC : ℕ → ℕ → EReal := at2 (val_main_v27 (F := Ideal) (a0 m c) (a1 m c) (a3 m c) (a4 m c))
abbrev WD : ℕ → ℕ → EReal := at2 (a5 m c)
abbrev W : ℕ → ℕ → EReal := at2 (a3 m c)

/-! The rows of taps a body loads, at a column. -/
theorem tap2 (t : Fin cfg0.N) (f : Fin 704) : (View.ld (iblk m c 9 t) (Rect.unit ![0, 2, 0] ![1, 1, 704] inb_S1x3x704_S1x1x704_0_2_0) : Vec Ideal S1x1x704 .f32) (ix3 0 0 f)
    = W m c 2 (704 * (t.val / 8) + f.val) := by
  refine Eq.trans ?_ ((tile m c t).h9 2 f)
  generalize iblk m c 9 t = B
  exact View.ld_unit_apply_of _ _ _ _ _ _ fun a => by fin_cases a <;> simp [ix3]

theorem tap1 (t : Fin cfg0.N) (f : Fin 704) : (View.ld (iblk m c 9 t) (Rect.unit ![0, 1, 0] ![1, 1, 704] inb_S1x3x704_S1x1x704_0_1_0) : Vec Ideal S1x1x704 .f32) (ix3 0 0 f)
    = W m c 1 (704 * (t.val / 8) + f.val) := by
  refine Eq.trans ?_ ((tile m c t).h9 1 f)
  generalize iblk m c 9 t = B
  exact View.ld_unit_apply_of _ _ _ _ _ _ fun a => by fin_cases a <;> simp [ix3]

theorem tap0 (t : Fin cfg0.N) (f : Fin 704) : (View.ld (iblk m c 9 t) (Rect.unit ![0, 0, 0] ![1, 1, 704] inb_S1x3x704_S1x1x704_0_0_0) : Vec Ideal S1x1x704 .f32) (ix3 0 0 f)
    = W m c 0 (704 * (t.val / 8) + f.val) := by
  refine Eq.trans ?_ ((tile m c t).h9 0 f)
  generalize iblk m c 9 t = B
  exact View.ld_unit_apply_of _ _ _ _ _ _ fun a => by fin_cases a <;> simp [ix3]

theorem pay22_apply (v55 v64 v67 : FVec Ideal S528x704 .f32) (a : Fin 512) (f : Fin 704) :
    k0_pay22 (F := Ideal) v55 v64 v67 (ix3 0 a f) = k0_pay21 (F := Ideal) v55 v64 v67 (ix2 a f) := by
  unfold k0_pay22
  generalize k0_pay21 (F := Ideal) v55 v64 v67 = M
  pointwise

theorem pay15_apply (v17 v25 : FVec Ideal S528x704 .f32) (a : Fin 512) (f : Fin 704) :
    k0_pay15 (F := Ideal) v17 v25 (ix3 0 a f) = k0_pay14 (F := Ideal) v17 v25 (ix2 a f) := by
  unfold k0_pay15
  generalize k0_pay14 (F := Ideal) v17 v25 = M
  pointwise

/-! The blocks a point leaves. -/

theorem blk10 (t : Fin cfg0.N) (y : S1x512x704.Idx) : (outsAt0 m c t.val t.isLt).1 y
    = dg (DH m c) (WD m c) (UP m c) (GC m c) (W m c) (512 * (t.val % 8) + (y 1).val) (704 * (t.val / 8) + (y 2).val) := by
  have T := tile m c t
  idx_vars y
  by_cases h0 : t.val % 8 = 0
  · rw [outsAt0_A m c t h0]
    frame_out
    obtain rfl := Subsingleton.elim y0 0
    rw [pay22_apply]
    exact dg_at T _ (coord1 t) _ _ _ (tap2 m c t) (tap1 m c t) (tap0 m c t) _ _
  · rw [outsAt0_B m c t h0]
    frame_out
    obtain rfl := Subsingleton.elim y0 0
    rw [pay22_apply]
    exact dg_at T _ (coord1 t) _ _ _ (tap2 m c t) (tap1 m c t) (tap0 m c t) _ _

theorem blk11 (t : Fin cfg0.N) (y : S1x512x704.Idx) : (outsAt0 m c t.val t.isLt).2.1 y
    = dup (DH m c) (WD m c) (GC m c) (512 * (t.val % 8) + (y 1).val) (704 * (t.val / 8) + (y 2).val) := by
  have T := tile m c t
  idx_vars y
  by_cases h0 : t.val % 8 = 0
  · rw [outsAt0_A m c t h0]
    frame_out
    obtain rfl := Subsingleton.elim y0 0
    rw [pay15_apply]
    exact dup_at T _ (coord1 t) _ _
  · rw [outsAt0_B m c t h0]
    frame_out
    obtain rfl := Subsingleton.elim y0 0
    rw [pay15_apply]
    exact dup_at T _ (coord1 t) _ _

theorem blk12 (t : Fin cfg0.N) (ht : t.val % 8 = 7) (y : S1x704x1024.Idx) : (outsAt0 m c t.val t.isLt).2.2.1 y
    = ∑ r : Fin 4096, dg (DH m c) (WD m c) (UP m c) (GC m c) (W m c) r.val (704 * (t.val / 8) + (y 1).val) * X m c r.val (y 2).val := by
  refine acc_rows (fun n h => (outsAt0 m c n h).2.2.1)
    (fun j r y => dg (DH m c) (WD m c) (UP m c) (GC m c) (W m c) r (704 * j + (y 1).val) * X m c r (y 2).val) (fun t h y => ?_) (fun t h y => ?_) t ht y
  · have T := tile m c t
    rw [outsAt0_A m c t h]
    frame_out
    idx_vars y
    obtain rfl := Subsingleton.elim y0 0
    rw [pay24_apply]
    have z : k0_pay2 (F := Ideal) (ix3 0 y1 y2) = 0 := by pointwise [k0_pay2]
    rw [z, zero_add]
    exact Finset.sum_congr rfl fun a _ => congrArg₂ (· * ·) (dg_at T _ (coord1 t) _ _ _ (tap2 m c t) (tap1 m c t) (tap0 m c t) a y1) (T.h2 a y2)
  · have T := tile m c t
    rw [outsAt0_B m c t h]
    frame_out
    idx_vars y
    obtain rfl := Subsingleton.elim y0 0
    rw [pay24_apply]
    exact congrArg _ (Finset.sum_congr rfl fun a _ => congrArg₂ (· * ·) (dg_at T _ (coord1 t) _ _ _ (tap2 m c t) (tap1 m c t) (tap0 m c t) a y1) (T.h2 a y2))

theorem blk13 (t : Fin cfg0.N) (ht : t.val % 8 = 7) (y : S1x704x1024.Idx) : (outsAt0 m c t.val t.isLt).2.2.2.1 y
    = ∑ r : Fin 4096, dup (DH m c) (WD m c) (GC m c) r.val (704 * (t.val / 8) + (y 1).val) * X m c r.val (y 2).val := by
  refine acc_rows (fun n h => (outsAt0 m c n h).2.2.2.1)
    (fun j r y => dup (DH m c) (WD m c) (GC m c) r (704 * j + (y 1).val) * X m c r (y 2).val) (fun t h y => ?_) (fun t h y => ?_) t ht y
  · have T := tile m c t
    rw [outsAt0_A m c t h]
    frame_out
    idx_vars y
    obtain rfl := Subsingleton.elim y0 0
    rw [pay25_apply]
    have z : k0_pay3 (F := Ideal) (ix3 0 y1 y2) = 0 := by pointwise [k0_pay3]
    rw [z, zero_add]
    exact Finset.sum_congr rfl fun a _ => congrArg₂ (· * ·) (dup_at T _ (coord1 t) a y1) (T.h2 a y2)
  · have T := tile m c t
    rw [outsAt0_B m c t h]
    frame_out
    idx_vars y
    obtain rfl := Subsingleton.elim y0 0
    rw [pay25_apply]
    exact congrArg _ (Finset.sum_congr rfl fun a _ => congrArg₂ (· * ·) (dup_at T _ (coord1 t) a y1) (T.h2 a y2))

theorem blk14 (t : Fin cfg0.N) (ht : t.val % 8 = 7) (y : S1x704x1024.Idx) : (outsAt0 m c t.val t.isLt).2.2.2.2.1 y
    = ∑ r : Fin 4096, act (UP m c) (GC m c) r.val (704 * (t.val / 8) + (y 1).val) * DH m c r.val (y 2).val := by
  refine acc_rows (fun n h => (outsAt0 m c n h).2.2.2.2.1)
    (fun j r y => act (UP m c) (GC m c) r (704 * j + (y 1).val) * DH m c r (y 2).val) (fun t h y => ?_) (fun t h y => ?_) t ht y
  · have T := tile m c t
    rw [outsAt0_A m c t h]
    frame_out
    idx_vars y
    obtain rfl := Subsingleton.elim y0 0
    rw [add_dwd T]
    have z : k0_pay4 (F := Ideal) (ix3 0 y1 y2) = 0 := by pointwise [k0_pay4]
    rw [z, zero_add]
  · have T := tile m c t
    rw [outsAt0_B m c t h]
    frame_out
    idx_vars y
    obtain rfl := Subsingleton.elim y0 0
    rw [add_dwd T]

theorem blk16 (t : Fin cfg0.N) (ht : t.val % 8 = 7) (y : S1x1x704.Idx) : (outsAt0 m c t.val t.isLt).2.2.2.2.2.2 y
    = ∑ r : Fin 4096, dgc (DH m c) (WD m c) (UP m c) (GC m c) r.val (704 * (t.val / 8) + (y 2).val) := by
  refine acc_rows (fun n h => (outsAt0 m c n h).2.2.2.2.2.2)
    (fun j r y => dgc (DH m c) (WD m c) (UP m c) (GC m c) r (704 * j + (y 2).val)) (fun t h y => ?_) (fun t h y => ?_) t ht y
  · have T := tile m c t
    rw [outsAt0_A m c t h]
    frame_out
    idx_vars y
    obtain rfl := Subsingleton.elim y0 0
    obtain rfl := Subsingleton.elim y1 0
    rw [pay29_apply]
    have z : k0_pay6 (F := Ideal) (ix3 0 0 y2) = 0 := by pointwise [k0_pay6]
    rw [z, zero_add]
    exact Finset.sum_congr rfl fun a _ => dgc_at T _ (coord1 t) _ y2
  · have T := tile m c t
    rw [outsAt0_B m c t h]
    frame_out
    idx_vars y
    obtain rfl := Subsingleton.elim y0 0
    obtain rfl := Subsingleton.elim y1 0
    rw [pay29_apply]
    exact congrArg _ (Finset.sum_congr rfl fun a _ => dgc_at T _ (coord1 t) _ y2)

/-- The last store's payload, at a place it covers. -/
theorem canon_row (r : Rect S1x3x704) (w : r.shape.Idx → EReal) (L : List (View.Piece (Elt Ideal) S1x3x704 .f32)) (x : r.shape.Idx) (y : S1x3x704.Idx)
    (h : r.emb x = y) : View.canon (Val := Elt Ideal) ((⟨r, w⟩ : View.Piece (Elt Ideal) S1x3x704 .f32) :: L) y = w x := by
  rw [← h]
  exact View.canon_cons_emb r w L x

theorem canon_off (r : Rect S1x3x704) (w : r.shape.Idx → EReal) (L : List (View.Piece (Elt Ideal) S1x3x704 .f32)) (y : S1x3x704.Idx)
    (h : y ∉ r.set) : View.canon (Val := Elt Ideal) ((⟨r, w⟩ : View.Piece (Elt Ideal) S1x3x704 .f32) :: L) y = View.canon (Val := Elt Ideal) L y :=
  View.canon_cons_of_not_mem (Val := Elt Ideal) ⟨r, w⟩ L h

/-- Three stores, one per row, over anything: a row reads its own store. -/
theorem rows_canon (w0 w1 w2 : Vec Ideal S1x1x704 .f32) (L : List (View.Piece (Elt Ideal) S1x3x704 .f32)) (y0 : Fin 1) (y1 : Fin 3) (y2 : Fin 704) (v : EReal)
    (h0 : y1 = 0 → w0 (ix3 0 0 y2) = v) (h1 : y1 = 1 → w1 (ix3 0 0 y2) = v) (h2 : y1 = 2 → w2 (ix3 0 0 y2) = v) :
    View.canon (Val := Elt Ideal) ((⟨Rect.unit ![0, 0, 0] ![1, 1, 704] inb_S1x3x704_S1x1x704_0_0_0, w0⟩ : View.Piece (Elt Ideal) S1x3x704 .f32)
      :: ⟨Rect.unit ![0, 1, 0] ![1, 1, 704] inb_S1x3x704_S1x1x704_0_1_0, w1⟩ :: ⟨Rect.unit ![0, 2, 0] ![1, 1, 704] inb_S1x3x704_S1x1x704_0_2_0, w2⟩ :: L)
      (ix3 y0 y1 y2) = v := by
  obtain rfl := Subsingleton.elim y0 0
  have out : ∀ (k : ℕ) (inb), y1.val ≠ k → (ix3 (0 : Fin 1) y1 y2 : S1x3x704.Idx) ∉ (Rect.unit (s := S1x3x704) ![0, k, 0] ![1, 1, 704] inb).set := by
    intro k inb hk hm
    have := Rect.mem_set_unit.mp hm 1
    simp [ix3] at this
    omega
  have inn : ∀ (k : ℕ) (inb), y1.val = k →
      (Rect.unit (s := S1x3x704) ![0, k, 0] ![1, 1, 704] inb).emb (ix3 (0 : Fin 1) (0 : Fin 1) y2 : S1x1x704.Idx) = (ix3 (0 : Fin 1) y1 y2 : S1x3x704.Idx) := by
    intro k inb hk
    refine funext fun a => Fin.ext ((Rect.idx_unit_val _ _ _ _ a).trans ?_)
    fin_cases a <;> simp [ix3, hk]
  obtain h | h | h : y1 = 0 ∨ y1 = 1 ∨ y1 = 2 := by omega
  · rw [canon_row _ _ _ _ _ (inn 0 _ (by omega))]
    exact h0 h
  · rw [canon_off _ _ _ _ (out 0 _ (by omega)), canon_row _ _ _ _ _ (inn 1 _ (by omega))]
    exact h1 h
  · rw [canon_off _ _ _ _ (out 0 _ (by omega)), canon_off _ _ _ _ (out 1 _ (by omega)),
      canon_row _ _ _ _ _ (inn 2 _ (by omega))]
    exact h2 h

/-- A loaded row, at a column. -/
theorem row_ld (B : Vec Ideal S1x3x704 .f32) (k : ℕ) (inb) (y1 : Fin 3) (h1 : y1.val = k) (y2 : Fin 704) :
    (View.ld B (Rect.unit (s := S1x3x704) ![0, k, 0] ![1, 1, 704] inb) : Vec Ideal S1x1x704 .f32) (ix3 0 0 y2) = B (ix3 0 y1 y2) :=
  View.ld_unit_apply_of _ _ _ _ _ _ fun a => by fin_cases a <;> simp [ix3, h1]

theorem blk15 (t : Fin cfg0.N) (ht : t.val % 8 = 7) (y : S1x3x704.Idx) : (outsAt0 m c t.val t.isLt).2.2.2.2.2.1 y
    = ∑ r : Fin 4096, dgc (DH m c) (WD m c) (UP m c) (GC m c) (r.val + (2 - (y 1).val)) (704 * (t.val / 8) + (y 2).val) * G m c r.val (704 * (t.val / 8) + (y 2).val) := by
  refine acc_rows (fun n h => (outsAt0 m c n h).2.2.2.2.2.1)
    (fun j r y => dgc (DH m c) (WD m c) (UP m c) (GC m c) (r + (2 - (y 1).val)) (704 * j + (y 2).val) * G m c r (704 * j + (y 2).val)) (fun t h y => ?_) (fun t h y => ?_) t ht y
  · have T := tile m c t
    rw [outsAt0_A m c t h]
    frame_open
    simp (disch := decide) only [↓ View.readCov_skip, ↓ View.readCov_cons_toLoadRect, ↓ View.readCov_fill]
    frame_out
    idx_vars y
    obtain rfl := Subsingleton.elim y0 0
    have z : ∀ k : Fin 3, k0_pay5 (F := Ideal) (ix3 0 k y2) = 0 := fun k => by pointwise [k0_pay5]
    refine rows_canon _ _ _ _ _ _ _ _ (fun h' => ?_) (fun h' => ?_) (fun h' => ?_)
    · subst h'; rw [pay32_apply, row_ld _ _ _ 0 (by decide)]
      rw [z, zero_add]
      exact  (Finset.sum_congr rfl fun a _ => congrArg₂ (· * ·) ((pay18_apply _ _ _ _ a y2).trans (dgc_at T _ (coord1 t) ⟨a.val + 2, by omega⟩ y2)) (T.h3 a y2))
    · subst h'; rw [pay31_apply, row_ld _ _ _ 1 (by decide)]
      rw [z, zero_add]
      exact  (Finset.sum_congr rfl fun a _ => congrArg₂ (· * ·) ((pay17_apply _ _ _ _ a y2).trans (dgc_at T _ (coord1 t) ⟨a.val + 1, by omega⟩ y2)) (T.h3 a y2))
    · subst h'; rw [pay30_apply, row_ld _ _ _ 2 (by decide)]
      rw [z, zero_add]
      exact  (Finset.sum_congr rfl fun a _ => congrArg₂ (· * ·) (dgc_at T _ (coord1 t) ⟨a.val, by omega⟩ y2) (T.h3 a y2))
  · have T := tile m c t
    rw [outsAt0_B m c t h]
    frame_open
    simp (disch := decide) only [↓ View.readCov_skip, ↓ View.readCov_cons_toLoadRect, ↓ View.readCov_fill]
    frame_out
    idx_vars y
    obtain rfl := Subsingleton.elim y0 0
    refine rows_canon _ _ _ _ _ _ _ _ (fun h' => ?_) (fun h' => ?_) (fun h' => ?_)
    · subst h'; rw [pay32_apply, row_ld _ _ _ 0 (by decide)]
      exact congrArg _ (Finset.sum_congr rfl fun a _ => congrArg₂ (· * ·) ((pay18_apply _ _ _ _ a y2).trans (dgc_at T _ (coord1 t) ⟨a.val + 2, by omega⟩ y2)) (T.h3 a y2))
    · subst h'; rw [pay31_apply, row_ld _ _ _ 1 (by decide)]
      exact congrArg _ (Finset.sum_congr rfl fun a _ => congrArg₂ (· * ·) ((pay17_apply _ _ _ _ a y2).trans (dgc_at T _ (coord1 t) ⟨a.val + 1, by omega⟩ y2)) (T.h3 a y2))
    · subst h'; rw [pay30_apply, row_ld _ _ _ 2 (by decide)]
      exact congrArg _ (Finset.sum_congr rfl fun a _ => congrArg₂ (· * ·) (dgc_at T _ (coord1 t) ⟨a.val, by omega⟩ y2) (T.h3 a y2))

theorem out10 : (dats m 0 c).arrAt 10 cfg0.N = fun i : S4x4096x704.Idx => dg (DH m c) (WD m c) (UP m c) (GC m c) (W m c) (i 1).val (704 * (i 0).val + (i 2).val) := by
  refine (dats m 0 c).arrAt_eq_of_covers 10 _ (by decide +kernel) fun t hf y => ?_
  have e : win0_10.index t = ![t.val / 8, t.val % 8, 0] := (by decide +kernel : ∀ t : Fin grid0.N, win0_10.index t = ![t.val / 8, t.val % 8, 0]) t
  blk_simp [e]
  rw [after0_10]
  refine (blk10 m c t y).trans ?_
  rw [Nat.mul_comm 512]

theorem out11 : (dats m 0 c).arrAt 11 cfg0.N = fun i : S4x4096x704.Idx => dup (DH m c) (WD m c) (GC m c) (i 1).val (704 * (i 0).val + (i 2).val) := by
  refine (dats m 0 c).arrAt_eq_of_covers 11 _ (by decide +kernel) fun t hf y => ?_
  have e : win0_11.index t = ![t.val / 8, t.val % 8, 0] := (by decide +kernel : ∀ t : Fin grid0.N, win0_11.index t = ![t.val / 8, t.val % 8, 0]) t
  blk_simp [e]
  rw [after0_11]
  refine (blk11 m c t y).trans ?_
  rw [Nat.mul_comm 512]

theorem out12 : (dats m 0 c).arrAt 12 cfg0.N = fun i : S4x704x1024.Idx => ∑ r : Fin 4096, dg (DH m c) (WD m c) (UP m c) (GC m c) (W m c) r.val (704 * (i 0).val + (i 1).val) * X m c r.val (i 2).val := by
  refine (dats m 0 c).arrAt_eq_of_covers 12 _ (by decide +kernel) fun t hf y => ?_
  have e : win0_12.index t = ![t.val / 8, 0, 0] := (by decide +kernel : ∀ t : Fin grid0.N, win0_12.index t = ![t.val / 8, 0, 0]) t
  blk_simp [e]
  rw [after0_12]
  refine (blk12 m c t ((flush0_12 t).mp hf) y).trans ?_
  rfl

theorem out13 : (dats m 0 c).arrAt 13 cfg0.N = fun i : S4x704x1024.Idx => ∑ r : Fin 4096, dup (DH m c) (WD m c) (GC m c) r.val (704 * (i 0).val + (i 1).val) * X m c r.val (i 2).val := by
  refine (dats m 0 c).arrAt_eq_of_covers 13 _ (by decide +kernel) fun t hf y => ?_
  have e : win0_13.index t = ![t.val / 8, 0, 0] := (by decide +kernel : ∀ t : Fin grid0.N, win0_13.index t = ![t.val / 8, 0, 0]) t
  blk_simp [e]
  rw [after0_13]
  refine (blk13 m c t ((flush0_13 t).mp hf) y).trans ?_
  rfl

theorem out14 : (dats m 0 c).arrAt 14 cfg0.N = fun i : S4x704x1024.Idx => ∑ r : Fin 4096, act (UP m c) (GC m c) r.val (704 * (i 0).val + (i 1).val) * DH m c r.val (i 2).val := by
  refine (dats m 0 c).arrAt_eq_of_covers 14 _ (by decide +kernel) fun t hf y => ?_
  have e : win0_14.index t = ![t.val / 8, 0, 0] := (by decide +kernel : ∀ t : Fin grid0.N, win0_14.index t = ![t.val / 8, 0, 0]) t
  blk_simp [e]
  rw [after0_14]
  refine (blk14 m c t ((flush0_14 t).mp hf) y).trans ?_
  rfl

theorem out15 : (dats m 0 c).arrAt 15 cfg0.N = fun i : S4x3x704.Idx => ∑ r : Fin 4096, dgc (DH m c) (WD m c) (UP m c) (GC m c) (r.val + (2 - (i 1).val)) (704 * (i 0).val + (i 2).val) * G m c r.val (704 * (i 0).val + (i 2).val) := by
  refine (dats m 0 c).arrAt_eq_of_covers 15 _ (by decide +kernel) fun t hf y => ?_
  have e : win0_15.index t = ![t.val / 8, 0, 0] := (by decide +kernel : ∀ t : Fin grid0.N, win0_15.index t = ![t.val / 8, 0, 0]) t
  blk_simp [e]
  rw [after0_15]
  refine (blk15 m c t ((flush0_15 t).mp hf) y).trans ?_
  rfl

theorem out16 : (dats m 0 c).arrAt 16 cfg0.N = fun i : S4x1x704.Idx => ∑ r : Fin 4096, dgc (DH m c) (WD m c) (UP m c) (GC m c) r.val (704 * (i 0).val + (i 2).val) := by
  refine (dats m 0 c).arrAt_eq_of_covers 16 _ (by decide +kernel) fun t hf y => ?_
  have e : win0_16.index t = ![t.val / 8, 0, 0] := (by decide +kernel : ∀ t : Fin grid0.N, win0_16.index t = ![t.val / 8, 0, 0]) t
  blk_simp [e]
  rw [after0_16]
  refine (blk16 m c t ((flush0_16 t).mp hf) y).trans ?_
  rfl

end Cert.KernelIdeal.Bwd

end
-- ==== Proof.BwdEq.lean ====
module

public import proofs.«01_k».proof.Defs
public import proofs.«01_k».proof.Proof.BwdOut

@[expose] public section

set_option maxRecDepth 16384

noncomputable section

namespace Cert.KernelIdeal.Bwd

open Cert.KernelIdeal Cert.KernelIdeal.Gen Cert.FfnGrad Idealize.ShloMosaic Idealize.ShloMosaic.TcCoe Idealize.SL.Sem
open Cert.ReferenceIdeal.Read Cert.ReferenceIdeal.Bwd

theorem inf_word : Ideal.ofBits .f32 0x7F800000#32 = ⊤ := by simp [Ideal.ofBits, Ideal.ieee]

/-- A magnitude that compares below infinity belongs to a finite value. -/
theorem finite_of_cmp {a : EReal} (h : FloatOps.cmpf (F := Ideal) (φ := .f32) .olt (max a (-a) : EReal) (Ideal.ofBits .f32 0x7F800000#32) = 1#1) : Fin' a := by
  rw [inf_word] at h
  refine Fin'.of_abs_lt ?_
  by_contra hn
  change BitVec.ofBool (decide (max a (-a) < ⊤)) = 1#1 at h
  rw [decide_eq_false hn] at h
  exact absurd h (by decide)

instance facts_pre : Cert.Pre_operands_finite.Facts := ⟨by decide, by decide, by decide⟩

variable (m : (ℓ : Loc nD τ sig) → Buf (Elt Ideal) ℓ) (c : Dev nD)

theorem ok_of_pre (h : Cert.Pre_KernelIdeal_operands_finite m) : Ok (a0 m c) (a2 m c) (a5 m c) (a6 m c) := by
  have h := h c
  simp only [Cert.Pre_operands_finite.fn] at h
  exact ⟨fun i => finite_of_cmp (congrFun h.1 i), fun i => finite_of_cmp (congrFun h.2.1 i), fun i => finite_of_cmp (congrFun h.2.2.1 i),
    fun i => finite_of_cmp (congrFun h.2.2.2 i)⟩

theorem eq10 (H : Ok (a0 m c) (a2 m c) (a5 m c) (a6 m c)) : (dats m 0 c).arrAt 10 cfg0.N = val_main_v81 (F := Ideal) (a0 m c) (a1 m c) (a2 m c) (a3 m c) (a4 m c) (a5 m c) (a6 m c) := by
  rw [out10]
  refine funext fun (y : S4x4096x704.Idx) => ?_
  idx_vars y
  exact (Cert.ReferenceIdeal.Bwd.v81_at (a0 m c) (a1 m c) (a2 m c) (a3 m c) (a4 m c) (a5 m c) (a6 m c) H y0 y1 y2).symm

theorem eq11 : (dats m 0 c).arrAt 11 cfg0.N = val_main_v84 (F := Ideal) (a0 m c) (a1 m c) (a3 m c) (a4 m c) (a5 m c) (a6 m c) := by
  rw [out11]
  refine funext fun (y : S4x4096x704.Idx) => ?_
  idx_vars y
  exact (Cert.ReferenceIdeal.Bwd.v84_at (a0 m c) (a1 m c) (a3 m c) (a4 m c) (a5 m c) (a6 m c) y0 y1 y2).symm

theorem eq12 (H : Ok (a0 m c) (a2 m c) (a5 m c) (a6 m c)) : (dats m 0 c).arrAt 12 cfg0.N = val_main_v87 (F := Ideal) (a0 m c) (a1 m c) (a2 m c) (a3 m c) (a4 m c) (a5 m c) (a6 m c) := by
  rw [out12]
  refine funext fun (y : S4x704x1024.Idx) => ?_
  idx_vars y
  exact (Cert.ReferenceIdeal.Bwd.v87_at (a0 m c) (a1 m c) (a2 m c) (a3 m c) (a4 m c) (a5 m c) (a6 m c) H y0 y1 y2).symm

theorem eq13 : (dats m 0 c).arrAt 13 cfg0.N = val_main_v90 (F := Ideal) (a0 m c) (a1 m c) (a3 m c) (a4 m c) (a5 m c) (a6 m c) := by
  rw [out13]
  refine funext fun (y : S4x704x1024.Idx) => ?_
  idx_vars y
  exact (Cert.ReferenceIdeal.Bwd.v90_at (a0 m c) (a1 m c) (a3 m c) (a4 m c) (a5 m c) (a6 m c) y0 y1 y2).symm

theorem eq14 : (dats m 0 c).arrAt 14 cfg0.N = val_main_v91 (F := Ideal) (a0 m c) (a1 m c) (a2 m c) (a3 m c) (a4 m c) (a6 m c) := by
  rw [out14]
  refine funext fun (y : S4x704x1024.Idx) => ?_
  idx_vars y
  exact (Cert.ReferenceIdeal.Bwd.v91_at (a0 m c) (a1 m c) (a2 m c) (a3 m c) (a4 m c) (a6 m c) y0 y1 y2).symm

theorem eq15 (H : Ok (a0 m c) (a2 m c) (a5 m c) (a6 m c)) : (dats m 0 c).arrAt 15 cfg0.N = val_main_v93 (F := Ideal) (a0 m c) (a1 m c) (a2 m c) (a3 m c) (a4 m c) (a5 m c) (a6 m c) := by
  rw [out15]
  refine funext fun (y : S4x3x704.Idx) => ?_
  idx_vars y
  exact (Cert.ReferenceIdeal.Bwd.v93_at (a0 m c) (a1 m c) (a2 m c) (a3 m c) (a4 m c) (a5 m c) (a6 m c) H y0 y1 y2).symm

theorem eq16 (H : Ok (a0 m c) (a2 m c) (a5 m c) (a6 m c)) : (dats m 0 c).arrAt 16 cfg0.N = val_main_v94 (F := Ideal) (a0 m c) (a1 m c) (a2 m c) (a3 m c) (a4 m c) (a5 m c) (a6 m c) := by
  rw [out16]
  refine funext fun (y : S4x1x704.Idx) => ?_
  idx_vars y
  obtain rfl := Subsingleton.elim y1 0
  exact (Cert.ReferenceIdeal.Bwd.v94_at (a0 m c) (a1 m c) (a2 m c) (a3 m c) (a4 m c) (a5 m c) (a6 m c) H y0 y2).symm

end Cert.KernelIdeal.Bwd

end
-- ==== Proof.EvenPay.lean ====
module

public import proofs.«01_k».proof.Proof.FfnMath
public import proofs.«01_k».proof.Proof.Gen.Kernel6Ideal.Skeleton

@[expose] public section

set_option maxRecDepth 16384

noncomputable section

/-! The even layers' mixers' gradient, element by element, as sums and products of the whole arrays: the cotangent `DH`
    of the layer's output, the four parts `P` of the input's product side by side, the output's matrix `WO`, the
    convolution's taps `W`, the windows' matrices `WP` and their scale `PS`. Rows and columns are natural numbers. -/
namespace Cert.MixGrad

open Idealize.ShloMosaic Cert.FfnGrad

/-- What the convolution reads. -/
def cv (P : ℕ → ℕ → EReal) (r c : ℕ) : EReal := P r (512 + c) * P r (1024 + c)

/-- The same with two rows of zeros before it. -/
def cvp (P : ℕ → ℕ → EReal) (r c : ℕ) : EReal := if 2 ≤ r then cv P (r - 2) c else 0

/-- The convolution. -/
def conv (P W : ℕ → ℕ → EReal) (r c : ℕ) : EReal :=
  W 0 c * cvp P r c + W 1 c * cvp P (r + 1) c + W 2 c * cvp P (r + 2) c

/-- The gradient of the convolution's result. -/
def dcc (DH WO P : ℕ → ℕ → EReal) (r c : ℕ) : EReal := dact DH WO r c * P r c

/-- The gradient of what the convolution reads: the taps over this row and the two after it. -/
def dcv (DH WO P W : ℕ → ℕ → EReal) (r c : ℕ) : EReal :=
  W 2 c * dcc DH WO P r c + W 1 c * dcc DH WO P (r + 1) c + W 0 c * dcc DH WO P (r + 2) c

theorem dact_past (DH WO : ℕ → ℕ → EReal) (hz : ∀ r d, 4096 ≤ r → DH r d = 0) (r c : ℕ) (hr : 4096 ≤ r) : dact DH WO r c = 0 :=
  Finset.sum_eq_zero fun d _ => by rw [hz r _ hr, zero_mul]

theorem dcc_past (DH WO P : ℕ → ℕ → EReal) (hz : ∀ r d, 4096 ≤ r → DH r d = 0) (r c : ℕ) (hr : 4096 ≤ r) : dcc DH WO P r c = 0 := by
  rw [dcc, dact_past _ _ hz _ _ hr, zero_mul]

/-- The gradient of a window's mean, `g` the window's group of columns. -/
def dpool (DH WO : ℕ → ℕ → EReal) (PS : ℕ → EReal) (WP : ℕ → ℕ → ℕ → EReal) (g r b : ℕ) : EReal :=
  ∑ a : Fin 128, dact DH WO r (512 + (128 * g + a.val)) * PS (128 * g + a.val) * WP g b a.val

theorem dpool_past (DH WO : ℕ → ℕ → EReal) (PS : ℕ → EReal) (WP : ℕ → ℕ → ℕ → EReal) (hz : ∀ r d, 4096 ≤ r → DH r d = 0) (g r b : ℕ) (hr : 4096 ≤ r) :
    dpool DH WO PS WP g r b = 0 :=
  Finset.sum_eq_zero fun d _ => by rw [dact_past _ _ hz _ _ hr, zero_mul, zero_mul]

/-- A window of `w` rows holds `min (r + 1) w` rows of the sequence at row `r`. -/
def cnt (w r : ℕ) : EReal := ((min (r + 1) w : ℕ) : ℝ)

/-- The gradient of the mean spread over the window's rows. -/
def dq (DH WO : ℕ → ℕ → EReal) (PS : ℕ → EReal) (WP : ℕ → ℕ → ℕ → EReal) (g w r b : ℕ) : EReal :=
  Ideal.div (dpool DH WO PS WP g r b) (cnt w r)

/-- The gradient of what the windows read: the means' gradients over this row and the `w - 1` after it, less this
    row's. -/
def dz (DH WO : ℕ → ℕ → EReal) (PS : ℕ → EReal) (WP : ℕ → ℕ → ℕ → EReal) (g w r b : ℕ) : EReal :=
  (∑ k ∈ Finset.range w, dq DH WO PS WP g w (r + k) b) - dpool DH WO PS WP g r b

end Cert.MixGrad

namespace Cert.Kernel6Ideal.Even

open Cert.Kernel6Ideal Cert.Kernel6Ideal.Gen Cert.FfnGrad Cert.MixGrad Idealize.ShloMosaic Idealize.ShloMosaic.TcCoe Idealize.SL.Sem

theorem keepn_eq (ig : grid0.Coords) : k0_pay8 (F := Ideal) ig = if (ig 0).val < 7 then (1 : EReal) else 0 := KernelIdeal.Bwd.keep_eq (ig 0)

theorem keepp_eq (ig : grid0.Coords) : k0_pay7 (F := Ideal) ig = if 0 < (ig 0).val then (1 : EReal) else 0 := by
  have h : ∀ n : Fin 8, (Scalar.cmpi .sgt (BitVec.ofNat 32 n.val) 0#32 = 1) ↔ 0 < n.val := by decide
  have h := h (ig 0)
  unfold k0_pay7
  by_cases hn : 0 < (ig 0).val
  · pointwise [Scalar.select, h.mpr hn, hn, Scalar.ofBits]
  · pointwise [Scalar.select, (not_congr h).mpr hn, hn, Scalar.ofBits]

/-- What grid point `i`'s blocks hold, of the whole arrays: 512 rows from `512 i`, 16 rows before them and 16 rows after
    them (asked for only where there are such rows). -/
structure TileAt (i : ℕ) (P MIX XN DH WO W : ℕ → ℕ → EReal) (PS : ℕ → EReal) (WP : ℕ → ℕ → ℕ → EReal)
    (x0 : Vec Ideal S4x512x512 .bf16) (x1 x2 : Vec Ideal S4x16x512 .bf16) (x3 x4 x5 : Vec Ideal S512x1024 .bf16) (x6 : Vec Ideal S16x1024 .bf16)
    (x7 : Vec Ideal S1024x1024 .bf16) (x8 : Vec Ideal S3x512 .f32) (x10 : Vec Ideal S4x128x128 .bf16) (x11 : Vec Ideal S1x512 .f32) : Prop where
  hi : i < 8
  hz : ∀ r d, 4096 ≤ r → DH r d = 0
  h0 : ∀ (k : Fin 4) (a : Fin 512) (f : Fin 512), x0 (ix3 k a f) = P (512 * i + a.val) (512 * k.val + f.val)
  h1 : ∀ (k : Fin 4) (a : Fin 16) (f : Fin 512), 0 < i → x1 (ix3 k a f) = P (512 * i + a.val - 16) (512 * k.val + f.val)
  h2 : ∀ (k : Fin 4) (a : Fin 16) (f : Fin 512), i < 7 → x2 (ix3 k a f) = P (512 * i + (512 + a.val)) (512 * k.val + f.val)
  h3 : ∀ (a : Fin 512) (d : Fin 1024), x3 (ix2 a d) = MIX (512 * i + a.val) d.val
  h4 : ∀ (a : Fin 512) (d : Fin 1024), x4 (ix2 a d) = XN (512 * i + a.val) d.val
  h5 : ∀ (a : Fin 512) (d : Fin 1024), x5 (ix2 a d) = DH (512 * i + a.val) d.val
  h6 : ∀ (a : Fin 16) (d : Fin 1024), i < 7 → x6 (ix2 a d) = DH (512 * i + (512 + a.val)) d.val
  h7 : ∀ (e d : Fin 1024), x7 (ix2 e d) = WO e.val d.val
  h8 : ∀ (k : Fin 3) (f : Fin 512), x8 (ix2 k f) = W k.val f.val
  h10 : ∀ (g : Fin 4) (a b : Fin 128), x10 (ix3 g a b) = WP g.val b.val a.val
  h11 : ∀ (f : Fin 512), x11 (ix2 0 f) = PS f.val

variable {i : ℕ} {P MIX XN DH WO W : ℕ → ℕ → EReal} {PS : ℕ → EReal} {WP : ℕ → ℕ → ℕ → EReal}
    {x0 : Vec Ideal S4x512x512 .bf16} {x1 x2 : Vec Ideal S4x16x512 .bf16} {x3 x4 x5 : Vec Ideal S512x1024 .bf16} {x6 : Vec Ideal S16x1024 .bf16}
    {x7 : Vec Ideal S1024x1024 .bf16} {x8 : Vec Ideal S3x512 .f32} {x10 : Vec Ideal S4x128x128 .bf16} {x11 : Vec Ideal S1x512 .f32}

/-- The tile's rows of the output's gradient against the output's matrix, the rows after the tile included. -/
theorem dmix_at (T : TileAt i P MIX XN DH WO W PS WP x0 x1 x2 x3 x4 x5 x6 x7 x8 x10 x11) (a : Fin 528) (e : Fin 1024) (ha : a.val < 512 ∨ i < 7) :
    k0_pay10 (F := Ideal) x5 x6 x7 (ix2 a e) = dact DH WO (512 * i + a.val) e.val := by
  have hL := fun d => KernelIdeal.Bwd.concat_rows x5 x6 a d
  unfold k0_pay10
  rw [shapeCast_self, shapeCast_self, shapeCast_self]
  generalize concatenate _ _ _ _ = L at hL ⊢
  pointwise [dact]
  refine Finset.sum_congr rfl fun d _ => ?_
  rw [hL, T.h7]
  congr 1
  split
  · rw [T.h5]
  · rename_i h
    rw [T.h6 _ _ (by omega)]
    dsimp only
    rw [show 512 + (a.val - 512) = a.val by omega]

/-- A row of the convolution's input, two rows late: the tile's own, or from the rows before the tile. -/
theorem cv_at (ig : grid0.Coords) (hig : (ig 0).val = i) (v27 v30 : Vec Ideal S1x512x512 .bf16) (v33 v36 : Vec Ideal S1x16x512 .bf16)
    (h27 : ∀ (a : Fin 512) (f : Fin 512), v27 (ix3 0 a f) = P (512 * i + a.val) (512 + f.val))
    (h30 : ∀ (a : Fin 512) (f : Fin 512), v30 (ix3 0 a f) = P (512 * i + a.val) (1024 + f.val))
    (h33 : ∀ (a : Fin 16) (f : Fin 512), 0 < i → v33 (ix3 0 a f) = P (512 * i + a.val - 16) (512 + f.val))
    (h36 : ∀ (a : Fin 16) (f : Fin 512), 0 < i → v36 (ix3 0 a f) = P (512 * i + a.val - 16) (1024 + f.val))
    (b : ℕ) (hb : b + 14 < 528) (f : Fin 512) :
    k0_pay14 (F := Ideal) (k0_pay7 ig) v27 v30 v33 v36 (ix2 (⟨b + 14, hb⟩ : Fin 528) f) = cvp P (512 * i + b) f.val := by
  unfold k0_pay14 k0_pay12 k0_pay13
  rw [keepp_eq, hig]
  pointwise [cvp, cv]
  split
  · rename_i h
    split
    · rename_i hi
      rw [h33 _ _ hi, h36 _ _ hi, mul_one]
      dsimp only
      rw [if_pos (by omega), show 512 * i + (b + 14) - 16 = 512 * i + b - 2 by omega]
    · rename_i hi
      rw [mul_zero, if_neg (by omega)]
  · rename_i h
    rw [h27, h30]
    dsimp only
    rw [if_pos (by omega), show 512 * i + (b + 14 - 16) = 512 * i + b - 2 by omega]

theorem pay16_apply (v4 : Ideal .f32) (v23 : FVec Ideal S528x1024 .f32) (v27 v30 : Vec Ideal S1x512x512 .bf16) (v33 v36 : Vec Ideal S1x16x512 .bf16)
    (v45 v49 v54 : Vec Ideal S1x512 .f32) (a : Fin 512) (f : Fin 512) :
    k0_pay16 (F := Ideal) v4 v23 v27 v30 v33 v36 v45 v49 v54 (ix3 0 a f)
      = v23 (ix2 (⟨a.val, by omega⟩ : Fin 528) (⟨f.val, by omega⟩ : Fin 1024))
        * (v45 (ix2 0 f) * k0_pay14 (F := Ideal) v4 v27 v30 v33 v36 (ix2 (⟨a.val + 14, by omega⟩ : Fin 528) f)
          + v49 (ix2 0 f) * k0_pay14 (F := Ideal) v4 v27 v30 v33 v36 (ix2 (⟨a.val + 1 + 14, by omega⟩ : Fin 528) f)
          + v54 (ix2 0 f) * k0_pay14 (F := Ideal) v4 v27 v30 v33 v36 (ix2 (⟨a.val + 2 + 14, by omega⟩ : Fin 528) f)) := by
  unfold k0_pay16
  generalize k0_pay14 (F := Ideal) v4 v27 v30 v33 v36 = M
  pointwise [k0_pay15]
  simp only [show 16 + a.val = a.val + 2 + 14 by omega, show (a.val + 2 + 14 + 528 - 2) % 528 = a.val + 14 by omega,
    show (a.val + 2 + 14 + 528 - 1) % 528 = a.val + 1 + 14 by omega]

theorem pay17_apply (v23 : FVec Ideal S528x1024 .f32) (v26 : FVec Ideal S512x512 .f32) (a f : Fin 512) :
    k0_pay17 (F := Ideal) v23 v26 (ix2 a f) = v23 (ix2 (⟨a.val, by omega⟩ : Fin 528) (⟨f.val, by omega⟩ : Fin 1024)) * v26 (ix2 a f) := by
  pointwise [k0_pay17, k0_pay15]

theorem pay18_apply (v43 : FVec Ideal S528x512 .f32) (v64 : FVec Ideal S512x512 .f32) (v65 : Vec Ideal S1x512 .f32) (f : Fin 512) :
    k0_pay18 (F := Ideal) v43 v64 v65 (ix2 0 f) = v65 (ix2 0 f) + ∑ a : Fin 512, v64 (ix2 a f) * v43 (ix2 (⟨a.val + 2 + 14, by omega⟩ : Fin 528) f) := by
  pointwise [k0_pay18]
  simp only [show ∀ a : Fin 512, 16 + a.val = a.val + 2 + 14 by omega]

theorem pay19_apply (v43 : FVec Ideal S528x512 .f32) (v64 : FVec Ideal S512x512 .f32) (v65 : Vec Ideal S1x512 .f32) (f : Fin 512) :
    k0_pay19 (F := Ideal) v43 v64 v65 (ix2 0 f) = v65 (ix2 0 f) + ∑ a : Fin 512, v64 (ix2 a f) * v43 (ix2 (⟨a.val + 1 + 14, by omega⟩ : Fin 528) f) := by
  pointwise [k0_pay19]
  simp only [show ∀ a : Fin 512, (16 + a.val + 528 - 1) % 528 = a.val + 1 + 14 by omega]

theorem pay20_apply (v43 : FVec Ideal S528x512 .f32) (v64 : FVec Ideal S512x512 .f32) (v65 : Vec Ideal S1x512 .f32) (f : Fin 512) :
    k0_pay20 (F := Ideal) v43 v64 v65 (ix2 0 f) = v65 (ix2 0 f) + ∑ a : Fin 512, v64 (ix2 a f) * v43 (ix2 (⟨a.val + 14, by omega⟩ : Fin 528) f) := by
  pointwise [k0_pay20]
  simp only [show ∀ a : Fin 512, (16 + a.val + 528 - 2) % 528 = a.val + 14 by omega]

theorem pay21_apply (v6 : Ideal .f32) (v23 : FVec Ideal S528x1024 .f32) (v64 : FVec Ideal S512x512 .f32) (v92 : Vec Ideal S1x16x512 .bf16) (a : Fin 528) (f : Fin 512) :
    k0_pay21 (F := Ideal) v6 v23 v64 v92 (ix2 a f) = if h : a.val < 512 then v64 (ix2 ⟨a.val, h⟩ f)
      else v23 (ix2 a (⟨f.val, by omega⟩ : Fin 1024)) * v92 (ix3 0 ⟨a.val - 512, by omega⟩ f) * v6 := by
  pointwise [k0_pay21]
  split
  · rfl
  · simp only [show 512 + (a.val - 512) = a.val by omega]

theorem pay23_apply (v98 : FVec Ideal S528x512 .f32) (v99 v102 v107 : Vec Ideal S1x512 .f32) (a f : Fin 512) :
    k0_pay23 (F := Ideal) v98 (k0_pay22 v99) v102 v107 (ix2 a f)
      = v99 (ix2 0 f) * v98 (ix2 (⟨a.val, by omega⟩ : Fin 528) f) + v102 (ix2 0 f) * v98 (ix2 (⟨a.val + 1, by omega⟩ : Fin 528) f)
        + v107 (ix2 0 f) * v98 (ix2 (⟨a.val + 2, by omega⟩ : Fin 528) f) := by
  pointwise [k0_pay23, k0_pay22]
  simp only [show (a.val + 528 - 527) % 528 = a.val + 1 by omega, show (a.val + 528 - 526) % 528 = a.val + 2 by omega]

/-- The gradient of the convolution's result on the tile's rows and the rows after it. -/
theorem dcc_at (T : TileAt i P MIX XN DH WO W PS WP x0 x1 x2 x3 x4 x5 x6 x7 x8 x10 x11) (ig : grid0.Coords) (hig : (ig 0).val = i)
    (v24 : Vec Ideal S1x512x512 .bf16) (v92 : Vec Ideal S1x16x512 .bf16)
    (h24 : ∀ (a : Fin 512) (f : Fin 512), v24 (ix3 0 a f) = P (512 * i + a.val) f.val)
    (h92 : ∀ (a : Fin 16) (f : Fin 512), i < 7 → v92 (ix3 0 a f) = P (512 * i + (512 + a.val)) f.val) (a : Fin 528) (f : Fin 512) :
    k0_pay21 (F := Ideal) (k0_pay8 ig) (k0_pay10 x5 x6 x7) (k0_pay17 (k0_pay10 x5 x6 x7) (k0_pay11 v24)) v92 (ix2 a f) = dcc DH WO P (512 * i + a.val) f.val := by
  rw [pay21_apply, keepn_eq, hig]
  have e11 : ∀ a : Fin 512, k0_pay11 (F := Ideal) v24 (ix2 a f) = v24 (ix3 0 a f) := fun a => by pointwise [k0_pay11]
  split
  · rename_i h
    rw [pay17_apply, e11, h24, dmix_at T _ _ (Or.inl h), dcc]
  · rename_i h
    by_cases h7 : i < 7
    · rw [dmix_at T _ _ (Or.inr h7), h92 _ _ h7, if_pos h7, mul_one, dcc]
      dsimp only
      rw [show 512 + (a.val - 512) = a.val by omega]
    · have := T.hi
      rw [if_neg h7, mul_zero, dcc_past _ _ _ T.hz _ _ (by omega)]

theorem pay28_apply (ig : grid0.Coords) (hig : (ig 0).val = i) (hi : i < 8) (a : Fin 528) :
    k0_pay28 (F := Ideal) (BitVec.ofNat 32 (ig 0).val) (ix2 a 0) = ((512 * i + a.val + 1 : ℕ) : ℝ) := by
  have ha := a.isLt
  rw [hig]
  pointwise [k0_pay28]
  have e : IntOp.addi (IntOp.addi (Scalar.muli (BitVec.ofNat 32 i) 512#32) (BitVec.ofNat 32 a.val)) 1#32 = BitVec.ofNat 32 (512 * i + a.val + 1) := by
    apply BitVec.eq_of_toNat_eq
    simp only [IntOp.addi, Scalar.muli, IntOp.muli, BitVec.toNat_add, BitVec.toNat_mul, BitVec.toNat_ofNat]
    omega
  rw [e]
  have e2 : (BitVec.ofNat 32 (512 * i + a.val + 1)).toInt = ((512 * i + a.val + 1 : ℕ) : ℤ) := by
    rw [BitVec.toInt_eq_toNat_of_lt] <;> simp only [BitVec.toNat_ofNat] <;> omega
  show (((BitVec.ofNat 32 (512 * i + a.val + 1)).toInt : ℝ) : EReal) = _
  rw [e2]
  norm_cast

/-! The windows' means. -/

/-- A sequence's sums over `s` rows added to themselves `s` rows on are its sums over `2 s` rows. -/
theorem window_double (M N : FVec Ideal S528x128 .f32) (q : ℕ → ℕ → EReal) (o s : ℕ)
    (hN : ∀ (a : Fin 528) (f : Fin 128) (h : a.val + s < 528), N (ix2 a f) = M (ix2 ⟨a.val + s, h⟩ f))
    (hM : ∀ (a : Fin 528) (f : Fin 128), a.val + s ≤ 528 → M (ix2 a f) = ∑ k ∈ Finset.range s, q (o + a.val + k) f.val) (a : Fin 528) (f : Fin 128) (h2 : a.val + (s + s) ≤ 528) (hs : 0 < s) :
    addf M N (ix2 a f) = ∑ k ∈ Finset.range (s + s), q (o + a.val + k) f.val := by
  rw [Finset.sum_range_add]
  have e : addf M N (ix2 a f) = M (ix2 a f) + N (ix2 a f) := rfl
  rw [e, hN a f (by omega), hM a f (by omega), hM _ f (by dsimp only; omega)]
  congr 1
  refine Finset.sum_congr rfl fun k _ => ?_
  dsimp only
  rw [show o + (a.val + s) + k = o + a.val + (s + k) by omega]

theorem rot1 (M : FVec Ideal S528x128 .f32) (a : Fin 528) (f : Fin 128) (h : a.val + 1 < 528) :
    dynamicRotate 0 527#32 none M rotates_S528x128_d0 (ix2 a f) = M (ix2 ⟨a.val + 1, h⟩ f) := by
  pointwise
  simp only [show (a.val + 528 - 527) % 528 = a.val + 1 by omega]

theorem rot2 (M : FVec Ideal S528x128 .f32) (a : Fin 528) (f : Fin 128) (h : a.val + 2 < 528) :
    dynamicRotate 0 526#32 none M rotates_S528x128_d0 (ix2 a f) = M (ix2 ⟨a.val + 2, h⟩ f) := by
  pointwise
  simp only [show (a.val + 528 - 526) % 528 = a.val + 2 by omega]

theorem rot4 (M : FVec Ideal S528x128 .f32) (a : Fin 528) (f : Fin 128) (h : a.val + 4 < 528) :
    dynamicRotate 0 524#32 none M rotates_S528x128_d0 (ix2 a f) = M (ix2 ⟨a.val + 4, h⟩ f) := by
  pointwise
  simp only [show (a.val + 528 - 524) % 528 = a.val + 4 by omega]

theorem rot8 (M : FVec Ideal S528x128 .f32) (a : Fin 528) (f : Fin 128) (h : a.val + 8 < 528) :
    dynamicRotate 0 520#32 none M rotates_S528x128_d0 (ix2 a f) = M (ix2 ⟨a.val + 8, h⟩ f) := by
  pointwise
  simp only [show (a.val + 528 - 520) % 528 = a.val + 8 by omega]

/-- One, two, three and four doublings of a sequence. -/
def dbl1 (M : FVec Ideal S528x128 .f32) : FVec Ideal S528x128 .f32 := addf M (dynamicRotate 0 527#32 none M rotates_S528x128_d0)
def dbl2 (M : FVec Ideal S528x128 .f32) : FVec Ideal S528x128 .f32 := addf (dbl1 M) (dynamicRotate 0 526#32 none (dbl1 M) rotates_S528x128_d0)
def dbl3 (M : FVec Ideal S528x128 .f32) : FVec Ideal S528x128 .f32 := addf (dbl2 M) (dynamicRotate 0 524#32 none (dbl2 M) rotates_S528x128_d0)
def dbl4 (M : FVec Ideal S528x128 .f32) : FVec Ideal S528x128 .f32 := addf (dbl3 M) (dynamicRotate 0 520#32 none (dbl3 M) rotates_S528x128_d0)

theorem dbl1_at (M : FVec Ideal S528x128 .f32) (q : ℕ → ℕ → EReal) (o : ℕ) (hM : ∀ (a : Fin 528) (f : Fin 128), M (ix2 a f) = q (o + a.val) f.val)
    (a : Fin 528) (f : Fin 128) (h : a.val + 2 ≤ 528) : dbl1 M (ix2 a f) = ∑ k ∈ Finset.range 2, q (o + a.val + k) f.val :=
  window_double M _ q o 1 (rot1 M) (fun a f _ => by rw [hM, Finset.sum_range_one, Nat.add_zero]) a f h Nat.one_pos

theorem dbl2_at (M : FVec Ideal S528x128 .f32) (q : ℕ → ℕ → EReal) (o : ℕ) (hM : ∀ (a : Fin 528) (f : Fin 128), M (ix2 a f) = q (o + a.val) f.val)
    (a : Fin 528) (f : Fin 128) (h : a.val + 4 ≤ 528) : dbl2 M (ix2 a f) = ∑ k ∈ Finset.range 4, q (o + a.val + k) f.val :=
  window_double (dbl1 M) _ q o 2 (rot2 _) (dbl1_at M q o hM) a f h Nat.two_pos

theorem dbl3_at (M : FVec Ideal S528x128 .f32) (q : ℕ → ℕ → EReal) (o : ℕ) (hM : ∀ (a : Fin 528) (f : Fin 128), M (ix2 a f) = q (o + a.val) f.val)
    (a : Fin 528) (f : Fin 128) (h : a.val + 8 ≤ 528) : dbl3 M (ix2 a f) = ∑ k ∈ Finset.range 8, q (o + a.val + k) f.val :=
  window_double (dbl2 M) _ q o 4 (rot4 _) (dbl2_at M q o hM) a f h (by decide)

theorem dbl4_at (M : FVec Ideal S528x128 .f32) (q : ℕ → ℕ → EReal) (o : ℕ) (hM : ∀ (a : Fin 528) (f : Fin 128), M (ix2 a f) = q (o + a.val) f.val)
    (a : Fin 528) (f : Fin 128) (h : a.val + 16 ≤ 528) : dbl4 M (ix2 a f) = ∑ k ∈ Finset.range 16, q (o + a.val + k) f.val :=
  window_double (dbl3 M) _ q o 8 (rot8 _) (dbl3_at M q o hM) a f h (by decide)

/-- A tile's means' gradients, from the four groups' one chain of operations: the group's columns of the output's
    gradient, scaled, against the group's matrix. -/
def poolT (v6 : Ideal .f32) (v23 : FVec Ideal S528x1024 .f32) (o : ℕ) (s1 : S528x1024.Slices ![0, o] S512x128) (s2 : S528x1024.Slices ![512, o] S16x128)
    (ps : Vec Ideal S1x128 .f32) (wp : Vec Ideal S1x128x128 .bf16) : FVec Ideal S528x128 .f32 :=
  matmul dot_S528x128_S128x128_S528x128_1_0_0_1_n_n none
    (truncf .bf16 (mulf (concatenate S528x128 0 [⟨S512x128, extractStridedSlice S512x128 ![0, o] v23 s1⟩,
        ⟨S16x128, mulf (extractStridedSlice S16x128 ![512, o] v23 s2) (broadcast S16x128 v6)⟩] concatenates_S512x128_S16x128_S528x128_d0)
      (broadcastTo S528x128 (shapeCast S1x128 ps shapeCasts_S1x128_S1x128) broadcasts_S1x128_S528x128)) bitsLt_bf16_f32 : FVec Ideal S528x128 .bf16)
    (shapeCast S128x128 wp shapeCasts_S1x128x128_S128x128 : FVec Ideal S128x128 .bf16) (constant S528x128 .f32 0x00000000#32)

theorem poolT_at (T : TileAt i P MIX XN DH WO W PS WP x0 x1 x2 x3 x4 x5 x6 x7 x8 x10 x11) (ig : grid0.Coords) (hig : (ig 0).val = i) (g : Fin 4)
    (o : ℕ) (ho : o = 512 + 128 * g.val) (s1 : S528x1024.Slices ![0, o] S512x128) (s2 : S528x1024.Slices ![512, o] S16x128) (ps : Vec Ideal S1x128 .f32) (wp : Vec Ideal S1x128x128 .bf16)
    (hps : ∀ f : Fin 128, ps (ix2 0 f) = PS (128 * g.val + f.val)) (hwp : ∀ a b : Fin 128, wp (ix3 0 a b) = WP g.val b.val a.val) (a : Fin 528) (b : Fin 128) :
    poolT (k0_pay8 ig) (k0_pay10 x5 x6 x7) o s1 s2 ps wp (ix2 a b) = dpool DH WO PS WP g.val (512 * i + a.val) b.val := by
  subst ho
  have hC : ∀ f : Fin 128, concatenate S528x128 0 [⟨S512x128, extractStridedSlice S512x128 ![0, 512 + 128 * g.val] (k0_pay10 (F := Ideal) x5 x6 x7) s1⟩,
        ⟨S16x128, mulf (extractStridedSlice S16x128 ![512, 512 + 128 * g.val] (k0_pay10 (F := Ideal) x5 x6 x7) s2) (broadcast S16x128 (k0_pay8 (F := Ideal) ig))⟩] concatenates_S512x128_S16x128_S528x128_d0 (ix2 a f)
      = dact DH WO (512 * i + a.val) (512 + (128 * g.val + f.val)) := by
    intro f
    have e := fun h => dmix_at T a ⟨512 + (128 * g.val + f.val), by omega⟩ h
    rw [keepn_eq, hig]
    generalize k0_pay10 (F := Ideal) x5 x6 x7 = M at e ⊢
    pointwise
    split
    · rename_i h
      refine Eq.trans ?_ (e (Or.inl h))
      congr 2
      apply Fin.ext
      dsimp only
      omega
    · rename_i h
      by_cases h7 : i < 7
      · rw [if_pos h7, mul_one]
        refine Eq.trans ?_ (e (Or.inr h7))
        congr 2
        · apply Fin.ext
          dsimp only
          omega
        · apply Fin.ext
          dsimp only
          omega
      · have := T.hi
        rw [if_neg h7, mul_zero, dact_past _ _ T.hz _ _ (by omega)]
  unfold poolT
  generalize concatenate _ _ _ _ = C at hC ⊢
  pointwise [hC, hps, hwp, dpool]

theorem cnt_at (ig : grid0.Coords) (hig : (ig 0).val = i) (hi : i < 8) (w : ℕ) (z : BitVec 32) (hz : Ideal.ofBits .f32 z = ((w : ℕ) : ℝ)) (a : Fin 528) :
    (minimumf (k0_pay28 (F := Ideal) (BitVec.ofNat 32 (ig 0).val)) (broadcast S528x1 (Scalar.ofBits .f32 z)) : FVec Ideal S528x1 .f32) (ix2 a 0) = cnt w (512 * i + a.val) := by
  have e := pay28_apply ig hig hi a
  generalize k0_pay28 (F := Ideal) _ = M at e ⊢
  pointwise [e]
  rw [hz, cnt, Nat.cast_min]
  exact (EReal.coe_strictMono.monotone.map_min).symm

/-- A tile's gradient of what a group's windows read, from the four groups' one chain of operations. -/
def poolS (dbl : FVec Ideal S528x128 .f32 → FVec Ideal S528x128 .f32) (D : FVec Ideal S528x128 .f32) (C : FVec Ideal S528x1 .f32) : FVec Ideal S1x512x128 .bf16 :=
  shapeCast S1x512x128 (truncf .bf16 (subf (extractStridedSlice S512x128 ![0, 0] (dbl (divf D (broadcastTo S528x128 C broadcasts_S528x1_S528x128))) slices_S528x128_o0_0_S512x128)
    (extractStridedSlice S512x128 ![0, 0] D slices_S528x128_o0_0_S512x128)) bitsLt_bf16_f32) shapeCasts_S512x128_S1x512x128

theorem poolS_at (T : TileAt i P MIX XN DH WO W PS WP x0 x1 x2 x3 x4 x5 x6 x7 x8 x10 x11) (g w : ℕ) (hw : w ≤ 16) (dbl : FVec Ideal S528x128 .f32 → FVec Ideal S528x128 .f32)
    (hdbl : ∀ (M : FVec Ideal S528x128 .f32) (q : ℕ → ℕ → EReal) (o : ℕ), (∀ (a : Fin 528) (f : Fin 128), M (ix2 a f) = q (o + a.val) f.val) →
      ∀ (a : Fin 528) (f : Fin 128), a.val + w ≤ 528 → dbl M (ix2 a f) = ∑ k ∈ Finset.range w, q (o + a.val + k) f.val)
    (D : FVec Ideal S528x128 .f32) (C : FVec Ideal S528x1 .f32)
    (hD : ∀ (a : Fin 528) (b : Fin 128), D (ix2 a b) = dpool DH WO PS WP g (512 * i + a.val) b.val)
    (hC : ∀ a : Fin 528, C (ix2 a 0) = cnt w (512 * i + a.val)) (a : Fin 512) (b : Fin 128) :
    poolS dbl D C (ix3 0 a b) = dz DH WO PS WP g w (512 * i + a.val) b.val := by
  have hM : ∀ (a : Fin 528) (f : Fin 128), divf D (broadcastTo S528x128 C broadcasts_S528x1_S528x128) (ix2 a f) = dq DH WO PS WP g w (512 * i + a.val) f.val := by
    intro a f
    pointwise [hD, hC, dq]
  have e := hdbl _ (fun r b => dq DH WO PS WP g w r b) (512 * i) hM ⟨a.val, by omega⟩ b (by dsimp only; omega)
  have e2 := hD ⟨a.val, by omega⟩ b
  unfold poolS
  generalize dbl _ = M at e ⊢
  pointwise [e, e2, dz]

theorem word_2 : Ideal.ofBits .f32 0x40000000#32 = ((2 : ℕ) : ℝ) := by
  have h : BitVec.extractLsb' 31 1 0x40000000#32 = 0#1 := by decide
  have h2 : 1073741824 >>> 23 % 256 = 128 := by decide
  simp only [Ideal.ofBits, Ideal.ieee]
  norm_num [h, h2]

theorem word_4 : Ideal.ofBits .f32 0x40800000#32 = ((4 : ℕ) : ℝ) := by
  have h : BitVec.extractLsb' 31 1 0x40800000#32 = 0#1 := by decide
  have h2 : 1082130432 >>> 23 % 256 = 129 := by decide
  simp only [Ideal.ofBits, Ideal.ieee]
  norm_num [h, h2]

theorem word_8 : Ideal.ofBits .f32 0x41000000#32 = ((8 : ℕ) : ℝ) := by
  have h : BitVec.extractLsb' 31 1 0x41000000#32 = 0#1 := by decide
  have h2 : 1090519040 >>> 23 % 256 = 130 := by decide
  simp only [Ideal.ofBits, Ideal.ieee]
  norm_num [h, h2]

theorem word_16 : Ideal.ofBits .f32 0x41800000#32 = ((16 : ℕ) : ℝ) := by
  have h : BitVec.extractLsb' 31 1 0x41800000#32 = 0#1 := by decide
  have h2 : 1098907648 >>> 23 % 256 = 131 := by decide
  simp only [Ideal.ofBits, Ideal.ieee]
  norm_num [h, h2]

/-! The four groups' stores. -/
theorem store0 (T : TileAt i P MIX XN DH WO W PS WP x0 x1 x2 x3 x4 x5 x6 x7 x8 x10 x11) (ig : grid0.Coords) (hig : (ig 0).val = i) (ps : Vec Ideal S1x128 .f32) (wp : Vec Ideal S1x128x128 .bf16)
    (hps : ∀ f : Fin 128, ps (ix2 0 f) = PS (128 * 0 + f.val)) (hwp : ∀ a b : Fin 128, wp (ix3 0 a b) = WP 0 b.val a.val) (a : Fin 512) (b : Fin 128) :
    k0_pay36 (F := Ideal) (k0_pay28 (BitVec.ofNat 32 (ig 0).val)) (k0_pay32 (k0_pay8 ig) (k0_pay10 x5 x6 x7) ps) wp (ix3 0 a b) = dz DH WO PS WP 0 2 (512 * i + a.val) b.val :=
  poolS_at T 0 2 (by decide) dbl1 dbl1_at _ _ (poolT_at T ig hig 0 512 rfl slices_S528x1024_o0_512_S512x128 slices_S528x1024_o512_512_S16x128 ps wp hps hwp)
    (cnt_at ig hig T.hi 2 0x40000000#32 word_2) a b

theorem store1 (T : TileAt i P MIX XN DH WO W PS WP x0 x1 x2 x3 x4 x5 x6 x7 x8 x10 x11) (ig : grid0.Coords) (hig : (ig 0).val = i) (ps : Vec Ideal S1x128 .f32) (wp : Vec Ideal S1x128x128 .bf16)
    (hps : ∀ f : Fin 128, ps (ix2 0 f) = PS (128 * 1 + f.val)) (hwp : ∀ a b : Fin 128, wp (ix3 0 a b) = WP 1 b.val a.val) (a : Fin 512) (b : Fin 128) :
    k0_pay46 (F := Ideal) (k0_pay44 (k0_pay8 ig) (k0_pay10 x5 x6 x7) (k0_pay28 (BitVec.ofNat 32 (ig 0).val)) (k0_pay39 (k0_pay10 x5 x6 x7)) ps wp)
      (k0_pay45 (k0_pay8 ig) (k0_pay10 x5 x6 x7) (k0_pay39 (k0_pay10 x5 x6 x7)) ps wp) (ix3 0 a b) = dz DH WO PS WP 1 4 (512 * i + a.val) b.val :=
  poolS_at T 1 4 (by decide) dbl2 dbl2_at _ _ (poolT_at T ig hig 1 640 rfl slices_S528x1024_o0_640_S512x128 slices_S528x1024_o512_640_S16x128 ps wp hps hwp)
    (cnt_at ig hig T.hi 4 0x40800000#32 word_4) a b

theorem store2 (T : TileAt i P MIX XN DH WO W PS WP x0 x1 x2 x3 x4 x5 x6 x7 x8 x10 x11) (ig : grid0.Coords) (hig : (ig 0).val = i) (ps : Vec Ideal S1x128 .f32) (wp : Vec Ideal S1x128x128 .bf16)
    (hps : ∀ f : Fin 128, ps (ix2 0 f) = PS (128 * 2 + f.val)) (hwp : ∀ a b : Fin 128, wp (ix3 0 a b) = WP 2 b.val a.val) (a : Fin 512) (b : Fin 128) :
    k0_pay52 (F := Ideal) (k0_pay28 (BitVec.ofNat 32 (ig 0).val)) (k0_pay50 (k0_pay8 ig) (k0_pay10 x5 x6 x7) ps) wp (ix3 0 a b) = dz DH WO PS WP 2 8 (512 * i + a.val) b.val :=
  poolS_at T 2 8 (by decide) dbl3 dbl3_at _ _ (poolT_at T ig hig 2 768 rfl slices_S528x1024_o0_768_S512x128 slices_S528x1024_o512_768_S16x128 ps wp hps hwp)
    (cnt_at ig hig T.hi 8 0x41000000#32 word_8) a b

theorem store3 (T : TileAt i P MIX XN DH WO W PS WP x0 x1 x2 x3 x4 x5 x6 x7 x8 x10 x11) (ig : grid0.Coords) (hig : (ig 0).val = i) (ps : Vec Ideal S1x128 .f32) (wp : Vec Ideal S1x128x128 .bf16)
    (hps : ∀ f : Fin 128, ps (ix2 0 f) = PS (128 * 3 + f.val)) (hwp : ∀ a b : Fin 128, wp (ix3 0 a b) = WP 3 b.val a.val) (a : Fin 512) (b : Fin 128) :
    k0_pay61 (F := Ideal) (k0_pay28 (BitVec.ofNat 32 (ig 0).val)) (k0_pay59 (k0_pay8 ig) (k0_pay10 x5 x6 x7) ps) wp (ix3 0 a b) = dz DH WO PS WP 3 16 (512 * i + a.val) b.val :=
  poolS_at T 3 16 (by decide) dbl4 dbl4_at _ _ (poolT_at T ig hig 3 896 rfl slices_S528x1024_o0_896_S512x128 slices_S528x1024_o512_896_S16x128 ps wp hps hwp)
    (cnt_at ig hig T.hi 16 0x41800000#32 word_16) a b

/-! The running sums. -/
theorem add_dwo (T : TileAt i P MIX XN DH WO W PS WP x0 x1 x2 x3 x4 x5 x6 x7 x8 x10 x11) (acc : Vec Ideal S1024x1024 .f32) (e d : Fin 1024) :
    k0_pay9 (F := Ideal) acc x3 x5 (ix2 e d) = acc (ix2 e d) + ∑ a : Fin 512, MIX (512 * i + a.val) e.val * DH (512 * i + a.val) d.val := by
  have h3 := T.h3
  have h5 := T.h5
  pointwise [k0_pay9, h3, h5]

theorem pay62_apply (acc : Vec Ideal S1x1024x512 .f32) (x : Vec Ideal S512x1024 .bf16) (dp : Vec Ideal S1x512x512 .bf16) (e : Fin 1024) (f : Fin 512) :
    k0_pay62 (F := Ideal) acc x dp (ix3 0 e f) = acc (ix3 0 e f) + ∑ a : Fin 512, x (ix2 a e) * dp (ix3 0 a f) := by
  pointwise [k0_pay62]

theorem pay63_eq : k0_pay63 (F := Ideal) = k0_pay62 := rfl

theorem pay64_eq : k0_pay64 (F := Ideal) = k0_pay62 := rfl

theorem pay1_eq (acc : Vec Ideal S1x1024x512 .f32) (x : Vec Ideal S512x1024 .bf16) (dp : Vec Ideal S1x512x512 .bf16) :
    k0_pay1 (F := Ideal) (k0_pay65 acc) (k0_pay66 x) (k0_pay67 dp) (constant S1024x512 .f32 0x00000000#32) = k0_pay62 acc x dp := rfl

end Cert.Kernel6Ideal.Even

end
-- ==== Proof.EvenDef.lean ====
module

public import proofs.«01_k».proof.Proof.EvenPay

@[expose] public section

noncomputable section

namespace Cert.MixGrad

open Idealize.ShloMosaic Cert.FfnGrad

/-- An array of three axes as a function of natural numbers, zero outside. -/
def at3 {n k l : ℕ} (x : Shape.Idx ⟨3, ![n, k, l]⟩ → EReal) (a b c : ℕ) : EReal :=
  if h : a < n ∧ b < k ∧ c < l then x (ix3 ⟨a, h.1⟩ ⟨b, h.2.1⟩ ⟨c, h.2.2⟩) else 0

theorem at3_mk {n k l : ℕ} (x : Shape.Idx ⟨3, ![n, k, l]⟩ → EReal) (a : Fin n) (b : Fin k) (c : Fin l) :
    at3 x a.val b.val c.val = x (ix3 a b c) :=
  dif_pos ⟨a.isLt, b.isLt, c.isLt⟩

theorem at3_of {n k l : ℕ} (x : Shape.Idx ⟨3, ![n, k, l]⟩ → EReal) (a b c : ℕ) (ha : a < n) (hb : b < k) (hc : c < l) :
    at3 x a b c = x (ix3 ⟨a, ha⟩ ⟨b, hb⟩ ⟨c, hc⟩) :=
  dif_pos ⟨ha, hb, hc⟩

/-- The gradient of the input's product, part `k`, column `c` of the part. -/
def dp (DH WO P W : ℕ → ℕ → EReal) (PS : ℕ → EReal) (WP : ℕ → ℕ → ℕ → EReal) (k r c : ℕ) : EReal :=
  if k = 0 then dact DH WO r c * conv P W r c
  else if k = 1 then dcv DH WO P W r c * P r (1024 + c)
  else if k = 2 then dcv DH WO P W r c * P r (512 + c)
  else dz DH WO PS WP (c / 128) (2 ^ (c / 128 + 1)) r (c % 128)

end Cert.MixGrad

end
-- ==== Proof.NormMath.lean ====
module

public import proofs.«01_k».proof.Proof.FfnMath

@[expose] public section

noncomputable section

namespace Cert.NormGrad

open Idealize.ShloMosaic Cert.FfnGrad

theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, ← ih, EReal.coe_add]

/-- A positive finite factor goes into a sum. -/
theorem pos_mul_sum {ι : Type} (s : Finset ι) (r : ℝ) (hr : 0 ≤ r) (f : ι → EReal) : (r : EReal) * ∑ i ∈ s, f i = ∑ i ∈ s, (r : EReal) * f i := by
  classical
  induction s using Finset.induction_on with
  | empty => simp
  | insert a s ha ih =>
    rw [Finset.sum_insert ha, Finset.sum_insert ha, ← ih,
      EReal.left_distrib_of_nonneg_of_ne_top (by exact_mod_cast hr) (EReal.coe_ne_top r)]

theorem sq_nonneg' (a : EReal) : 0 ≤ a * a := by
  induction a with
  | bot => simp
  | top => simp
  | coe r => exact_mod_cast mul_self_nonneg r

/-- A sum of squares with an infinite term is infinite. -/
theorem sum_sq_top {ι : Type} [Fintype ι] (x : ι → EReal) (k : ι) (hk : ¬Fin' (x k)) : ∑ i, x i * x i = ⊤ := by
  have h1 : x k * x k = ⊤ := by
    rcases h : x k with _ | _ | r
    · exact EReal.bot_mul_bot
    · exact EReal.top_mul_top
    · exact absurd ⟨r, h⟩ hk
  have h2 : x k * x k ≤ ∑ i, x i * x i := Finset.single_le_sum (f := fun i => x i * x i) (fun i _ => sq_nonneg' (x i)) (Finset.mem_univ k)
  rw [h1] at h2
  exact top_le_iff.mp h2

theorem add_self (a : EReal) : a + a = 2 * a := by
  have := EReal.right_distrib_of_nonneg (a := 1) (b := 1) (c := a) zero_le_one zero_le_one
  rw [one_mul] at this
  rw [← this]
  norm_num

theorem sub_mul_of_pos (r : ℝ) (hr : 0 ≤ r) (a b : EReal) : (r : EReal) * (a - b) = r * a - r * b := by
  rw [sub_eq_add_neg, EReal.left_distrib_of_nonneg_of_ne_top (by exact_mod_cast hr) (EReal.coe_ne_top r), mul_neg, ← sub_eq_add_neg]

/-- The gradient of the normalised row: the kernel's `rstd · (y − x̂ · mean(y · x̂))` is what comes out of differentiating
    the product, the reciprocal root, the mean and the square one after the other. -/
theorem norm_grad {ι : Type} [Fintype ι] (x y : ι → EReal) (i : ι) (N e : ℝ) (hN : 0 < N) (he : 0 < e) (v r : EReal)
    (hv : v = Ideal.div (∑ k, x k * x k) N + e) (hr : r = Ideal.rsqrt v) (c : EReal)
    (hc : c = Ideal.div ((∑ k, x k * y k) * (((-(1 / 2) : ℝ) : EReal) * Ideal.div r v)) N) :
    r * (y i - x i * r * Ideal.div (∑ k, y k * (x k * r)) N) = y i * r + (c * x i + c * x i) := by
  have hN0 : (N : EReal) ≠ 0 := by exact_mod_cast hN.ne'
  by_cases H : ∀ k, Fin' (x k)
  · choose X hX using H
    have hs : ∑ k, x k * x k = ((∑ k, X k * X k : ℝ) : EReal) := by
      rw [coe_sum]
      exact Finset.sum_congr rfl fun k _ => by rw [hX k, EReal.coe_mul]
    have hv' : v = (((∑ k, X k * X k) * N⁻¹ + e : ℝ) : EReal) := by
      rw [hv, hs, Ideal.div, if_neg hN0, ← EReal.coe_inv]
      norm_cast
    have hp : 0 < (∑ k, X k * X k) * N⁻¹ + e := by
      have : 0 ≤ ∑ k, X k * X k := Finset.sum_nonneg fun k _ => mul_self_nonneg _
      positivity
    generalize (∑ k, X k * X k) * N⁻¹ + e = V at hv' hp
    have hr' : r = ((Real.sqrt V)⁻¹ : ℝ) := by
      rw [hr, hv']
      change (if V < 0 then (⊥ : EReal) else if V = 0 then ⊤ else ((Real.sqrt V)⁻¹ : ℝ)) = _
      rw [if_neg (not_lt.mpr hp.le), if_neg hp.ne']
    have hq : 0 < (Real.sqrt V)⁻¹ := by positivity
    have hq2 : V⁻¹ = (Real.sqrt V)⁻¹ * (Real.sqrt V)⁻¹ := by
      rw [← mul_inv, Real.mul_self_sqrt hp.le]
    generalize (Real.sqrt V)⁻¹ = q at hr' hq hq2
    have hS : ∑ k, y k * (x k * r) = (q : EReal) * ∑ k, x k * y k := by
      rw [pos_mul_sum _ _ hq.le]
      exact Finset.sum_congr rfl fun k _ => by rw [hr', ← mul_assoc, mul_comm _ (q : EReal), mul_comm (y k)]
    rw [hS]
    generalize ∑ k, x k * y k = S at hc
    have hV0 : (V : EReal) ≠ 0 := by exact_mod_cast hp.ne'
    have hc' : c = S * ((-(1 / 2) * (q * (q * q)) * N⁻¹ : ℝ) : EReal) := by
      rw [hc, hr', hv', Ideal.div, if_neg hN0, Ideal.div, if_neg hV0, ← EReal.coe_inv, ← EReal.coe_inv, hq2, mul_assoc]
      congr 1
    rw [hr', sub_mul_of_pos _ hq.le, add_self, hc', hX i, Ideal.div, if_neg hN0, ← EReal.coe_inv, mul_comm (y i), sub_eq_add_neg]
    congr 1
    have e1 : (q : EReal) * ((X i : EReal) * q * (q * S * (N⁻¹ : ℝ))) = S * ((q * (X i * q) * (q * N⁻¹) : ℝ) : EReal) := by
      push_cast
      ac_rfl
    have e2 : (2 : EReal) * (S * ((-(1 / 2) * (q * (q * q)) * N⁻¹ : ℝ) : EReal) * (X i : EReal)) = S * ((2 * (-(1 / 2) * (q * (q * q)) * N⁻¹) * X i : ℝ) : EReal) := by
      rw [show (2 : EReal) = ((2 : ℝ) : EReal) from rfl, EReal.coe_mul (2 * _), EReal.coe_mul 2]
      ac_rfl
    rw [e1, e2, ← mul_neg, ← EReal.coe_neg]
    congr 2
    ring
  · push Not at H
    obtain ⟨k, hk⟩ := H
    have hv' : v = ⊤ := by
      rw [hv, sum_sq_top x k hk, Ideal.div, if_neg hN0, ← EReal.coe_inv, EReal.top_mul_coe_of_pos (by positivity), EReal.top_add_coe]
    have hr' : r = 0 := by rw [hr, hv']; rfl
    have hc' : c = 0 := by
      rw [hc, hr', Ideal.div, if_neg hN0, hv', Ideal.div, if_neg (by simp)]
      simp
    rw [hr', hc']
    simp

/-- A sum over columns, block of columns by block. -/
theorem sum_blocks (n q : ℕ) (h : n = 4 * q) (f : ℕ → EReal) :
    ∑ k : Fin n, f k.val = ∑ k : Fin q, f (q * 0 + k.val) + ∑ k : Fin q, f (q * 1 + k.val) + ∑ k : Fin q, f (q * 2 + k.val) + ∑ k : Fin q, f (q * 3 + k.val) := by
  subst h
  rw [← Fin.sum_univ_univ_mul_add 4 q f, Fin.sum_univ_four]
  simp only [Nat.mul_comm q]
  rfl

/-- One of the blocks along the first axis, loaded on its own. -/
theorem ld_part {n r c : ℕ} {φ : EltTy} (B : Vec Ideal ⟨3, ![n, r, c]⟩ φ) (k : ℕ) (hk : k < n) (inb) (a : Fin r) (b : Fin c) :
    (View.ld (Val := Elt Ideal) B (Rect.unit (s := ⟨3, ![n, r, c]⟩) ![k, 0, 0] ![1, r, c] inb) : Vec Ideal ⟨3, ![1, r, c]⟩ φ) (ix3 0 a b) = B (ix3 ⟨k, hk⟩ a b) :=
  View.ld_unit_apply_of _ _ _ _ _ _ fun a => by fin_cases a <;> simp [ix3]

theorem word_1024 : Ideal.ofBits .f32 0x44800000#32 = ((1024 : ℝ) : EReal) := by
  have h : BitVec.extractLsb' 31 1 0x44800000#32 = 0#1 := by decide
  have h2 : 1149239296 >>> 23 % 256 = 137 := by decide
  simp only [Ideal.ofBits, Ideal.ieee]
  norm_num [h, h2]

/-- The normalisation's epsilon, a positive real. -/
theorem word_eps : ∃ e : ℝ, 0 < e ∧ Ideal.ofBits .f32 0x358637BD#32 = (e : EReal) := by
  have h : BitVec.extractLsb' 31 1 0x358637BD#32 = 0#1 := by decide
  have h2 : 897988541 >>> 23 % 256 = 107 := by decide
  simp only [Ideal.ofBits, Ideal.ieee]
  norm_num [h, h2]

theorem word_half : Ideal.ofBits .f32 0xBF000000#32 = ((-(1 / 2) : ℝ) : EReal) := by
  have h : BitVec.extractLsb' 31 1 0xBF000000#32 = 1#1 := by decide
  have h2 : 3204448256 >>> 23 % 256 = 126 := by decide
  simp only [Ideal.ofBits, Ideal.ieee]
  norm_num [h, h2]

/-- An array of one axis as a function of natural numbers, zero outside. -/
def at1 {n : ℕ} (x : Shape.Idx ⟨1, ![n]⟩ → EReal) (c : ℕ) : EReal := if h : c < n then x (ix1 ⟨c, h⟩) else 0

theorem at1_mk {n : ℕ} (x : Shape.Idx ⟨1, ![n]⟩ → EReal) (c : Fin n) : at1 x c.val = x (ix1 c) := dif_pos c.isLt

/-- One over the root mean square of a row. -/
def rstd (X : ℕ → ℕ → EReal) (r : ℕ) : EReal :=
  Ideal.rsqrt (Ideal.div (∑ k : Fin 1024, X r k.val * X r k.val) (Ideal.ofBits .f32 0x44800000#32) + Ideal.ofBits .f32 0x358637BD#32)

/-- The normalised row's gradient on top of what the residual branch brings, `DX` being the gradient of the normalised
    and scaled row. -/
def dh (X R DX : ℕ → ℕ → EReal) (G : ℕ → EReal) (r d : ℕ) : EReal :=
  R r d + rstd X r * (DX r d * G d - X r d * rstd X r
    * Ideal.div (∑ k : Fin 1024, DX r k.val * G k.val * (X r k.val * rstd X r)) (Ideal.ofBits .f32 0x44800000#32))

/-- The scale's gradient. -/
def dgain (X DX : ℕ → ℕ → EReal) (d : ℕ) : EReal := ∑ r : Fin 4096, DX r.val d * (X r.val d * rstd X r.val)

/-- The same gradient by the chain rule: the product, the reciprocal root, the mean and the square, one after the other. -/
theorem dh_chain (X R DX : ℕ → ℕ → EReal) (G : ℕ → EReal) (r : ℕ) (d : Fin 1024) (v c : EReal)
    (hv : v = Ideal.div (∑ k : Fin 1024, X r k.val * X r k.val) (Ideal.ofBits .f32 0x44800000#32) + Ideal.ofBits .f32 0x358637BD#32)
    (hc : c = Ideal.div ((∑ k : Fin 1024, X r k.val * (DX r k.val * G k.val)) * (Ideal.ofBits .f32 0xBF000000#32 * Ideal.div (rstd X r) v))
      (Ideal.ofBits .f32 0x44800000#32)) :
    R r d.val + DX r d.val * G d.val * rstd X r + X r d.val * c + c * X r d.val = dh X R DX G r d.val := by
  obtain ⟨e, he, we⟩ := word_eps
  have hr : rstd X r = Ideal.rsqrt v := by rw [hv, rstd]
  rw [word_1024, we] at hv
  rw [word_1024, word_half] at hc
  rw [dh, word_1024, norm_grad (fun k : Fin 1024 => X r k.val) (fun k : Fin 1024 => DX r k.val * G k.val) d 1024 e (by norm_num) he v (rstd X r) hv hr c hc,
    mul_comm (X r d.val) c, add_assoc, add_assoc, ← add_assoc]

/-- The gradient of what goes into two products, from theirs. -/
def dx2 (DG DUP WG WU : ℕ → ℕ → EReal) (r d : ℕ) : EReal := ∑ k : Fin 2816, DUP r k.val * WU d k.val + ∑ k : Fin 2816, DG r k.val * WG d k.val

/-- The gradient of what goes into one product, from its. -/
def dx1 (DP WI : ℕ → ℕ → EReal) (r d : ℕ) : EReal := ∑ k : Fin 2048, DP r k.val * WI d k.val

end Cert.NormGrad

end
-- ==== Proof.EvenTail.lean ====
module

public import proofs.«01_k».proof.Proof.EvenDef
public import proofs.«01_k».proof.Proof.NormMath
public import proofs.«01_k».proof.Proof.Gen.Kernel6Ideal.Value
public import proofs.«01_k».proof.Proof.Gen.Reference6Ideal.Read

@[expose] public section

set_option maxRecDepth 16384

noncomputable section

namespace Cert.Kernel6Ideal.Even

open Cert.Kernel6Ideal Cert.Kernel6Ideal.Gen Cert.FfnGrad Cert.MixGrad Idealize.ShloMosaic Idealize.ShloMosaic.TcCoe Idealize.SL.Sem
open Cert.NormGrad (at1 at1_mk)
open Cert.Reference6Ideal.Read (val_main_v0 val_main_v29 val_main_v30 val_main_v31 val_main_v35 val_main_v49 val_main_v63 val_main_v77 val_main_v91 val_main_v92 val_main_v93 val_main_v94 val_main_v95 val_main_v96 val_main_v103)

section
variable (x0 : FVec Ideal S4096x1024 .f32) (x1 : FVec Ideal S1024x2048 .f32) (x2 : FVec Ideal S3x512 .f32) (x3 : FVec Ideal S4x128x128 .f32) (x4 : FVec Ideal S512 .f32)
  (σ : Valuation τ sig (Elt Ideal))

/-! The third part, in eight pieces: before the windows, one for each window, and three after them. -/
def p0 : List (HloOp τ sig (Elt Ideal)) := (hostOps0_2 (F := Ideal)).take 5
def p1 : List (HloOp τ sig (Elt Ideal)) := ((hostOps0_2 (F := Ideal)).drop 5).take 15
def p2 : List (HloOp τ sig (Elt Ideal)) := ((hostOps0_2 (F := Ideal)).drop 20).take 15
def p3 : List (HloOp τ sig (Elt Ideal)) := ((hostOps0_2 (F := Ideal)).drop 35).take 15
def p4 : List (HloOp τ sig (Elt Ideal)) := ((hostOps0_2 (F := Ideal)).drop 50).take 15
def p5 : List (HloOp τ sig (Elt Ideal)) := ((hostOps0_2 (F := Ideal)).drop 65).take 4
def p6 : List (HloOp τ sig (Elt Ideal)) := ((hostOps0_2 (F := Ideal)).drop 69).take 1
def p7 : List (HloOp τ sig (Elt Ideal)) := (hostOps0_2 (F := Ideal)).drop 70

theorem pieces : hostOps0_2 (F := Ideal) = p0 ++ (p1 ++ (p2 ++ (p3 ++ (p4 ++ (p5 ++ (p6 ++ p7)))))) := rfl

/-- What the pieces read from before them. -/
structure Past : Prop where
  h28 : σ (Proc.devRef .tc main_v28) = val_main_v29 (F := Ideal) x0 x1 x2
  h29 : σ (Proc.devRef .tc main_v29) = val_main_v30 (F := Ideal) x0 x1
  h30 : σ (Proc.devRef .tc main_v30) = val_main_v31 (F := Ideal) x0 x1
  h3 : σ (Proc.devRef .tc main_arg3) = x3
  h4 : σ (Proc.devRef .tc main_arg4) = x4

set_option maxHeartbeats 4000000 in
theorem past0 (H : Past x0 x1 x2 x3 x4 σ) :
    Past x0 x1 x2 x3 x4 (StableHlo.after p0 σ)
      ∧ StableHlo.after p0 σ (Proc.devRef .tc main_v34) = val_main_v35 (F := Ideal) := by
  unfold p0
  simp only [hostOps0_2, List.drop_succ_cons, List.drop_zero, List.take_succ_cons, List.take_zero]
  refine ⟨⟨?_, ?_, ?_, ?_, ?_⟩, ?_⟩
  · refine Eq.trans ?_ H.h28
    entry_read
    rfl
  · refine Eq.trans ?_ H.h29
    entry_read
    rfl
  · refine Eq.trans ?_ H.h30
    entry_read
    rfl
  · refine Eq.trans ?_ H.h3
    entry_read
    rfl
  · refine Eq.trans ?_ H.h4
    entry_read
    rfl
  · entry_read
    rfl

set_option maxHeartbeats 4000000 in
theorem past1 (H : Past x0 x1 x2 x3 x4 σ) (h34 : σ (Proc.devRef .tc main_v34) = val_main_v35 (F := Ideal)) :
    Past x0 x1 x2 x3 x4 (StableHlo.after p1 σ)
      ∧ StableHlo.after p1 σ (Proc.devRef .tc main_v34) = val_main_v35 (F := Ideal)
      ∧ StableHlo.after p1 σ (Proc.devRef .tc main_v47) = val_main_v49 (F := Ideal) x0 x1 := by
  unfold p1
  simp only [hostOps0_2, List.drop_succ_cons, List.drop_zero, List.take_succ_cons, List.take_zero]
  refine ⟨⟨?_, ?_, ?_, ?_, ?_⟩, ?_, ?_⟩
  · refine Eq.trans ?_ H.h28
    entry_read
    rfl
  · refine Eq.trans ?_ H.h29
    entry_read
    rfl
  · refine Eq.trans ?_ H.h30
    entry_read
    rfl
  · refine Eq.trans ?_ H.h3
    entry_read
    rfl
  · refine Eq.trans ?_ H.h4
    entry_read
    rfl
  · refine Eq.trans ?_ h34
    entry_read
    rfl
  · entry_read
    rw [H.h29, H.h30, h34]
    rfl

set_option maxHeartbeats 4000000 in
theorem past2 (H : Past x0 x1 x2 x3 x4 σ) (h34 : σ (Proc.devRef .tc main_v34) = val_main_v35 (F := Ideal)) (h47 : σ (Proc.devRef .tc main_v47) = val_main_v49 (F := Ideal) x0 x1) :
    Past x0 x1 x2 x3 x4 (StableHlo.after p2 σ)
      ∧ StableHlo.after p2 σ (Proc.devRef .tc main_v34) = val_main_v35 (F := Ideal)
      ∧ StableHlo.after p2 σ (Proc.devRef .tc main_v47) = val_main_v49 (F := Ideal) x0 x1
      ∧ StableHlo.after p2 σ (Proc.devRef .tc main_v60) = val_main_v63 (F := Ideal) x0 x1 := by
  unfold p2
  simp only [hostOps0_2, List.drop_succ_cons, List.drop_zero, List.take_succ_cons, List.take_zero]
  refine ⟨⟨?_, ?_, ?_, ?_, ?_⟩, ?_, ?_, ?_⟩
  · refine Eq.trans ?_ H.h28
    entry_read
    rfl
  · refine Eq.trans ?_ H.h29
    entry_read
    rfl
  · refine Eq.trans ?_ H.h30
    entry_read
    rfl
  · refine Eq.trans ?_ H.h3
    entry_read
    rfl
  · refine Eq.trans ?_ H.h4
    entry_read
    rfl
  · refine Eq.trans ?_ h34
    entry_read
    rfl
  · refine Eq.trans ?_ h47
    entry_read
    rfl
  · entry_read
    rw [H.h29, H.h30, h34]
    rfl

set_option maxHeartbeats 4000000 in
theorem past3 (H : Past x0 x1 x2 x3 x4 σ) (h34 : σ (Proc.devRef .tc main_v34) = val_main_v35 (F := Ideal)) (h47 : σ (Proc.devRef .tc main_v47) = val_main_v49 (F := Ideal) x0 x1) (h60 : σ (Proc.devRef .tc main_v60) = val_main_v63 (F := Ideal) x0 x1) :
    Past x0 x1 x2 x3 x4 (StableHlo.after p3 σ)
      ∧ StableHlo.after p3 σ (Proc.devRef .tc main_v34) = val_main_v35 (F := Ideal)
      ∧ StableHlo.after p3 σ (Proc.devRef .tc main_v47) = val_main_v49 (F := Ideal) x0 x1
      ∧ StableHlo.after p3 σ (Proc.devRef .tc main_v60) = val_main_v63 (F := Ideal) x0 x1
      ∧ StableHlo.after p3 σ (Proc.devRef .tc main_v73) = val_main_v77 (F := Ideal) x0 x1 := by
  unfold p3
  simp only [hostOps0_2, List.drop_succ_cons, List.drop_zero, List.take_succ_cons, List.take_zero]
  refine ⟨⟨?_, ?_, ?_, ?_, ?_⟩, ?_, ?_, ?_, ?_⟩
  · refine Eq.trans ?_ H.h28
    entry_read
    rfl
  · refine Eq.trans ?_ H.h29
    entry_read
    rfl
  · refine Eq.trans ?_ H.h30
    entry_read
    rfl
  · refine Eq.trans ?_ H.h3
    entry_read
    rfl
  · refine Eq.trans ?_ H.h4
    entry_read
    rfl
  · refine Eq.trans ?_ h34
    entry_read
    rfl
  · refine Eq.trans ?_ h47
    entry_read
    rfl
  · refine Eq.trans ?_ h60
    entry_read
    rfl
  · entry_read
    rw [H.h29, H.h30, h34]
    rfl

set_option maxHeartbeats 4000000 in
theorem past4 (H : Past x0 x1 x2 x3 x4 σ) (h34 : σ (Proc.devRef .tc main_v34) = val_main_v35 (F := Ideal)) (h47 : σ (Proc.devRef .tc main_v47) = val_main_v49 (F := Ideal) x0 x1) (h60 : σ (Proc.devRef .tc main_v60) = val_main_v63 (F := Ideal) x0 x1) (h73 : σ (Proc.devRef .tc main_v73) = val_main_v77 (F := Ideal) x0 x1) :
    Past x0 x1 x2 x3 x4 (StableHlo.after p4 σ)
      ∧ StableHlo.after p4 σ (Proc.devRef .tc main_v34) = val_main_v35 (F := Ideal)
      ∧ StableHlo.after p4 σ (Proc.devRef .tc main_v47) = val_main_v49 (F := Ideal) x0 x1
      ∧ StableHlo.after p4 σ (Proc.devRef .tc main_v60) = val_main_v63 (F := Ideal) x0 x1
      ∧ StableHlo.after p4 σ (Proc.devRef .tc main_v73) = val_main_v77 (F := Ideal) x0 x1
      ∧ StableHlo.after p4 σ (Proc.devRef .tc main_v86) = val_main_v91 (F := Ideal) x0 x1 := by
  unfold p4
  simp only [hostOps0_2, List.drop_succ_cons, List.drop_zero, List.take_succ_cons, List.take_zero]
  refine ⟨⟨?_, ?_, ?_, ?_, ?_⟩, ?_, ?_, ?_, ?_, ?_⟩
  · refine Eq.trans ?_ H.h28
    entry_read
    rfl
  · refine Eq.trans ?_ H.h29
    entry_read
    rfl
  · refine Eq.trans ?_ H.h30
    entry_read
    rfl
  · refine Eq.trans ?_ H.h3
    entry_read
    rfl
  · refine Eq.trans ?_ H.h4
    entry_read
    rfl
  · refine Eq.trans ?_ h34
    entry_read
    rfl
  · refine Eq.trans ?_ h47
    entry_read
    rfl
  · refine Eq.trans ?_ h60
    entry_read
    rfl
  · refine Eq.trans ?_ h73
    entry_read
    rfl
  · entry_read
    rw [H.h29, H.h30, h34]
    rfl

set_option maxHeartbeats 4000000 in
theorem past5 (H : Past x0 x1 x2 x3 x4 σ) (h47 : σ (Proc.devRef .tc main_v47) = val_main_v49 (F := Ideal) x0 x1) (h60 : σ (Proc.devRef .tc main_v60) = val_main_v63 (F := Ideal) x0 x1)
    (h73 : σ (Proc.devRef .tc main_v73) = val_main_v77 (F := Ideal) x0 x1) (h86 : σ (Proc.devRef .tc main_v86) = val_main_v91 (F := Ideal) x0 x1) :
    Past x0 x1 x2 x3 x4 (StableHlo.after p5 σ)
      ∧ StableHlo.after p5 σ (Proc.devRef .tc main_v87) = val_main_v92 (F := Ideal) x0 x1 ∧ StableHlo.after p5 σ (Proc.devRef .tc main_v88) = val_main_v93 (F := Ideal) x0 x1
      ∧ StableHlo.after p5 σ (Proc.devRef .tc main_v89) = val_main_v94 (F := Ideal) x0 x1 ∧ StableHlo.after p5 σ (Proc.devRef .tc main_v90) = val_main_v95 (F := Ideal) x0 x1 := by
  unfold p5
  set_option maxRecDepth 100000 in
  simp only [hostOps0_2, List.drop_succ_cons, List.drop_zero, List.take_succ_cons, List.take_zero]
  refine ⟨⟨?_, ?_, ?_, ?_, ?_⟩, ?_, ?_, ?_, ?_⟩
  · refine Eq.trans ?_ H.h28
    entry_read
    rfl
  · refine Eq.trans ?_ H.h29
    entry_read
    rfl
  · refine Eq.trans ?_ H.h30
    entry_read
    rfl
  · refine Eq.trans ?_ H.h3
    entry_read
    rfl
  · refine Eq.trans ?_ H.h4
    entry_read
    rfl
  · entry_read
    rw [h47]
    rfl
  · entry_read
    rw [h60]
    rfl
  · entry_read
    rw [h73]
    rfl
  · entry_read
    rw [h86]
    rfl

set_option maxHeartbeats 4000000 in
theorem past6 (H : Past x0 x1 x2 x3 x4 σ) (h87 : σ (Proc.devRef .tc main_v87) = val_main_v92 (F := Ideal) x0 x1) (h88 : σ (Proc.devRef .tc main_v88) = val_main_v93 (F := Ideal) x0 x1)
    (h89 : σ (Proc.devRef .tc main_v89) = val_main_v94 (F := Ideal) x0 x1) (h90 : σ (Proc.devRef .tc main_v90) = val_main_v95 (F := Ideal) x0 x1) :
    Past x0 x1 x2 x3 x4 (StableHlo.after p6 σ) ∧ StableHlo.after p6 σ (Proc.devRef .tc main_v91) = val_main_v96 (F := Ideal) x0 x1 := by
  unfold p6
  set_option maxRecDepth 100000 in
  simp only [hostOps0_2, List.drop_succ_cons, List.drop_zero, List.take_succ_cons, List.take_zero]
  refine ⟨⟨?_, ?_, ?_, ?_, ?_⟩, ?_⟩
  · refine Eq.trans ?_ H.h28
    entry_read
    rfl
  · refine Eq.trans ?_ H.h29
    entry_read
    rfl
  · refine Eq.trans ?_ H.h30
    entry_read
    rfl
  · refine Eq.trans ?_ H.h3
    entry_read
    rfl
  · refine Eq.trans ?_ H.h4
    entry_read
    rfl
  · entry_read
    change concatenate S4096x4x128 1 [⟨S4096x1x128, σ (Proc.devRef .tc main_v87)⟩, ⟨S4096x1x128, σ (Proc.devRef .tc main_v88)⟩, ⟨S4096x1x128, σ (Proc.devRef .tc main_v89)⟩, ⟨S4096x1x128, σ (Proc.devRef .tc main_v90)⟩]
      concatenates_S4096x1x128_S4096x1x128_S4096x1x128_S4096x1x128_S4096x4x128_d1 = val_main_v96 (F := Ideal) x0 x1
    rw [h87, h88, h89, h90]
    rfl

set_option maxHeartbeats 4000000 in
theorem past7 (H : Past x0 x1 x2 x3 x4 σ) (h91 : σ (Proc.devRef .tc main_v91) = val_main_v96 (F := Ideal) x0 x1) :
    StableHlo.after p7 σ (Proc.devRef .tc main_v103) = (truncf .bf16 (val_main_v103 (F := Ideal) x0 x1 x2 x3 x4) bitsLt_bf16_f32 : FVec Ideal S4096x1024 .bf16) := by
  unfold p7
  set_option maxRecDepth 100000 in
  simp only [hostOps0_2, List.drop_succ_cons, List.drop_zero]
  entry_read
  rw [H.h28, H.h3, H.h4, h91]
  rfl

theorem tail98 (H : Past x0 x1 x2 x3 x4 σ) :
    StableHlo.after (hostOps0_2 (F := Ideal)) σ (Proc.devRef .tc main_v103) = (truncf .bf16 (val_main_v103 (F := Ideal) x0 x1 x2 x3 x4) bitsLt_bf16_f32 : FVec Ideal S4096x1024 .bf16) := by
  rw [pieces, StableHlo.after_append, StableHlo.after_append, StableHlo.after_append, StableHlo.after_append, StableHlo.after_append, StableHlo.after_append, StableHlo.after_append]
  obtain ⟨H, h34⟩ := past0 x0 x1 x2 x3 x4 σ H
  obtain ⟨H, h34, h47⟩ := past1 x0 x1 x2 x3 x4 _ H h34
  obtain ⟨H, h34, h47, h60⟩ := past2 x0 x1 x2 x3 x4 _ H h34 h47
  obtain ⟨H, h34, h47, h60, h73⟩ := past3 x0 x1 x2 x3 x4 _ H h34 h47 h60
  obtain ⟨H, h34, h47, h60, h73, h86⟩ := past4 x0 x1 x2 x3 x4 _ H h34 h47 h60 h73
  obtain ⟨H, h87, h88, h89, h90⟩ := past5 x0 x1 x2 x3 x4 _ H h47 h60 h73 h86
  obtain ⟨H, h91⟩ := past6 x0 x1 x2 x3 x4 _ H h87 h88 h89 h90
  exact past7 x0 x1 x2 x3 x4 _ H h91

end

end Cert.Kernel6Ideal.Even

end
-- ==== Proof.EvenHost.lean ====
module

public import proofs.«01_k».proof.Proof.EvenTail
public import proofs.«01_k».proof.Proof.NormMath
public import proofs.«01_k».proof.Proof.Gen.Kernel6Ideal.Value
public import proofs.«01_k».proof.Proof.Gen.Reference6Ideal.Read

@[expose] public section

set_option maxRecDepth 16384

noncomputable section

namespace Cert.Kernel6Ideal.Even

open Cert.Kernel6Ideal Cert.Kernel6Ideal.Gen Cert.FfnGrad Cert.MixGrad Idealize.ShloMosaic Idealize.ShloMosaic.TcCoe Idealize.SL.Sem
open Cert.NormGrad (at1 at1_mk)
open Cert.Reference6Ideal.Read (val_main_v0 val_main_v29 val_main_v30 val_main_v31 val_main_v35 val_main_v49 val_main_v63 val_main_v77 val_main_v91 val_main_v103)

section
variable (x0 : FVec Ideal S4096x1024 .f32) (x1 : FVec Ideal S1024x2048 .f32) (x2 : FVec Ideal S3x512 .f32) (x3 : FVec Ideal S4x128x128 .f32) (x4 : FVec Ideal S512 .f32)
  (σ : Valuation τ sig (Elt Ideal))

/-! The host's lines before the grid, part by part: what the convolution's half and the windows' half leave. -/
theorem head28 (h0 : σ (Proc.devRef .tc main_arg0) = x0) (h1 : σ (Proc.devRef .tc main_arg1) = x1) (h2 : σ (Proc.devRef .tc main_arg2) = x2) :
    StableHlo.after (hostOps0 (F := Ideal)) σ (Proc.devRef .tc main_v28) = val_main_v29 (F := Ideal) x0 x1 x2 := by
  entry_read
  rw [h0, h1, h2]
  rfl

theorem head29 (h0 : σ (Proc.devRef .tc main_arg0) = x0) (h1 : σ (Proc.devRef .tc main_arg1) = x1) :
    StableHlo.after (hostOps0 (F := Ideal)) σ (Proc.devRef .tc main_v29) = val_main_v30 (F := Ideal) x0 x1 := by
  entry_read
  rw [h0, h1]
  rfl

theorem mid30 (h29 : σ (Proc.devRef .tc main_v29) = val_main_v30 (F := Ideal) x0 x1) :
    StableHlo.after (hostOps0_1 (F := Ideal)) σ (Proc.devRef .tc main_v30) = val_main_v31 (F := Ideal) x0 x1 := by
  entry_read
  rw [h29]
  rfl

end

variable (m : (ℓ : Loc nD τ sig) → Buf (Elt Ideal) ℓ) (c : Dev nD)

/-! The arguments of @main on device `c`. -/
abbrev a0 : FVec Ideal S4096x1024 .f32 := m ((c.tc : Thread nD τ).loc main_arg0)
abbrev a1 : FVec Ideal S1024x2048 .f32 := m ((c.tc : Thread nD τ).loc main_arg1)
abbrev a2 : FVec Ideal S3x512 .f32 := m ((c.tc : Thread nD τ).loc main_arg2)
abbrev a3 : FVec Ideal S4x128x128 .f32 := m ((c.tc : Thread nD τ).loc main_arg3)
abbrev a4 : FVec Ideal S512 .f32 := m ((c.tc : Thread nD τ).loc main_arg4)
abbrev a5 : FVec Ideal S1024x1024 .f32 := m ((c.tc : Thread nD τ).loc main_arg5)
abbrev a6 : FVec Ideal S4096x1024 .f32 := m ((c.tc : Thread nD τ).loc main_arg6)

/-- The same columns cut into four blocks of 512, block by block. -/
def lay (x : FVec Ideal S4096x2048 .f32) : FVec Ideal S4x4096x512 .bf16 :=
  truncf .bf16 (transpose S4x4096x512 [1, 0, 2] (shapeCast S4096x4x512 x shapeCasts_S4096x2048_S4096x4x512) transposes_S4096x4x512_S4x4096x512_1_0_2) bitsLt_bf16_f32

theorem lay_apply (x : FVec Ideal S4096x2048 .f32) (j : Fin 4) (r : Fin 4096) (f : Fin 512) :
    lay x (ix3 j r f) = x (ix2 r ⟨512 * j.val + f.val, by omega⟩) := by
  pointwise [lay]
  simp only [Nat.mul_comm j.val 512]

/-- What a buffer holds when the grid starts, part by part. -/
theorem V_eq (b : Ref sig .tc) : V m c b = StableHlo.after (hostOps0_2 (F := Ideal)) (StableHlo.after (hostOps0_1 (F := Ideal)) (StableHlo.after (hostOps0 (F := Ideal)) (fun b => m (c, b)))) (Proc.devRef .tc b) := by
  unfold V
  rw [List.flatten_cons, List.flatten_cons, List.flatten_cons, List.flatten_nil, List.append_nil, StableHlo.after_append, StableHlo.after_append]

theorem V102 : V m c main_v102 = lay (val_main_v0 (F := Ideal) (a0 m c) (a1 m c)) := rfl

theorem V103 : V m c main_v103 = (truncf .bf16 (val_main_v103 (F := Ideal) (a0 m c) (a1 m c) (a2 m c) (a3 m c) (a4 m c)) bitsLt_bf16_f32 : FVec Ideal S4096x1024 .bf16) := by
  rw [V_eq]
  have e28 := head28 (a0 m c) (a1 m c) (a2 m c) (fun b => m (c, b)) rfl rfl rfl
  have e29 := head29 (a0 m c) (a1 m c) (fun b => m (c, b)) rfl rfl
  have e3 : StableHlo.after (hostOps0 (F := Ideal)) (fun b => m (c, b)) (Proc.devRef .tc main_arg3) = a3 m c := by entry_read; rfl
  have e4 : StableHlo.after (hostOps0 (F := Ideal)) (fun b => m (c, b)) (Proc.devRef .tc main_arg4) = a4 m c := by entry_read; rfl
  generalize StableHlo.after (hostOps0 (F := Ideal)) (fun b => m (c, b)) = σ at e28 e29 e3 e4 ⊢
  have f30 := mid30 (a0 m c) (a1 m c) σ e29
  have f28 : StableHlo.after (hostOps0_1 (F := Ideal)) σ (Proc.devRef .tc main_v28) = _ := Eq.trans (by entry_read; rfl) e28
  have f29 : StableHlo.after (hostOps0_1 (F := Ideal)) σ (Proc.devRef .tc main_v29) = _ := Eq.trans (by entry_read; rfl) e29
  have f3 : StableHlo.after (hostOps0_1 (F := Ideal)) σ (Proc.devRef .tc main_arg3) = _ := Eq.trans (by entry_read; rfl) e3
  have f4 : StableHlo.after (hostOps0_1 (F := Ideal)) σ (Proc.devRef .tc main_arg4) = _ := Eq.trans (by entry_read; rfl) e4
  exact tail98 (a0 m c) (a1 m c) (a2 m c) (a3 m c) (a4 m c) _ ⟨f28, f29, f30, f3, f4⟩

theorem V104 : V m c main_v104 = (truncf .bf16 (a0 m c) bitsLt_bf16_f32 : FVec Ideal S4096x1024 .bf16) := rfl

theorem V105 : V m c main_v105 = (truncf .bf16 (a6 m c) bitsLt_bf16_f32 : FVec Ideal S4096x1024 .bf16) := rfl

theorem V106 : V m c main_v106 = (truncf .bf16 (a5 m c) bitsLt_bf16_f32 : FVec Ideal S1024x1024 .bf16) := rfl

theorem V2 : V m c main_arg2 = a2 m c := rfl

theorem V107_at (g : Fin 4) (a b : Fin 128) : V m c main_v107 (ix3 g a b) = a3 m c (ix3 g b a) := by
  have e : V m c main_v107 = (transpose S4x128x128 [0, 2, 1] (truncf .bf16 (a3 m c) bitsLt_bf16_f32 : FVec Ideal S4x128x128 .bf16) transposes_S4x128x128_S4x128x128_0_2_1 : FVec Ideal S4x128x128 .bf16) := rfl
  rw [e]
  pointwise

theorem V108_at (f : Fin 512) : V m c main_v108 (ix2 0 f) = a4 m c (ix1 f) := by
  have e : V m c main_v108 = (broadcastInDim S1x512 ![1] bcast_S512_S1x512_1 (a4 m c) : FVec Ideal S1x512 .f32) := rfl
  rw [e]
  pointwise

end Cert.Kernel6Ideal.Even

end
-- ==== Proof.EvenArgs.lean ====
module

public import proofs.«01_k».proof.Proof.EvenHost
public import proofs.«01_k».proof.Proof.NormMath

@[expose] public section

set_option maxRecDepth 16384

noncomputable section

namespace Cert.Kernel6Ideal.Even

open Cert.Kernel6Ideal Cert.Kernel6Ideal.Gen Cert.FfnGrad Cert.MixGrad Idealize.ShloMosaic Idealize.ShloMosaic.TcCoe Idealize.SL.Sem
open Cert.NormGrad (at1 at1_mk)
open Cert.Reference6Ideal.Read (val_main_v0 val_main_v103)

variable (m : (ℓ : Loc nD τ sig) → Buf (Elt Ideal) ℓ) (c : Dev nD)

/-- Where each window's block stands at point `t`: tile `t` of rows. -/
theorem idx : ∀ t : Fin cfg0.N,
    win0_0.index t = ![0, t.val, 0] ∧ (0 < t.val → win0_1.index t = ![0, 32 * t.val - 1, 0]) ∧ (t.val < 7 → win0_2.index t = ![0, 32 * (t.val + 1), 0])
    ∧ win0_3.index t = ![t.val, 0] ∧ win0_4.index t = ![t.val, 0] ∧ win0_5.index t = ![t.val, 0]
    ∧ (t.val < 7 → win0_6.index t = ![32 * (t.val + 1), 0]) ∧ win0_7.index t = ![0, 0] ∧ win0_8.index t = ![0, 0]
    ∧ win0_10.index t = ![0, 0, 0] ∧ win0_11.index t = ![0, 0] ∧ ((grid0.coords t) 0).val = t.val :=
  (by decide +kernel : ∀ t : Fin grid0.N,
    win0_0.index t = ![0, t.val, 0] ∧ (0 < t.val → win0_1.index t = ![0, 32 * t.val - 1, 0]) ∧ (t.val < 7 → win0_2.index t = ![0, 32 * (t.val + 1), 0])
    ∧ win0_3.index t = ![t.val, 0] ∧ win0_4.index t = ![t.val, 0] ∧ win0_5.index t = ![t.val, 0]
    ∧ (t.val < 7 → win0_6.index t = ![32 * (t.val + 1), 0]) ∧ win0_7.index t = ![0, 0] ∧ win0_8.index t = ![0, 0]
    ∧ win0_10.index t = ![0, 0, 0] ∧ win0_11.index t = ![0, 0] ∧ ((grid0.coords t) 0).val = t.val)

theorem lt8 (t : Fin cfg0.N) : t.val < 8 := t.isLt

/-! The whole arrays behind the gradient, at device `c`'s arguments. -/
abbrev P : ℕ → ℕ → EReal := at2 (val_main_v0 (F := Ideal) (a0 m c) (a1 m c))
abbrev MIX : ℕ → ℕ → EReal := at2 (val_main_v103 (F := Ideal) (a0 m c) (a1 m c) (a2 m c) (a3 m c) (a4 m c))
abbrev XN : ℕ → ℕ → EReal := at2 (a0 m c)
abbrev DH : ℕ → ℕ → EReal := at2 (a6 m c)
abbrev WO : ℕ → ℕ → EReal := at2 (a5 m c)
abbrev W : ℕ → ℕ → EReal := at2 (a2 m c)
abbrev PS : ℕ → EReal := at1 (a4 m c)
abbrev WP : ℕ → ℕ → ℕ → EReal := at3 (a3 m c)

set_option maxHeartbeats 4000000 in
/-- The blocks at point `t`, as the payload lemmas ask for them. -/
theorem tile (t : Fin cfg0.N) :
    TileAt t.val (P m c) (MIX m c) (XN m c) (DH m c) (WO m c) (W m c) (PS m c) (WP m c)
      (iblk m c 0 t) (iblk m c 1 t) (iblk m c 2 t) (iblk m c 3 t) (iblk m c 4 t) (iblk m c 5 t) (iblk m c 6 t) (iblk m c 7 t) (iblk m c 8 t) (iblk m c 10 t) (iblk m c 11 t) := by
  obtain ⟨e0, e1, e2, e3, e4, e5, e6, e7, e8, e10, e11, -⟩ := idx t
  have ht := lt8 t
  refine ⟨by omega, fun r d h => at2_past _ _ _ h, fun k a f => ?_, fun k a f h => ?_, fun k a f h => ?_, fun a d => ?_, fun a d => ?_, fun a d => ?_, fun a d h => ?_, fun e d => ?_, fun k f => ?_, fun g a b => ?_, fun f => ?_⟩
  · rw [P, at2_of _ _ _ (by omega) (by omega)]
    refine Eq.trans (b := V m c main_v102 (ix3 k (⟨512 * t.val + a.val, by omega⟩ : Fin 4096) f)) ?_ ?_
    · blk_ext [iblk, e0]
    · rw [V102, lay_apply]
  · rw [P, at2_of _ _ _ (by omega) (by omega)]
    refine Eq.trans (b := V m c main_v102 (ix3 k (⟨512 * t.val + a.val - 16, by omega⟩ : Fin 4096) f)) ?_ ?_
    · blk_ext [iblk, e1 h]
    · rw [V102, lay_apply]
  · rw [P, at2_of _ _ _ (by omega) (by omega)]
    refine Eq.trans (b := V m c main_v102 (ix3 k (⟨512 * t.val + (512 + a.val), by omega⟩ : Fin 4096) f)) ?_ ?_
    · blk_ext [iblk, e2 h]
    · rw [V102, lay_apply]
  · rw [MIX, at2_of _ _ _ (by omega) d.isLt]
    refine Eq.trans (b := V m c main_v103 (ix2 (⟨512 * t.val + a.val, by omega⟩ : Fin 4096) d)) ?_ ?_
    · blk_ext [iblk, e3]
    · rw [V103]
      rfl
  · rw [XN, at2_of _ _ _ (by omega) d.isLt]
    refine Eq.trans (b := V m c main_v104 (ix2 (⟨512 * t.val + a.val, by omega⟩ : Fin 4096) d)) ?_ ?_
    · blk_ext [iblk, e4]
    · rw [V104]
      rfl
  · rw [DH, at2_of _ _ _ (by omega) d.isLt]
    refine Eq.trans (b := V m c main_v105 (ix2 (⟨512 * t.val + a.val, by omega⟩ : Fin 4096) d)) ?_ ?_
    · blk_ext [iblk, e5]
    · rw [V105]
      rfl
  · rw [DH, at2_of _ _ _ (by omega) d.isLt]
    refine Eq.trans (b := V m c main_v105 (ix2 (⟨512 * t.val + (512 + a.val), by omega⟩ : Fin 4096) d)) ?_ ?_
    · blk_ext [iblk, e6 h]
    · rw [V105]
      rfl
  · rw [WO, at2_mk]
    refine Eq.trans (b := V m c main_v106 (ix2 e d)) ?_ ?_
    · blk_ext [iblk, e7]
    · rw [V106]
      rfl
  · rw [W, at2_mk]
    refine Eq.trans (b := V m c main_arg2 (ix2 k f)) ?_ ?_
    · blk_ext [iblk, e8]
    · rw [V2]
  · rw [WP, at3_mk]
    refine Eq.trans (b := V m c main_v107 (ix3 g a b)) ?_ (V107_at m c _ _ _)
    blk_ext [iblk, e10]
  · rw [PS, at1_mk]
    refine Eq.trans (b := V m c main_v108 (ix2 0 f)) ?_ (V108_at m c _)
    blk_ext [iblk, e11]

/-- The grid coordinate at point `t`. -/
theorem coord0 (t : Fin cfg0.N) : ((grid0.coords t) 0).val = t.val := (idx t).2.2.2.2.2.2.2.2.2.2.2

end Cert.Kernel6Ideal.Even

end
-- ==== Proof.EvenBlk.lean ====
module

public import proofs.«01_k».proof.Proof.EvenPay
public import proofs.«01_k».proof.Proof.EvenDef
public import Idealize.ShloMosaic.Lib.Pipeline.ReadBack

@[expose] public section

set_option maxRecDepth 16384

noncomputable section

namespace Cert.Kernel6Ideal.Even

open Cert.Kernel6Ideal Cert.Kernel6Ideal.Gen Cert.FfnGrad Cert.MixGrad Idealize.ShloMosaic Idealize.ShloMosaic.TcCoe Idealize.SL.Sem

/-! The loads of a body. -/
section
variable (x0 : Vec Ideal S4x512x512 .bf16) (x1 : Vec Ideal S4x16x512 .bf16) (x8 : Vec Ideal S3x512 .f32) (x10 : Vec Ideal S4x128x128 .bf16) (x11 : Vec Ideal S1x512 .f32)

abbrev tl0 : Vec Ideal S1x512x512 .bf16 := View.ld x0 (Rect.unit ![0, 0, 0] ![1, 512, 512] inb_S4x512x512_S1x512x512_0_0_0)
abbrev tl1 : Vec Ideal S1x512x512 .bf16 := View.ld x0 (Rect.unit ![1, 0, 0] ![1, 512, 512] inb_S4x512x512_S1x512x512_1_0_0)
abbrev tl2 : Vec Ideal S1x512x512 .bf16 := View.ld x0 (Rect.unit ![2, 0, 0] ![1, 512, 512] inb_S4x512x512_S1x512x512_2_0_0)
abbrev ed0 : Vec Ideal S1x16x512 .bf16 := View.ld x1 (Rect.unit ![0, 0, 0] ![1, 16, 512] inb_S4x16x512_S1x16x512_0_0_0)
abbrev ed1 : Vec Ideal S1x16x512 .bf16 := View.ld x1 (Rect.unit ![1, 0, 0] ![1, 16, 512] inb_S4x16x512_S1x16x512_1_0_0)
abbrev ed2 : Vec Ideal S1x16x512 .bf16 := View.ld x1 (Rect.unit ![2, 0, 0] ![1, 16, 512] inb_S4x16x512_S1x16x512_2_0_0)
abbrev tp0 : Vec Ideal S1x512 .f32 := View.ld x8 (Rect.unit ![0, 0] ![1, 512] inb_S3x512_S1x512_0_0)
abbrev tp1 : Vec Ideal S1x512 .f32 := View.ld x8 (Rect.unit ![1, 0] ![1, 512] inb_S3x512_S1x512_1_0)
abbrev tp2 : Vec Ideal S1x512 .f32 := View.ld x8 (Rect.unit ![2, 0] ![1, 512] inb_S3x512_S1x512_2_0)
abbrev gm0 : Vec Ideal S1x128x128 .bf16 := View.ld x10 (Rect.unit ![0, 0, 0] ![1, 128, 128] inb_S4x128x128_S1x128x128_0_0_0)
abbrev gm1 : Vec Ideal S1x128x128 .bf16 := View.ld x10 (Rect.unit ![1, 0, 0] ![1, 128, 128] inb_S4x128x128_S1x128x128_1_0_0)
abbrev gm2 : Vec Ideal S1x128x128 .bf16 := View.ld x10 (Rect.unit ![2, 0, 0] ![1, 128, 128] inb_S4x128x128_S1x128x128_2_0_0)
abbrev gm3 : Vec Ideal S1x128x128 .bf16 := View.ld x10 (Rect.unit ![3, 0, 0] ![1, 128, 128] inb_S4x128x128_S1x128x128_3_0_0)
abbrev gs0 : Vec Ideal S1x128 .f32 := View.ld x11 (Rect.unit ![0, 0] ![1, 128] inb_S1x512_S1x128_0_0)
abbrev gs1 : Vec Ideal S1x128 .f32 := View.ld x11 (Rect.unit ![0, 128] ![1, 128] inb_S1x512_S1x128_0_128)
abbrev gs2 : Vec Ideal S1x128 .f32 := View.ld x11 (Rect.unit ![0, 256] ![1, 128] inb_S1x512_S1x128_0_256)
abbrev gs3 : Vec Ideal S1x128 .f32 := View.ld x11 (Rect.unit ![0, 384] ![1, 128] inb_S1x512_S1x128_0_384)

theorem plane_ld {n r f : ℕ} {e : EltTy} (B : Vec Ideal ⟨3, ![n, r, f]⟩ e) (k : ℕ) (inb) (hk : k < n) (a : Fin r) (b : Fin f) :
    (View.ld B (Rect.unit (s := ⟨3, ![n, r, f]⟩) ![k, 0, 0] ![1, r, f] inb) : Vec Ideal ⟨3, ![1, r, f]⟩ e) (ix3 0 a b) = B (ix3 ⟨k, hk⟩ a b) :=
  View.ld_unit_apply_of _ _ _ _ _ _ fun a => by fin_cases a <;> simp [ix3]

theorem slice_ld {n w f : ℕ} {e : EltTy} (B : Vec Ideal ⟨2, ![n, f]⟩ e) (k o : ℕ) (inb) (hk : k < n) (b : Fin w) (ho : o + b.val < f) :
    (View.ld B (Rect.unit (s := ⟨2, ![n, f]⟩) ![k, o] ![1, w] inb) : Vec Ideal ⟨2, ![1, w]⟩ e) (ix2 0 b) = B (ix2 ⟨k, hk⟩ ⟨o + b.val, ho⟩) :=
  View.ld_unit_apply_of _ _ _ _ _ _ fun a => by fin_cases a <;> simp [ix2]

end

theorem pay24_apply (v32 : FVec Ideal S512x512 .f32) (v98 v100 : FVec Ideal S528x512 .f32) (v102 v107 : Vec Ideal S1x512 .f32) (a f : Fin 512) :
    k0_pay24 (F := Ideal) v32 v98 v100 v102 v107 (ix3 0 a f) = k0_pay23 (F := Ideal) v98 v100 v102 v107 (ix2 a f) * v32 (ix2 a f) := by
  unfold k0_pay24
  generalize k0_pay23 (F := Ideal) v98 v100 v102 v107 = M
  pointwise

theorem pay25_apply (v29 : FVec Ideal S512x512 .f32) (v98 v100 : FVec Ideal S528x512 .f32) (v102 v107 : Vec Ideal S1x512 .f32) (a f : Fin 512) :
    k0_pay25 (F := Ideal) v29 v98 v100 v102 v107 (ix3 0 a f) = k0_pay23 (F := Ideal) v98 v100 v102 v107 (ix2 a f) * v29 (ix2 a f) := by
  unfold k0_pay25
  generalize k0_pay23 (F := Ideal) v98 v100 v102 v107 = M
  pointwise

variable {i : ℕ} {P MIX XN DH WO W : ℕ → ℕ → EReal} {PS : ℕ → EReal} {WP : ℕ → ℕ → ℕ → EReal}
    {x0 : Vec Ideal S4x512x512 .bf16} {x1 x2 : Vec Ideal S4x16x512 .bf16} {x3 x4 x5 : Vec Ideal S512x1024 .bf16} {x6 : Vec Ideal S16x1024 .bf16}
    {x7 : Vec Ideal S1024x1024 .bf16} {x8 : Vec Ideal S3x512 .f32} {x10 : Vec Ideal S4x128x128 .bf16} {x11 : Vec Ideal S1x512 .f32}

/-- What the convolution reads, two rows early, on a tile. -/
theorem cvT (T : TileAt i P MIX XN DH WO W PS WP x0 x1 x2 x3 x4 x5 x6 x7 x8 x10 x11) (ig : grid0.Coords) (hig : (ig 0).val = i) (b : ℕ) (hb : b + 14 < 528) (f : Fin 512) :
    k0_pay14 (F := Ideal) (k0_pay7 ig) (tl1 x0) (tl2 x0) (ed1 x1) (ed2 x1) (ix2 (⟨b + 14, hb⟩ : Fin 528) f) = cvp P (512 * i + b) f.val :=
  cv_at ig hig _ _ _ _ (fun a f => (plane_ld x0 1 _ (by decide) a f).trans (T.h0 1 a f)) (fun a f => (plane_ld x0 2 _ (by decide) a f).trans (T.h0 2 a f))
    (fun a f h => (plane_ld x1 1 _ (by decide) a f).trans (T.h1 1 a f h)) (fun a f h => (plane_ld x1 2 _ (by decide) a f).trans (T.h1 2 a f h)) b hb f

theorem tl0_at (T : TileAt i P MIX XN DH WO W PS WP x0 x1 x2 x3 x4 x5 x6 x7 x8 x10 x11) (a f : Fin 512) : tl0 x0 (ix3 0 a f) = P (512 * i + a.val) f.val :=
  (plane_ld x0 0 _ (by decide) a f).trans ((T.h0 0 a f).trans (by rw [show 512 * (0 : Fin 4).val + f.val = f.val by simp]))

theorem dccT (T : TileAt i P MIX XN DH WO W PS WP x0 x1 x2 x3 x4 x5 x6 x7 x8 x10 x11) (ig : grid0.Coords) (hig : (ig 0).val = i) (a : Fin 528) (f : Fin 512) :
    k0_pay21 (F := Ideal) (k0_pay8 ig) (k0_pay10 x5 x6 x7) (k0_pay17 (k0_pay10 x5 x6 x7) (k0_pay11 (tl0 x0))) (ed0 x2) (ix2 a f) = dcc DH WO P (512 * i + a.val) f.val :=
  dcc_at T ig hig _ _ (tl0_at T)
    (fun a f h => (plane_ld x2 0 _ (by decide) a f).trans ((T.h2 0 a f h).trans (by rw [show 512 * (0 : Fin 4).val + f.val = f.val by simp]))) a f

theorem dcc0 (T : TileAt i P MIX XN DH WO W PS WP x0 x1 x2 x3 x4 x5 x6 x7 x8 x10 x11) (a f : Fin 512) :
    k0_pay17 (F := Ideal) (k0_pay10 x5 x6 x7) (k0_pay11 (tl0 x0)) (ix2 a f) = dcc DH WO P (512 * i + a.val) f.val := by
  have e11 : k0_pay11 (F := Ideal) (tl0 x0) (ix2 a f) = tl0 x0 (ix3 0 a f) := by
    generalize tl0 x0 = B
    pointwise [k0_pay11]
  rw [pay17_apply, e11, tl0_at T, dcc]
  exact congrArg (· * _) (dmix_at T ⟨a.val, by omega⟩ ⟨f.val, by omega⟩ (.inl a.isLt))

theorem tap_at (T : TileAt i P MIX XN DH WO W PS WP x0 x1 x2 x3 x4 x5 x6 x7 x8 x10 x11) (k : ℕ) (inb) (hk : k < 3) (f : Fin 512) :
    (View.ld x8 (Rect.unit (s := S3x512) ![k, 0] ![1, 512] inb) : Vec Ideal S1x512 .f32) (ix2 0 f) = W k f.val :=
  (slice_ld x8 k 0 inb hk f (by omega)).trans ((T.h8 _ _).trans (congrArg (W k) (Nat.zero_add _)))

theorem dcvT (T : TileAt i P MIX XN DH WO W PS WP x0 x1 x2 x3 x4 x5 x6 x7 x8 x10 x11) (ig : grid0.Coords) (hig : (ig 0).val = i) (a f : Fin 512) :
    k0_pay23 (F := Ideal) (k0_pay21 (k0_pay8 ig) (k0_pay10 x5 x6 x7) (k0_pay17 (k0_pay10 x5 x6 x7) (k0_pay11 (tl0 x0))) (ed0 x2)) (k0_pay22 (tp2 x8)) (tp1 x8) (tp0 x8) (ix2 a f)
      = dcv DH WO P W (512 * i + a.val) f.val := by
  rw [pay23_apply, dccT T ig hig, dccT T ig hig, dccT T ig hig, dcv]
  exact congrArg₂ (· + ·) (congrArg₂ (· + ·) (congrArg (· * _) (tap_at T 2 _ (by decide) f)) (congrArg (· * _) (tap_at T 1 _ (by decide) f))) (congrArg (· * _) (tap_at T 0 _ (by decide) f))

/-! The stores of the input's product's gradient. -/
theorem part0 (T : TileAt i P MIX XN DH WO W PS WP x0 x1 x2 x3 x4 x5 x6 x7 x8 x10 x11) (ig : grid0.Coords) (hig : (ig 0).val = i) (a f : Fin 512) :
    k0_pay16 (F := Ideal) (k0_pay7 ig) (k0_pay10 x5 x6 x7) (tl1 x0) (tl2 x0) (ed1 x1) (ed2 x1) (tp0 x8) (tp1 x8) (tp2 x8) (ix3 0 a f) = dp DH WO P W PS WP 0 (512 * i + a.val) f.val := by
  rw [pay16_apply, cvT T ig hig, cvT T ig hig, cvT T ig hig, dp, if_pos rfl, conv]
  exact congrArg₂ (· * ·) (dmix_at T ⟨a.val, by omega⟩ ⟨f.val, by omega⟩ (.inl a.isLt))
    (congrArg₂ (· + ·) (congrArg₂ (· + ·) (congrArg (· * _) (tap_at T 0 _ (by decide) f)) (congrArg (· * _) (tap_at T 1 _ (by decide) f))) (congrArg (· * _) (tap_at T 2 _ (by decide) f)))

theorem part1 (T : TileAt i P MIX XN DH WO W PS WP x0 x1 x2 x3 x4 x5 x6 x7 x8 x10 x11) (ig : grid0.Coords) (hig : (ig 0).val = i) (a f : Fin 512) :
    k0_pay24 (F := Ideal) (k0_pay13 (tl2 x0)) (k0_pay21 (k0_pay8 ig) (k0_pay10 x5 x6 x7) (k0_pay17 (k0_pay10 x5 x6 x7) (k0_pay11 (tl0 x0))) (ed0 x2)) (k0_pay22 (tp2 x8)) (tp1 x8) (tp0 x8) (ix3 0 a f)
      = dp DH WO P W PS WP 1 (512 * i + a.val) f.val := by
  have e : k0_pay13 (F := Ideal) (tl2 x0) (ix2 a f) = tl2 x0 (ix3 0 a f) := by
    generalize tl2 x0 = B
    pointwise [k0_pay13]
  rw [pay24_apply, dcvT T ig hig, e, dp, if_neg (by decide), if_pos rfl]
  exact congrArg (_ * ·) ((plane_ld x0 2 _ (by decide) a f).trans (T.h0 2 a f))

theorem part2 (T : TileAt i P MIX XN DH WO W PS WP x0 x1 x2 x3 x4 x5 x6 x7 x8 x10 x11) (ig : grid0.Coords) (hig : (ig 0).val = i) (a f : Fin 512) :
    k0_pay25 (F := Ideal) (k0_pay12 (tl1 x0)) (k0_pay21 (k0_pay8 ig) (k0_pay10 x5 x6 x7) (k0_pay17 (k0_pay10 x5 x6 x7) (k0_pay11 (tl0 x0))) (ed0 x2)) (k0_pay22 (tp2 x8)) (tp1 x8) (tp0 x8) (ix3 0 a f)
      = dp DH WO P W PS WP 2 (512 * i + a.val) f.val := by
  have e : k0_pay12 (F := Ideal) (tl1 x0) (ix2 a f) = tl1 x0 (ix3 0 a f) := by
    generalize tl1 x0 = B
    pointwise [k0_pay12]
  rw [pay25_apply, dcvT T ig hig, e, dp, if_neg (by decide), if_neg (by decide), if_pos rfl]
  exact congrArg (_ * ·) ((plane_ld x0 1 _ (by decide) a f).trans (T.h0 1 a f))

theorem dp_group (g r : ℕ) (b : Fin 128) (hg : g < 4) : dz DH WO PS WP g (2 ^ (g + 1)) r b.val = dp DH WO P W PS WP 3 r (128 * g + b.val) := by
  rw [dp, if_neg (by decide), if_neg (by decide), if_neg (by decide), show (128 * g + b.val) / 128 = g by omega, show (128 * g + b.val) % 128 = b.val by omega]

theorem scale_at (T : TileAt i P MIX XN DH WO W PS WP x0 x1 x2 x3 x4 x5 x6 x7 x8 x10 x11) (o : ℕ) (inb) (ho : o + 128 ≤ 512) (f : Fin 128) :
    (View.ld x11 (Rect.unit (s := S1x512) ![0, o] ![1, 128] inb) : Vec Ideal S1x128 .f32) (ix2 0 f) = PS (o + f.val) :=
  (slice_ld x11 0 o inb (by decide) f (by omega)).trans (T.h11 _)

theorem group_at (T : TileAt i P MIX XN DH WO W PS WP x0 x1 x2 x3 x4 x5 x6 x7 x8 x10 x11) (g : ℕ) (inb) (hg : g < 4) (a b : Fin 128) :
    (View.ld x10 (Rect.unit (s := S4x128x128) ![g, 0, 0] ![1, 128, 128] inb) : Vec Ideal S1x128x128 .bf16) (ix3 0 a b) = WP g b.val a.val :=
  (plane_ld x10 g inb hg a b).trans (T.h10 _ _ _)

/-- All the stores a body makes into the gradient of the input's product, last one first. -/
def parts (ig : grid0.Coords) (x0 : Vec Ideal S4x512x512 .bf16) (x1 x2 : Vec Ideal S4x16x512 .bf16) (x5 : Vec Ideal S512x1024 .bf16) (x6 : Vec Ideal S16x1024 .bf16)
    (x7 : Vec Ideal S1024x1024 .bf16) (x8 : Vec Ideal S3x512 .f32) (x10 : Vec Ideal S4x128x128 .bf16) (x11 : Vec Ideal S1x512 .f32) : List (View.Piece (Elt Ideal) S4x512x512 .bf16) :=
  [⟨Rect.unit ![3, 0, 384] ![1, 512, 128] inb_S4x512x512_S1x512x128_3_0_384,
      k0_pay61 (k0_pay28 (BitVec.ofNat 32 (ig 0).val)) (k0_pay59 (k0_pay8 ig) (k0_pay10 x5 x6 x7) (gs3 x11)) (gm3 x10)⟩,
    ⟨Rect.unit ![3, 0, 256] ![1, 512, 128] inb_S4x512x512_S1x512x128_3_0_256,
      k0_pay52 (k0_pay28 (BitVec.ofNat 32 (ig 0).val)) (k0_pay50 (k0_pay8 ig) (k0_pay10 x5 x6 x7) (gs2 x11)) (gm2 x10)⟩,
    ⟨Rect.unit ![3, 0, 128] ![1, 512, 128] inb_S4x512x512_S1x512x128_3_0_128,
      k0_pay46 (k0_pay44 (k0_pay8 ig) (k0_pay10 x5 x6 x7) (k0_pay28 (BitVec.ofNat 32 (ig 0).val)) (k0_pay39 (k0_pay10 x5 x6 x7)) (gs1 x11) (gm1 x10))
        (k0_pay45 (k0_pay8 ig) (k0_pay10 x5 x6 x7) (k0_pay39 (k0_pay10 x5 x6 x7)) (gs1 x11) (gm1 x10))⟩,
    ⟨Rect.unit ![3, 0, 0] ![1, 512, 128] inb_S4x512x512_S1x512x128_3_0_0,
      k0_pay36 (k0_pay28 (BitVec.ofNat 32 (ig 0).val)) (k0_pay32 (k0_pay8 ig) (k0_pay10 x5 x6 x7) (gs0 x11)) (gm0 x10)⟩,
    ⟨Rect.unit ![2, 0, 0] ![1, 512, 512] inb_S4x512x512_S1x512x512_2_0_0,
      k0_pay25 (k0_pay12 (tl1 x0)) (k0_pay21 (k0_pay8 ig) (k0_pay10 x5 x6 x7) (k0_pay17 (k0_pay10 x5 x6 x7) (k0_pay11 (tl0 x0))) (ed0 x2)) (k0_pay22 (tp2 x8)) (tp1 x8) (tp0 x8)⟩,
    ⟨Rect.unit ![1, 0, 0] ![1, 512, 512] inb_S4x512x512_S1x512x512_1_0_0,
      k0_pay24 (k0_pay13 (tl2 x0)) (k0_pay21 (k0_pay8 ig) (k0_pay10 x5 x6 x7) (k0_pay17 (k0_pay10 x5 x6 x7) (k0_pay11 (tl0 x0))) (ed0 x2)) (k0_pay22 (tp2 x8)) (tp1 x8) (tp0 x8)⟩,
    ⟨Rect.unit ![0, 0, 0] ![1, 512, 512] inb_S4x512x512_S1x512x512_0_0_0,
      k0_pay16 (k0_pay7 ig) (k0_pay10 x5 x6 x7) (tl1 x0) (tl2 x0) (ed1 x1) (ed2 x1) (tp0 x8) (tp1 x8) (tp2 x8)⟩]

/-- The gradient of the input's product on tile `i`. -/
def tileG (i : ℕ) (P DH WO W : ℕ → ℕ → EReal) (PS : ℕ → EReal) (WP : ℕ → ℕ → ℕ → EReal) (y : S4x512x512.Idx) : EReal :=
  dp DH WO P W PS WP (y 0).val (512 * i + (y 1).val) (y 2).val

theorem tileG_emb (off size : Fin S4x512x512.rank → ℕ) (inb : ∀ a, off a + size a ≤ S4x512x512.size a) (x : (Rect.unit (s := S4x512x512) off size inb).shape.Idx) :
    tileG i P DH WO W PS WP ((Rect.unit (s := S4x512x512) off size inb).emb x)
      = dp DH WO P W PS WP (off 0 + (x 0).val) (512 * i + (off 1 + (x 1).val)) (off 2 + (x 2).val) := by
  have e := fun a => Rect.idx_unit_val off size inb x a
  change dp DH WO P W PS WP ((Rect.unit (s := S4x512x512) off size inb).idx x 0).val (512 * i + ((Rect.unit (s := S4x512x512) off size inb).idx x 1).val) ((Rect.unit (s := S4x512x512) off size inb).idx x 2).val = _
  rw [e, e, e]

/-- A whole part's store. -/
theorem whole_piece (k : ℕ) (inb) (w : Vec Ideal S1x512x512 .bf16) (h : ∀ a f : Fin 512, w (ix3 0 a f) = dp DH WO P W PS WP k (512 * i + a.val) f.val)
    (x : (Rect.unit (s := S4x512x512) ![k, 0, 0] ![1, 512, 512] inb).shape.Idx) :
    w x = tileG i P DH WO W PS WP ((Rect.unit (s := S4x512x512) ![k, 0, 0] ![1, 512, 512] inb).emb x) := by
  rw [tileG_emb]
  change S1x512x512.Idx at x
  idx_vars x
  obtain rfl := Subsingleton.elim x0 0
  refine (h x1 x2).trans ?_
  simp [ix3]

/-- A group's store in the last part. -/
theorem group_piece (g o w : ℕ) (ho : o = 128 * g) (hw : w = 2 ^ (g + 1)) (hg : g < 4) (inb) (v : Vec Ideal S1x512x128 .bf16)
    (h : ∀ (a : Fin 512) (b : Fin 128), v (ix3 0 a b) = dz DH WO PS WP g w (512 * i + a.val) b.val)
    (x : (Rect.unit (s := S4x512x512) ![3, 0, o] ![1, 512, 128] inb).shape.Idx) :
    v x = tileG i P DH WO W PS WP ((Rect.unit (s := S4x512x512) ![3, 0, o] ![1, 512, 128] inb).emb x) := by
  subst ho hw
  rw [tileG_emb]
  change S1x512x128.Idx at x
  idx_vars x
  obtain rfl := Subsingleton.elim x0 0
  refine (h x1 x2).trans ((dp_group (P := P) (W := W) g _ x2 hg).trans ?_)
  simp [ix3]

theorem parts_canon (T : TileAt i P MIX XN DH WO W PS WP x0 x1 x2 x3 x4 x5 x6 x7 x8 x10 x11) (ig : grid0.Coords) (hig : (ig 0).val = i) (y : S4x512x512.Idx) :
    View.canon (Val := Elt Ideal) (parts ig x0 x1 x2 x5 x6 x7 x8 x10 x11) y = tileG i P DH WO W PS WP y := by
  have hP : View.PiecesOf (Val := Elt Ideal) (tileG i P DH WO W PS WP) (parts ig x0 x1 x2 x5 x6 x7 x8 x10 x11) :=
    ⟨group_piece 3 384 16 rfl rfl (by decide) inb_S4x512x512_S1x512x128_3_0_384 _ (store3 T ig hig (gs3 x11) (gm3 x10) (scale_at T 384 _ (by decide)) (group_at T 3 _ (by decide))),
      group_piece 2 256 8 rfl rfl (by decide) inb_S4x512x512_S1x512x128_3_0_256 _ (store2 T ig hig (gs2 x11) (gm2 x10) (scale_at T 256 _ (by decide)) (group_at T 2 _ (by decide))),
      group_piece 1 128 4 rfl rfl (by decide) inb_S4x512x512_S1x512x128_3_0_128 _ (store1 T ig hig (gs1 x11) (gm1 x10) (scale_at T 128 _ (by decide)) (group_at T 1 _ (by decide))),
      group_piece 0 0 2 rfl rfl (by decide) inb_S4x512x512_S1x512x128_3_0_0 _ (store0 T ig hig (gs0 x11) (gm0 x10) (scale_at T 0 _ (by decide)) (group_at T 0 _ (by decide))),
      whole_piece 2 inb_S4x512x512_S1x512x512_2_0_0 _ (part2 T ig hig), whole_piece 1 inb_S4x512x512_S1x512x512_1_0_0 _ (part1 T ig hig), whole_piece 0 inb_S4x512x512_S1x512x512_0_0_0 _ (part0 T ig hig), trivial⟩
  refine View.canon_apply_of_pieces _ _ hP.mem y ?_
  idx_vars y
  have hs : ∀ (off size : Fin S4x512x512.rank → ℕ) (inb : ∀ a, off a + size a ≤ S4x512x512.size a), (∀ a, off a ≤ ((ix3 y0 y1 y2 : S4x512x512.Idx) a).val ∧ ((ix3 y0 y1 y2 : S4x512x512.Idx) a).val < off a + size a) →
      (ix3 y0 y1 y2 : S4x512x512.Idx) ∈ (Rect.unit (s := S4x512x512) off size inb).set := fun off size inb h => Rect.mem_set_unit.mpr h
  unfold parts
  obtain h | h | h | h | h | h | h : (y0.val = 3 ∧ 384 ≤ y2.val) ∨ (y0.val = 3 ∧ 256 ≤ y2.val ∧ y2.val < 384) ∨ (y0.val = 3 ∧ 128 ≤ y2.val ∧ y2.val < 256)
      ∨ (y0.val = 3 ∧ y2.val < 128) ∨ y0.val = 2 ∨ y0.val = 1 ∨ y0.val = 0 := by omega
  · exact ⟨_, .head _, hs _ _ inb_S4x512x512_S1x512x128_3_0_384 fun a => by fin_cases a <;> simp [ix3] <;> omega⟩
  · exact ⟨_, .tail _ (.head _), hs _ _ inb_S4x512x512_S1x512x128_3_0_256 fun a => by fin_cases a <;> simp [ix3] <;> omega⟩
  · exact ⟨_, .tail _ (.tail _ (.head _)), hs _ _ inb_S4x512x512_S1x512x128_3_0_128 fun a => by fin_cases a <;> simp [ix3] <;> omega⟩
  · exact ⟨_, .tail _ (.tail _ (.tail _ (.head _))), hs _ _ inb_S4x512x512_S1x512x128_3_0_0 fun a => by fin_cases a <;> simp [ix3] <;> omega⟩
  · exact ⟨_, .tail _ (.tail _ (.tail _ (.tail _ (.head _)))), hs _ _ inb_S4x512x512_S1x512x512_2_0_0 fun a => by fin_cases a <;> simp [ix3] <;> omega⟩
  · exact ⟨_, .tail _ (.tail _ (.tail _ (.tail _ (.tail _ (.head _))))), hs _ _ inb_S4x512x512_S1x512x512_1_0_0 fun a => by fin_cases a <;> simp [ix3] <;> omega⟩
  · exact ⟨_, .tail _ (.tail _ (.tail _ (.tail _ (.tail _ (.tail _ (.head _)))))), hs _ _ inb_S4x512x512_S1x512x512_0_0_0 fun a => by fin_cases a <;> simp [ix3] <;> omega⟩

/-- A part read back after all the stores. -/
theorem parts_read (T : TileAt i P MIX XN DH WO W PS WP x0 x1 x2 x3 x4 x5 x6 x7 x8 x10 x11) (ig : grid0.Coords) (hig : (ig 0).val = i)
    {κ : Kind} {sp : Space} (v : View sig κ sp S4x512x512 .bf16) (k : ℕ) (inb) (a f : Fin 512) :
    (v.readCov (Val := Elt Ideal) (parts ig x0 x1 x2 x5 x6 x7 x8 x10 x11) (Rect.unit (s := S4x512x512) ![k, 0, 0] ![1, 512, 512] inb).toLoadRect : Vec Ideal S1x512x512 .bf16) (ix3 0 a f)
      = dp DH WO P W PS WP k (512 * i + a.val) f.val := by
  rw [View.readCov_eq_canon']
  refine (parts_canon T ig hig _).trans ((tileG_emb ![k, 0, 0] ![1, 512, 512] inb (ix3 0 a f : S1x512x512.Idx)).trans ?_)
  simp [ix3]
  rfl

end Cert.Kernel6Ideal.Even

end
-- ==== Proof.EvenOut.lean ====
module

public import proofs.«01_k».proof.Proof.EvenArgs
public import proofs.«01_k».proof.Proof.EvenBlk
public import proofs.«01_k».proof.Proof.BwdOut

@[expose] public section

set_option maxRecDepth 16384

noncomputable section

namespace Cert.Kernel6Ideal.Even

open Cert.Kernel6Ideal Cert.Kernel6Ideal.Gen Cert.FfnGrad Cert.MixGrad Idealize.ShloMosaic Idealize.ShloMosaic.TcCoe Idealize.SL.Sem

/-! Where a plane of an array of three axes stands in it. -/
theorem plane_idx {n r f : ℕ} (k : ℕ) (inb) (hk : k < n) (a : Fin r) (b : Fin f) :
    (Rect.unit (s := ⟨3, ![n, r, f]⟩) ![k, 0, 0] ![1, r, f] inb).emb (ix3 (0 : Fin 1) a b : Shape.Idx ⟨3, ![1, r, f]⟩) = (ix3 ⟨k, hk⟩ a b : Shape.Idx ⟨3, ![n, r, f]⟩) := by
  refine funext fun a => Fin.ext ((Rect.idx_unit_val _ _ _ _ a).trans ?_)
  fin_cases a <;> simp [ix3]

theorem plane_out {n r f : ℕ} (k : ℕ) (inb) (y0 : Fin n) (a : Fin r) (b : Fin f) (h : y0.val ≠ k) :
    (ix3 y0 a b : Shape.Idx ⟨3, ![n, r, f]⟩) ∉ (Rect.unit (s := ⟨3, ![n, r, f]⟩) ![k, 0, 0] ![1, r, f] inb).set := by
  intro hm
  obtain ⟨h1, h2⟩ := Rect.mem_set_unit.mp hm (0 : Fin 3)
  change k ≤ y0.val at h1
  change y0.val < k + 1 at h2
  omega

/-- Four stores, one per part, over anything: a part reads its own store. -/
theorem planes_canon (w0 w1 w2 w3 : Vec Ideal S1x1024x512 .f32) (L : List (View.Piece (Elt Ideal) S4x1024x512 .f32)) (y0 : Fin 4) (e : Fin 1024) (f : Fin 512) (v : EReal)
    (h0 : y0 = 0 → w0 (ix3 0 e f) = v) (h1 : y0 = 1 → w1 (ix3 0 e f) = v) (h2 : y0 = 2 → w2 (ix3 0 e f) = v) (h3 : y0 = 3 → w3 (ix3 0 e f) = v) :
    View.canon (Val := Elt Ideal) ((⟨Rect.unit ![3, 0, 0] ![1, 1024, 512] inb_S4x1024x512_S1x1024x512_3_0_0, w3⟩ : View.Piece (Elt Ideal) S4x1024x512 .f32)
      :: ⟨Rect.unit ![2, 0, 0] ![1, 1024, 512] inb_S4x1024x512_S1x1024x512_2_0_0, w2⟩ :: ⟨Rect.unit ![1, 0, 0] ![1, 1024, 512] inb_S4x1024x512_S1x1024x512_1_0_0, w1⟩
      :: ⟨Rect.unit ![0, 0, 0] ![1, 1024, 512] inb_S4x1024x512_S1x1024x512_0_0_0, w0⟩ :: L) (ix3 y0 e f) = v := by
  have inn : ∀ (k : Fin 4) (inb) (w : Vec Ideal S1x1024x512 .f32) (L : List (View.Piece (Elt Ideal) S4x1024x512 .f32)),
      View.canon (Val := Elt Ideal) ((⟨Rect.unit ![k.val, 0, 0] ![1, 1024, 512] inb, w⟩ : View.Piece (Elt Ideal) S4x1024x512 .f32) :: L) (ix3 k e f) = w (ix3 0 e f) := by
    intro k inb w L
    have := View.canon_cons_emb (Val := Elt Ideal) (Rect.unit (s := S4x1024x512) ![k.val, 0, 0] ![1, 1024, 512] inb) w L (ix3 0 e f : S1x1024x512.Idx)
    exact (congrArg (View.canon (Val := Elt Ideal) _) (plane_idx k.val inb k.isLt e f)).symm.trans this
  have out : ∀ (k : ℕ) (inb) (w : Vec Ideal S1x1024x512 .f32) (L : List (View.Piece (Elt Ideal) S4x1024x512 .f32)), y0.val ≠ k →
      View.canon (Val := Elt Ideal) ((⟨Rect.unit ![k, 0, 0] ![1, 1024, 512] inb, w⟩ : View.Piece (Elt Ideal) S4x1024x512 .f32) :: L) (ix3 y0 e f) = View.canon (Val := Elt Ideal) L (ix3 y0 e f) :=
    fun k inb w L h => View.canon_cons_of_not_mem (Val := Elt Ideal) (⟨Rect.unit ![k, 0, 0] ![1, 1024, 512] inb, w⟩ : View.Piece (Elt Ideal) S4x1024x512 .f32) L (plane_out k inb y0 e f h)
  obtain h | h | h | h : y0 = 0 ∨ y0 = 1 ∨ y0 = 2 ∨ y0 = 3 := by omega
  · refine (out 3 _ _ _ (by omega)).trans ((out 2 _ _ _ (by omega)).trans ((out 1 _ _ _ (by omega)).trans ?_))
    subst h
    exact (inn 0 _ _ _).trans (h0 rfl)
  · refine (out 3 _ _ _ (by omega)).trans ((out 2 _ _ _ (by omega)).trans ?_)
    subst h
    exact (inn 1 _ _ _).trans (h1 rfl)
  · refine (out 3 _ _ _ (by omega)).trans ?_
    subst h
    exact (inn 2 _ _ _).trans (h2 rfl)
  · subst h
    exact (inn 3 _ _ _).trans (h3 rfl)

/-- Three stores, one per row, over anything: a row reads its own store. -/
theorem rows_canon (w0 w1 w2 : Vec Ideal S1x512 .f32) (L : List (View.Piece (Elt Ideal) S3x512 .f32)) (k : Fin 3) (f : Fin 512) (v : EReal)
    (h0 : k = 0 → w0 (ix2 0 f) = v) (h1 : k = 1 → w1 (ix2 0 f) = v) (h2 : k = 2 → w2 (ix2 0 f) = v) :
    View.canon (Val := Elt Ideal) ((⟨Rect.unit ![0, 0] ![1, 512] inb_S3x512_S1x512_0_0, w0⟩ : View.Piece (Elt Ideal) S3x512 .f32)
      :: ⟨Rect.unit ![1, 0] ![1, 512] inb_S3x512_S1x512_1_0, w1⟩ :: ⟨Rect.unit ![2, 0] ![1, 512] inb_S3x512_S1x512_2_0, w2⟩ :: L) (ix2 k f) = v := by
  have inn : ∀ (k : Fin 3) (inb) (w : Vec Ideal S1x512 .f32) (L : List (View.Piece (Elt Ideal) S3x512 .f32)),
      View.canon (Val := Elt Ideal) ((⟨Rect.unit ![k.val, 0] ![1, 512] inb, w⟩ : View.Piece (Elt Ideal) S3x512 .f32) :: L) (ix2 k f) = w (ix2 0 f) := by
    intro k inb w L
    have := View.canon_cons_emb (Val := Elt Ideal) (Rect.unit (s := S3x512) ![k.val, 0] ![1, 512] inb) w L (ix2 0 f : S1x512.Idx)
    refine Eq.trans (congrArg (View.canon (Val := Elt Ideal) _) ?_) this
    refine funext fun a => Fin.ext (Eq.symm ((Rect.idx_unit_val _ _ _ _ a).trans ?_))
    fin_cases a <;> simp [ix2]
  have out : ∀ (j : ℕ) (inb) (w : Vec Ideal S1x512 .f32) (L : List (View.Piece (Elt Ideal) S3x512 .f32)), k.val ≠ j →
      View.canon (Val := Elt Ideal) ((⟨Rect.unit ![j, 0] ![1, 512] inb, w⟩ : View.Piece (Elt Ideal) S3x512 .f32) :: L) (ix2 k f) = View.canon (Val := Elt Ideal) L (ix2 k f) := by
    intro j inb w L h
    refine View.canon_cons_of_not_mem (Val := Elt Ideal) (⟨Rect.unit ![j, 0] ![1, 512] inb, w⟩ : View.Piece (Elt Ideal) S3x512 .f32) L fun hm => ?_
    have hm : ix2 k f ∈ (Rect.unit (s := S3x512) ![j, 0] ![1, 512] inb).set := hm
    have := Rect.mem_set_unit.mp hm (0 : Fin 2)
    simp [ix2] at this
    omega
  obtain h | h | h : k = 0 ∨ k = 1 ∨ k = 2 := by omega
  · subst h
    exact (inn 0 _ _ _).trans (h0 rfl)
  · refine (out 0 _ _ _ (by omega)).trans ?_
    subst h
    exact (inn 1 _ _ _).trans (h1 rfl)
  · refine (out 0 _ _ _ (by omega)).trans ((out 1 _ _ _ (by omega)).trans ?_)
    subst h
    exact (inn 2 _ _ _).trans (h2 rfl)

/-- A loaded row, at a column. -/
theorem row_ld (B : Vec Ideal S3x512 .f32) (k : ℕ) (inb) (hk : k < 3) (f : Fin 512) :
    (View.ld B (Rect.unit (s := S3x512) ![k, 0] ![1, 512] inb) : Vec Ideal S1x512 .f32) (ix2 0 f) = B (ix2 ⟨k, hk⟩ f) :=
  View.ld_unit_apply_of _ _ _ _ _ _ fun a => by fin_cases a <;> simp [ix2]

section
variable {i : ℕ} {P MIX XN DH WO W : ℕ → ℕ → EReal} {PS : ℕ → EReal} {WP : ℕ → ℕ → ℕ → EReal}
    {x0 : Vec Ideal S4x512x512 .bf16} {x1 x2 : Vec Ideal S4x16x512 .bf16} {x3 x4 x5 : Vec Ideal S512x1024 .bf16} {x6 : Vec Ideal S16x1024 .bf16}
    {x7 : Vec Ideal S1024x1024 .bf16} {x8 : Vec Ideal S3x512 .f32} {x10 : Vec Ideal S4x128x128 .bf16} {x11 : Vec Ideal S1x512 .f32}

/-- A tile's step of a part of the input's matrix's gradient. -/
theorem add_dwi (T : TileAt i P MIX XN DH WO W PS WP x0 x1 x2 x3 x4 x5 x6 x7 x8 x10 x11) (k : ℕ) (acc : Vec Ideal S1x1024x512 .f32) (d : Vec Ideal S1x512x512 .bf16)
    (hd : ∀ a f : Fin 512, d (ix3 0 a f) = dp DH WO P W PS WP k (512 * i + a.val) f.val) (e : Fin 1024) (f : Fin 512) (z : EReal) (hz : acc (ix3 0 e f) = z) :
    k0_pay62 (F := Ideal) acc x4 d (ix3 0 e f) = z + ∑ a : Fin 512, XN (512 * i + a.val) e.val * dp DH WO P W PS WP k (512 * i + a.val) f.val := by
  rw [pay62_apply, hz]
  exact congrArg _ (Finset.sum_congr rfl fun a _ => congrArg₂ (· * ·) (T.h4 a e) (hd a f))

theorem add_dca2 (T : TileAt i P MIX XN DH WO W PS WP x0 x1 x2 x3 x4 x5 x6 x7 x8 x10 x11) (ig : grid0.Coords) (hig : (ig 0).val = i) (acc : Vec Ideal S1x512 .f32) (f : Fin 512) (z : EReal) (hz : acc (ix2 0 f) = z) :
    k0_pay18 (F := Ideal) (k0_pay14 (k0_pay7 ig) (tl1 x0) (tl2 x0) (ed1 x1) (ed2 x1)) (k0_pay17 (k0_pay10 x5 x6 x7) (k0_pay11 (tl0 x0))) acc (ix2 0 f)
      = z + ∑ a : Fin 512, dcc DH WO P (512 * i + a.val) f.val * cvp P (512 * i + a.val + 2) f.val := by
  rw [pay18_apply, hz]
  exact congrArg _ (Finset.sum_congr rfl fun a _ => congrArg₂ (· * ·) (dcc0 T a f) (cvT T ig hig (a.val + 2) (by omega) f))

theorem add_dca1 (T : TileAt i P MIX XN DH WO W PS WP x0 x1 x2 x3 x4 x5 x6 x7 x8 x10 x11) (ig : grid0.Coords) (hig : (ig 0).val = i) (acc : Vec Ideal S1x512 .f32) (f : Fin 512) (z : EReal) (hz : acc (ix2 0 f) = z) :
    k0_pay19 (F := Ideal) (k0_pay14 (k0_pay7 ig) (tl1 x0) (tl2 x0) (ed1 x1) (ed2 x1)) (k0_pay17 (k0_pay10 x5 x6 x7) (k0_pay11 (tl0 x0))) acc (ix2 0 f)
      = z + ∑ a : Fin 512, dcc DH WO P (512 * i + a.val) f.val * cvp P (512 * i + a.val + 1) f.val := by
  rw [pay19_apply, hz]
  exact congrArg _ (Finset.sum_congr rfl fun a _ => congrArg₂ (· * ·) (dcc0 T a f) (cvT T ig hig (a.val + 1) (by omega) f))

theorem add_dca0 (T : TileAt i P MIX XN DH WO W PS WP x0 x1 x2 x3 x4 x5 x6 x7 x8 x10 x11) (ig : grid0.Coords) (hig : (ig 0).val = i) (acc : Vec Ideal S1x512 .f32) (f : Fin 512) (z : EReal) (hz : acc (ix2 0 f) = z) :
    k0_pay20 (F := Ideal) (k0_pay14 (k0_pay7 ig) (tl1 x0) (tl2 x0) (ed1 x1) (ed2 x1)) (k0_pay17 (k0_pay10 x5 x6 x7) (k0_pay11 (tl0 x0))) acc (ix2 0 f)
      = z + ∑ a : Fin 512, dcc DH WO P (512 * i + a.val) f.val * cvp P (512 * i + a.val) f.val := by
  rw [pay20_apply, hz]
  exact congrArg _ (Finset.sum_congr rfl fun a _ => congrArg₂ (· * ·) (dcc0 T a f) (cvT T ig hig a.val (by omega) f))

end

/-- A block reset at the first tile, to which each of the eight tiles adds its 512 rows' terms. -/
theorem acc_tiles {ι : Type} (f : (n : ℕ) → n < cfg0.N → ι → EReal) (H : ℕ → ι → EReal)
    (h0 : ∀ t : Fin cfg0.N, t.val % 8 = 0 → ∀ i, f t.val t.isLt i = ∑ a : Fin 512, H (512 * t.val + a.val) i)
    (hs : ∀ t : Fin cfg0.N, ¬t.val % 8 = 0 → ∀ i, f t.val t.isLt i
      = f (t.val - 1) (Nat.lt_of_le_of_lt (Nat.sub_le _ _) t.isLt) i + ∑ a : Fin 512, H (512 * t.val + a.val) i)
    (t : Fin cfg0.N) (ht : t.val % 8 = 7) (i : ι) : f t.val t.isLt i = ∑ r : Fin 4096, H r.val i :=
  KernelIdeal.Bwd.acc_rows f (fun _ => H) (fun t h i => (h0 t h i).trans (by rw [Nat.mod_eq_of_lt (lt8 t)])) (fun t h i => (hs t h i).trans (by rw [Nat.mod_eq_of_lt (lt8 t)])) t ht i

variable (m : (ℓ : Loc nD τ sig) → Buf (Elt Ideal) ℓ) (c : Dev nD)

/-! The blocks a point leaves. -/
theorem blk12 (t : Fin cfg0.N) (y : S4x512x512.Idx) : (outsAt0 m c t.val t.isLt).1 y
    = dp (DH m c) (WO m c) (P m c) (W m c) (PS m c) (WP m c) (y 0).val (512 * t.val + (y 1).val) (y 2).val := by
  have T := tile m c t
  by_cases h0 : t.val % 8 = 0
  · rw [outsAt0_A m c t h0]
    frame_out
    exact parts_canon T _ (coord0 t) y
  · rw [outsAt0_B m c t h0]
    frame_out
    exact parts_canon T _ (coord0 t) y

theorem blk13 (t : Fin cfg0.N) (ht : t.val % 8 = 7) (y : S4x1024x512.Idx) : (outsAt0 m c t.val t.isLt).2.1 y
    = ∑ r : Fin 4096, XN m c r.val (y 1).val * dp (DH m c) (WO m c) (P m c) (W m c) (PS m c) (WP m c) (y 0).val r.val (y 2).val := by
  refine acc_tiles (fun n h => (outsAt0 m c n h).2.1)
    (fun r y => XN m c r (y 1).val * dp (DH m c) (WO m c) (P m c) (W m c) (PS m c) (WP m c) (y 0).val r (y 2).val) (fun t h y => ?_) (fun t h y => ?_) t ht y
  · have T := tile m c t
    rw [outsAt0_A m c t h]
    frame_open
    simp (disch := decide) only [↓ View.readCov_skip, ↓ View.readCov_cons_toLoadRect, ↓ View.readCov_fill]
    frame_out
    idx_vars y
    have z : ∀ k : Fin 4, k0_pay2 (F := Ideal) (ix3 k y1 y2) = 0 := fun k => by pointwise [k0_pay2]
    refine planes_canon _ _ _ _ _ _ _ _ _ (fun h' => ?_) (fun h' => ?_) (fun h' => ?_) (fun h' => ?_)
    · subst h'
      exact (add_dwi T 0 _ _ (part0 T _ (coord0 t)) y1 y2 0 ((plane_ld _ 0 _ (by decide) y1 y2).trans (z 0))).trans (zero_add _)
    · subst h'
      exact (add_dwi T 1 _ _ (part1 T _ (coord0 t)) y1 y2 0 ((plane_ld _ 1 _ (by decide) y1 y2).trans (z 1))).trans (zero_add _)
    · subst h'
      exact (add_dwi T 2 _ _ (part2 T _ (coord0 t)) y1 y2 0 ((plane_ld _ 2 _ (by decide) y1 y2).trans (z 2))).trans (zero_add _)
    · subst h'
      exact (add_dwi T 3 _ _ (parts_read T _ (coord0 t) _ 3 _) y1 y2 0 ((plane_ld _ 3 inb_S4x1024x512_S1x1024x512_3_0_0 (by decide) y1 y2).trans (z 3))).trans (zero_add _)
  · have T := tile m c t
    rw [outsAt0_B m c t h]
    frame_open
    simp (disch := decide) only [↓ View.readCov_skip, ↓ View.readCov_cons_toLoadRect, ↓ View.readCov_fill]
    frame_out
    idx_vars y
    refine planes_canon _ _ _ _ _ _ _ _ _ (fun h' => ?_) (fun h' => ?_) (fun h' => ?_) (fun h' => ?_)
    · subst h'
      exact add_dwi T 0 _ _ (part0 T _ (coord0 t)) y1 y2 _ (plane_ld _ 0 _ (by decide) y1 y2)
    · subst h'
      exact add_dwi T 1 _ _ (part1 T _ (coord0 t)) y1 y2 _ (plane_ld _ 1 _ (by decide) y1 y2)
    · subst h'
      exact add_dwi T 2 _ _ (part2 T _ (coord0 t)) y1 y2 _ (plane_ld _ 2 _ (by decide) y1 y2)
    · subst h'
      exact add_dwi T 3 _ _ (parts_read T _ (coord0 t) _ 3 _) y1 y2 _ (plane_ld _ 3 inb_S4x1024x512_S1x1024x512_3_0_0 (by decide) y1 y2)

theorem blk14 (t : Fin cfg0.N) (ht : t.val % 8 = 7) (y : S1024x1024.Idx) : (outsAt0 m c t.val t.isLt).2.2.1 y
    = ∑ r : Fin 4096, MIX m c r.val (y 0).val * DH m c r.val (y 1).val := by
  refine acc_tiles (fun n h => (outsAt0 m c n h).2.2.1)
    (fun r y => MIX m c r (y 0).val * DH m c r (y 1).val) (fun t h y => ?_) (fun t h y => ?_) t ht y
  · have T := tile m c t
    rw [outsAt0_A m c t h]
    frame_out
    idx_vars y
    rw [add_dwo T]
    have z : k0_pay3 (F := Ideal) (ix2 y0 y1) = 0 := by pointwise [k0_pay3]
    rw [z, zero_add]
  · have T := tile m c t
    rw [outsAt0_B m c t h]
    frame_out
    idx_vars y
    rw [add_dwo T]

theorem blk15 (t : Fin cfg0.N) (ht : t.val % 8 = 7) (y : S3x512.Idx) : (outsAt0 m c t.val t.isLt).2.2.2.1 y
    = ∑ r : Fin 4096, dcc (DH m c) (WO m c) (P m c) r.val (y 1).val * cvp (P m c) (r.val + (y 0).val) (y 1).val := by
  refine acc_tiles (fun n h => (outsAt0 m c n h).2.2.2.1)
    (fun r y => dcc (DH m c) (WO m c) (P m c) r (y 1).val * cvp (P m c) (r + (y 0).val) (y 1).val) (fun t h y => ?_) (fun t h y => ?_) t ht y
  · have T := tile m c t
    rw [outsAt0_A m c t h]
    frame_open
    simp (disch := decide) only [↓ View.readCov_skip, ↓ View.readCov_cons_toLoadRect, ↓ View.readCov_fill]
    frame_out
    idx_vars y
    have z : ∀ k : Fin 3, k0_pay4 (F := Ideal) (ix2 k y1) = 0 := fun k => by pointwise [k0_pay4]
    refine rows_canon _ _ _ _ _ _ _ (fun h' => ?_) (fun h' => ?_) (fun h' => ?_)
    · subst h'
      exact (add_dca0 T _ (coord0 t) _ y1 0 ((row_ld _ 0 _ (by decide) y1).trans (z 0))).trans (zero_add _)
    · subst h'
      exact (add_dca1 T _ (coord0 t) _ y1 0 ((row_ld _ 1 _ (by decide) y1).trans (z 1))).trans (zero_add _)
    · subst h'
      exact (add_dca2 T _ (coord0 t) _ y1 0 ((row_ld _ 2 _ (by decide) y1).trans (z 2))).trans (zero_add _)
  · have T := tile m c t
    rw [outsAt0_B m c t h]
    frame_open
    simp (disch := decide) only [↓ View.readCov_skip, ↓ View.readCov_cons_toLoadRect, ↓ View.readCov_fill]
    frame_out
    idx_vars y
    refine rows_canon _ _ _ _ _ _ _ (fun h' => ?_) (fun h' => ?_) (fun h' => ?_)
    · subst h'
      exact add_dca0 T _ (coord0 t) _ y1 _ (row_ld _ 0 _ (by decide) y1)
    · subst h'
      exact add_dca1 T _ (coord0 t) _ y1 _ (row_ld _ 1 _ (by decide) y1)
    · subst h'
      exact add_dca2 T _ (coord0 t) _ y1 _ (row_ld _ 2 _ (by decide) y1)

theorem out12 : (dats m 0 c).arrAt 12 cfg0.N = fun i : S4x4096x512.Idx => dp (DH m c) (WO m c) (P m c) (W m c) (PS m c) (WP m c) (i 0).val (i 1).val (i 2).val := by
  refine (dats m 0 c).arrAt_eq_of_covers 12 _ (by decide +kernel) fun t hf y => ?_
  have e : win0_12.index t = ![0, t.val, 0] := (by decide +kernel : ∀ t : Fin grid0.N, win0_12.index t = ![0, t.val, 0]) t
  blk_simp [e]
  rw [after0_12]
  refine (blk12 m c t y).trans ?_
  rw [Nat.mul_comm 512]

theorem out13 : (dats m 0 c).arrAt 13 cfg0.N = fun i : S4x1024x512.Idx => ∑ r : Fin 4096, XN m c r.val (i 1).val * dp (DH m c) (WO m c) (P m c) (W m c) (PS m c) (WP m c) (i 0).val r.val (i 2).val := by
  refine (dats m 0 c).arrAt_eq_of_covers 13 _ (by decide +kernel) fun t hf y => ?_
  have e : win0_13.index t = ![0, 0, 0] := (by decide +kernel : ∀ t : Fin grid0.N, win0_13.index t = ![0, 0, 0]) t
  blk_simp [e]
  rw [after0_13]
  refine (blk13 m c t ((flush0_13 t).mp hf) y).trans ?_
  rfl

theorem out14 : (dats m 0 c).arrAt 14 cfg0.N = fun i : S1024x1024.Idx => ∑ r : Fin 4096, MIX m c r.val (i 0).val * DH m c r.val (i 1).val := by
  refine (dats m 0 c).arrAt_eq_of_covers 14 _ (by decide +kernel) fun t hf y => ?_
  have e : win0_14.index t = ![0, 0] := (by decide +kernel : ∀ t : Fin grid0.N, win0_14.index t = ![0, 0]) t
  blk_simp [e]
  rw [after0_14]
  refine (blk14 m c t ((flush0_14 t).mp hf) y).trans ?_
  rfl

theorem out15 : (dats m 0 c).arrAt 15 cfg0.N = fun i : S3x512.Idx => ∑ r : Fin 4096, dcc (DH m c) (WO m c) (P m c) r.val (i 1).val * cvp (P m c) (r.val + (i 0).val) (i 1).val := by
  refine (dats m 0 c).arrAt_eq_of_covers 15 _ (by decide +kernel) fun t hf y => ?_
  have e : win0_15.index t = ![0, 0] := (by decide +kernel : ∀ t : Fin grid0.N, win0_15.index t = ![0, 0]) t
  blk_simp [e]
  rw [after0_15]
  refine (blk15 m c t ((flush0_15 t).mp hf) y).trans ?_
  rfl

end Cert.Kernel6Ideal.Even

end
-- ==== Proof.EvenConv.lean ====
module

public import proofs.«01_k».proof.Proof.EvenDef
public import proofs.«01_k».proof.Proof.Gen.Reference6Ideal.Read

@[expose] public section

set_option maxRecDepth 16384

noncomputable section

namespace Cert.Reference6Ideal.Even

open Cert.Reference6Ideal Cert.Reference6Ideal.Gen Cert.Reference6Ideal.Read Cert.FfnGrad Cert.MixGrad Idealize.ShloMosaic Idealize.ShloMosaic.TcCoe Idealize.SL.Sem

variable (x0 : FVec Ideal S4096x1024 .f32) (x1 : FVec Ideal S1024x2048 .f32) (x2 : FVec Ideal S3x512 .f32) (x5 : FVec Ideal S1024x1024 .f32) (x6 : FVec Ideal S4096x1024 .f32)

/-- The input's product. -/
abbrev pA : ℕ → ℕ → EReal := at2 (n := 4096) (k := 2048) (val_main_v0 (F := Ideal) x0 x1)

theorem v107_at (r : Fin 4096) (c : Fin 1024) : val_main_v107 (F := Ideal) x5 x6 (ix2 r c) = dact (at2 x6) (at2 x5) r.val c.val := by
  unfold dact
  simp only [at2_mk]
  pointwise [val_main_v107]

theorem v108_at (r : Fin 4096) (c : Fin 512) : val_main_v108 (F := Ideal) x5 x6 (ix2 r c) = dact (at2 x6) (at2 x5) r.val c.val := by
  refine Eq.trans ?_ (v107_at x5 x6 r ⟨c.val, by omega⟩)
  unfold val_main_v108
  generalize val_main_v107 (F := Ideal) x5 x6 = M
  pointwise

theorem v109_at (r : Fin 4096) (c : Fin 512) : val_main_v109 (F := Ideal) x5 x6 (ix2 r c) = dact (at2 x6) (at2 x5) r.val (512 + c.val) := by
  refine Eq.trans ?_ (v107_at x5 x6 r ⟨512 + c.val, by omega⟩)
  unfold val_main_v109
  generalize val_main_v107 (F := Ideal) x5 x6 = M
  pointwise

theorem v1_at (r : Fin 4096) (c : Fin 512) : val_main_v1 (F := Ideal) x0 x1 (ix2 r c) = pA x0 x1 r.val c.val := by
  rw [pA, at2_of _ _ _ r.isLt (by omega)]
  unfold val_main_v1
  generalize val_main_v0 (F := Ideal) x0 x1 = M
  pointwise

theorem v2_at (r : Fin 4096) (c : Fin 512) : val_main_v2 (F := Ideal) x0 x1 (ix2 r c) = pA x0 x1 r.val (512 + c.val) := by
  rw [pA, at2_of _ _ _ r.isLt (by omega)]
  unfold val_main_v2
  generalize val_main_v0 (F := Ideal) x0 x1 = M
  pointwise

theorem v3_at (r : Fin 4096) (c : Fin 512) : val_main_v3 (F := Ideal) x0 x1 (ix2 r c) = pA x0 x1 r.val (1024 + c.val) := by
  rw [pA, at2_of _ _ _ r.isLt (by omega)]
  unfold val_main_v3
  generalize val_main_v0 (F := Ideal) x0 x1 = M
  pointwise

theorem v5_at (r : Fin 4096) (c : Fin 512) : val_main_v5 (F := Ideal) x0 x1 (ix2 r c) = cv (pA x0 x1) r.val c.val := by
  rw [cv, ← v2_at, ← v3_at]
  rfl

theorem v7_at (r : Fin 4098) (c : Fin 512) : val_main_v7 (F := Ideal) x0 x1 (ix2 r c) = cvp (pA x0 x1) r.val c.val := by
  have e := v5_at x0 x1
  unfold val_main_v7
  generalize val_main_v5 (F := Ideal) x0 x1 = M at e ⊢
  pointwise [val_main_v6, val_main_cst, cvp]
  split
  · exact (if_neg (by omega)).symm
  · rw [e]
    exact (if_pos (by omega)).symm

theorem v9_at (r : Fin 4096) (c : Fin 512) : val_main_v9 (F := Ideal) x0 x1 (ix2 r c) = cvp (pA x0 x1) r.val c.val := by
  refine Eq.trans ?_ (v7_at x0 x1 ⟨r.val, by omega⟩ c)
  unfold val_main_v9
  generalize val_main_v7 (F := Ideal) x0 x1 = M
  pointwise

theorem v15_at (r : Fin 4096) (c : Fin 512) : val_main_v15 (F := Ideal) x0 x1 (ix2 r c) = cvp (pA x0 x1) (r.val + 1) c.val := by
  refine Eq.trans ?_ (v7_at x0 x1 ⟨r.val + 1, by omega⟩ c)
  unfold val_main_v15
  generalize val_main_v7 (F := Ideal) x0 x1 = M
  pointwise
  simp only [show 1 + r.val = r.val + 1 by omega]

theorem v22_at (r : Fin 4096) (c : Fin 512) : val_main_v22 (F := Ideal) x0 x1 (ix2 r c) = cvp (pA x0 x1) (r.val + 2) c.val := by
  refine Eq.trans ?_ (v7_at x0 x1 ⟨r.val + 2, by omega⟩ c)
  unfold val_main_v22
  generalize val_main_v7 (F := Ideal) x0 x1 = M
  pointwise
  simp only [show 2 + r.val = r.val + 2 by omega]

/-- A row of taps, spread over the rows. -/
theorem v13_at (r : Fin 4096) (c : Fin 512) : val_main_v13 (F := Ideal) x2 (ix2 r c) = at2 x2 0 c.val := by
  rw [at2_of _ _ _ (by omega) c.isLt]
  pointwise [val_main_v13, val_main_v12, val_main_v11, val_main_v10]

theorem v19_at (r : Fin 4096) (c : Fin 512) : val_main_v19 (F := Ideal) x2 (ix2 r c) = at2 x2 1 c.val := by
  rw [at2_of _ _ _ (by omega) c.isLt]
  pointwise [val_main_v19, val_main_v18, val_main_v17, val_main_v16]

theorem v26_at (r : Fin 4096) (c : Fin 512) : val_main_v26 (F := Ideal) x2 (ix2 r c) = at2 x2 2 c.val := by
  rw [at2_of _ _ _ (by omega) c.isLt]
  pointwise [val_main_v26, val_main_v25, val_main_v24, val_main_v23]

theorem v206_eq : val_main_v206 (F := Ideal) x2 = val_main_v13 (F := Ideal) x2 := rfl
theorem v195_eq : val_main_v195 (F := Ideal) x2 = val_main_v19 (F := Ideal) x2 := rfl
theorem v186_eq : val_main_v186 (F := Ideal) x2 = val_main_v26 (F := Ideal) x2 := rfl

theorem v28_at (r : Fin 4096) (c : Fin 512) : val_main_v28 (F := Ideal) x0 x1 x2 (ix2 r c) = conv (pA x0 x1) (at2 x2) r.val c.val := by
  rw [conv, mul_comm (at2 x2 0 _), mul_comm (at2 x2 1 _), mul_comm (at2 x2 2 _), ← v9_at, ← v15_at, ← v22_at, ← v13_at x2 r, ← v19_at x2 r, ← v26_at x2 r]
  rfl

theorem v181_at (r : Fin 4096) (c : Fin 512) : val_main_v181 (F := Ideal) x0 x1 x5 x6 (ix2 r c) = dcc (at2 x6) (at2 x5) (pA x0 x1) r.val c.val := by
  rw [dcc, mul_comm, ← v108_at, ← v1_at]
  rfl

theorem v182_at (r : Fin 4096) (c : Fin 512) :
    val_main_v182 (F := Ideal) x0 x1 x2 x5 x6 (ix2 r c) = dact (at2 x6) (at2 x5) r.val c.val * conv (pA x0 x1) (at2 x2) r.val c.val := by
  rw [← v108_at, ← v28_at]
  rfl

theorem v215_at (r : Fin 4096) (c : Fin 512) :
    val_main_v215 (F := Ideal) x0 x1 x2 x5 x6 (ix2 r c) = dcv (at2 x6) (at2 x5) (pA x0 x1) (at2 x2) r.val c.val := by
  have z := dcc_past (at2 x6) (at2 x5) (pA x0 x1) fun r d h => at2_past _ _ _ h
  have e := v181_at x0 x1 x5 x6
  have w2 := v26_at x2
  have w1 := v19_at x2
  have w0 := v13_at x2
  unfold val_main_v215 val_main_v213 val_main_v202 val_main_v191 val_main_v201 val_main_v212 val_main_v187 val_main_v196 val_main_v207
  rw [v206_eq, v195_eq, v186_eq]
  generalize val_main_v181 (F := Ideal) x0 x1 x5 x6 = M at e ⊢
  generalize val_main_v26 (F := Ideal) x2 = N2 at w2 ⊢
  generalize val_main_v19 (F := Ideal) x2 = N1 at w1 ⊢
  generalize val_main_v13 (F := Ideal) x2 = N0 at w0 ⊢
  pointwise [e, w2, w1, w0, val_main_cst_29, val_main_cst_33, val_main_cst_37, dcv]
  rw [mul_comm (at2 x2 2 _), mul_comm (at2 x2 1 _), mul_comm (at2 x2 0 _)]
  congr 1
  · congr 1
    split
    · rw [show 2 + r.val - 1 = r.val + 1 by omega]
    · rw [z _ _ (by omega), zero_mul]
  · split
    · rw [show 2 + r.val = r.val + 2 by omega]
    · rw [z _ _ (by omega), zero_mul]

theorem v216_at (r : Fin 4096) (c : Fin 512) :
    val_main_v216 (F := Ideal) x0 x1 x2 x5 x6 (ix2 r c) = dcv (at2 x6) (at2 x5) (pA x0 x1) (at2 x2) r.val c.val * pA x0 x1 r.val (512 + c.val) := by
  rw [mul_comm, ← v215_at, ← v2_at]
  rfl

theorem v217_at (r : Fin 4096) (c : Fin 512) :
    val_main_v217 (F := Ideal) x0 x1 x2 x5 x6 (ix2 r c) = dcv (at2 x6) (at2 x5) (pA x0 x1) (at2 x2) r.val c.val * pA x0 x1 r.val (1024 + c.val) := by
  rw [← v215_at, ← v3_at]
  rfl

/-! The taps' gradient. -/
theorem v188_at (c : Fin 512) : val_main_v188 (F := Ideal) x0 x1 x5 x6 (ix1 c)
    = ∑ r : Fin 4096, dcc (at2 x6) (at2 x5) (pA x0 x1) r.val c.val * cvp (pA x0 x1) (r.val + 2) c.val := by
  simp only [← v181_at x0 x1 x5 x6, ← v22_at x0 x1]
  unfold val_main_v188 val_main_v185 val_main_v184 val_main_v183
  generalize val_main_v181 (F := Ideal) x0 x1 x5 x6 = M
  generalize val_main_v22 (F := Ideal) x0 x1 = N
  pointwise [val_main_cst_26, val_main_cst_27]
  rw [Fin.sum_univ_one]
  exact Finset.sum_congr rfl fun _ _ => mul_comm _ _

theorem v197_at (c : Fin 512) : val_main_v197 (F := Ideal) x0 x1 x5 x6 (ix1 c)
    = ∑ r : Fin 4096, dcc (at2 x6) (at2 x5) (pA x0 x1) r.val c.val * cvp (pA x0 x1) (r.val + 1) c.val := by
  simp only [← v181_at x0 x1 x5 x6, ← v15_at x0 x1]
  unfold val_main_v197 val_main_v194 val_main_v193 val_main_v192
  generalize val_main_v181 (F := Ideal) x0 x1 x5 x6 = M
  generalize val_main_v15 (F := Ideal) x0 x1 = N
  pointwise [val_main_cst_30, val_main_cst_31]
  rw [Fin.sum_univ_one]
  exact Finset.sum_congr rfl fun _ _ => mul_comm _ _

theorem v208_at (c : Fin 512) : val_main_v208 (F := Ideal) x0 x1 x5 x6 (ix1 c)
    = ∑ r : Fin 4096, dcc (at2 x6) (at2 x5) (pA x0 x1) r.val c.val * cvp (pA x0 x1) r.val c.val := by
  simp only [← v181_at x0 x1 x5 x6, ← v9_at x0 x1]
  unfold val_main_v208 val_main_v205 val_main_v204 val_main_v203
  generalize val_main_v181 (F := Ideal) x0 x1 x5 x6 = M
  generalize val_main_v9 (F := Ideal) x0 x1 = N
  pointwise [val_main_cst_34, val_main_cst_35]
  rw [Fin.sum_univ_one]
  exact Finset.sum_congr rfl fun _ _ => mul_comm _ _

theorem v211_at (k : Fin 3) (c : Fin 512) : val_main_v211 (F := Ideal) x0 x1 x5 x6 (ix2 k c)
    = ∑ r : Fin 4096, dcc (at2 x6) (at2 x5) (pA x0 x1) r.val c.val * cvp (pA x0 x1) (r.val + k.val) c.val := by
  have e2 := v188_at x0 x1 x5 x6 c
  have e1 := v197_at x0 x1 x5 x6 c
  have e0 := v208_at x0 x1 x5 x6 c
  unfold val_main_v211 val_main_v200 val_main_v190 val_main_v199 val_main_v210 val_main_v189 val_main_v198 val_main_v209
  generalize val_main_v188 (F := Ideal) x0 x1 x5 x6 = M2 at e2 ⊢
  generalize val_main_v197 (F := Ideal) x0 x1 x5 x6 = M1 at e1 ⊢
  generalize val_main_v208 (F := Ideal) x0 x1 x5 x6 = M0 at e0 ⊢
  obtain rfl | rfl | rfl : k = 0 ∨ k = 1 ∨ k = 2 := by omega
  · pointwise [e2, e1, e0, val_main_cst_28, val_main_cst_32, val_main_cst_36]
  · pointwise [e2, e1, e0, val_main_cst_28, val_main_cst_32, val_main_cst_36]
  · pointwise [e2, e1, e0, val_main_cst_28, val_main_cst_32, val_main_cst_36]

end Cert.Reference6Ideal.Even

end
-- ==== Proof.EvenPool.lean ====
module

public import proofs.«01_k».proof.Proof.EvenConv
public import proofs.«01_k».proof.Proof.NormMath

@[expose] public section

set_option maxRecDepth 16384

noncomputable section

namespace Cert.MixGrad

open Idealize.ShloMosaic Cert.FfnGrad

theorem fold_sum {ι : Type} (l : List ι) (f : ι → EReal) (v : EReal) : l.foldl (fun r n => r + f n) v = v + (l.map f).sum := by
  induction l generalizing v with
  | nil => simp
  | cons a l ih => rw [List.foldl_cons, ih, List.map_cons, List.sum_cons, add_assoc]

/-- Adding an array's elements up in row-major order. -/
theorem fold_idx (s : Shape) (f : s.Idx → EReal) (v : EReal) :
    (List.finRange s.numel).foldl (fun r n => r + f (s.rowMajor.symm n)) v = v + ∑ i, f i := by
  rw [fold_sum _ (fun n => f (s.rowMajor.symm n)), ← Fin.sum_univ_def, Equiv.sum_comp s.rowMajor.symm f]

/-- A sum over a window of an array, as the sum over the window's positions. -/
theorem window_sum {s t u : Shape} (window strides lo hi : Fin s.rank → ℕ) (h : s.ReduceWindows window strides lo hi t) (hu : 0 < u.numel) (x : FVec Ideal s .f32) (v : FVec Ideal u .f32)
    (hv : v (Shape.Idx.first hu) = 0) (j : t.Idx) :
    (Host.reduceWindowAdd window strides lo hi x v h hu : FVec Ideal t .f32) j
      = ∑ k : (⟨s.rank, window⟩ : Shape).Idx, if hin : ∀ a, lo a ≤ (j (a.cast h.1.symm)).val * strides a + (k a).val ∧ (j (a.cast h.1.symm)).val * strides a + (k a).val - lo a < s.size a
          then x (fun a => ⟨(j (a.cast h.1.symm)).val * strides a + (k a).val - lo a, (hin a).2⟩) else 0 := by
  refine Eq.trans (b := Ideal.hostReduceWindowAdd window strides lo hi h x (v (Shape.Idx.first hu)) j) rfl ?_
  unfold Ideal.hostReduceWindowAdd Host.reduceWindow
  rw [hv]
  dsimp only
  convert (fold_idx ⟨s.rank, window⟩ (fun k => if hin : ∀ a, lo a ≤ (j (a.cast h.1.symm)).val * strides a + (k a).val ∧ (j (a.cast h.1.symm)).val * strides a + (k a).val - lo a < s.size a
          then x (fun a => ⟨(j (a.cast h.1.symm)).val * strides a + (k a).val - lo a, (hin a).2⟩) else 0) 0).trans (zero_add _)

/-- The sums of a sequence from each row on, of differences `w` rows apart, are the sums of `w` rows. -/
theorem telescope (q : ℕ → EReal) (n w r : ℕ) (hf : ∀ k, Fin' (q k)) (hz : ∀ k, n ≤ k → q k = 0) :
    (∑ k : Fin n, if r + k.val < n then q (r + k.val) + -q (r + k.val + w) else 0) = ∑ k ∈ Finset.range w, q (r + k) := by
  choose p hp using hf
  have hz' : ∀ k, n ≤ k → p k = 0 := fun k h => by
    have := hp k
    rw [hz k h] at this
    exact_mod_cast this.symm
  rw [Fin.sum_univ_eq_sum_range (fun k => if r + k < n then q (r + k) + -q (r + k + w) else 0)]
  have e : ∀ k, (if r + k < n then q (r + k) + -q (r + k + w) else 0) = ((p (r + k) - p (r + k + w) : ℝ) : EReal) := by
    intro k
    split
    · rw [hp, hp, ← EReal.coe_neg, ← EReal.coe_add, sub_eq_add_neg]
    · rw [hz' _ (by omega), hz' _ (by omega), sub_zero, EReal.coe_zero]
  simp only [e]
  simp only [hp, ← Cert.NormGrad.coe_sum]
  congr 1
  rw [Finset.sum_sub_distrib, sub_eq_iff_eq_add]
  have h1 := Finset.sum_range_add (fun k => p (r + k)) w n
  have h2 := Finset.sum_range_add (fun k => p (r + k)) n w
  rw [Nat.add_comm w n, h2, Finset.sum_eq_zero (s := Finset.range w) (f := fun x => p (r + (n + x))) fun x _ => hz' _ (by omega), add_zero] at h1
  rw [h1]
  congr 1
  exact Finset.sum_congr rfl fun k _ => by rw [show r + (w + k) = r + k + w by omega]

theorem cnt_pos (w r : ℕ) (hw : 0 < w) : ∃ n : ℝ, 0 < n ∧ cnt w r = n :=
  ⟨((min (r + 1) w : ℕ) : ℝ), by exact_mod_cast (lt_min (Nat.succ_pos r) hw), rfl⟩

theorem div_real {x : EReal} (hx : Fin' x) (n : ℝ) (hn : 0 < n) : Fin' (Ideal.div x n) := by
  obtain ⟨x, rfl⟩ := hx
  refine ⟨x * n⁻¹, ?_⟩
  have h : (n : EReal) ≠ 0 := by exact_mod_cast hn.ne'
  rw [Ideal.div, if_neg h, ← EReal.coe_inv, EReal.coe_mul]

theorem zero_div_real (n : ℝ) (hn : 0 < n) : Ideal.div 0 n = 0 := by
  have h : (n : EReal) ≠ 0 := by exact_mod_cast hn.ne'
  rw [Ideal.div, if_neg h, zero_mul]

theorem dq_past (DH WO : ℕ → ℕ → EReal) (PS : ℕ → EReal) (WP : ℕ → ℕ → ℕ → EReal) (hz : ∀ r d, 4096 ≤ r → DH r d = 0) (g w r b : ℕ) (hw : 0 < w) (hr : 4096 ≤ r) :
    dq DH WO PS WP g w r b = 0 := by
  obtain ⟨n, hn, e⟩ := cnt_pos w r hw
  rw [dq, e, dpool_past _ _ _ _ hz _ _ _ hr, zero_div_real n hn]

end Cert.MixGrad

namespace Cert.Reference6Ideal.Even

open Cert.Reference6Ideal Cert.Reference6Ideal.Gen Cert.Reference6Ideal.Read Cert.FfnGrad Cert.MixGrad Idealize.ShloMosaic Idealize.ShloMosaic.TcCoe Idealize.SL.Sem
open Cert.NormGrad (at1 at1_mk)
open Cert.Kernel6Ideal.Even (word_2 word_4 word_8 word_16)

/-- The running sums from the last row back: each row's sum over itself and the rows after it. -/
theorem rsum (x : FVec Ideal S4096x4x128 .f32) (init : FVec Ideal S_ .f32) (hi : init (Shape.Idx.first h_S_) = 0) (r : Fin 4096) (g : Fin 4) (b : Fin 128) :
    (Host.reduceWindowAdd ![4096, 1, 1] ![1, 1, 1] ![0, 0, 0] ![4095, 0, 0] x init reduceWindows_S4096x4x128_S4096x4x128_w4096s1p0_4095_w1s1p0_0_w1s1p0_0 h_S_ : FVec Ideal S4096x4x128 .f32) (ix3 r g b)
      = ∑ k : Fin 4096, if h : r.val + k.val < 4096 then x (ix3 ⟨r.val + k.val, h⟩ g b) else 0 := by
  refine (window_sum _ _ _ _ _ _ x init hi (ix3 r g b)).trans ?_
  refine (sum_idx3 (n0 := 4096) (n1 := 1) (n2 := 1) _).trans ?_
  refine Finset.sum_congr rfl fun k _ => ?_
  rw [Fin.sum_univ_one, Fin.sum_univ_one]
  by_cases h : r.val + k.val < 4096
  · rw [dif_pos h, dif_pos]
    · refine congrArg x (funext fun a => Fin.ext ?_)
      match a with
      | ⟨0, _⟩ => show r.val * 1 + k.val - 0 = r.val + k.val; omega
      | ⟨1, _⟩ => show g.val * 1 + 0 - 0 = g.val; omega
      | ⟨2, _⟩ => show b.val * 1 + 0 - 0 = b.val; omega
    · intro a
      match a with
      | ⟨0, _⟩ => show 0 ≤ r.val * 1 + k.val ∧ r.val * 1 + k.val - 0 < 4096; omega
      | ⟨1, _⟩ => show 0 ≤ g.val * 1 + 0 ∧ g.val * 1 + 0 - 0 < 4; omega
      | ⟨2, _⟩ => show 0 ≤ b.val * 1 + 0 ∧ b.val * 1 + 0 - 0 < 128; omega
  · rw [dif_neg h, dif_neg]
    intro hin
    have h0 : r.val * 1 + k.val - 0 < 4096 := (hin 0).2
    omega

variable (x3 : FVec Ideal S4x128x128 .f32) (x4 : FVec Ideal S512 .f32) (x5 : FVec Ideal S1024x1024 .f32) (x6 : FVec Ideal S4096x1024 .f32)

/-- The gradient of the windows' means, and the same over the windows' sizes. -/
abbrev dpA : ℕ → ℕ → ℕ → EReal := dpool (at2 (n := 4096) (k := 1024) x6) (at2 (n := 1024) (k := 1024) x5) (at1 (n := 512) x4) (at3 (n := 4) (k := 128) (l := 128) x3)
abbrev dqA : ℕ → ℕ → ℕ → ℕ → EReal := dq (at2 (n := 4096) (k := 1024) x6) (at2 (n := 1024) (k := 1024) x5) (at1 (n := 512) x4) (at3 (n := 4) (k := 128) (l := 128) x3)

theorem v111_at (r : Fin 4096) (c : Fin 512) : val_main_v111 (F := Ideal) x4 x5 x6 (ix2 r c) = dact (at2 x6) (at2 x5) r.val (512 + c.val) * at1 x4 c.val := by
  have e := v109_at x5 x6
  rw [at1_mk]
  unfold val_main_v111
  generalize val_main_v109 (F := Ideal) x5 x6 = M at e ⊢
  pointwise [e, val_main_v110, val_main_v100]

theorem v115_at (r : Fin 4096) (g : Fin 4) (b : Fin 128) : val_main_v115 (F := Ideal) x3 x4 x5 x6 (ix3 r g b) = dpA x3 x4 x5 x6 g.val r.val b.val := by
  have e := v111_at x4 x5 x6
  unfold val_main_v115 val_main_v114 val_main_v113 val_main_v112
  generalize val_main_v111 (F := Ideal) x4 x5 x6 = M at e ⊢
  pointwise [e, dpool]
  simp only [at3_mk, Nat.mul_comm g.val 128]

theorem v117_at (r : Fin 4096) (b : Fin 128) : val_main_v117 (F := Ideal) x3 x4 x5 x6 (ix2 r b) = dpA x3 x4 x5 x6 0 r.val b.val := by
  refine Eq.trans ?_ (v115_at x3 x4 x5 x6 r 0 b)
  unfold val_main_v117 val_main_v116
  generalize val_main_v115 (F := Ideal) x3 x4 x5 x6 = M
  pointwise

theorem v119_at (r : Fin 4096) (b : Fin 128) : val_main_v119 (F := Ideal) x3 x4 x5 x6 (ix2 r b) = dpA x3 x4 x5 x6 1 r.val b.val := by
  refine Eq.trans ?_ (v115_at x3 x4 x5 x6 r 1 b)
  unfold val_main_v119 val_main_v118
  generalize val_main_v115 (F := Ideal) x3 x4 x5 x6 = M
  pointwise

theorem v121_at (r : Fin 4096) (b : Fin 128) : val_main_v121 (F := Ideal) x3 x4 x5 x6 (ix2 r b) = dpA x3 x4 x5 x6 2 r.val b.val := by
  refine Eq.trans ?_ (v115_at x3 x4 x5 x6 r 2 b)
  unfold val_main_v121 val_main_v120
  generalize val_main_v115 (F := Ideal) x3 x4 x5 x6 = M
  pointwise

theorem v123_at (r : Fin 4096) (b : Fin 128) : val_main_v123 (F := Ideal) x3 x4 x5 x6 (ix2 r b) = dpA x3 x4 x5 x6 3 r.val b.val := by
  refine Eq.trans ?_ (v115_at x3 x4 x5 x6 r 3 b)
  unfold val_main_v123 val_main_v122
  generalize val_main_v115 (F := Ideal) x3 x4 x5 x6 = M
  pointwise

/-! The windows' sizes. -/
theorem v35_at (r : Fin 4096) : val_main_v35 (F := Ideal) (ix2 r 0) = ((r.val + 1 : ℕ) : ℝ) := by
  pointwise [val_main_v35, val_main_v34, val_main_v33, val_main_cst_1, val_main_v32]
  have e2 : (BitVec.ofNat 32 r.val).toInt = (r.val : ℤ) := by
    rw [BitVec.toInt_eq_toNat_of_lt] <;> simp only [BitVec.toNat_ofNat] <;> omega
  have e : FloatOps.sitofp (F := Ideal) .f32 (BitVec.ofNat 32 r.val) = (((BitVec.ofNat 32 r.val).toInt : ℝ) : EReal) := rfl
  rw [e, e2, Nat.add_comm]
  push_cast
  rfl

theorem min_cnt (w r : ℕ) (z : EReal) (hz : z = ((w : ℕ) : ℝ)) : min ((((r + 1 : ℕ) : ℝ)) : EReal) z = cnt w r := by
  rw [hz, cnt, Nat.cast_min]
  exact (EReal.coe_strictMono.monotone.map_min).symm

theorem v43_at (r : Fin 4096) : val_main_v43 (F := Ideal) (ix2 r 0) = cnt 2 r.val := by
  have e := v35_at r
  unfold val_main_v43
  generalize val_main_v35 (F := Ideal) = M at e ⊢
  pointwise [e, val_main_v42, val_main_cst_4]
  exact min_cnt 2 _ _ word_2

theorem v57_at (r : Fin 4096) : val_main_v57 (F := Ideal) (ix2 r 0) = cnt 4 r.val := by
  have e := v35_at r
  unfold val_main_v57
  generalize val_main_v35 (F := Ideal) = M at e ⊢
  pointwise [e, val_main_v56, val_main_cst_7]
  exact min_cnt 4 _ _ word_4

theorem v71_at (r : Fin 4096) : val_main_v71 (F := Ideal) (ix2 r 0) = cnt 8 r.val := by
  have e := v35_at r
  unfold val_main_v71
  generalize val_main_v35 (F := Ideal) = M at e ⊢
  pointwise [e, val_main_v70, val_main_cst_10]
  exact min_cnt 8 _ _ word_8

theorem v85_at (r : Fin 4096) : val_main_v85 (F := Ideal) (ix2 r 0) = cnt 16 r.val := by
  have e := v35_at r
  unfold val_main_v85
  generalize val_main_v35 (F := Ideal) = M at e ⊢
  pointwise [e, val_main_v84, val_main_cst_13]
  exact min_cnt 16 _ _ word_16

/-! The means' gradients over the windows' sizes, less the same as many rows on. -/
theorem past_x6 : ∀ r d, 4096 ≤ r → at2 x6 r d = 0 := fun r d h => at2_past _ _ _ h

theorem v174_at (r : Fin 4096) (b : Fin 128) :
    val_main_v174 (F := Ideal) x3 x4 x5 x6 (ix2 r b) = dqA x3 x4 x5 x6 0 2 r.val b.val + -dqA x3 x4 x5 x6 0 2 (r.val + 2) b.val := by
  have e : ∀ (r : Fin 4096) (b : Fin 128), val_main_v169 (F := Ideal) x3 x4 x5 x6 (ix2 r b) = dqA x3 x4 x5 x6 0 2 r.val b.val := fun r b => by
    change _ = Ideal.div (dpA x3 x4 x5 x6 0 r.val b.val) (cnt 2 r.val)
    rw [← v43_at r, ← v117_at]
    unfold val_main_v169
    generalize val_main_v117 (F := Ideal) x3 x4 x5 x6 = M
    pointwise [val_main_v168]
  unfold val_main_v174 val_main_v173 val_main_v171 val_main_v170
  generalize val_main_v169 (F := Ideal) x3 x4 x5 x6 = M at e ⊢
  pointwise [e, val_main_cst_24]
  congr 1
  split
  · rw [show 2 + r.val = r.val + 2 by omega]
  · exact (neg_zero.symm.trans (congrArg Neg.neg (dq_past _ _ _ _ (past_x6 x6) 0 2 (r.val + 2) b.val (by decide) (by omega)).symm))

theorem v160_at (r : Fin 4096) (b : Fin 128) :
    val_main_v160 (F := Ideal) x3 x4 x5 x6 (ix2 r b) = dqA x3 x4 x5 x6 1 4 r.val b.val + -dqA x3 x4 x5 x6 1 4 (r.val + 4) b.val := by
  have e : ∀ (r : Fin 4096) (b : Fin 128), val_main_v155 (F := Ideal) x3 x4 x5 x6 (ix2 r b) = dqA x3 x4 x5 x6 1 4 r.val b.val := fun r b => by
    change _ = Ideal.div (dpA x3 x4 x5 x6 1 r.val b.val) (cnt 4 r.val)
    rw [← v57_at r, ← v119_at]
    unfold val_main_v155
    generalize val_main_v119 (F := Ideal) x3 x4 x5 x6 = M
    pointwise [val_main_v154]
  unfold val_main_v160 val_main_v159 val_main_v157 val_main_v156
  generalize val_main_v155 (F := Ideal) x3 x4 x5 x6 = M at e ⊢
  pointwise [e, val_main_cst_21]
  congr 1
  split
  · rw [show 4 + r.val = r.val + 4 by omega]
  · exact (neg_zero.symm.trans (congrArg Neg.neg (dq_past _ _ _ _ (past_x6 x6) 1 4 (r.val + 4) b.val (by decide) (by omega)).symm))

theorem v146_at (r : Fin 4096) (b : Fin 128) :
    val_main_v146 (F := Ideal) x3 x4 x5 x6 (ix2 r b) = dqA x3 x4 x5 x6 2 8 r.val b.val + -dqA x3 x4 x5 x6 2 8 (r.val + 8) b.val := by
  have e : ∀ (r : Fin 4096) (b : Fin 128), val_main_v141 (F := Ideal) x3 x4 x5 x6 (ix2 r b) = dqA x3 x4 x5 x6 2 8 r.val b.val := fun r b => by
    change _ = Ideal.div (dpA x3 x4 x5 x6 2 r.val b.val) (cnt 8 r.val)
    rw [← v71_at r, ← v121_at]
    unfold val_main_v141
    generalize val_main_v121 (F := Ideal) x3 x4 x5 x6 = M
    pointwise [val_main_v140]
  unfold val_main_v146 val_main_v145 val_main_v143 val_main_v142
  generalize val_main_v141 (F := Ideal) x3 x4 x5 x6 = M at e ⊢
  pointwise [e, val_main_cst_18]
  congr 1
  split
  · rw [show 8 + r.val = r.val + 8 by omega]
  · exact (neg_zero.symm.trans (congrArg Neg.neg (dq_past _ _ _ _ (past_x6 x6) 2 8 (r.val + 8) b.val (by decide) (by omega)).symm))

theorem v133_at (r : Fin 4096) (b : Fin 128) :
    val_main_v133 (F := Ideal) x3 x4 x5 x6 (ix2 r b) = dqA x3 x4 x5 x6 3 16 r.val b.val + -dqA x3 x4 x5 x6 3 16 (r.val + 16) b.val := by
  have e : ∀ (r : Fin 4096) (b : Fin 128), val_main_v128 (F := Ideal) x3 x4 x5 x6 (ix2 r b) = dqA x3 x4 x5 x6 3 16 r.val b.val := fun r b => by
    change _ = Ideal.div (dpA x3 x4 x5 x6 3 r.val b.val) (cnt 16 r.val)
    rw [← v85_at r, ← v123_at]
    unfold val_main_v128
    generalize val_main_v123 (F := Ideal) x3 x4 x5 x6 = M
    pointwise [val_main_v127]
  unfold val_main_v133 val_main_v132 val_main_v130 val_main_v129
  generalize val_main_v128 (F := Ideal) x3 x4 x5 x6 = M at e ⊢
  pointwise [e, val_main_cst_15]
  congr 1
  split
  · rw [show 16 + r.val = r.val + 16 by omega]
  · exact (neg_zero.symm.trans (congrArg Neg.neg (dq_past _ _ _ _ (past_x6 x6) 3 16 (r.val + 16) b.val (by decide) (by omega)).symm))

/-! The four groups side by side. -/
theorem v177_at (r : Fin 4096) (g : Fin 4) (b : Fin 128) :
    val_main_v177 (F := Ideal) x3 x4 x5 x6 (ix3 r g b)
      = dqA x3 x4 x5 x6 g.val (2 ^ (g.val + 1)) r.val b.val + -dqA x3 x4 x5 x6 g.val (2 ^ (g.val + 1)) (r.val + 2 ^ (g.val + 1)) b.val := by
  have e0 := v174_at x3 x4 x5 x6
  have e1 := v160_at x3 x4 x5 x6
  have e2 := v146_at x3 x4 x5 x6
  have e3 := v133_at x3 x4 x5 x6
  unfold val_main_v177 val_main_v163 val_main_v149 val_main_v135 val_main_v148 val_main_v162 val_main_v176 val_main_v134 val_main_v147 val_main_v161 val_main_v175
  generalize val_main_v174 (F := Ideal) x3 x4 x5 x6 = M0 at e0 ⊢
  generalize val_main_v160 (F := Ideal) x3 x4 x5 x6 = M1 at e1 ⊢
  generalize val_main_v146 (F := Ideal) x3 x4 x5 x6 = M2 at e2 ⊢
  generalize val_main_v133 (F := Ideal) x3 x4 x5 x6 = M3 at e3 ⊢
  obtain rfl | rfl | rfl | rfl : g = 0 ∨ g = 1 ∨ g = 2 ∨ g = 3 := by omega
  · pointwise [e0, e1, e2, e3, val_main_cst_16, val_main_cst_19, val_main_cst_22, val_main_cst_25]
    rfl
  · pointwise [e0, e1, e2, e3, val_main_cst_16, val_main_cst_19, val_main_cst_22, val_main_cst_25]
    rfl
  · pointwise [e0, e1, e2, e3, val_main_cst_16, val_main_cst_19, val_main_cst_22, val_main_cst_25]
    rfl
  · pointwise [e0, e1, e2, e3, val_main_cst_16, val_main_cst_19, val_main_cst_22, val_main_cst_25]
    rfl

theorem v167_at (r : Fin 4096) (g : Fin 4) (b : Fin 128) : val_main_v167 (F := Ideal) x3 x4 x5 x6 (ix3 r g b) = -dpA x3 x4 x5 x6 g.val r.val b.val := by
  have e0 := v117_at x3 x4 x5 x6
  have e1 := v119_at x3 x4 x5 x6
  have e2 := v121_at x3 x4 x5 x6
  have e3 := v123_at x3 x4 x5 x6
  unfold val_main_v167 val_main_v153 val_main_v139 val_main_v126 val_main_v138 val_main_v152 val_main_v166 val_main_v125 val_main_v137 val_main_v151 val_main_v165
    val_main_v124 val_main_v136 val_main_v150 val_main_v164
  generalize val_main_v117 (F := Ideal) x3 x4 x5 x6 = M0 at e0 ⊢
  generalize val_main_v119 (F := Ideal) x3 x4 x5 x6 = M1 at e1 ⊢
  generalize val_main_v121 (F := Ideal) x3 x4 x5 x6 = M2 at e2 ⊢
  generalize val_main_v123 (F := Ideal) x3 x4 x5 x6 = M3 at e3 ⊢
  obtain rfl | rfl | rfl | rfl : g = 0 ∨ g = 1 ∨ g = 2 ∨ g = 3 := by omega
  · pointwise [e0, e1, e2, e3, val_main_cst_14, val_main_cst_17, val_main_cst_20, val_main_cst_23]
  · pointwise [e0, e1, e2, e3, val_main_cst_14, val_main_cst_17, val_main_cst_20, val_main_cst_23]
  · pointwise [e0, e1, e2, e3, val_main_cst_14, val_main_cst_17, val_main_cst_20, val_main_cst_23]
  · pointwise [e0, e1, e2, e3, val_main_cst_14, val_main_cst_17, val_main_cst_20, val_main_cst_23]

/-- What the windows' gradient is made of are finite numbers. -/
structure Ok : Prop where
  h3 : ∀ i, Fin' (x3 i)
  h4 : ∀ i, Fin' (x4 i)
  h5 : ∀ (e : Fin 512) (d : Fin 1024), Fin' (x5 (ix2 (⟨512 + e.val, by omega⟩ : Fin 1024) d))
  h6 : ∀ i, Fin' (x6 i)

theorem fin_at1 {n : ℕ} (x : Shape.Idx ⟨1, ![n]⟩ → EReal) (h : ∀ i, Fin' (x i)) (c : ℕ) : Fin' (at1 x c) := by
  unfold at1
  split
  · exact h _
  · exact ⟨0, by simp⟩

theorem fin_at2 {n k : ℕ} (x : Shape.Idx ⟨2, ![n, k]⟩ → EReal) (h : ∀ i, Fin' (x i)) (r c : ℕ) : Fin' (at2 x r c) := by
  unfold at2
  split
  · exact h _
  · exact ⟨0, by simp⟩

theorem fin_at3 {n k l : ℕ} (x : Shape.Idx ⟨3, ![n, k, l]⟩ → EReal) (h : ∀ i, Fin' (x i)) (a b c : ℕ) : Fin' (at3 x a b c) := by
  unfold at3
  split
  · exact h _
  · exact ⟨0, by simp⟩

theorem dpool_fin (H : Ok x3 x4 x5 x6) (g r b : ℕ) (hg : g < 4) : Fin' (dpA x3 x4 x5 x6 g r b) := by
  refine Fin'.sum _ _ fun a => ((Fin'.sum _ _ fun d => (fin_at2 x6 H.h6 _ _).mul ?_).mul (fin_at1 x4 H.h4 _)).mul (fin_at3 x3 H.h3 _ _ _)
  rw [at2_of _ _ _ (by omega) d.isLt]
  exact H.h5 ⟨128 * g + a.val, by omega⟩ d

theorem dq_fin (H : Ok x3 x4 x5 x6) (g w r b : ℕ) (hg : g < 4) (hw : 0 < w) : Fin' (dqA x3 x4 x5 x6 g w r b) := by
  obtain ⟨n, hn, e⟩ := cnt_pos w r hw
  rw [dqA, dq, e]
  exact div_real (dpool_fin x3 x4 x5 x6 H g r b hg) n hn

theorem v178_at (H : Ok x3 x4 x5 x6) (r : Fin 4096) (g : Fin 4) (b : Fin 128) :
    val_main_v178 (F := Ideal) x3 x4 x5 x6 (ix3 r g b) = ∑ k ∈ Finset.range (2 ^ (g.val + 1)), dqA x3 x4 x5 x6 g.val (2 ^ (g.val + 1)) (r.val + k) b.val := by
  have hw : 0 < 2 ^ (g.val + 1) := Nat.two_pow_pos _
  have e := telescope (fun r => dqA x3 x4 x5 x6 g.val (2 ^ (g.val + 1)) r b.val) 4096 (2 ^ (g.val + 1)) r.val (fun k => dq_fin x3 x4 x5 x6 H _ _ _ _ g.isLt hw)
    (fun k hk => dq_past _ _ _ _ (past_x6 x6) _ _ _ _ hw hk)
  refine Eq.trans ?_ e
  have z : val_main_call1_call0_v0 (F := Ideal) (Shape.Idx.first h_S_) = 0 := by pointwise [val_main_call1_call0_v0, val_main_call1_call0_cst]
  refine (rsum _ _ z r g b).trans (Finset.sum_congr rfl fun k _ => ?_)
  split
  · exact v177_at x3 x4 x5 x6 _ g b
  · rfl

theorem v180_at (H : Ok x3 x4 x5 x6) (r : Fin 4096) (c : Fin 512) :
    val_main_v180 (F := Ideal) x3 x4 x5 x6 (ix2 r c)
      = dz (at2 x6) (at2 x5) (at1 x4) (at3 x3) (c.val / 128) (2 ^ (c.val / 128 + 1)) r.val (c.val % 128) := by
  have e1 := v178_at x3 x4 x5 x6 H r ⟨c.val / 128, by omega⟩ ⟨c.val % 128, by omega⟩
  have e2 := v167_at x3 x4 x5 x6 r ⟨c.val / 128, by omega⟩ ⟨c.val % 128, by omega⟩
  rw [dz, sub_eq_add_neg, add_comm, ← e1, ← e2]
  unfold val_main_v180 val_main_v179
  generalize val_main_v178 (F := Ideal) x3 x4 x5 x6 = M
  generalize val_main_v167 (F := Ideal) x3 x4 x5 x6 = N
  pointwise

end Cert.Reference6Ideal.Even

end
-- ==== Proof.EvenRef.lean ====
module

public import proofs.«01_k».proof.Proof.EvenPool

@[expose] public section

set_option maxRecDepth 16384

noncomputable section

namespace Cert.Reference6Ideal.Even

open Cert.Reference6Ideal Cert.Reference6Ideal.Gen Cert.Reference6Ideal.Read Cert.FfnGrad Cert.MixGrad Idealize.ShloMosaic Idealize.ShloMosaic.TcCoe Idealize.SL.Sem
open Cert.NormGrad (at1 at1_mk)

variable (x0 : FVec Ideal S4096x1024 .f32) (x1 : FVec Ideal S1024x2048 .f32) (x2 : FVec Ideal S3x512 .f32) (x3 : FVec Ideal S4x128x128 .f32) (x4 : FVec Ideal S512 .f32) (x5 : FVec Ideal S1024x1024 .f32) (x6 : FVec Ideal S4096x1024 .f32)

/-- The gradient of the input's product, at the reference's arguments. -/
abbrev dpR : ℕ → ℕ → ℕ → EReal := dp (at2 x6) (at2 x5) (pA x0 x1) (at2 x2) (at1 x4) (at3 x3)

theorem v218_at (H : Ok x3 x4 x5 x6) (r : Fin 4096) (k : Fin 4) (c : Fin 512) :
    val_main_v218 (F := Ideal) x0 x1 x2 x3 x4 x5 x6 (ix2 r (⟨512 * k.val + c.val, by omega⟩ : Fin 2048)) = dpR x0 x1 x2 x3 x4 x5 x6 k.val r.val c.val := by
  have e0 := v182_at x0 x1 x2 x5 x6
  have e1 := v217_at x0 x1 x2 x5 x6
  have e2 := v216_at x0 x1 x2 x5 x6
  have e3 := v180_at x3 x4 x5 x6 H
  unfold val_main_v218
  generalize val_main_v182 (F := Ideal) x0 x1 x2 x5 x6 = M0 at e0 ⊢
  generalize val_main_v217 (F := Ideal) x0 x1 x2 x5 x6 = M1 at e1 ⊢
  generalize val_main_v216 (F := Ideal) x0 x1 x2 x5 x6 = M2 at e2 ⊢
  generalize val_main_v180 (F := Ideal) x3 x4 x5 x6 = M3 at e3 ⊢
  obtain rfl | rfl | rfl | rfl : k = 0 ∨ k = 1 ∨ k = 2 ∨ k = 3 := by omega
  · refine Eq.trans ?_ ((e0 r c).trans (if_pos rfl).symm)
    pointwise
  · refine Eq.trans ?_ ((e1 r c).trans (by rfl))
    pointwise
  · refine Eq.trans ?_ ((e2 r c).trans (by rfl))
    pointwise
    rw [dif_neg (by omega), dif_neg (by omega), dif_pos (by omega)]
    simp only [show 1024 + c.val - 512 - 512 = c.val by omega]
  · refine Eq.trans ?_ ((e3 r c).trans (by rfl))
    pointwise
    rw [dif_neg (by omega), dif_neg (by omega), dif_neg (by omega)]
    simp only [show 1536 + c.val - 512 - 512 - 512 = c.val by omega]

theorem v221_at (H : Ok x3 x4 x5 x6) (k : Fin 4) (r : Fin 4096) (c : Fin 512) :
    val_main_v221 (F := Ideal) x0 x1 x2 x3 x4 x5 x6 (ix3 k r c) = dpR x0 x1 x2 x3 x4 x5 x6 k.val r.val c.val := by
  rw [← v218_at x0 x1 x2 x3 x4 x5 x6 H r k c]
  unfold val_main_v221 val_main_v220 val_main_v219
  generalize val_main_v218 (F := Ideal) x0 x1 x2 x3 x4 x5 x6 = M
  pointwise
  simp only [Nat.mul_comm k.val 512]

theorem v226_at (H : Ok x3 x4 x5 x6) (k : Fin 4) (e : Fin 1024) (c : Fin 512) :
    val_main_v226 (F := Ideal) x0 x1 x2 x3 x4 x5 x6 (ix3 k e c) = ∑ r : Fin 4096, at2 x0 r.val e.val * dpR x0 x1 x2 x3 x4 x5 x6 k.val r.val c.val := by
  have h := fun r => v218_at x0 x1 x2 x3 x4 x5 x6 H r k c
  unfold val_main_v226 val_main_v225 val_main_v223 val_main_v222
  generalize val_main_v218 (F := Ideal) x0 x1 x2 x3 x4 x5 x6 = M at h ⊢
  pointwise
  simp only [Nat.mul_comm k.val 512, h, at2_mk]
  exact Finset.sum_congr rfl fun r _ => mul_comm _ _

theorem v106_at (e d : Fin 1024) :
    val_main_v106 (F := Ideal) x0 x1 x2 x3 x4 x6 (ix2 e d) = ∑ r : Fin 4096, at2 (val_main_v103 (F := Ideal) x0 x1 x2 x3 x4) r.val e.val * at2 x6 r.val d.val := by
  unfold val_main_v106 val_main_v105
  generalize val_main_v103 (F := Ideal) x0 x1 x2 x3 x4 = M
  pointwise
  simp only [at2_mk]
  exact Finset.sum_congr rfl fun r _ => mul_comm _ _

end Cert.Reference6Ideal.Even

end
-- ==== Proof.EvenEq.lean ====
module

public import proofs.«01_k».proof.Defs
public import proofs.«01_k».proof.Proof.BwdEq
public import proofs.«01_k».proof.Proof.EvenOut
public import proofs.«01_k».proof.Proof.EvenRef

@[expose] public section

set_option maxRecDepth 16384

noncomputable section

namespace Cert.Kernel6Ideal.Even

open Cert.Kernel6Ideal Cert.Kernel6Ideal.Gen Cert.FfnGrad Cert.MixGrad Idealize.ShloMosaic Idealize.ShloMosaic.TcCoe Idealize.SL.Sem
open Cert.Reference6Ideal.Read Cert.Reference6Ideal.Even
open Cert.KernelIdeal.Bwd (finite_of_cmp)

instance facts_pre : Cert.Pre_mixers_finite.Facts := ⟨by decide, by decide, by decide, by decide, by decide⟩

variable (m : (ℓ : Loc nD τ sig) → Buf (Elt Ideal) ℓ) (c : Dev nD)

theorem ok_of_pre (h : Cert.Pre_Kernel6Ideal_mixers_finite m) : Ok (a3 m c) (a4 m c) (a5 m c) (a6 m c) := by
  have h := h c
  simp only [Cert.Pre_mixers_finite.fn] at h
  refine ⟨fun i => finite_of_cmp (congrFun h.1 i), fun i => finite_of_cmp (congrFun h.2.1 i), fun e d => ?_, fun i => finite_of_cmp (congrFun h.2.2.2 i)⟩
  have f := finite_of_cmp (congrFun h.2.2.1 (ix2 e d))
  have g : extractStridedSlice S512x1024 ![512, 0] (a5 m c) Cert.Pre_mixers_finite.Facts.slices_S1024x1024_S512x1024_512_0 (ix2 e d) = a5 m c (ix2 (⟨512 + e.val, by omega⟩ : Fin 1024) d) := by
    generalize a5 m c = M
    pointwise
  exact g ▸ f

theorem eq12 (H : Ok (a3 m c) (a4 m c) (a5 m c) (a6 m c)) : (dats m 0 c).arrAt 12 cfg0.N = val_main_v221 (F := Ideal) (a0 m c) (a1 m c) (a2 m c) (a3 m c) (a4 m c) (a5 m c) (a6 m c) := by
  rw [out12]
  refine funext fun (y : S4x4096x512.Idx) => ?_
  idx_vars y
  exact (v221_at (a0 m c) (a1 m c) (a2 m c) (a3 m c) (a4 m c) (a5 m c) (a6 m c) H y0 y1 y2).symm

theorem eq13 (H : Ok (a3 m c) (a4 m c) (a5 m c) (a6 m c)) : (dats m 0 c).arrAt 13 cfg0.N = val_main_v226 (F := Ideal) (a0 m c) (a1 m c) (a2 m c) (a3 m c) (a4 m c) (a5 m c) (a6 m c) := by
  rw [out13]
  refine funext fun (y : S4x1024x512.Idx) => ?_
  idx_vars y
  exact (v226_at (a0 m c) (a1 m c) (a2 m c) (a3 m c) (a4 m c) (a5 m c) (a6 m c) H y0 y1 y2).symm

theorem eq14 : (dats m 0 c).arrAt 14 cfg0.N = val_main_v106 (F := Ideal) (a0 m c) (a1 m c) (a2 m c) (a3 m c) (a4 m c) (a6 m c) := by
  rw [out14]
  refine funext fun (y : S1024x1024.Idx) => ?_
  idx_vars y
  exact (v106_at (a0 m c) (a1 m c) (a2 m c) (a3 m c) (a4 m c) (a6 m c) y0 y1).symm

theorem eq15 : (dats m 0 c).arrAt 15 cfg0.N = val_main_v211 (F := Ideal) (a0 m c) (a1 m c) (a5 m c) (a6 m c) := by
  rw [out15]
  refine funext fun (y : S3x512.Idx) => ?_
  idx_vars y
  exact (v211_at (a0 m c) (a1 m c) (a5 m c) (a6 m c) y0 y1).symm

end Cert.Kernel6Ideal.Even

end
-- ==== Proof.Down.lean ====
module

public import proofs.«01_k».proof.Proof.NormMath
public import proofs.«01_k».proof.Proof.Gen.Kernel5Ideal.Value
public import proofs.«01_k».proof.Proof.Gen.Reference5Ideal.Read

@[expose] public section

set_option maxRecDepth 16384

noncomputable section

/-! The down-projection added to the stream: `h + act · w_down`, the product summed block of columns by block. -/
namespace Cert.Kernel5Ideal.Down

open Cert.Kernel5Ideal Cert.Kernel5Ideal.Gen Cert.NormGrad Cert.FfnGrad Idealize.ShloMosaic Idealize.ShloMosaic.TcCoe Idealize.SL.Sem
open Cert.Reference5Ideal.Read

theorem pay1_apply (v0 : Vec Ideal S512x1024 .f32) (v1 v7 v13 v19 : Vec Ideal S1x512x704 .bf16) (v3 v9 v15 v21 : Vec Ideal S1x704x1024 .bf16)
    (a : Fin 512) (d : Fin 1024) : k0_pay1 (F := Ideal) v0 v1 v3 v7 v9 v13 v15 v19 v21 (ix2 a d)
      = v0 (ix2 a d) + (∑ f : Fin 704, v1 (ix3 0 a f) * v3 (ix3 0 f d)) + (∑ f : Fin 704, v7 (ix3 0 a f) * v9 (ix3 0 f d))
        + (∑ f : Fin 704, v13 (ix3 0 a f) * v15 (ix3 0 f d)) + ∑ f : Fin 704, v19 (ix3 0 a f) * v21 (ix3 0 f d) := by
  pointwise [k0_pay1]

variable (m : (ℓ : Loc nD τ sig) → Buf (Elt Ideal) ℓ) (c : Dev nD)

abbrev a0 : FVec Ideal S4096x2816 .f32 := m ((c.tc : Thread nD τ).loc main_arg0)
abbrev a1 : FVec Ideal S2816x1024 .f32 := m ((c.tc : Thread nD τ).loc main_arg1)
abbrev a2 : FVec Ideal S4096x1024 .f32 := m ((c.tc : Thread nD τ).loc main_arg2)

theorem V2_at (j : Fin 4) (r : Fin 4096) (f : Fin 704) : V m c main_v2 (ix3 j r f) = a0 m c (ix2 r ⟨704 * j.val + f.val, by omega⟩) := by
  entry_read
  pointwise
  simp only [Nat.mul_comm j.val 704]

theorem V4_at (j : Fin 4) (f : Fin 704) (d : Fin 1024) : V m c main_v4 (ix3 j f d) = a1 m c (ix2 ⟨704 * j.val + f.val, by omega⟩ d) := by
  entry_read
  pointwise
  simp only [Nat.mul_comm j.val 704]

theorem lt8 (t : Fin cfg0.N) : t.val < 8 := t.isLt

/-! The input blocks at point `t`, of the whole arrays. -/

theorem in0 (t : Fin cfg0.N) (j : Fin 4) (a : Fin 512) (f : Fin 704) :
    iblk m c 0 t (ix3 j a f) = at2 (a0 m c) (512 * t.val + a.val) (704 * j.val + f.val) := by
  have ht := lt8 t
  have e : win0_0.index t = ![0, t.val, 0] := (by decide +kernel : ∀ t : Fin grid0.N, win0_0.index t = ![0, t.val, 0]) t
  rw [at2_of _ _ _ (by omega) (by omega)]
  refine Eq.trans (b := V m c main_v2 (ix3 j (⟨512 * t.val + a.val, by omega⟩ : Fin 4096) f)) ?_ (V2_at m c _ _ _)
  blk_ext [iblk, e]

theorem in1 (t : Fin cfg0.N) (j : Fin 4) (f : Fin 704) (d : Fin 1024) : iblk m c 1 t (ix3 j f d) = at2 (a1 m c) (704 * j.val + f.val) d.val := by
  have e : win0_1.index t = ![0, 0, 0] := (by decide +kernel : ∀ t : Fin grid0.N, win0_1.index t = ![0, 0, 0]) t
  rw [at2_of _ _ _ (by omega) d.isLt]
  refine Eq.trans (b := V m c main_v4 (ix3 j f d)) ?_ (V4_at m c _ _ _)
  blk_ext [iblk, e]

theorem in2 (t : Fin cfg0.N) (a : Fin 512) (d : Fin 1024) : iblk m c 2 t (ix2 a d) = at2 (a2 m c) (512 * t.val + a.val) d.val := by
  have ht := lt8 t
  have e : win0_2.index t = ![t.val, 0] := (by decide +kernel : ∀ t : Fin grid0.N, win0_2.index t = ![t.val, 0]) t
  rw [at2_of _ _ _ (by omega) d.isLt]
  refine Eq.trans (b := V m c main_arg2 (ix2 (⟨512 * t.val + a.val, by omega⟩ : Fin 4096) d)) ?_ (by rw [V_main_arg2])
  blk_ext [iblk, e]

theorem out3 : (dats m 0 c).arrAt 3 cfg0.N = fun i : S4096x1024.Idx =>
    at2 (a2 m c) (i 0).val (i 1).val + ∑ k : Fin 2816, at2 (a0 m c) (i 0).val k.val * at2 (a1 m c) k.val (i 1).val := by
  refine (dats m 0 c).arrAt_eq_of_covers 3 _ (by decide +kernel) fun t hf y => ?_
  have e : win0_3.index t = ![t.val, 0] := (by decide +kernel : ∀ t : Fin grid0.N, win0_3.index t = ![t.val, 0]) t
  blk_simp [e]
  rw [after0_3]
  have h0 := in0 m c t
  have h1 := in1 m c t
  have h2 := in2 m c t
  generalize iblk m c 0 t = B0 at h0 ⊢
  generalize iblk m c 1 t = B1 at h1 ⊢
  generalize iblk m c 2 t = B2 at h2 ⊢
  frame_out
  idx_vars y
  rw [pay1_apply, sum_blocks 2816 704 rfl fun k => at2 (a0 m c) (t.val * 512 + y0.val) k * at2 (a1 m c) k y1.val, ← add_assoc, ← add_assoc, ← add_assoc, h2,
    Nat.mul_comm 512]
  have l0 := fun k hk inb a f => (ld_part B0 k hk inb a f).trans (h0 ⟨k, hk⟩ a f)
  have l1 := fun k hk inb f d => (ld_part B1 k hk inb f d).trans (h1 ⟨k, hk⟩ f d)
  simp only [Nat.mul_comm 512] at l0
  congr 1
  · congr 1
    · congr 1
      · exact congrArg _ (Finset.sum_congr rfl fun f _ => congrArg₂ (· * ·) (l0 0 (by decide) _ _ _) (l1 0 (by decide) _ _ _))
      · exact Finset.sum_congr rfl fun f _ => congrArg₂ (· * ·) (l0 1 (by decide) _ _ _) (l1 1 (by decide) _ _ _)
    · exact Finset.sum_congr rfl fun f _ => congrArg₂ (· * ·) (l0 2 (by decide) _ _ _) (l1 2 (by decide) _ _ _)
  · exact Finset.sum_congr rfl fun f _ => congrArg₂ (· * ·) (l0 3 (by decide) _ _ _) (l1 3 (by decide) _ _ _)

theorem eq3 : (dats m 0 c).arrAt 3 cfg0.N = val_main_v1 (F := Ideal) (a0 m c) (a1 m c) (a2 m c) := by
  rw [out3]
  refine funext fun (y : S4096x1024.Idx) => ?_
  idx_vars y
  unfold val_main_v1 val_main_v0
  pointwise
  simp only [at2_mk]

end Cert.Kernel5Ideal.Down

end
-- ==== Proof.Dx.lean ====
module

public import proofs.«01_k».proof.Proof.Down
public import proofs.«01_k».proof.Proof.BwdOut
public import proofs.«01_k».proof.Proof.Gen.Kernel2Ideal.Value

@[expose] public section

set_option maxRecDepth 16384

noncomputable section

/-! The gradient of the feed-forward's normalised input, from the gradients of its two products. -/
namespace Cert.Kernel2Ideal.Dx

open Cert.Kernel2Ideal Cert.Kernel2Ideal.Gen Cert.NormGrad Cert.FfnGrad Idealize.ShloMosaic Idealize.ShloMosaic.TcCoe Idealize.SL.Sem

theorem pay3_apply (v51 : FVec Ideal S512x1024 .f32) (v53 : FVec Ideal S512x1 .f32) (v54 : Vec Ideal S512x1024 .f32) (v64 : Vec Ideal S1x1024 .f32)
    (v68 : Vec Ideal S512x1024 .f32) (a : Fin 512) (d : Fin 1024) : k0_pay3 (F := Ideal) v51 v53 v54 v64 v68 (ix2 a d)
      = v68 (ix2 a d) + v53 (ix2 a 0) * (v51 (ix2 a d) * v64 (ix2 0 d) - v54 (ix2 a d) * v53 (ix2 a 0)
        * Ideal.div (∑ k : Fin 1024, v51 (ix2 a k) * v64 (ix2 0 k) * (v54 (ix2 a k) * v53 (ix2 a 0))) (Ideal.ofBits .f32 0x44800000#32)) := by
  pointwise [k0_pay3, k0_pay1]

theorem pay2_apply (v51 : FVec Ideal S512x1024 .f32) (v53 : FVec Ideal S512x1 .f32) (v54 : Vec Ideal S512x1024 .f32) (v57 : Vec Ideal S1x1024 .f32)
    (d : Fin 1024) : k0_pay2 (F := Ideal) v51 v53 v54 v57 (ix2 0 d)
      = v57 (ix2 0 d) + ∑ a : Fin 512, v51 (ix2 a d) * (v54 (ix2 a d) * v53 (ix2 a 0)) := by
  pointwise [k0_pay2, k0_pay1]

theorem pay7_apply (v22 : Vec Ideal S1x512x704 .bf16) (v24 : Vec Ideal S1x704x1024 .bf16) (a : Fin 512) (d : Fin 1024) :
    k0_pay7 (F := Ideal) v22 v24 (ix2 a d) = ∑ f : Fin 704, v22 (ix3 0 a f) * v24 (ix3 0 f d) := by
  pointwise [k0_pay7]

theorem pay6_apply (v4 v10 v16 : Vec Ideal S1x512x704 .bf16) (v6 v12 v18 : Vec Ideal S1x704x1024 .bf16) (a : Fin 512) (d : Fin 1024) :
    k0_pay6 (F := Ideal) v4 v6 v10 v12 v16 v18 (ix2 a d)
      = (∑ f : Fin 704, v4 (ix3 0 a f) * v6 (ix3 0 f d)) + (∑ f : Fin 704, v10 (ix3 0 a f) * v12 (ix3 0 f d))
        + ∑ f : Fin 704, v16 (ix3 0 a f) * v18 (ix3 0 f d) := by
  pointwise [k0_pay6]

theorem pay8_apply (v21 v26 : FVec Ideal S512x1024 .f32) (v28 v34 v40 v46 : Vec Ideal S1x512x704 .bf16) (v30 v36 v42 v48 : Vec Ideal S1x704x1024 .bf16)
    (a : Fin 512) (d : Fin 1024) : k0_pay8 (F := Ideal) v21 v26 v28 v30 v34 v36 v40 v42 v46 v48 (ix2 a d)
      = v21 (ix2 a d) + v26 (ix2 a d) + (∑ f : Fin 704, v28 (ix3 0 a f) * v30 (ix3 0 f d)) + (∑ f : Fin 704, v34 (ix3 0 a f) * v36 (ix3 0 f d))
        + (∑ f : Fin 704, v40 (ix3 0 a f) * v42 (ix3 0 f d)) + ∑ f : Fin 704, v46 (ix3 0 a f) * v48 (ix3 0 f d) := by
  pointwise [k0_pay8]

theorem pay9_eq (B : Vec Ideal S512x1 .f32) (a : Fin 512) : k0_pay9 (F := Ideal) B (ix2 a 0) = B (ix2 a 0) := by
  pointwise [k0_pay9]

/-- The tile of the stream's gradient, from blocks of the whole arrays. -/
theorem dh_tile (D : FVec Ideal S512x1024 .f32) (Br : Vec Ideal S512x1 .f32) (Bh Bd : Vec Ideal S512x1024 .f32) (Bg : Vec Ideal S1x1024 .f32)
    (X R DX : ℕ → ℕ → EReal) (G : ℕ → EReal) (n : ℕ) (hD : ∀ (a : Fin 512) (d : Fin 1024), D (ix2 a d) = DX (n + a.val) d.val)
    (hr : ∀ a : Fin 512, Br (ix2 a 0) = rstd X (n + a.val)) (hh : ∀ (a : Fin 512) (d : Fin 1024), Bh (ix2 a d) = X (n + a.val) d.val)
    (hg : ∀ d : Fin 1024, Bg (ix2 0 d) = G d.val) (hd : ∀ (a : Fin 512) (d : Fin 1024), Bd (ix2 a d) = R (n + a.val) d.val) (a : Fin 512) (d : Fin 1024) :
    k0_pay3 (F := Ideal) D (k0_pay9 Br) Bh Bg Bd (ix2 a d) = dh X R DX G (n + a.val) d.val := by
  rw [pay3_apply, dh, pay9_eq]
  simp only [hD, hr, hh, hg, hd]

/-- What a tile adds to the scale's gradient, from blocks of the whole arrays. -/
theorem dgain_tile (D : FVec Ideal S512x1024 .f32) (Br : Vec Ideal S512x1 .f32) (Bh : Vec Ideal S512x1024 .f32)
    (X DX : ℕ → ℕ → EReal) (n : ℕ) (hD : ∀ (a : Fin 512) (d : Fin 1024), D (ix2 a d) = DX (n + a.val) d.val)
    (hr : ∀ a : Fin 512, Br (ix2 a 0) = rstd X (n + a.val)) (hh : ∀ (a : Fin 512) (d : Fin 1024), Bh (ix2 a d) = X (n + a.val) d.val)
    (v : Vec Ideal S1x1024 .f32) (d : Fin 1024) : k0_pay2 (F := Ideal) D (k0_pay9 Br) Bh v (ix2 0 d)
      = v (ix2 0 d) + ∑ a : Fin 512, DX (n + a.val) d.val * (X (n + a.val) d.val * rstd X (n + a.val)) := by
  rw [pay2_apply]
  simp only [hD, hr, hh, pay9_eq]

/-- The tile's gradient of the normalised and scaled rows, as the body adds it up. -/
def dxv (B0 B1 : Vec Ideal S4x512x704 .bf16) (B2 B3 : Vec Ideal S4x704x1024 .bf16) : FVec Ideal S512x1024 .f32 :=
  k0_pay8
    (k0_pay6 (View.ld B0 (Rect.unit ![0, 0, 0] ![1, 512, 704] inb_S4x512x704_S1x512x704_0_0_0))
      (View.ld B2 (Rect.unit ![0, 0, 0] ![1, 704, 1024] inb_S4x704x1024_S1x704x1024_0_0_0))
      (View.ld B1 (Rect.unit ![0, 0, 0] ![1, 512, 704] inb_S4x512x704_S1x512x704_0_0_0))
      (View.ld B3 (Rect.unit ![0, 0, 0] ![1, 704, 1024] inb_S4x704x1024_S1x704x1024_0_0_0))
      (View.ld B0 (Rect.unit ![1, 0, 0] ![1, 512, 704] inb_S4x512x704_S1x512x704_1_0_0))
      (View.ld B2 (Rect.unit ![1, 0, 0] ![1, 704, 1024] inb_S4x704x1024_S1x704x1024_1_0_0)))
    (k0_pay7 (View.ld B1 (Rect.unit ![1, 0, 0] ![1, 512, 704] inb_S4x512x704_S1x512x704_1_0_0))
      (View.ld B3 (Rect.unit ![1, 0, 0] ![1, 704, 1024] inb_S4x704x1024_S1x704x1024_1_0_0)))
    (View.ld B0 (Rect.unit ![2, 0, 0] ![1, 512, 704] inb_S4x512x704_S1x512x704_2_0_0))
    (View.ld B2 (Rect.unit ![2, 0, 0] ![1, 704, 1024] inb_S4x704x1024_S1x704x1024_2_0_0))
    (View.ld B1 (Rect.unit ![2, 0, 0] ![1, 512, 704] inb_S4x512x704_S1x512x704_2_0_0))
    (View.ld B3 (Rect.unit ![2, 0, 0] ![1, 704, 1024] inb_S4x704x1024_S1x704x1024_2_0_0))
    (View.ld B0 (Rect.unit ![3, 0, 0] ![1, 512, 704] inb_S4x512x704_S1x512x704_3_0_0))
    (View.ld B2 (Rect.unit ![3, 0, 0] ![1, 704, 1024] inb_S4x704x1024_S1x704x1024_3_0_0))
    (View.ld B1 (Rect.unit ![3, 0, 0] ![1, 512, 704] inb_S4x512x704_S1x512x704_3_0_0))
    (View.ld B3 (Rect.unit ![3, 0, 0] ![1, 704, 1024] inb_S4x704x1024_S1x704x1024_3_0_0))

/-- One block of columns' part of a product. -/
theorem part_at (B : Vec Ideal S4x512x704 .bf16) (C : Vec Ideal S4x704x1024 .bf16) (D W : ℕ → ℕ → EReal) (i : ℕ)
    (hB : ∀ (j : Fin 4) (a : Fin 512) (f : Fin 704), B (ix3 j a f) = D (512 * i + a.val) (704 * j.val + f.val))
    (hC : ∀ (j : Fin 4) (f : Fin 704) (d : Fin 1024), C (ix3 j f d) = W d.val (704 * j.val + f.val)) (k : ℕ) (hk : k < 4) (p q) (a : Fin 512) (d : Fin 1024) :
    (∑ f : Fin 704, (View.ld B (Rect.unit ![k, 0, 0] ![1, 512, 704] p) : Vec Ideal S1x512x704 .bf16) (ix3 0 a f)
      * (View.ld C (Rect.unit ![k, 0, 0] ![1, 704, 1024] q) : Vec Ideal S1x704x1024 .bf16) (ix3 0 f d))
      = ∑ f : Fin 704, D (512 * i + a.val) (704 * k + f.val) * W d.val (704 * k + f.val) :=
  Finset.sum_congr rfl fun f _ => congrArg₂ (· * ·) ((ld_part B k hk p a f).trans (hB ⟨k, hk⟩ a f)) ((ld_part C k hk q f d).trans (hC ⟨k, hk⟩ f d))

theorem dx_at (B0 B1 : Vec Ideal S4x512x704 .bf16) (B2 B3 : Vec Ideal S4x704x1024 .bf16) (DG DUP WG WU : ℕ → ℕ → EReal) (i : ℕ)
    (h0 : ∀ (j : Fin 4) (a : Fin 512) (f : Fin 704), B0 (ix3 j a f) = DG (512 * i + a.val) (704 * j.val + f.val))
    (h1 : ∀ (j : Fin 4) (a : Fin 512) (f : Fin 704), B1 (ix3 j a f) = DUP (512 * i + a.val) (704 * j.val + f.val))
    (h2 : ∀ (j : Fin 4) (f : Fin 704) (d : Fin 1024), B2 (ix3 j f d) = WG d.val (704 * j.val + f.val))
    (h3 : ∀ (j : Fin 4) (f : Fin 704) (d : Fin 1024), B3 (ix3 j f d) = WU d.val (704 * j.val + f.val)) (a : Fin 512) (d : Fin 1024) :
    dxv B0 B1 B2 B3 (ix2 a d) = dx2 DG DUP WG WU (512 * i + a.val) d.val := by
  have g := part_at B0 B2 DG WG i h0 h2
  have u := part_at B1 B3 DUP WU i h1 h3
  unfold dxv
  rw [pay8_apply, pay6_apply, pay7_apply, dx2, sum_blocks 2816 704 rfl fun k => DUP (512 * i + a.val) k * WU d.val k,
    sum_blocks 2816 704 rfl fun k => DG (512 * i + a.val) k * WG d.val k,
    g 0 (by decide), g 1 (by decide), g 2 (by decide), g 3 (by decide), u 0 (by decide), u 1 (by decide), u 2 (by decide), u 3 (by decide)]
  ac_rfl

variable (m : (ℓ : Loc nD τ sig) → Buf (Elt Ideal) ℓ) (c : Dev nD)

abbrev a0 : FVec Ideal S4096x1024 .f32 := m ((c.tc : Thread nD τ).loc main_arg0)
abbrev a1 : FVec Ideal S1024 .f32 := m ((c.tc : Thread nD τ).loc main_arg1)
abbrev a2 : FVec Ideal S1024x2816 .f32 := m ((c.tc : Thread nD τ).loc main_arg2)
abbrev a3 : FVec Ideal S1024x2816 .f32 := m ((c.tc : Thread nD τ).loc main_arg3)
abbrev a4 : FVec Ideal S4096x2816 .f32 := m ((c.tc : Thread nD τ).loc main_arg4)
abbrev a5 : FVec Ideal S4096x2816 .f32 := m ((c.tc : Thread nD τ).loc main_arg5)
abbrev a6 : FVec Ideal S4096x1024 .f32 := m ((c.tc : Thread nD τ).loc main_arg6)

theorem V18_at (j : Fin 4) (r : Fin 4096) (f : Fin 704) : V m c main_v18 (ix3 j r f) = a4 m c (ix2 r ⟨704 * j.val + f.val, by omega⟩) := by
  entry_read
  pointwise
  simp only [Nat.mul_comm j.val 704]

theorem V21_at (j : Fin 4) (r : Fin 4096) (f : Fin 704) : V m c main_v21 (ix3 j r f) = a5 m c (ix2 r ⟨704 * j.val + f.val, by omega⟩) := by
  entry_read
  pointwise
  simp only [Nat.mul_comm j.val 704]

theorem V11_at (j : Fin 4) (f : Fin 704) (d : Fin 1024) : V m c main_v11 (ix3 j f d) = a2 m c (ix2 d ⟨704 * j.val + f.val, by omega⟩) := by
  entry_read
  pointwise
  simp only [Nat.mul_comm j.val 704]

theorem V15_at (j : Fin 4) (f : Fin 704) (d : Fin 1024) : V m c main_v15 (ix3 j f d) = a3 m c (ix2 d ⟨704 * j.val + f.val, by omega⟩) := by
  entry_read
  pointwise
  simp only [Nat.mul_comm j.val 704]

theorem V22_at (d : Fin 1024) : V m c main_v22 (ix2 0 d) = at1 (a1 m c) d.val := by
  rw [at1_mk]
  entry_read
  pointwise

theorem V7_at (r : Fin 4096) : V m c main_v7 (ix2 r 0) = rstd (at2 (a0 m c)) r.val := by
  unfold rstd
  simp only [at2_mk]
  entry_read
  pointwise

theorem lt8 (t : Fin cfg0.N) : t.val < 8 := t.isLt

/-! The input blocks at point `t`, of the whole arrays. -/

theorem in0 (t : Fin cfg0.N) (j : Fin 4) (a : Fin 512) (f : Fin 704) :
    iblk m c 0 t (ix3 j a f) = at2 (a4 m c) (512 * t.val + a.val) (704 * j.val + f.val) := by
  have ht := lt8 t
  have e : win0_0.index t = ![0, t.val, 0] := (by decide +kernel : ∀ t : Fin grid0.N, win0_0.index t = ![0, t.val, 0]) t
  rw [at2_of _ _ _ (by omega) (by omega)]
  refine Eq.trans (b := V m c main_v18 (ix3 j (⟨512 * t.val + a.val, by omega⟩ : Fin 4096) f)) ?_ (V18_at m c _ _ _)
  blk_ext [iblk, e]

theorem in1 (t : Fin cfg0.N) (j : Fin 4) (a : Fin 512) (f : Fin 704) :
    iblk m c 1 t (ix3 j a f) = at2 (a5 m c) (512 * t.val + a.val) (704 * j.val + f.val) := by
  have ht := lt8 t
  have e : win0_1.index t = ![0, t.val, 0] := (by decide +kernel : ∀ t : Fin grid0.N, win0_1.index t = ![0, t.val, 0]) t
  rw [at2_of _ _ _ (by omega) (by omega)]
  refine Eq.trans (b := V m c main_v21 (ix3 j (⟨512 * t.val + a.val, by omega⟩ : Fin 4096) f)) ?_ (V21_at m c _ _ _)
  blk_ext [iblk, e]

theorem in2 (t : Fin cfg0.N) (j : Fin 4) (f : Fin 704) (d : Fin 1024) : iblk m c 2 t (ix3 j f d) = at2 (a2 m c) d.val (704 * j.val + f.val) := by
  have e : win0_2.index t = ![0, 0, 0] := (by decide +kernel : ∀ t : Fin grid0.N, win0_2.index t = ![0, 0, 0]) t
  rw [at2_of _ _ _ d.isLt (by omega)]
  refine Eq.trans (b := V m c main_v11 (ix3 j f d)) ?_ (V11_at m c _ _ _)
  blk_ext [iblk, e]

theorem in3 (t : Fin cfg0.N) (j : Fin 4) (f : Fin 704) (d : Fin 1024) : iblk m c 3 t (ix3 j f d) = at2 (a3 m c) d.val (704 * j.val + f.val) := by
  have e : win0_3.index t = ![0, 0, 0] := (by decide +kernel : ∀ t : Fin grid0.N, win0_3.index t = ![0, 0, 0]) t
  rw [at2_of _ _ _ d.isLt (by omega)]
  refine Eq.trans (b := V m c main_v15 (ix3 j f d)) ?_ (V15_at m c _ _ _)
  blk_ext [iblk, e]

theorem in4 (t : Fin cfg0.N) (a : Fin 512) (d : Fin 1024) : iblk m c 4 t (ix2 a d) = at2 (a0 m c) (512 * t.val + a.val) d.val := by
  have ht := lt8 t
  have e : win0_4.index t = ![t.val, 0] := (by decide +kernel : ∀ t : Fin grid0.N, win0_4.index t = ![t.val, 0]) t
  rw [at2_of _ _ _ (by omega) d.isLt]
  refine Eq.trans (b := V m c main_arg0 (ix2 (⟨512 * t.val + a.val, by omega⟩ : Fin 4096) d)) ?_ (by rw [V_main_arg0])
  blk_ext [iblk, e]

theorem in5 (t : Fin cfg0.N) (d : Fin 1024) : iblk m c 5 t (ix2 0 d) = at1 (a1 m c) d.val := by
  have e : win0_5.index t = ![0, 0] := (by decide +kernel : ∀ t : Fin grid0.N, win0_5.index t = ![0, 0]) t
  refine Eq.trans (b := V m c main_v22 (ix2 0 d)) ?_ (V22_at m c _)
  blk_ext [iblk, e]

theorem in6 (t : Fin cfg0.N) (a : Fin 512) : iblk m c 6 t (ix2 a 0) = rstd (at2 (a0 m c)) (512 * t.val + a.val) := by
  have ht := lt8 t
  have e : win0_6.index t = ![t.val, 0] := (by decide +kernel : ∀ t : Fin grid0.N, win0_6.index t = ![t.val, 0]) t
  refine Eq.trans (b := V m c main_v7 (ix2 (⟨512 * t.val + a.val, by omega⟩ : Fin 4096) 0)) ?_ (V7_at m c _)
  blk_ext [iblk, e]

theorem in7 (t : Fin cfg0.N) (a : Fin 512) (d : Fin 1024) : iblk m c 7 t (ix2 a d) = at2 (a6 m c) (512 * t.val + a.val) d.val := by
  have ht := lt8 t
  have e : win0_7.index t = ![t.val, 0] := (by decide +kernel : ∀ t : Fin grid0.N, win0_7.index t = ![t.val, 0]) t
  rw [at2_of _ _ _ (by omega) d.isLt]
  refine Eq.trans (b := V m c main_arg6 (ix2 (⟨512 * t.val + a.val, by omega⟩ : Fin 4096) d)) ?_ (by rw [V_main_arg6])
  blk_ext [iblk, e]

/-! The whole arrays behind the gradient, at device `c`'s arguments. -/
abbrev X : ℕ → ℕ → EReal := at2 (a0 m c)
abbrev DX : ℕ → ℕ → EReal := dx2 (at2 (a4 m c)) (at2 (a5 m c)) (at2 (a2 m c)) (at2 (a3 m c))

theorem dxv_at (t : Fin cfg0.N) (a : Fin 512) (d : Fin 1024) :
    dxv (iblk m c 0 t) (iblk m c 1 t) (iblk m c 2 t) (iblk m c 3 t) (ix2 a d) = DX m c (512 * t.val + a.val) d.val :=
  dx_at _ _ _ _ _ _ _ _ t.val (in0 m c t) (in1 m c t) (in2 m c t) (in3 m c t) a d

theorem pay3_at (t : Fin cfg0.N) (a : Fin 512) (d : Fin 1024) :
    k0_pay3 (F := Ideal) (dxv (iblk m c 0 t) (iblk m c 1 t) (iblk m c 2 t) (iblk m c 3 t)) (k0_pay9 (iblk m c 6 t)) (iblk m c 4 t) (iblk m c 5 t) (iblk m c 7 t) (ix2 a d)
      = dh (X m c) (at2 (a6 m c)) (DX m c) (at1 (a1 m c)) (512 * t.val + a.val) d.val :=
  dh_tile _ _ _ _ _ _ _ _ _ _ (dxv_at m c t) (in6 m c t) (in4 m c t) (in5 m c t) (in7 m c t) a d

theorem pay2_at (t : Fin cfg0.N) (v : Vec Ideal S1x1024 .f32) (d : Fin 1024) :
    k0_pay2 (F := Ideal) (dxv (iblk m c 0 t) (iblk m c 1 t) (iblk m c 2 t) (iblk m c 3 t)) (k0_pay9 (iblk m c 6 t)) (iblk m c 4 t) v (ix2 0 d)
      = v (ix2 0 d) + ∑ a : Fin 512, DX m c (512 * t.val + a.val) d.val * (X m c (512 * t.val + a.val) d.val * rstd (X m c) (512 * t.val + a.val)) :=
  dgain_tile _ _ _ _ _ _ (dxv_at m c t) (in6 m c t) (in4 m c t) v d

theorem blk8 (t : Fin cfg0.N) (y : S512x1024.Idx) : (outsAt0 m c t.val t.isLt).1 y
    = dh (X m c) (at2 (a6 m c)) (DX m c) (at1 (a1 m c)) (512 * t.val + (y 0).val) (y 1).val := by
  idx_vars y
  by_cases h0 : t.val % 8 = 0
  · rw [outsAt0_A m c t h0]
    frame_out
    exact pay3_at m c t y0 y1
  · rw [outsAt0_B m c t h0]
    frame_out
    exact pay3_at m c t y0 y1

theorem blk9 (t : Fin cfg0.N) (y : S512x1024.Idx) : (outsAt0 m c t.val t.isLt).2.1 y
    = dh (X m c) (at2 (a6 m c)) (DX m c) (at1 (a1 m c)) (512 * t.val + (y 0).val) (y 1).val := by
  idx_vars y
  by_cases h0 : t.val % 8 = 0
  · rw [outsAt0_A m c t h0]
    frame_out
    exact pay3_at m c t y0 y1
  · rw [outsAt0_B m c t h0]
    frame_out
    exact pay3_at m c t y0 y1

theorem blk10 (t : Fin cfg0.N) (ht : t.val % 8 = 7) (y : S1x1024.Idx) : (outsAt0 m c t.val t.isLt).2.2 y = dgain (X m c) (DX m c) (y 1).val := by
  have lt := lt8
  refine Cert.KernelIdeal.Bwd.acc_rows (fun n h => (outsAt0 m c n h).2.2)
    (fun _ r y => DX m c r (y 1).val * (X m c r (y 1).val * rstd (X m c) r)) (fun t h y => ?_) (fun t h y => ?_) t ht y
  · have e : t.val % 8 = t.val := Nat.mod_eq_of_lt (lt t)
    idx_vars y
    obtain rfl := Subsingleton.elim y0 0
    rw [outsAt0_A m c t h]
    frame_out
    refine (pay2_at m c t _ y1).trans ?_
    have z : k0_pay5 (F := Ideal) (ix2 0 y1) = 0 := by pointwise [k0_pay5]
    rw [z, zero_add, e]
  · have e : t.val % 8 = t.val := Nat.mod_eq_of_lt (lt t)
    idx_vars y
    obtain rfl := Subsingleton.elim y0 0
    rw [outsAt0_B m c t h]
    frame_out
    refine (pay2_at m c t _ y1).trans ?_
    rw [e]

theorem out8 : (dats m 0 c).arrAt 8 cfg0.N = fun i : S4096x1024.Idx => dh (X m c) (at2 (a6 m c)) (DX m c) (at1 (a1 m c)) (i 0).val (i 1).val := by
  refine (dats m 0 c).arrAt_eq_of_covers 8 _ (by decide +kernel) fun t hf y => ?_
  have e : win0_8.index t = ![t.val, 0] := (by decide +kernel : ∀ t : Fin grid0.N, win0_8.index t = ![t.val, 0]) t
  blk_simp [e]
  rw [after0_8]
  refine (blk8 m c t y).trans ?_
  rw [Nat.mul_comm 512]

theorem out9 : (dats m 0 c).arrAt 9 cfg0.N = fun i : S4096x1024.Idx => dh (X m c) (at2 (a6 m c)) (DX m c) (at1 (a1 m c)) (i 0).val (i 1).val := by
  refine (dats m 0 c).arrAt_eq_of_covers 9 _ (by decide +kernel) fun t hf y => ?_
  have e : win0_9.index t = ![t.val, 0] := (by decide +kernel : ∀ t : Fin grid0.N, win0_9.index t = ![t.val, 0]) t
  blk_simp [e]
  rw [after0_9]
  refine (blk9 m c t y).trans ?_
  rw [Nat.mul_comm 512]

theorem out10 : (dats m 0 c).arrAt 10 cfg0.N = fun i : S1x1024.Idx => dgain (X m c) (DX m c) (i 1).val := by
  refine (dats m 0 c).arrAt_eq_of_covers 10 _ (by decide +kernel) fun t hf y => ?_
  have e : win0_10.index t = ![0, 0] := (by decide +kernel : ∀ t : Fin grid0.N, win0_10.index t = ![0, 0]) t
  blk_simp [e]
  rw [after0_10]
  refine (blk10 m c t ((flush0_10 t).mp hf) y).trans ?_
  rfl

end Cert.Kernel2Ideal.Dx

end
-- ==== Proof.DxRef.lean ====
module

public import proofs.«01_k».proof.Proof.Dx
public import proofs.«01_k».proof.Proof.Gen.Reference2Ideal.Read

@[expose] public section

set_option maxRecDepth 16384

noncomputable section

/-! The reference's gradient of the feed-forward's normalised input, element by element, and the kernel's against it. -/
namespace Cert.Reference2Ideal.Dx

open Cert.Reference2Ideal Cert.Reference2Ideal.Gen Cert.Reference2Ideal.Read Cert.NormGrad Cert.FfnGrad Idealize.ShloMosaic Idealize.ShloMosaic.TcCoe Idealize.SL.Sem

variable (x0 : (⟨S4096x1024, .f32⟩ : BufTy).Contents (Elt Ideal)) (x1 : (⟨S1024, .f32⟩ : BufTy).Contents (Elt Ideal))
  (x2 x3 : (⟨S1024x2816, .f32⟩ : BufTy).Contents (Elt Ideal)) (x4 x5 : (⟨S4096x2816, .f32⟩ : BufTy).Contents (Elt Ideal))
  (x6 : (⟨S4096x1024, .f32⟩ : BufTy).Contents (Elt Ideal))

theorem v6_at (r : Fin 4096) : val_main_v6 (F := Ideal) x0 (ix2 r 0)
    = Ideal.div (∑ k : Fin 1024, at2 x0 r.val k.val * at2 x0 r.val k.val) (Ideal.ofBits .f32 0x44800000#32) + Ideal.ofBits .f32 0x358637BD#32 := by
  simp only [at2_mk]
  pointwise [val_main_v6, val_main_v5, val_main_v4, val_main_v3, val_main_v2, val_main_v1, val_main_v0, val_main_cst, val_main_cst_0, val_main_cst_1]

theorem v7_at (r : Fin 4096) : val_main_v7 (F := Ideal) x0 (ix2 r 0) = rstd (at2 x0) r.val := by
  rw [rstd, ← v6_at]
  rfl

theorem v20_at (r : Fin 4096) (d : Fin 1024) : val_main_v20 (F := Ideal) x2 x3 x4 x5 (ix2 r d)
    = dx2 (at2 x4) (at2 x5) (at2 x2) (at2 x3) r.val d.val := by
  unfold dx2
  simp only [at2_mk]
  pointwise [val_main_v20, val_main_v19, val_main_v18]

theorem v35_at (r : Fin 4096) : val_main_v35 (F := Ideal) x0 x1 x2 x3 x4 x5 (ix2 r 0)
    = Ideal.div ((∑ k : Fin 1024, at2 x0 r.val k.val * (dx2 (at2 x4) (at2 x5) (at2 x2) (at2 x3) r.val k.val * at1 x1 k.val))
      * (Ideal.ofBits .f32 0xBF000000#32 * Ideal.div (rstd (at2 x0) r.val) (val_main_v6 (F := Ideal) x0 (ix2 r 0)))) (Ideal.ofBits .f32 0x44800000#32) := by
  have e20 := v20_at x2 x3 x4 x5
  have e7 := v7_at x0
  simp only [at2_mk, at1_mk]
  unfold val_main_v35 val_main_v33 val_main_v29 val_main_v28 val_main_v27 val_main_v25 val_main_v10 val_main_v8
  generalize val_main_v20 (F := Ideal) x2 x3 x4 x5 = M at e20 ⊢
  generalize val_main_v7 (F := Ideal) x0 = N at e7 ⊢
  generalize val_main_v6 (F := Ideal) x0 = P
  pointwise [val_main_v34, val_main_v24, val_main_v13, val_main_v9, val_main_cst_6, val_main_cst_5, val_main_cst_2, e20, e7]

theorem v41_at (r : Fin 4096) (d : Fin 1024) : val_main_v41 (F := Ideal) x0 x1 x2 x3 x4 x5 x6 (ix2 r d)
    = dh (at2 x0) (at2 x6) (dx2 (at2 x4) (at2 x5) (at2 x2) (at2 x3)) (at1 x1) r.val d.val := by
  rw [← dh_chain _ _ _ _ _ d _ _ (v6_at x0 r) (v35_at x0 x1 x2 x3 x4 x5 r)]
  have e20 := v20_at x2 x3 x4 x5
  have e7 := v7_at x0
  simp only [at2_mk, at1_mk]
  unfold val_main_v41 val_main_v40 val_main_v39 val_main_v38 val_main_v37 val_main_v36 val_main_v32 val_main_v31 val_main_v30 val_main_v25
  generalize val_main_v20 (F := Ideal) x2 x3 x4 x5 = M at e20 ⊢
  generalize val_main_v7 (F := Ideal) x0 = N at e7 ⊢
  generalize val_main_v35 (F := Ideal) x0 x1 x2 x3 x4 x5 = P
  pointwise [val_main_v24, val_main_v13, val_main_cst_7, e20, e7]
  rw [Fin.sum_univ_one]

theorem v43_at (d : Fin 1024) : val_main_v43 (F := Ideal) x0 x2 x3 x4 x5 (ix2 0 d)
    = dgain (at2 x0) (dx2 (at2 x4) (at2 x5) (at2 x2) (at2 x3)) d.val := by
  have e20 := v20_at x2 x3 x4 x5
  have e7 := v7_at x0
  unfold dgain
  simp only [at2_mk]
  unfold val_main_v43 val_main_v26 val_main_v23 val_main_v22 val_main_v21 val_main_v12 val_main_v11
  generalize val_main_v20 (F := Ideal) x2 x3 x4 x5 = M at e20 ⊢
  generalize val_main_v7 (F := Ideal) x0 = N at e7 ⊢
  pointwise [val_main_cst_3, val_main_cst_4, e20, e7]
  rw [Fin.sum_univ_one]
  exact Finset.sum_congr rfl fun r _ => mul_comm _ _

end Cert.Reference2Ideal.Dx

namespace Cert.Kernel2Ideal.Dx

open Cert.Kernel2Ideal Cert.Kernel2Ideal.Gen Cert.NormGrad Cert.FfnGrad Idealize.ShloMosaic Idealize.ShloMosaic.TcCoe Idealize.SL.Sem
open Cert.Reference2Ideal.Read Cert.Reference2Ideal.Dx

variable (m : (ℓ : Loc nD τ sig) → Buf (Elt Ideal) ℓ) (c : Dev nD)

theorem eq8 : (dats m 0 c).arrAt 8 cfg0.N = val_main_v41 (F := Ideal) (a0 m c) (a1 m c) (a2 m c) (a3 m c) (a4 m c) (a5 m c) (a6 m c) := by
  rw [out8]
  refine funext fun (y : S4096x1024.Idx) => ?_
  idx_vars y
  exact (v41_at (a0 m c) (a1 m c) (a2 m c) (a3 m c) (a4 m c) (a5 m c) (a6 m c) y0 y1).symm

theorem eq9 : (dats m 0 c).arrAt 9 cfg0.N = val_main_v42 (F := Ideal) (a0 m c) (a1 m c) (a2 m c) (a3 m c) (a4 m c) (a5 m c) (a6 m c) := by
  rw [out9]
  refine funext fun (y : S4096x1024.Idx) => ?_
  idx_vars y
  exact (v41_at (a0 m c) (a1 m c) (a2 m c) (a3 m c) (a4 m c) (a5 m c) (a6 m c) y0 y1).symm

theorem eq10 : (dats m 0 c).arrAt 10 cfg0.N = val_main_v43 (F := Ideal) (a0 m c) (a2 m c) (a3 m c) (a4 m c) (a5 m c) := by
  rw [out10]
  refine funext fun (y : S1x1024.Idx) => ?_
  idx_vars y
  obtain rfl := Subsingleton.elim y0 0
  exact (v43_at (a0 m c) (a2 m c) (a3 m c) (a4 m c) (a5 m c) y1).symm

end Cert.Kernel2Ideal.Dx

end
-- ==== Proof.Mix.lean ====
module

public import proofs.«01_k».proof.Proof.Dx
public import proofs.«01_k».proof.Proof.Gen.Kernel3Ideal.Value
public import proofs.«01_k».proof.Proof.Gen.Reference3Ideal.Read

@[expose] public section

set_option maxRecDepth 16384

noncomputable section

/-! The gradient of a mixer's normalised input, from the gradient of its one product. -/
namespace Cert.Kernel3Ideal.Mix

open Cert.Kernel3Ideal Cert.Kernel3Ideal.Gen Cert.NormGrad Cert.FfnGrad Idealize.ShloMosaic Idealize.ShloMosaic.TcCoe Idealize.SL.Sem

theorem pay9_apply (v22 : Vec Ideal S1x512x512 .bf16) (v24 : Vec Ideal S1x1024x512 .bf16) (a : Fin 512) (d : Fin 1024) :
    k0_pay9 (F := Ideal) v22 v24 (ix2 a d) = ∑ f : Fin 512, v22 (ix3 0 a f) * v24 (ix3 0 d f) := by
  pointwise [k0_pay9]

theorem pay8_apply (v4 v10 v16 : Vec Ideal S1x512x512 .bf16) (v6 v12 v18 : Vec Ideal S1x1024x512 .bf16) (a : Fin 512) (d : Fin 1024) :
    k0_pay8 (F := Ideal) v4 v6 v10 v12 v16 v18 (ix2 a d)
      = (∑ f : Fin 512, v4 (ix3 0 a f) * v6 (ix3 0 d f)) + (∑ f : Fin 512, v10 (ix3 0 a f) * v12 (ix3 0 d f))
        + ∑ f : Fin 512, v16 (ix3 0 a f) * v18 (ix3 0 d f) := by
  pointwise [k0_pay8]

/-- The tile's gradient of the normalised and scaled rows: the first three blocks of columns, and the last. -/
def dxa (B0 : Vec Ideal S4x512x512 .bf16) (B1 : Vec Ideal S4x1024x512 .bf16) : FVec Ideal S512x1024 .f32 :=
  k0_pay8 (View.ld B0 (Rect.unit ![0, 0, 0] ![1, 512, 512] inb_S4x512x512_S1x512x512_0_0_0))
    (View.ld B1 (Rect.unit ![0, 0, 0] ![1, 1024, 512] inb_S4x1024x512_S1x1024x512_0_0_0))
    (View.ld B0 (Rect.unit ![1, 0, 0] ![1, 512, 512] inb_S4x512x512_S1x512x512_1_0_0))
    (View.ld B1 (Rect.unit ![1, 0, 0] ![1, 1024, 512] inb_S4x1024x512_S1x1024x512_1_0_0))
    (View.ld B0 (Rect.unit ![2, 0, 0] ![1, 512, 512] inb_S4x512x512_S1x512x512_2_0_0))
    (View.ld B1 (Rect.unit ![2, 0, 0] ![1, 1024, 512] inb_S4x1024x512_S1x1024x512_2_0_0))

def dxb (B0 : Vec Ideal S4x512x512 .bf16) (B1 : Vec Ideal S4x1024x512 .bf16) : FVec Ideal S512x1024 .f32 :=
  k0_pay9 (View.ld B0 (Rect.unit ![3, 0, 0] ![1, 512, 512] inb_S4x512x512_S1x512x512_3_0_0))
    (View.ld B1 (Rect.unit ![3, 0, 0] ![1, 1024, 512] inb_S4x1024x512_S1x1024x512_3_0_0))

theorem dx_at (B0 : Vec Ideal S4x512x512 .bf16) (B1 : Vec Ideal S4x1024x512 .bf16) (DP WI : ℕ → ℕ → EReal) (i : ℕ)
    (h0 : ∀ (j : Fin 4) (a : Fin 512) (f : Fin 512), B0 (ix3 j a f) = DP (512 * i + a.val) (512 * j.val + f.val))
    (h1 : ∀ (j : Fin 4) (d : Fin 1024) (f : Fin 512), B1 (ix3 j d f) = WI d.val (512 * j.val + f.val)) (a : Fin 512) (d : Fin 1024) :
    k0_pay1 (F := Ideal) (dxa B0 B1) (dxb B0 B1) (ix2 a d) = dx1 DP WI (512 * i + a.val) d.val := by
  have g : ∀ (k : ℕ) (hk : k < 4) (p q), (∑ f : Fin 512, (View.ld B0 (Rect.unit ![k, 0, 0] ![1, 512, 512] p) : Vec Ideal S1x512x512 .bf16) (ix3 0 a f)
      * (View.ld B1 (Rect.unit ![k, 0, 0] ![1, 1024, 512] q) : Vec Ideal S1x1024x512 .bf16) (ix3 0 d f))
      = ∑ f : Fin 512, DP (512 * i + a.val) (512 * k + f.val) * WI d.val (512 * k + f.val) := fun k hk p q =>
    Finset.sum_congr rfl fun f _ => congrArg₂ (· * ·) ((ld_part B0 k hk p a f).trans (h0 ⟨k, hk⟩ a f)) ((ld_part B1 k hk q d f).trans (h1 ⟨k, hk⟩ d f))
  refine Eq.trans (b := dxa B0 B1 (ix2 a d) + dxb B0 B1 (ix2 a d)) rfl ?_
  rw [dxa, dxb, pay8_apply, pay9_apply, dx1, sum_blocks 2048 512 rfl fun k => DP (512 * i + a.val) k * WI d.val k,
    g 0 (by decide), g 1 (by decide), g 2 (by decide), g 3 (by decide)]

variable (m : (ℓ : Loc nD τ sig) → Buf (Elt Ideal) ℓ) (c : Dev nD)

abbrev a0 : FVec Ideal S4096x1024 .f32 := m ((c.tc : Thread nD τ).loc main_arg0)
abbrev a1 : FVec Ideal S1024 .f32 := m ((c.tc : Thread nD τ).loc main_arg1)
abbrev a2 : FVec Ideal S1024x2048 .f32 := m ((c.tc : Thread nD τ).loc main_arg2)
abbrev a3 : FVec Ideal S4096x2048 .f32 := m ((c.tc : Thread nD τ).loc main_arg3)
abbrev a4 : FVec Ideal S4096x1024 .f32 := m ((c.tc : Thread nD τ).loc main_arg4)

theorem V10_at (j : Fin 4) (r : Fin 4096) (f : Fin 512) : V m c main_v10 (ix3 j r f) = a3 m c (ix2 r ⟨512 * j.val + f.val, by omega⟩) := by
  entry_read
  pointwise
  simp only [Nat.mul_comm j.val 512]

theorem V13_at (j : Fin 4) (d : Fin 1024) (f : Fin 512) : V m c main_v13 (ix3 j d f) = a2 m c (ix2 d ⟨512 * j.val + f.val, by omega⟩) := by
  entry_read
  pointwise
  simp only [Nat.mul_comm j.val 512]

theorem V14_at (d : Fin 1024) : V m c main_v14 (ix2 0 d) = at1 (a1 m c) d.val := by
  rw [at1_mk]
  entry_read
  pointwise

theorem V7_at (r : Fin 4096) : V m c main_v7 (ix2 r 0) = rstd (at2 (a0 m c)) r.val := by
  unfold rstd
  simp only [at2_mk]
  entry_read
  pointwise

theorem lt8 (t : Fin cfg0.N) : t.val < 8 := t.isLt

/-! The input blocks at point `t`, of the whole arrays. -/

theorem in0 (t : Fin cfg0.N) (j : Fin 4) (a : Fin 512) (f : Fin 512) :
    iblk m c 0 t (ix3 j a f) = at2 (a3 m c) (512 * t.val + a.val) (512 * j.val + f.val) := by
  have ht := lt8 t
  have e : win0_0.index t = ![0, t.val, 0] := (by decide +kernel : ∀ t : Fin grid0.N, win0_0.index t = ![0, t.val, 0]) t
  rw [at2_of _ _ _ (by omega) (by omega)]
  refine Eq.trans (b := V m c main_v10 (ix3 j (⟨512 * t.val + a.val, by omega⟩ : Fin 4096) f)) ?_ (V10_at m c _ _ _)
  blk_ext [iblk, e]

theorem in1 (t : Fin cfg0.N) (j : Fin 4) (d : Fin 1024) (f : Fin 512) : iblk m c 1 t (ix3 j d f) = at2 (a2 m c) d.val (512 * j.val + f.val) := by
  have e : win0_1.index t = ![0, 0, 0] := (by decide +kernel : ∀ t : Fin grid0.N, win0_1.index t = ![0, 0, 0]) t
  rw [at2_of _ _ _ d.isLt (by omega)]
  refine Eq.trans (b := V m c main_v13 (ix3 j d f)) ?_ (V13_at m c _ _ _)
  blk_ext [iblk, e]

theorem in2 (t : Fin cfg0.N) (a : Fin 512) (d : Fin 1024) : iblk m c 2 t (ix2 a d) = at2 (a0 m c) (512 * t.val + a.val) d.val := by
  have ht := lt8 t
  have e : win0_2.index t = ![t.val, 0] := (by decide +kernel : ∀ t : Fin grid0.N, win0_2.index t = ![t.val, 0]) t
  rw [at2_of _ _ _ (by omega) d.isLt]
  refine Eq.trans (b := V m c main_arg0 (ix2 (⟨512 * t.val + a.val, by omega⟩ : Fin 4096) d)) ?_ (by rw [V_main_arg0])
  blk_ext [iblk, e]

theorem in3 (t : Fin cfg0.N) (d : Fin 1024) : iblk m c 3 t (ix2 0 d) = at1 (a1 m c) d.val := by
  have e : win0_3.index t = ![0, 0] := (by decide +kernel : ∀ t : Fin grid0.N, win0_3.index t = ![0, 0]) t
  refine Eq.trans (b := V m c main_v14 (ix2 0 d)) ?_ (V14_at m c _)
  blk_ext [iblk, e]

theorem in4 (t : Fin cfg0.N) (a : Fin 512) : iblk m c 4 t (ix2 a 0) = rstd (at2 (a0 m c)) (512 * t.val + a.val) := by
  have ht := lt8 t
  have e : win0_4.index t = ![t.val, 0] := (by decide +kernel : ∀ t : Fin grid0.N, win0_4.index t = ![t.val, 0]) t
  refine Eq.trans (b := V m c main_v7 (ix2 (⟨512 * t.val + a.val, by omega⟩ : Fin 4096) 0)) ?_ (V7_at m c _)
  blk_ext [iblk, e]

theorem in5 (t : Fin cfg0.N) (a : Fin 512) (d : Fin 1024) : iblk m c 5 t (ix2 a d) = at2 (a4 m c) (512 * t.val + a.val) d.val := by
  have ht := lt8 t
  have e : win0_5.index t = ![t.val, 0] := (by decide +kernel : ∀ t : Fin grid0.N, win0_5.index t = ![t.val, 0]) t
  rw [at2_of _ _ _ (by omega) d.isLt]
  refine Eq.trans (b := V m c main_arg4 (ix2 (⟨512 * t.val + a.val, by omega⟩ : Fin 4096) d)) ?_ (by rw [V_main_arg4])
  blk_ext [iblk, e]

abbrev X : ℕ → ℕ → EReal := at2 (a0 m c)
abbrev DX : ℕ → ℕ → EReal := dx1 (at2 (a3 m c)) (at2 (a2 m c))
abbrev dxs (t : Fin cfg0.N) : FVec Ideal S512x1024 .f32 := k0_pay1 (F := Ideal) (dxa (iblk m c 0 t) (iblk m c 1 t)) (dxb (iblk m c 0 t) (iblk m c 1 t))

theorem dxs_at (t : Fin cfg0.N) (a : Fin 512) (d : Fin 1024) : dxs m c t (ix2 a d) = DX m c (512 * t.val + a.val) d.val :=
  dx_at _ _ _ _ t.val (in0 m c t) (in1 m c t) a d

/-- The stored tile is the feed-forward's expression of the summed product. -/
theorem pay5_at (t : Fin cfg0.N) (a : Fin 512) (d : Fin 1024) :
    k0_pay5 (F := Ideal) (dxa (iblk m c 0 t) (iblk m c 1 t)) (dxb (iblk m c 0 t) (iblk m c 1 t)) (iblk m c 4 t) (iblk m c 2 t) (iblk m c 3 t) (iblk m c 5 t) (ix2 a d)
      = dh (X m c) (at2 (a4 m c)) (DX m c) (at1 (a1 m c)) (512 * t.val + a.val) d.val :=
  Eq.trans (b := Cert.Kernel2Ideal.Gen.k0_pay3 (F := Ideal) (dxs m c t) (Cert.Kernel2Ideal.Gen.k0_pay9 (iblk m c 4 t)) (iblk m c 2 t) (iblk m c 3 t) (iblk m c 5 t) (ix2 a d))
    rfl (Cert.Kernel2Ideal.Dx.dh_tile _ _ _ _ _ _ _ _ _ _ (dxs_at m c t) (in4 m c t) (in2 m c t) (in3 m c t) (in5 m c t) a d)

theorem pay4_at (t : Fin cfg0.N) (v : Vec Ideal S1x1024 .f32) (d : Fin 1024) :
    k0_pay4 (F := Ideal) (dxa (iblk m c 0 t) (iblk m c 1 t)) (dxb (iblk m c 0 t) (iblk m c 1 t)) (iblk m c 4 t) (iblk m c 2 t) v (ix2 0 d)
      = v (ix2 0 d) + ∑ a : Fin 512, DX m c (512 * t.val + a.val) d.val * (X m c (512 * t.val + a.val) d.val * rstd (X m c) (512 * t.val + a.val)) :=
  Eq.trans (b := Cert.Kernel2Ideal.Gen.k0_pay2 (F := Ideal) (dxs m c t) (Cert.Kernel2Ideal.Gen.k0_pay9 (iblk m c 4 t)) (iblk m c 2 t) v (ix2 0 d))
    rfl (Cert.Kernel2Ideal.Dx.dgain_tile _ _ _ _ _ _ (dxs_at m c t) (in4 m c t) (in2 m c t) v d)

theorem blk67 (t : Fin cfg0.N) (y : S512x1024.Idx) :
    (outsAt0 m c t.val t.isLt).1 y = dh (X m c) (at2 (a4 m c)) (DX m c) (at1 (a1 m c)) (512 * t.val + (y 0).val) (y 1).val
    ∧ (outsAt0 m c t.val t.isLt).2.1 y = dh (X m c) (at2 (a4 m c)) (DX m c) (at1 (a1 m c)) (512 * t.val + (y 0).val) (y 1).val := by
  idx_vars y
  by_cases h0 : t.val % 8 = 0
  · rw [outsAt0_A m c t h0]
    constructor <;> frame_out <;> exact pay5_at m c t y0 y1
  · rw [outsAt0_B m c t h0]
    constructor <;> frame_out <;> exact pay5_at m c t y0 y1

theorem blk8 (t : Fin cfg0.N) (ht : t.val % 8 = 7) (y : S1x1024.Idx) : (outsAt0 m c t.val t.isLt).2.2 y = dgain (X m c) (DX m c) (y 1).val := by
  have lt := lt8
  refine Cert.KernelIdeal.Bwd.acc_rows (fun n h => (outsAt0 m c n h).2.2)
    (fun _ r y => DX m c r (y 1).val * (X m c r (y 1).val * rstd (X m c) r)) (fun t h y => ?_) (fun t h y => ?_) t ht y
  · have e : t.val % 8 = t.val := Nat.mod_eq_of_lt (lt t)
    idx_vars y
    obtain rfl := Subsingleton.elim y0 0
    rw [outsAt0_A m c t h]
    frame_out
    refine (pay4_at m c t _ y1).trans ?_
    have z : k0_pay7 (F := Ideal) (ix2 0 y1) = 0 := by pointwise [k0_pay7]
    rw [z, zero_add, e]
  · have e : t.val % 8 = t.val := Nat.mod_eq_of_lt (lt t)
    idx_vars y
    obtain rfl := Subsingleton.elim y0 0
    rw [outsAt0_B m c t h]
    frame_out
    refine (pay4_at m c t _ y1).trans ?_
    rw [e]

theorem out6 : (dats m 0 c).arrAt 6 cfg0.N = fun i : S4096x1024.Idx => dh (X m c) (at2 (a4 m c)) (DX m c) (at1 (a1 m c)) (i 0).val (i 1).val := by
  refine (dats m 0 c).arrAt_eq_of_covers 6 _ (by decide +kernel) fun t hf y => ?_
  have e : win0_6.index t = ![t.val, 0] := (by decide +kernel : ∀ t : Fin grid0.N, win0_6.index t = ![t.val, 0]) t
  blk_simp [e]
  rw [after0_6]
  refine (blk67 m c t y).1.trans ?_
  rw [Nat.mul_comm 512]

theorem out7 : (dats m 0 c).arrAt 7 cfg0.N = fun i : S4096x1024.Idx => dh (X m c) (at2 (a4 m c)) (DX m c) (at1 (a1 m c)) (i 0).val (i 1).val := by
  refine (dats m 0 c).arrAt_eq_of_covers 7 _ (by decide +kernel) fun t hf y => ?_
  have e : win0_7.index t = ![t.val, 0] := (by decide +kernel : ∀ t : Fin grid0.N, win0_7.index t = ![t.val, 0]) t
  blk_simp [e]
  rw [after0_7]
  refine (blk67 m c t y).2.trans ?_
  rw [Nat.mul_comm 512]

theorem out8 : (dats m 0 c).arrAt 8 cfg0.N = fun i : S1x1024.Idx => dgain (X m c) (DX m c) (i 1).val := by
  refine (dats m 0 c).arrAt_eq_of_covers 8 _ (by decide +kernel) fun t hf y => ?_
  have e : win0_8.index t = ![0, 0] := (by decide +kernel : ∀ t : Fin grid0.N, win0_8.index t = ![0, 0]) t
  blk_simp [e]
  rw [after0_8]
  refine (blk8 m c t ((flush0_8 t).mp hf) y).trans ?_
  rfl

end Cert.Kernel3Ideal.Mix

/-! The reference's gradient, element by element. -/
namespace Cert.Reference3Ideal.Mix

open Cert.Reference3Ideal Cert.Reference3Ideal.Gen Cert.Reference3Ideal.Read Cert.NormGrad Cert.FfnGrad Idealize.ShloMosaic Idealize.ShloMosaic.TcCoe Idealize.SL.Sem

variable (x0 : (⟨S4096x1024, .f32⟩ : BufTy).Contents (Elt Ideal)) (x1 : (⟨S1024, .f32⟩ : BufTy).Contents (Elt Ideal))
  (x2 : (⟨S1024x2048, .f32⟩ : BufTy).Contents (Elt Ideal)) (x3 : (⟨S4096x2048, .f32⟩ : BufTy).Contents (Elt Ideal))
  (x4 : (⟨S4096x1024, .f32⟩ : BufTy).Contents (Elt Ideal))

theorem v6_at (r : Fin 4096) : val_main_v6 (F := Ideal) x0 (ix2 r 0)
    = Ideal.div (∑ k : Fin 1024, at2 x0 r.val k.val * at2 x0 r.val k.val) (Ideal.ofBits .f32 0x44800000#32) + Ideal.ofBits .f32 0x358637BD#32 := by
  simp only [at2_mk]
  pointwise [val_main_v6, val_main_v5, val_main_v4, val_main_v3, val_main_v2, val_main_v1, val_main_v0, val_main_cst, val_main_cst_0, val_main_cst_1]

theorem v7_at (r : Fin 4096) : val_main_v7 (F := Ideal) x0 (ix2 r 0) = rstd (at2 x0) r.val := by
  rw [rstd, ← v6_at]
  rfl

theorem v17_at (r : Fin 4096) (d : Fin 1024) : val_main_v17 (F := Ideal) x2 x3 (ix2 r d) = dx1 (at2 x3) (at2 x2) r.val d.val := by
  unfold dx1
  simp only [at2_mk]
  pointwise [val_main_v17]

theorem v32_at (r : Fin 4096) : val_main_v32 (F := Ideal) x0 x1 x2 x3 (ix2 r 0)
    = Ideal.div ((∑ k : Fin 1024, at2 x0 r.val k.val * (dx1 (at2 x3) (at2 x2) r.val k.val * at1 x1 k.val))
      * (Ideal.ofBits .f32 0xBF000000#32 * Ideal.div (rstd (at2 x0) r.val) (val_main_v6 (F := Ideal) x0 (ix2 r 0)))) (Ideal.ofBits .f32 0x44800000#32) := by
  have e17 := v17_at x2 x3
  have e7 := v7_at x0
  simp only [at2_mk, at1_mk]
  unfold val_main_v32 val_main_v30 val_main_v26 val_main_v25 val_main_v24 val_main_v22 val_main_v10 val_main_v8
  generalize val_main_v17 (F := Ideal) x2 x3 = M at e17 ⊢
  generalize val_main_v7 (F := Ideal) x0 = N at e7 ⊢
  generalize val_main_v6 (F := Ideal) x0 = P
  pointwise [val_main_v31, val_main_v21, val_main_v13, val_main_v9, val_main_cst_6, val_main_cst_5, val_main_cst_2, e17, e7]

theorem v38_at (r : Fin 4096) (d : Fin 1024) : val_main_v38 (F := Ideal) x0 x1 x2 x3 x4 (ix2 r d)
    = dh (at2 x0) (at2 x4) (dx1 (at2 x3) (at2 x2)) (at1 x1) r.val d.val := by
  rw [← dh_chain _ _ _ _ _ d _ _ (v6_at x0 r) (v32_at x0 x1 x2 x3 r)]
  have e17 := v17_at x2 x3
  have e7 := v7_at x0
  simp only [at2_mk, at1_mk]
  unfold val_main_v38 val_main_v37 val_main_v36 val_main_v35 val_main_v34 val_main_v33 val_main_v29 val_main_v28 val_main_v27 val_main_v22
  generalize val_main_v17 (F := Ideal) x2 x3 = M at e17 ⊢
  generalize val_main_v7 (F := Ideal) x0 = N at e7 ⊢
  generalize val_main_v32 (F := Ideal) x0 x1 x2 x3 = P
  pointwise [val_main_v21, val_main_v13, val_main_cst_7, e17, e7]
  rw [Fin.sum_univ_one]

theorem v40_at (d : Fin 1024) : val_main_v40 (F := Ideal) x0 x2 x3 (ix2 0 d) = dgain (at2 x0) (dx1 (at2 x3) (at2 x2)) d.val := by
  have e17 := v17_at x2 x3
  have e7 := v7_at x0
  unfold dgain
  simp only [at2_mk]
  unfold val_main_v40 val_main_v23 val_main_v20 val_main_v19 val_main_v18 val_main_v12 val_main_v11
  generalize val_main_v17 (F := Ideal) x2 x3 = M at e17 ⊢
  generalize val_main_v7 (F := Ideal) x0 = N at e7 ⊢
  pointwise [val_main_cst_3, val_main_cst_4, e17, e7]
  rw [Fin.sum_univ_one]
  exact Finset.sum_congr rfl fun r _ => mul_comm _ _

end Cert.Reference3Ideal.Mix

namespace Cert.Kernel3Ideal.Mix

open Cert.Kernel3Ideal Cert.Kernel3Ideal.Gen Cert.NormGrad Cert.FfnGrad Idealize.ShloMosaic Idealize.ShloMosaic.TcCoe Idealize.SL.Sem
open Cert.Reference3Ideal.Read Cert.Reference3Ideal.Mix

variable (m : (ℓ : Loc nD τ sig) → Buf (Elt Ideal) ℓ) (c : Dev nD)

theorem eq6 : (dats m 0 c).arrAt 6 cfg0.N = val_main_v38 (F := Ideal) (a0 m c) (a1 m c) (a2 m c) (a3 m c) (a4 m c) := by
  rw [out6]
  refine funext fun (y : S4096x1024.Idx) => ?_
  idx_vars y
  exact (v38_at (a0 m c) (a1 m c) (a2 m c) (a3 m c) (a4 m c) y0 y1).symm

theorem eq7 : (dats m 0 c).arrAt 7 cfg0.N = val_main_v39 (F := Ideal) (a0 m c) (a1 m c) (a2 m c) (a3 m c) (a4 m c) := by
  rw [out7]
  refine funext fun (y : S4096x1024.Idx) => ?_
  idx_vars y
  exact (v38_at (a0 m c) (a1 m c) (a2 m c) (a3 m c) (a4 m c) y0 y1).symm

theorem eq8 : (dats m 0 c).arrAt 8 cfg0.N = val_main_v40 (F := Ideal) (a0 m c) (a2 m c) (a3 m c) := by
  rw [out8]
  refine funext fun (y : S1x1024.Idx) => ?_
  idx_vars y
  obtain rfl := Subsingleton.elim y0 0
  exact (v40_at (a0 m c) (a2 m c) (a3 m c) y1).symm

end Cert.Kernel3Ideal.Mix

end
-- ==== Proof.In.lean ====
module

public import proofs.«01_k».proof.Proof.NormMath
public import proofs.«01_k».proof.Proof.Gen.Kernel4Ideal.Value

@[expose] public section

set_option maxRecDepth 16384

noncomputable section

/-! The gated feed-forward's forward: the gate's product, its causal convolution and the activation, element by element
    over the whole arrays. -/
namespace Cert.FfnFwd

open Cert.FfnGrad Cert.NormGrad Idealize.ShloMosaic

/-- A product's entry. -/
def gp (X W : ℕ → ℕ → EReal) (r c : ℕ) : EReal := ∑ d : Fin 1024, X r d.val * W d.val c

/-- The rows with sixteen rows of zeros before them. -/
def padRows (G : ℕ → ℕ → EReal) (r c : ℕ) : EReal := if 16 ≤ r then G (r - 16) c else 0

/-- The convolution over this row and the two before it, and the bias. -/
def conv (G T : ℕ → ℕ → EReal) (b : ℕ → EReal) (r c : ℕ) : EReal :=
  T 0 c * padRows G (r + 14) c + T 1 c * padRows G (r + 15) c + T 2 c * padRows G (r + 16) c + b c

end Cert.FfnFwd

namespace Cert.Kernel4Ideal.In

open Cert.Kernel4Ideal Cert.Kernel4Ideal.Gen Cert.NormGrad Cert.FfnGrad Cert.FfnFwd Idealize.ShloMosaic Idealize.ShloMosaic.TcCoe Idealize.SL.Sem

theorem keep_eq (n : Fin 8) : (Scalar.select (Scalar.cmpi .sgt (BitVec.ofNat 32 n.val) 0#32) (Scalar.ofBits .f32 0x3F800000#32) (Scalar.ofBits .f32 0x00000000#32) : Ideal .f32)
    = if 0 < n.val then (1 : EReal) else 0 := by
  have h : (Scalar.cmpi .sgt (BitVec.ofNat 32 n.val) 0#32 = 1) ↔ 0 < n.val := by
    revert n; decide
  by_cases hn : 0 < n.val
  · pointwise [Scalar.select, h.mpr hn, hn, Scalar.ofBits]
  · pointwise [Scalar.select, (not_congr h).mpr hn, hn, Scalar.ofBits]

theorem concat_rows (v : FVec Ideal S16x1024 .bf16) (w : FVec Ideal S512x1024 .bf16) (a : Fin 528) (d : Fin 1024) :
    concatenate S528x1024 0 [⟨S16x1024, v⟩, ⟨S512x1024, w⟩] concatenates_S16x1024_S512x1024_S528x1024_d0 (ix2 a d)
      = if h : a.val < 16 then v (ix2 ⟨a.val, h⟩ d) else w (ix2 ⟨a.val - 16, by omega⟩ d) := by
  pointwise

theorem pay4_apply (v0 : Vec Ideal S16x1024 .bf16) (v2 : Vec Ideal S512x1024 .bf16) (v6 : Vec Ideal S1x704x1024 .bf16) (a : Fin 528) (f : Fin 704) :
    k0_pay4 (F := Ideal) v0 v2 v6 (ix2 a f)
      = ∑ d : Fin 1024, (if h : a.val < 16 then v0 (ix2 ⟨a.val, h⟩ d) else v2 (ix2 ⟨a.val - 16, by omega⟩ d)) * v6 (ix3 0 f d) := by
  unfold k0_pay4
  generalize hL : concatenate _ _ _ _ = L
  pointwise
  refine Finset.sum_congr rfl fun d _ => ?_
  rw [← hL, concat_rows]
  pointwise

theorem pay5_apply (v10 : Vec Ideal S512x1024 .bf16) (v13 : Vec Ideal S1x704x1024 .bf16) (a : Fin 512) (f : Fin 704) :
    k0_pay5 (F := Ideal) v10 v13 (ix2 a f) = ∑ d : Fin 1024, v10 (ix2 a d) * v13 (ix3 0 f d) := by
  pointwise [k0_pay5]

theorem pay6_apply (v0 : Vec Ideal S16x1024 .bf16) (v2 : Vec Ideal S512x1024 .bf16) (v6 : Vec Ideal S1x704x1024 .bf16) (a : Fin 512) (f : Fin 704) :
    k0_pay6 (F := Ideal) v0 v2 v6 (ix3 0 a f) = k0_pay4 (F := Ideal) v0 v2 v6 (ix2 ⟨16 + a.val, by omega⟩ f) := by
  unfold k0_pay6
  generalize k0_pay4 (F := Ideal) v0 v2 v6 = M
  pointwise

theorem pay7_apply (v10 : Vec Ideal S512x1024 .bf16) (v13 : Vec Ideal S1x704x1024 .bf16) (a : Fin 512) (f : Fin 704) :
    k0_pay7 (F := Ideal) v10 v13 (ix3 0 a f) = k0_pay5 (F := Ideal) v10 v13 (ix2 a f) := by
  unfold k0_pay7
  generalize k0_pay5 (F := Ideal) v10 v13 = M
  pointwise

theorem pay8_apply (i : grid0.Coords) (v0 : Vec Ideal S16x1024 .bf16) (v2 : Vec Ideal S512x1024 .bf16) (v6 : Vec Ideal S1x704x1024 .bf16) (a : Fin 528) (f : Fin 704) :
    k0_pay8 (F := Ideal) i v0 v2 v6 (ix2 a f) = if a.val < 16 then k0_pay4 (F := Ideal) v0 v2 v6 (ix2 a f) * (if 0 < (i 0).val then (1 : EReal) else 0)
      else k0_pay4 (F := Ideal) v0 v2 v6 (ix2 a f) := by
  unfold k0_pay8
  dsimp only
  rw [keep_eq (i 0)]
  generalize k0_pay4 (F := Ideal) v0 v2 v6 = M
  pointwise
  split
  · rename_i h
    simp only [h, if_true]
  · rename_i h
    have h2 : a.val - 16 + 16 = a.val := by omega
    have h3 : 16 + (a.val - 16) = a.val := by omega
    simp only [h2, h3, h, if_false]

theorem pay1_apply (v : FVec Ideal S528x704 .f32) (t0 t1 t2 b : Vec Ideal S1x1x704 .f32) (a : Fin 512) (f : Fin 704) :
    k0_pay1 (F := Ideal) v t0 t1 t2 b (ix2 a f)
      = t0 (ix3 0 0 f) * v (ix2 ⟨a.val + 14, by omega⟩ f) + t1 (ix3 0 0 f) * v (ix2 ⟨a.val + 15, by omega⟩ f)
        + t2 (ix3 0 0 f) * v (ix2 ⟨a.val + 16, by omega⟩ f) + b (ix3 0 0 f) := by
  have h0 : (a.val + 16 + 528 - 2) % 528 = a.val + 14 := by omega
  have h1 : (a.val + 16 + 528 - 1) % 528 = a.val + 15 := by omega
  have h2 : 16 + a.val = a.val + 16 := by omega
  pointwise [k0_pay1, h0, h1, h2]

theorem pay2_apply (v : FVec Ideal S528x704 .f32) (t0 t1 t2 b : Vec Ideal S1x1x704 .f32) (a : Fin 512) (f : Fin 704) :
    k0_pay2 (F := Ideal) v t0 t1 t2 b (ix3 0 a f) = k0_pay1 (F := Ideal) v t0 t1 t2 b (ix2 a f) := by
  unfold k0_pay2
  generalize k0_pay1 (F := Ideal) v t0 t1 t2 b = M
  pointwise

theorem pay3_apply (u : FVec Ideal S512x704 .bf16) (v : FVec Ideal S528x704 .f32) (t0 t1 t2 b : Vec Ideal S1x1x704 .f32) (a : Fin 512) (f : Fin 704) :
    k0_pay3 (F := Ideal) u v t0 t1 t2 b (ix3 0 a f)
      = k0_pay1 (F := Ideal) v t0 t1 t2 b (ix2 a f) * Ideal.logistic (k0_pay1 (F := Ideal) v t0 t1 t2 b (ix2 a f)) * u (ix2 a f) := by
  unfold k0_pay3
  generalize k0_pay1 (F := Ideal) v t0 t1 t2 b = M
  pointwise

/-- The rows before the tile and the tile's, of the whole product: what the point before the first lends is dropped. -/
theorem pay8_at (ig : grid0.Coords) (i j : ℕ) (hig : (ig 0).val = i) (v0 : Vec Ideal S16x1024 .bf16) (v2 : Vec Ideal S512x1024 .bf16) (v6 : Vec Ideal S1x704x1024 .bf16)
    (X W : ℕ → ℕ → EReal) (h0 : 0 < i → ∀ (a : Fin 16) (d : Fin 1024), v0 (ix2 a d) = X (512 * i - 16 + a.val) d.val)
    (h2 : ∀ (a : Fin 512) (d : Fin 1024), v2 (ix2 a d) = X (512 * i + a.val) d.val)
    (h6 : ∀ (f : Fin 704) (d : Fin 1024), v6 (ix3 0 f d) = W d.val (704 * j + f.val)) (a : Fin 528) (f : Fin 704) :
    k0_pay8 (F := Ideal) ig v0 v2 v6 (ix2 a f) = padRows (gp X W) (512 * i + a.val) (704 * j + f.val) := by
  rw [pay8_apply, hig, pay4_apply, padRows]
  simp only [h6]
  by_cases ha : a.val < 16
  · simp only [ha, if_true, dif_pos]
    by_cases hi : 0 < i
    · rw [if_pos hi, mul_one, if_pos (by omega), gp]
      refine Finset.sum_congr rfl fun d _ => ?_
      rw [h0 hi]
      dsimp only
      rw [show 512 * i - 16 + a.val = 512 * i + a.val - 16 by omega]
    · rw [if_neg hi, mul_zero, if_neg (by omega)]
  · simp only [ha, if_false, dif_neg, not_false_eq_true]
    rw [if_pos (by omega), gp]
    refine Finset.sum_congr rfl fun d _ => ?_
    rw [h2]
    dsimp only
    rw [show 512 * i + (a.val - 16) = 512 * i + a.val - 16 by omega]

theorem ld_tap (B : Vec Ideal S1x3x704 .f32) (k : ℕ) (hk : k < 3) (inb) (f : Fin 704) :
    (View.ld B (Rect.unit (s := S1x3x704) ![0, k, 0] ![1, 1, 704] inb) : Vec Ideal S1x1x704 .f32) (ix3 0 0 f) = B (ix3 0 ⟨k, hk⟩ f) :=
  View.ld_unit_apply_of _ _ _ _ _ _ fun a => by fin_cases a <;> simp [ix3]

theorem ld_block (B : Vec Ideal S4x704x1024 .bf16) (off : Fin 3 → ℕ) (k : ℕ) (hk : k < 4) (ho : off = ![k, 0, 0]) (inb) (f : Fin 704) (d : Fin 1024) :
    (View.ld B (Rect.unit (s := S4x704x1024) off S1x704x1024.size inb) : Vec Ideal S1x704x1024 .bf16) (ix3 0 f d) = B (ix3 ⟨k, hk⟩ f d) := by
  subst ho
  exact ld_part B k hk inb f d

variable (m : (ℓ : Loc nD τ sig) → Buf (Elt Ideal) ℓ) (c : Dev nD)

abbrev a0 : FVec Ideal S4096x1024 .f32 := m ((c.tc : Thread nD τ).loc main_arg0)
abbrev a1 : FVec Ideal S1024x2816 .f32 := m ((c.tc : Thread nD τ).loc main_arg1)
abbrev a2 : FVec Ideal S1024x2816 .f32 := m ((c.tc : Thread nD τ).loc main_arg2)
abbrev a3 : FVec Ideal S3x2816 .f32 := m ((c.tc : Thread nD τ).loc main_arg3)
abbrev a4 : FVec Ideal S2816 .f32 := m ((c.tc : Thread nD τ).loc main_arg4)

theorem V8_at (r : Fin 4096) (d : Fin 1024) : V m c main_v8 (ix2 r d) = a0 m c (ix2 r d) := by
  entry_read
  pointwise

theorem V3_at (j : Fin 4) (f : Fin 704) (d : Fin 1024) : V m c main_v3 (ix3 j f d) = a1 m c (ix2 d ⟨704 * j.val + f.val, by omega⟩) := by
  entry_read
  pointwise
  simp only [Nat.mul_comm j.val 704]

theorem V7_at (j : Fin 4) (f : Fin 704) (d : Fin 1024) : V m c main_v7 (ix3 j f d) = a2 m c (ix2 d ⟨704 * j.val + f.val, by omega⟩) := by
  entry_read
  pointwise
  simp only [Nat.mul_comm j.val 704]

theorem V10_at (j : Fin 4) (k : Fin 3) (f : Fin 704) : V m c main_v10 (ix3 j k f) = a3 m c (ix2 k ⟨704 * j.val + f.val, by omega⟩) := by
  entry_read
  pointwise
  simp only [Nat.mul_comm j.val 704]

theorem V11_at (j : Fin 4) (f : Fin 704) : V m c main_v11 (ix3 j 0 f) = a4 m c (ix1 ⟨704 * j.val + f.val, by omega⟩) := by
  entry_read
  pointwise
  simp only [Nat.mul_comm j.val 704]

theorem lt32 (t : Fin cfg0.N) : t.val < 32 := t.isLt

/-! The input blocks at point `t`, of the whole arrays: row tile `t / 4`, block of columns `t % 4`. -/

theorem in0 (t : Fin cfg0.N) (a : Fin 512) (d : Fin 1024) : iblk m c 0 t (ix2 a d) = at2 (a0 m c) (512 * (t.val / 4) + a.val) d.val := by
  have ht := lt32 t
  have e : win0_0.index t = ![t.val / 4, 0] := (by decide +kernel : ∀ t : Fin grid0.N, win0_0.index t = ![t.val / 4, 0]) t
  rw [at2_of _ _ _ (by omega) d.isLt]
  refine Eq.trans (b := V m c main_v8 (ix2 (⟨512 * (t.val / 4) + a.val, by omega⟩ : Fin 4096) d)) ?_ (V8_at m c _ _)
  blk_ext [iblk, e]

theorem in1 (t : Fin cfg0.N) (h0 : 0 < t.val / 4) (a : Fin 16) (d : Fin 1024) :
    iblk m c 1 t (ix2 a d) = at2 (a0 m c) (512 * (t.val / 4) - 16 + a.val) d.val := by
  have ht := lt32 t
  have e : win0_1.index t = ![t.val / 4 * 32 - 1, 0] := (by decide +kernel : ∀ t : Fin grid0.N, win0_1.index t = ![t.val / 4 * 32 - 1, 0]) t
  rw [at2_of _ _ _ (by omega) d.isLt]
  refine Eq.trans (b := V m c main_v8 (ix2 (⟨512 * (t.val / 4) - 16 + a.val, by omega⟩ : Fin 4096) d)) ?_ (V8_at m c _ _)
  blk_ext [iblk, e]

theorem in2 (t : Fin cfg0.N) (j : Fin 4) (f : Fin 704) (d : Fin 1024) : iblk m c 2 t (ix3 j f d) = at2 (a1 m c) d.val (704 * j.val + f.val) := by
  have e : win0_2.index t = ![0, 0, 0] := (by decide +kernel : ∀ t : Fin grid0.N, win0_2.index t = ![0, 0, 0]) t
  rw [at2_of _ _ _ d.isLt (by omega)]
  refine Eq.trans (b := V m c main_v3 (ix3 j f d)) ?_ (V3_at m c _ _ _)
  blk_ext [iblk, e]

theorem in3 (t : Fin cfg0.N) (j : Fin 4) (f : Fin 704) (d : Fin 1024) : iblk m c 3 t (ix3 j f d) = at2 (a2 m c) d.val (704 * j.val + f.val) := by
  have e : win0_3.index t = ![0, 0, 0] := (by decide +kernel : ∀ t : Fin grid0.N, win0_3.index t = ![0, 0, 0]) t
  rw [at2_of _ _ _ d.isLt (by omega)]
  refine Eq.trans (b := V m c main_v7 (ix3 j f d)) ?_ (V7_at m c _ _ _)
  blk_ext [iblk, e]

theorem in4 (t : Fin cfg0.N) (k : Fin 3) (f : Fin 704) : iblk m c 4 t (ix3 0 k f) = at2 (a3 m c) k.val (704 * (t.val % 4) + f.val) := by
  have ht := lt32 t
  have e : win0_4.index t = ![t.val % 4, 0, 0] := (by decide +kernel : ∀ t : Fin grid0.N, win0_4.index t = ![t.val % 4, 0, 0]) t
  rw [at2_of _ _ _ k.isLt (by omega)]
  refine Eq.trans (b := V m c main_v10 (ix3 (⟨t.val % 4, by omega⟩ : Fin 4) k f)) ?_ (V10_at m c _ _ _)
  blk_ext [iblk, e]

theorem in5 (t : Fin cfg0.N) (f : Fin 704) : iblk m c 5 t (ix3 0 0 f) = at1 (a4 m c) (704 * (t.val % 4) + f.val) := by
  have ht := lt32 t
  have e : win0_5.index t = ![t.val % 4, 0, 0] := (by decide +kernel : ∀ t : Fin grid0.N, win0_5.index t = ![t.val % 4, 0, 0]) t
  refine Eq.trans (b := V m c main_v11 (ix3 (⟨t.val % 4, by omega⟩ : Fin 4) 0 f)) ?_
    ((V11_at m c _ _).trans (at1_mk (a4 m c) ⟨704 * (t.val % 4) + f.val, by omega⟩).symm)
  blk_ext [iblk, e]

theorem off1 (t : Fin cfg0.N) : k0_off1 (grid0.coords t) = ![t.val % 4, 0, 0] :=
  (by decide +kernel : ∀ t : Fin grid0.N, k0_off1 (grid0.coords t) = ![t.val % 4, 0, 0]) t

theorem coord0 (t : Fin cfg0.N) : ((grid0.coords t) 0).val = t.val / 4 :=
  (by decide +kernel : ∀ t : Fin grid0.N, ((grid0.coords t) 0).val = t.val / 4) t

/-! The whole arrays at device `c`'s arguments. -/
abbrev G : ℕ → ℕ → EReal := gp (at2 (a0 m c)) (at2 (a1 m c))
abbrev UP : ℕ → ℕ → EReal := gp (at2 (a0 m c)) (at2 (a2 m c))
abbrev GC : ℕ → ℕ → EReal := conv (G m c) (at2 (a3 m c)) (at1 (a4 m c))

theorem wg_at (t : Fin cfg0.N) (inb) (f : Fin 704) (d : Fin 1024) :
    (View.ld (iblk m c 2 t) (Rect.unit (s := S4x704x1024) (k0_off1 (grid0.coords t)) S1x704x1024.size inb) : Vec Ideal S1x704x1024 .bf16) (ix3 0 f d)
      = at2 (a1 m c) d.val (704 * (t.val % 4) + f.val) :=
  (ld_block (iblk m c 2 t) _ (t.val % 4) (by omega) (off1 t) inb f d).trans (in2 m c t ⟨t.val % 4, by omega⟩ f d)

theorem wu_at (t : Fin cfg0.N) (inb) (f : Fin 704) (d : Fin 1024) :
    (View.ld (iblk m c 3 t) (Rect.unit (s := S4x704x1024) (k0_off1 (grid0.coords t)) S1x704x1024.size inb) : Vec Ideal S1x704x1024 .bf16) (ix3 0 f d)
      = at2 (a2 m c) d.val (704 * (t.val % 4) + f.val) :=
  (ld_block (iblk m c 3 t) _ (t.val % 4) (by omega) (off1 t) inb f d).trans (in3 m c t ⟨t.val % 4, by omega⟩ f d)

theorem up_at (t : Fin cfg0.N) (inb) (a : Fin 512) (f : Fin 704) :
    k0_pay5 (F := Ideal) (iblk m c 0 t) (View.ld (iblk m c 3 t) (Rect.unit (s := S4x704x1024) (k0_off1 (grid0.coords t)) S1x704x1024.size inb)) (ix2 a f)
      = UP m c (512 * (t.val / 4) + a.val) (704 * (t.val % 4) + f.val) := by
  have hw := wu_at m c t inb
  generalize View.ld (iblk m c 3 t) _ = B at hw ⊢
  exact (pay5_apply _ _ _ _).trans (Finset.sum_congr rfl fun d _ => congrArg₂ (· * ·) (in0 m c t a d) (hw f d))

theorem g_at (t : Fin cfg0.N) (inb) (a : Fin 528) (f : Fin 704) :
    k0_pay8 (F := Ideal) (grid0.coords t) (iblk m c 1 t) (iblk m c 0 t) (View.ld (iblk m c 2 t) (Rect.unit (s := S4x704x1024) (k0_off1 (grid0.coords t)) S1x704x1024.size inb)) (ix2 a f)
      = padRows (G m c) (512 * (t.val / 4) + a.val) (704 * (t.val % 4) + f.val) :=
  pay8_at _ _ _ (coord0 t) _ _ _ _ _ (in1 m c t) (in0 m c t) (wg_at m c t inb) a f

theorem g6_at (t : Fin cfg0.N) (inb) (a : Fin 512) (f : Fin 704) :
    k0_pay6 (F := Ideal) (iblk m c 1 t) (iblk m c 0 t) (View.ld (iblk m c 2 t) (Rect.unit (s := S4x704x1024) (k0_off1 (grid0.coords t)) S1x704x1024.size inb)) (ix3 0 a f)
      = G m c (512 * (t.val / 4) + a.val) (704 * (t.val % 4) + f.val) := by
  have h := g_at m c t inb ⟨16 + a.val, by omega⟩ f
  rw [pay8_apply, if_neg (by dsimp only; omega), padRows, if_pos (by dsimp only; omega)] at h
  rw [pay6_apply, h]
  dsimp only
  rw [show 512 * (t.val / 4) + (16 + a.val) - 16 = 512 * (t.val / 4) + a.val by omega]

theorem gc_at (t : Fin cfg0.N) (inb) (k0 k1 k2) (a : Fin 512) (f : Fin 704) :
    k0_pay1 (F := Ideal)
      (k0_pay8 (grid0.coords t) (iblk m c 1 t) (iblk m c 0 t) (View.ld (iblk m c 2 t) (Rect.unit (s := S4x704x1024) (k0_off1 (grid0.coords t)) S1x704x1024.size inb)))
      (View.ld (iblk m c 4 t) (Rect.unit (s := S1x3x704) ![0, 0, 0] ![1, 1, 704] k0)) (View.ld (iblk m c 4 t) (Rect.unit (s := S1x3x704) ![0, 1, 0] ![1, 1, 704] k1))
      (View.ld (iblk m c 4 t) (Rect.unit (s := S1x3x704) ![0, 2, 0] ![1, 1, 704] k2)) (iblk m c 5 t) (ix2 a f)
      = GC m c (512 * (t.val / 4) + a.val) (704 * (t.val % 4) + f.val) := by
  have hg := g_at m c t inb
  have t0 := (ld_tap (iblk m c 4 t) 0 (by decide) k0 f).trans (in4 m c t 0 f)
  have t1 := (ld_tap (iblk m c 4 t) 1 (by decide) k1 f).trans (in4 m c t 1 f)
  have t2 := (ld_tap (iblk m c 4 t) 2 (by decide) k2 f).trans (in4 m c t 2 f)
  generalize k0_pay8 (F := Ideal) _ _ _ _ = M at hg ⊢
  rw [pay1_apply, t0, t1, t2, hg, hg, hg, in5]
  rfl

theorem blk6 (t : Fin cfg0.N) (y : S1x512x704.Idx) : (outsAt0 m c t).1 y = G m c (512 * (t.val / 4) + (y 1).val) (704 * (t.val % 4) + (y 2).val) := by
  idx_vars y
  obtain rfl := Subsingleton.elim y0 0
  unfold outsAt0
  dsimp only
  frame_out
  exact g6_at m c t _ y1 y2

theorem blk7 (t : Fin cfg0.N) (y : S1x512x704.Idx) : (outsAt0 m c t).2.1 y = UP m c (512 * (t.val / 4) + (y 1).val) (704 * (t.val % 4) + (y 2).val) := by
  idx_vars y
  obtain rfl := Subsingleton.elim y0 0
  unfold outsAt0
  dsimp only
  frame_out
  exact (pay7_apply _ _ _ _).trans (up_at m c t _ y1 y2)

theorem blk8 (t : Fin cfg0.N) (y : S1x512x704.Idx) : (outsAt0 m c t).2.2.1 y = GC m c (512 * (t.val / 4) + (y 1).val) (704 * (t.val % 4) + (y 2).val) := by
  idx_vars y
  obtain rfl := Subsingleton.elim y0 0
  unfold outsAt0
  dsimp only
  frame_out
  exact (pay2_apply _ _ _ _ _ _ _).trans (gc_at m c t _ _ _ _ y1 y2)

theorem blk9 (t : Fin cfg0.N) (y : S1x512x704.Idx) : (outsAt0 m c t).2.2.2 y = act (UP m c) (GC m c) (512 * (t.val / 4) + (y 1).val) (704 * (t.val % 4) + (y 2).val) := by
  idx_vars y
  obtain rfl := Subsingleton.elim y0 0
  unfold outsAt0
  dsimp only
  frame_out
  exact (pay3_apply _ _ _ _ _ _ _ _).trans (congrArg₂ (fun z u => z * Ideal.logistic z * u) (gc_at m c t _ _ _ _ y1 y2) (up_at m c t _ y1 y2))

theorem out6 : (dats m 0 c).arrAt 6 cfg0.N = fun i : S4x4096x704.Idx => G m c (i 1).val (704 * (i 0).val + (i 2).val) := by
  refine (dats m 0 c).arrAt_eq_of_covers 6 _ (by decide +kernel) fun t hf y => ?_
  have e : win0_6.index t = ![t.val % 4, t.val / 4, 0] := (by decide +kernel : ∀ t : Fin grid0.N, win0_6.index t = ![t.val % 4, t.val / 4, 0]) t
  blk_simp [e]
  rw [after0_6]
  refine (blk6 m c t y).trans ?_
  rw [Nat.mul_comm 512]

theorem out7 : (dats m 0 c).arrAt 7 cfg0.N = fun i : S4x4096x704.Idx => UP m c (i 1).val (704 * (i 0).val + (i 2).val) := by
  refine (dats m 0 c).arrAt_eq_of_covers 7 _ (by decide +kernel) fun t hf y => ?_
  have e : win0_7.index t = ![t.val % 4, t.val / 4, 0] := (by decide +kernel : ∀ t : Fin grid0.N, win0_7.index t = ![t.val % 4, t.val / 4, 0]) t
  blk_simp [e]
  rw [after0_7]
  refine (blk7 m c t y).trans ?_
  rw [Nat.mul_comm 512]

theorem out8 : (dats m 0 c).arrAt 8 cfg0.N = fun i : S4x4096x704.Idx => GC m c (i 1).val (704 * (i 0).val + (i 2).val) := by
  refine (dats m 0 c).arrAt_eq_of_covers 8 _ (by decide +kernel) fun t hf y => ?_
  have e : win0_8.index t = ![t.val % 4, t.val / 4, 0] := (by decide +kernel : ∀ t : Fin grid0.N, win0_8.index t = ![t.val % 4, t.val / 4, 0]) t
  blk_simp [e]
  rw [after0_8]
  refine (blk8 m c t y).trans ?_
  rw [Nat.mul_comm 512]

theorem out9 : (dats m 0 c).arrAt 9 cfg0.N = fun i : S4x4096x704.Idx => act (UP m c) (GC m c) (i 1).val (704 * (i 0).val + (i 2).val) := by
  refine (dats m 0 c).arrAt_eq_of_covers 9 _ (by decide +kernel) fun t hf y => ?_
  have e : win0_9.index t = ![t.val % 4, t.val / 4, 0] := (by decide +kernel : ∀ t : Fin grid0.N, win0_9.index t = ![t.val % 4, t.val / 4, 0]) t
  blk_simp [e]
  rw [after0_9]
  refine (blk9 m c t y).trans ?_
  rw [Nat.mul_comm 512]

end Cert.Kernel4Ideal.In

end
-- ==== Proof.InRef.lean ====
module

public import proofs.«01_k».proof.Proof.In
public import proofs.«01_k».proof.Proof.Gen.Reference4Ideal.Read

@[expose] public section

set_option maxRecDepth 16384

noncomputable section

/-! The reference's forward, element by element, and the kernel's against it. -/
namespace Cert.Reference4Ideal.In

open Cert.Reference4Ideal Cert.Reference4Ideal.Gen Cert.Reference4Ideal.Read Cert.NormGrad Cert.FfnGrad Cert.FfnFwd Idealize.ShloMosaic Idealize.ShloMosaic.TcCoe Idealize.SL.Sem

variable (x0 : (⟨S4096x1024, .f32⟩ : BufTy).Contents (Elt Ideal)) (x1 x2 : (⟨S1024x2816, .f32⟩ : BufTy).Contents (Elt Ideal))
  (x3 : (⟨S3x2816, .f32⟩ : BufTy).Contents (Elt Ideal)) (x4 : (⟨S2816, .f32⟩ : BufTy).Contents (Elt Ideal))

theorem v0_at (r : Fin 4096) (c : Fin 2816) : val_main_v0 (F := Ideal) x0 x1 (ix2 r c) = gp (at2 x0) (at2 x1) r.val c.val := by
  unfold gp
  simp only [at2_mk]
  pointwise [val_main_v0]

theorem v26_at (r : Fin 4096) (c : Fin 2816) : val_main_v26 (F := Ideal) x0 x2 (ix2 r c) = gp (at2 x0) (at2 x2) r.val c.val := by
  unfold gp
  simp only [at2_mk]
  pointwise [val_main_v26]

theorem v2_at (r : Fin 4098) (c : Fin 2816) : val_main_v2 (F := Ideal) x0 x1 (ix2 r c) = padRows (gp (at2 x0) (at2 x1)) (r.val + 14) c.val := by
  have e0 := v0_at x0 x1
  unfold val_main_v2 padRows
  generalize val_main_v0 (F := Ideal) x0 x1 = M at e0 ⊢
  pointwise [val_main_v1, val_main_cst]
  split
  · exact (if_neg (by omega)).symm
  · refine (e0 ⟨r.val - 2, by omega⟩ c).trans ?_
    rw [if_pos (by omega), show r.val + 14 - 16 = r.val - 2 by omega]

theorem v25_at (r : Fin 4096) (c : Fin 2816) : val_main_v25 (F := Ideal) x0 x1 x3 x4 (ix2 r c)
    = conv (gp (at2 x0) (at2 x1)) (at2 x3) (at1 x4) r.val c.val := by
  have e2 := v2_at x0 x1
  have t0 := at2_of x3 0 c.val (by decide) c.isLt
  have t1 := at2_of x3 1 c.val (by decide) c.isLt
  have t2 := at2_of x3 2 c.val (by decide) c.isLt
  rw [conv, at1_mk, t0, t1, t2, mul_comm _ (padRows _ (r.val + 14) _), mul_comm _ (padRows _ (r.val + 15) _), mul_comm _ (padRows _ (r.val + 16) _)]
  unfold val_main_v25 val_main_v22 val_main_v21 val_main_v16 val_main_v15 val_main_v14 val_main_v9 val_main_v8 val_main_v3
  generalize val_main_v2 (F := Ideal) x0 x1 = M at e2 ⊢
  pointwise [val_main_v24, val_main_v23, val_main_v20, val_main_v19, val_main_v18, val_main_v17, val_main_v13, val_main_v12, val_main_v11, val_main_v10,
    val_main_v7, val_main_v6, val_main_v5, val_main_v4, e2]
  rw [show 1 + r.val + 14 = r.val + 15 by omega, show 2 + r.val + 14 = r.val + 16 by omega]

theorem v37_at (r : Fin 4096) (c : Fin 2816) : val_main_v37 (F := Ideal) x0 x1 x2 x3 x4 (ix2 r c)
    = act (gp (at2 x0) (at2 x2)) (conv (gp (at2 x0) (at2 x1)) (at2 x3) (at1 x4)) r.val c.val := by
  rw [act, ← v25_at, ← v26_at]
  unfold val_main_v37 val_main_v36 val_main_call0_v5 val_main_call0_v3 val_main_call0_v1 val_main_call0_v0
  generalize val_main_v25 (F := Ideal) x0 x1 x3 x4 = M
  generalize val_main_v26 (F := Ideal) x0 x2 = N
  pointwise [val_main_call0_v4, val_main_call0_v2, val_main_call0_cst, val_main_call0_cst_0, Ideal.logistic]

/-! The four results: rows as they are, columns in four blocks. -/

theorem v29_at (j : Fin 4) (r : Fin 4096) (f : Fin 704) : val_main_v29 (F := Ideal) x0 x1 (ix3 j r f)
    = gp (at2 x0) (at2 x1) r.val (704 * j.val + f.val) := by
  refine Eq.trans ?_ (v0_at x0 x1 r ⟨704 * j.val + f.val, by omega⟩)
  unfold val_main_v29 val_main_v28 val_main_v27
  generalize val_main_v0 (F := Ideal) x0 x1 = M
  pointwise
  simp only [Nat.mul_comm j.val 704]

theorem v32_at (j : Fin 4) (r : Fin 4096) (f : Fin 704) : val_main_v32 (F := Ideal) x0 x2 (ix3 j r f)
    = gp (at2 x0) (at2 x2) r.val (704 * j.val + f.val) := by
  refine Eq.trans ?_ (v26_at x0 x2 r ⟨704 * j.val + f.val, by omega⟩)
  unfold val_main_v32 val_main_v31 val_main_v30
  generalize val_main_v26 (F := Ideal) x0 x2 = M
  pointwise
  simp only [Nat.mul_comm j.val 704]

theorem v35_at (j : Fin 4) (r : Fin 4096) (f : Fin 704) : val_main_v35 (F := Ideal) x0 x1 x3 x4 (ix3 j r f)
    = conv (gp (at2 x0) (at2 x1)) (at2 x3) (at1 x4) r.val (704 * j.val + f.val) := by
  refine Eq.trans ?_ (v25_at x0 x1 x3 x4 r ⟨704 * j.val + f.val, by omega⟩)
  unfold val_main_v35 val_main_v34 val_main_v33
  generalize val_main_v25 (F := Ideal) x0 x1 x3 x4 = M
  pointwise
  simp only [Nat.mul_comm j.val 704]

theorem v40_at (j : Fin 4) (r : Fin 4096) (f : Fin 704) : val_main_v40 (F := Ideal) x0 x1 x2 x3 x4 (ix3 j r f)
    = act (gp (at2 x0) (at2 x2)) (conv (gp (at2 x0) (at2 x1)) (at2 x3) (at1 x4)) r.val (704 * j.val + f.val) := by
  refine Eq.trans ?_ (v37_at x0 x1 x2 x3 x4 r ⟨704 * j.val + f.val, by omega⟩)
  unfold val_main_v40 val_main_v39 val_main_v38
  generalize val_main_v37 (F := Ideal) x0 x1 x2 x3 x4 = M
  pointwise
  simp only [Nat.mul_comm j.val 704]

end Cert.Reference4Ideal.In

namespace Cert.Kernel4Ideal.In

open Cert.Kernel4Ideal Cert.Kernel4Ideal.Gen Cert.NormGrad Cert.FfnGrad Cert.FfnFwd Idealize.ShloMosaic Idealize.ShloMosaic.TcCoe Idealize.SL.Sem
open Cert.Reference4Ideal.Read Cert.Reference4Ideal.In

variable (m : (ℓ : Loc nD τ sig) → Buf (Elt Ideal) ℓ) (c : Dev nD)

theorem eq6 : (dats m 0 c).arrAt 6 cfg0.N = val_main_v29 (F := Ideal) (a0 m c) (a1 m c) := by
  rw [out6]
  refine funext fun (y : S4x4096x704.Idx) => ?_
  idx_vars y
  exact (v29_at (a0 m c) (a1 m c) y0 y1 y2).symm

theorem eq7 : (dats m 0 c).arrAt 7 cfg0.N = val_main_v32 (F := Ideal) (a0 m c) (a2 m c) := by
  rw [out7]
  refine funext fun (y : S4x4096x704.Idx) => ?_
  idx_vars y
  exact (v32_at (a0 m c) (a2 m c) y0 y1 y2).symm

theorem eq8 : (dats m 0 c).arrAt 8 cfg0.N = val_main_v35 (F := Ideal) (a0 m c) (a1 m c) (a3 m c) (a4 m c) := by
  rw [out8]
  refine funext fun (y : S4x4096x704.Idx) => ?_
  idx_vars y
  exact (v35_at (a0 m c) (a1 m c) (a3 m c) (a4 m c) y0 y1 y2).symm

theorem eq9 : (dats m 0 c).arrAt 9 cfg0.N = val_main_v40 (F := Ideal) (a0 m c) (a1 m c) (a2 m c) (a3 m c) (a4 m c) := by
  rw [out9]
  refine funext fun (y : S4x4096x704.Idx) => ?_
  idx_vars y
  exact (v40_at (a0 m c) (a1 m c) (a2 m c) (a3 m c) (a4 m c) y0 y1 y2).symm

end Cert.Kernel4Ideal.In

end
-- ==== Proof.lean ====
module

public import proofs.«01_k».proof.Defs
public import proofs.«01_k».proof.Proof.Gen.Kernel.Frame
public import proofs.«01_k».proof.Proof.Gen.KernelIdeal.Frame
public import proofs.«01_k».proof.Proof.Gen.KernelIdeal.Value
public import proofs.«01_k».proof.Proof.Gen.ReferenceIdeal.Run
public import proofs.«01_k».proof.Proof.Gen.Kernel2.Frame
public import proofs.«01_k».proof.Proof.Gen.Kernel2Ideal.Frame
public import proofs.«01_k».proof.Proof.Gen.Kernel2Ideal.Value
public import proofs.«01_k».proof.Proof.Gen.Reference2Ideal.Run
public import proofs.«01_k».proof.Proof.Gen.Reference2Ideal.Read
public import proofs.«01_k».proof.Proof.Gen.Kernel3.Frame
public import proofs.«01_k».proof.Proof.Gen.Kernel3Ideal.Frame
public import proofs.«01_k».proof.Proof.Gen.Kernel3Ideal.Value
public import proofs.«01_k».proof.Proof.Gen.Reference3Ideal.Run
public import proofs.«01_k».proof.Proof.Gen.Reference3Ideal.Read
public import proofs.«01_k».proof.Proof.Gen.Kernel4.Frame
public import proofs.«01_k».proof.Proof.Gen.Kernel4Ideal.Frame
public import proofs.«01_k».proof.Proof.Gen.Kernel4Ideal.Value
public import proofs.«01_k».proof.Proof.Gen.Reference4Ideal.Run
public import proofs.«01_k».proof.Proof.Gen.Reference4Ideal.Read
public import proofs.«01_k».proof.Proof.Gen.Kernel5.Frame
public import proofs.«01_k».proof.Proof.Gen.Kernel5Ideal.Frame
public import proofs.«01_k».proof.Proof.Gen.Kernel5Ideal.Value
public import proofs.«01_k».proof.Proof.Gen.Reference5Ideal.Run
public import proofs.«01_k».proof.Proof.Gen.Reference5Ideal.Read
public import proofs.«01_k».proof.Proof.EvenEq
public import proofs.«01_k».proof.Proof.Gen.Kernel6.Frame
public import proofs.«01_k».proof.Proof.Gen.Kernel6Ideal.Frame
public import proofs.«01_k».proof.Proof.Gen.Kernel6Ideal.Value
public import proofs.«01_k».proof.Proof.Gen.Reference6Ideal.Run
public import proofs.«01_k».proof.Proof.Gen.Reference6Ideal.Read
public import proofs.«01_k».proof.Proof.BwdEq
public import proofs.«01_k».proof.Proof.DxRef
public import proofs.«01_k».proof.Proof.Mix
public import proofs.«01_k».proof.Proof.InRef
public import proofs.«01_k».proof.Proof.Down
public import Idealize.ShloMosaic.Adequacy
public import Idealize.ShloMosaic.Init

@[expose] public section

noncomputable section

namespace Cert.Proof

open Idealize.ShloMosaic Idealize.SL.Sem
/-- The reference keeps its arguments. -/
theorem frame_reference : Cert.quiescent_ReferenceIdeal := fun m ρ _ =>
  (θ_run Cert.ReferenceIdeal.defs _ _).mono (fun r h => ⟨fun c => (h c).2.2.2.2.2.2.2, sem_eq_zero_of_no_sems (by decide) r.2⟩)
    (Cert.ReferenceIdeal.Value.run m ρ)

theorem frame_reference2 : Cert.quiescent_Reference2Ideal := fun m ρ _ =>
  (θ_run Cert.Reference2Ideal.defs _ _).mono (fun r h => ⟨fun c => (h c).2.2.2, sem_eq_zero_of_no_sems (by decide) r.2⟩)
    (Cert.Reference2Ideal.Value.run m ρ)

theorem frame_reference3 : Cert.quiescent_Reference3Ideal := fun m ρ _ =>
  (θ_run Cert.Reference3Ideal.defs _ _).mono (fun r h => ⟨fun c => (h c).2.2.2, sem_eq_zero_of_no_sems (by decide) r.2⟩)
    (Cert.Reference3Ideal.Value.run m ρ)

theorem frame_reference4 : Cert.quiescent_Reference4Ideal := fun m ρ _ =>
  (θ_run Cert.Reference4Ideal.defs _ _).mono (fun r h => ⟨fun c => (h c).2.2.2.2, sem_eq_zero_of_no_sems (by decide) r.2⟩)
    (Cert.Reference4Ideal.Value.run m ρ)

theorem frame_reference5 : Cert.quiescent_Reference5Ideal := fun m ρ _ =>
  (θ_run Cert.Reference5Ideal.defs _ _).mono (fun r h => ⟨fun c => (h c).2, sem_eq_zero_of_no_sems (by decide) r.2⟩)
    (Cert.Reference5Ideal.Value.run m ρ)

theorem frame_reference6 : Cert.quiescent_Reference6Ideal := fun m ρ _ =>
  (θ_run Cert.Reference6Ideal.defs _ _).mono (fun r h => ⟨fun c => (h c).2.2.2.2, sem_eq_zero_of_no_sems (by decide) r.2⟩)
    (Cert.Reference6Ideal.Value.run m ρ)

open Cert.ReferenceIdeal.Read in
/-- On finite operands the kernel's seven arrays are the reference's gradients. -/
theorem gradients : Cert.algebraic_KernelIdeal_ReferenceIdeal_pre_operands_finite := by
  intro m ρ m' ρ' hp ha
  refine ⟨_, _, _, _, _, _, _, Cert.KernelIdeal.Value.run_blocks m ρ, (θ_run _ _ _).mono (fun r h c => ?_) (Cert.ReferenceIdeal.Value.run m' ρ')⟩
  have H := Cert.KernelIdeal.Bwd.ok_of_pre m c hp
  obtain ⟨e0, e1, e2, e3, e4, e5, e6⟩ := ha c
  obtain ⟨r0, r1, r2, r3, r4, r5, r6, hk⟩ := h c
  refine ⟨r0.trans ?_, r1.trans ?_, r2.trans ?_, r3.trans ?_, r4.trans ?_, r5.trans ?_, r6.trans ?_, hk⟩
  · refine (val_main_v81_eq m' c).trans (Eq.trans ?_ (Cert.KernelIdeal.Bwd.eq10 m c H).symm)
    rw [e0, e1, e2, e3, e4, e5, e6]
  · refine (val_main_v84_eq m' c).trans (Eq.trans ?_ (Cert.KernelIdeal.Bwd.eq11 m c).symm)
    rw [e0, e1, e3, e4, e5, e6]
  · refine (val_main_v87_eq m' c).trans (Eq.trans ?_ (Cert.KernelIdeal.Bwd.eq12 m c H).symm)
    rw [e0, e1, e2, e3, e4, e5, e6]
  · refine (val_main_v90_eq m' c).trans (Eq.trans ?_ (Cert.KernelIdeal.Bwd.eq13 m c).symm)
    rw [e0, e1, e3, e4, e5, e6]
  · refine (val_main_v91_eq m' c).trans (Eq.trans ?_ (Cert.KernelIdeal.Bwd.eq14 m c).symm)
    rw [e0, e1, e2, e3, e4, e6]
  · refine (val_main_v93_eq m' c).trans (Eq.trans ?_ (Cert.KernelIdeal.Bwd.eq15 m c H).symm)
    rw [e0, e1, e2, e3, e4, e5, e6]
  · refine (val_main_v94_eq m' c).trans (Eq.trans ?_ (Cert.KernelIdeal.Bwd.eq16 m c H).symm)
    rw [e0, e1, e2, e3, e4, e5, e6]

open Cert.Reference2Ideal.Read in
/-- The feed-forward's gradient: the stream's, its narrow copy and the scale's. -/
theorem ffn_dx : Cert.algebraic_Kernel2Ideal_Reference2Ideal := by
  intro m ρ m' ρ' hp ha
  refine ⟨_, _, _, Cert.Kernel2Ideal.Value.run_blocks m ρ, (θ_run _ _ _).mono (fun r h c => ?_) (Cert.Reference2Ideal.Value.run m' ρ')⟩
  obtain ⟨e0, e1, e2, e3, e4, e5, e6⟩ := ha c
  obtain ⟨r0, r1, r2, hk⟩ := h c
  refine ⟨r0.trans ?_, r1.trans ?_, r2.trans ?_, hk⟩
  · refine (val_main_v41_eq m' c).trans (Eq.trans ?_ (Cert.Kernel2Ideal.Dx.eq8 m c).symm)
    rw [e0, e1, e2, e3, e4, e5, e6]
  · refine (val_main_v42_eq m' c).trans (Eq.trans ?_ (Cert.Kernel2Ideal.Dx.eq9 m c).symm)
    rw [e0, e1, e2, e3, e4, e5, e6]
  · refine (val_main_v43_eq _ _ _ _ _).trans (Eq.trans ?_ (Cert.Kernel2Ideal.Dx.eq10 m c).symm)
    rw [e0, e2, e3, e4, e5]

open Cert.Reference3Ideal.Read in
/-- A mixer's gradient: the same three arrays. -/
theorem mix_dx : Cert.algebraic_Kernel3Ideal_Reference3Ideal := by
  intro m ρ m' ρ' hp ha
  refine ⟨_, _, _, Cert.Kernel3Ideal.Value.run_blocks m ρ, (θ_run _ _ _).mono (fun r h c => ?_) (Cert.Reference3Ideal.Value.run m' ρ')⟩
  obtain ⟨e0, e1, e2, e3, e4⟩ := ha c
  obtain ⟨r0, r1, r2, hk⟩ := h c
  refine ⟨r0.trans ?_, r1.trans ?_, r2.trans ?_, hk⟩
  · refine (val_main_v38_eq m' c).trans (Eq.trans ?_ (Cert.Kernel3Ideal.Mix.eq6 m c).symm)
    rw [e0, e1, e2, e3, e4]
  · refine (val_main_v39_eq m' c).trans (Eq.trans ?_ (Cert.Kernel3Ideal.Mix.eq7 m c).symm)
    rw [e0, e1, e2, e3, e4]
  · refine (val_main_v40_eq _ _ _).trans (Eq.trans ?_ (Cert.Kernel3Ideal.Mix.eq8 m c).symm)
    rw [e0, e2, e3]

open Cert.Reference4Ideal.Read in
/-- The feed-forward's forward: the gate's product, the other, the convolution and the activation. -/
theorem ffn_in : Cert.algebraic_Kernel4Ideal_Reference4Ideal := by
  intro m ρ m' ρ' hp ha
  refine ⟨_, _, _, _, Cert.Kernel4Ideal.Value.run_blocks m ρ, (θ_run _ _ _).mono (fun r h c => ?_) (Cert.Reference4Ideal.Value.run m' ρ')⟩
  obtain ⟨e0, e1, e2, e3, e4⟩ := ha c
  obtain ⟨r0, r1, r2, r3, hk⟩ := h c
  refine ⟨r0.trans ?_, r1.trans ?_, r2.trans ?_, r3.trans ?_, hk⟩
  · refine (val_main_v29_eq _ _).trans (Eq.trans ?_ (Cert.Kernel4Ideal.In.eq6 m c).symm)
    rw [e0, e1]
  · refine (val_main_v32_eq _ _).trans (Eq.trans ?_ (Cert.Kernel4Ideal.In.eq7 m c).symm)
    rw [e0, e2]
  · refine (val_main_v35_eq _ _ _ _).trans (Eq.trans ?_ (Cert.Kernel4Ideal.In.eq8 m c).symm)
    rw [e0, e1, e3, e4]
  · refine (val_main_v40_eq m' c).trans (Eq.trans ?_ (Cert.Kernel4Ideal.In.eq9 m c).symm)
    rw [e0, e1, e2, e3, e4]

open Cert.Reference5Ideal.Read in
/-- The down projection and the stream it is added to. -/
theorem ffn_down : Cert.algebraic_Kernel5Ideal_Reference5Ideal := by
  intro m ρ m' ρ' hp ha
  refine ⟨_, Cert.Kernel5Ideal.Value.run_blocks m ρ, (θ_run _ _ _).mono (fun r h c => ?_) (Cert.Reference5Ideal.Value.run m' ρ')⟩
  obtain ⟨e0, e1, e2⟩ := ha c
  obtain ⟨r0, hk⟩ := h c
  refine ⟨r0.trans ?_, hk⟩
  refine (val_main_v1_eq _ _ _).trans (Eq.trans ?_ (Cert.Kernel5Ideal.Down.eq3 m c).symm)
  rw [e0, e1, e2]

set_option maxHeartbeats 2000000 in
open Cert.Reference6Ideal.Read Idealize.ShloMosaic.StableHlo in
/-- The even block's gradients: its projection's, its two matrices' and its taps'. -/
theorem even_grads : Cert.algebraic_Kernel6Ideal_Reference6Ideal_pre_mixers_finite := by
  intro m ρ m' ρ' hp ha
  refine ⟨fun c => (Cert.Kernel6Ideal.Gen.dats m 0 c).arrAt 12 Cert.Kernel6Ideal.cfg0.N, fun c => (Cert.Kernel6Ideal.Gen.dats m 0 c).arrAt 13 Cert.Kernel6Ideal.cfg0.N,
    fun c => (Cert.Kernel6Ideal.Gen.dats m 0 c).arrAt 14 Cert.Kernel6Ideal.cfg0.N, fun c => (Cert.Kernel6Ideal.Gen.dats m 0 c).arrAt 15 Cert.Kernel6Ideal.cfg0.N,
    (θ_run _ _ _).mono (fun r h c => ⟨(h c).1, (h c).2.1, (h c).2.2.1, (h c).2.2.2.1, (h c).2.2.2.2.2.2⟩) (Cert.Kernel6Ideal.Value.run_blocks m ρ),
    (θ_run _ _ _).mono (fun r h c => ?_) (Cert.Reference6Ideal.Value.run m' ρ')⟩
  have H := Cert.Kernel6Ideal.Even.ok_of_pre m c hp
  obtain ⟨e0, e1, e2, e3, e4, e5, e6⟩ := ha c
  obtain ⟨r0, r1, r2, r3, hk⟩ := h c
  have k0 : launchContents m' c (Proc.devRef .tc Cert.Reference6Ideal.main_arg0) = Cert.Kernel6Ideal.Even.a0 m c := e0
  have k1 : launchContents m' c (Proc.devRef .tc Cert.Reference6Ideal.main_arg1) = Cert.Kernel6Ideal.Even.a1 m c := e1
  have k2 : launchContents m' c (Proc.devRef .tc Cert.Reference6Ideal.main_arg2) = Cert.Kernel6Ideal.Even.a2 m c := e2
  have k3 : launchContents m' c (Proc.devRef .tc Cert.Reference6Ideal.main_arg3) = Cert.Kernel6Ideal.Even.a3 m c := e3
  have k4 : launchContents m' c (Proc.devRef .tc Cert.Reference6Ideal.main_arg4) = Cert.Kernel6Ideal.Even.a4 m c := e4
  have k5 : launchContents m' c (Proc.devRef .tc Cert.Reference6Ideal.main_arg5) = Cert.Kernel6Ideal.Even.a5 m c := e5
  have k6 : launchContents m' c (Proc.devRef .tc Cert.Reference6Ideal.main_arg6) = Cert.Kernel6Ideal.Even.a6 m c := e6
  refine ⟨r0.trans ((val_main_v221_eq (launchContents m' c)).trans (Eq.trans ?_ (Cert.Kernel6Ideal.Even.eq12 m c H).symm)),
    r1.trans ((val_main_v226_eq (launchContents m' c)).trans (Eq.trans ?_ (Cert.Kernel6Ideal.Even.eq13 m c H).symm)),
    r2.trans ((val_main_v106_eq (launchContents m' c)).trans (Eq.trans ?_ (Cert.Kernel6Ideal.Even.eq14 m c).symm)),
    r3.trans ((val_main_v211_eq (launchContents m' c)).trans (Eq.trans ?_ (Cert.Kernel6Ideal.Even.eq15 m c).symm)), hk⟩
  · rw [k0, k1, k2, k3, k4, k5, k6]
  · rw [k0, k1, k2, k3, k4, k5, k6]
  · rw [k0, k1, k2, k3, k4, k6]
  · rw [k0, k1, k5, k6]

theorem claim : Cert.Claim :=
  ⟨Cert.Kernel.Gen.facts, Cert.KernelIdeal.Gen.facts, Cert.ReferenceIdeal.Gen.facts,
    Cert.Kernel2.Gen.facts, Cert.Kernel2Ideal.Gen.facts, Cert.Reference2Ideal.Gen.facts,
    Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Kernel5.Gen.facts, Cert.Kernel5Ideal.Gen.facts, Cert.Reference5Ideal.Gen.facts,
    Cert.Kernel6.Gen.facts, Cert.Kernel6Ideal.Gen.facts, Cert.Reference6Ideal.Gen.facts,
    Cert.KernelIdeal.Bwd.facts_pre, Cert.Kernel6Ideal.Even.facts_pre,
    fun m ρ _ => Cert.Kernel.Gen.frame m ρ, fun m ρ _ => Cert.KernelIdeal.Gen.frame m ρ, fun m ρ _ => Cert.KernelIdeal.Gen.frame m ρ,
    frame_reference, fun m ρ _ => frame_reference m ρ trivial,
    fun m ρ _ => Cert.Kernel2.Gen.frame m ρ, fun m ρ _ => Cert.Kernel2Ideal.Gen.frame m ρ, frame_reference2,
    fun m ρ _ => Cert.Kernel3.Gen.frame m ρ, fun m ρ _ => Cert.Kernel3Ideal.Gen.frame m ρ, frame_reference3,
    fun m ρ _ => Cert.Kernel4.Gen.frame m ρ, fun m ρ _ => Cert.Kernel4Ideal.Gen.frame m ρ, frame_reference4,
    fun m ρ _ => Cert.Kernel5.Gen.frame m ρ, fun m ρ _ => Cert.Kernel5Ideal.Gen.frame m ρ, frame_reference5,
    fun m ρ _ => Cert.Kernel6.Gen.frame m ρ, fun m ρ _ => Cert.Kernel6Ideal.Gen.frame m ρ, fun m ρ _ => Cert.Kernel6Ideal.Gen.frame m ρ, frame_reference6, fun m ρ _ => frame_reference6 m ρ trivial,
    trivial, gradients, trivial, ffn_dx, trivial, mix_dx, trivial, ffn_in, trivial, ffn_down, trivial, even_grads⟩

end Cert.Proof

end
